-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Hgs (m : (ℓ : Loc Cert.Hgs.nD Cert.Hgs.τ Cert.Hgs.sig) → Buf (Elt Bits) ℓ) : Prop :=
  True

def Pre_HgsIdeal (m : (ℓ : Loc Cert.HgsIdeal.nD Cert.HgsIdeal.τ Cert.HgsIdeal.sig) → Buf (Elt Ideal) ℓ) : Prop :=
  True

def Pre_HgsRefIdeal (m : (ℓ : Loc Cert.HgsRefIdeal.nD Cert.HgsRefIdeal.τ Cert.HgsRefIdeal.sig) → Buf (Elt Ideal) ℓ) : Prop :=
  True

def Pre_MoeUp [hPre_up_tables : Cert.Pre_up_tables.Facts] (m : (ℓ : Loc Cert.MoeUp.nD Cert.MoeUp.τ Cert.MoeUp.sig) → Buf (Elt Bits) ℓ) : Prop :=
  ∀ c : Dev Cert.MoeUp.nD,
    (Cert.Pre_up_tables.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5))) = (fun _ => 1#1)

def Pre_MoeUpIdeal [hPre_up_tables : Cert.Pre_up_tables.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_up_tables.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5))) = (fun _ => 1#1)

def Pre_MoeUpRefIdeal [hPre_up_tables : Cert.Pre_up_tables.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_up_tables.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5))) = (fun _ => 1#1)

def Pre_MoeDown [hPre_down_tables : Cert.Pre_down_tables.Facts] (m : (ℓ : Loc Cert.MoeDown.nD Cert.MoeDown.τ Cert.MoeDown.sig) → Buf (Elt Bits) ℓ) : Prop :=
  ∀ c : Dev Cert.MoeDown.nD,
    (Cert.Pre_down_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))) = (fun _ => 1#1)

def Pre_MoeDownIdeal [hPre_down_tables : Cert.Pre_down_tables.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))) = (fun _ => 1#1)

def Pre_MoeDownRefIdeal [hPre_down_tables : Cert.Pre_down_tables.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_down_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))) = (fun _ => 1#1)

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixRefIdeal (m : (ℓ : Loc Cert.OutMixRefIdeal.nD Cert.OutMixRefIdeal.τ Cert.OutMixRefIdeal.sig) → Buf (Elt Ideal) ℓ) : Prop :=
  True

def Pre_OutMem (m : (ℓ : Loc Cert.OutMem.nD Cert.OutMem.τ Cert.OutMem.sig) → Buf (Elt Bits) ℓ) : Prop :=
  True

def Pre_OutMemIdeal (m : (ℓ : Loc Cert.OutMemIdeal.nD Cert.OutMemIdeal.τ Cert.OutMemIdeal.sig) → Buf (Elt Ideal) ℓ) : Prop :=
  True

def Pre_OutMemRefIdeal (m : (ℓ : Loc Cert.OutMemRefIdeal.nD Cert.OutMemRefIdeal.τ Cert.OutMemRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_LastP (m : (ℓ : Loc Cert.LastP.nD Cert.LastP.τ Cert.LastP.sig) → Buf (Elt Bits) ℓ) : Prop :=
  True

def Pre_LastPIdeal (m : (ℓ : Loc Cert.LastPIdeal.nD Cert.LastPIdeal.τ Cert.LastPIdeal.sig) → Buf (Elt Ideal) ℓ) : Prop :=
  True

def Pre_LastPRefIdeal (m : (ℓ : Loc Cert.LastPRefIdeal.nD Cert.LastPRefIdeal.τ Cert.LastPRefIdeal.sig) → Buf (Elt Ideal) ℓ) : Prop :=
  True

def Pre_LastS (m : (ℓ : Loc Cert.LastS.nD Cert.LastS.τ Cert.LastS.sig) → Buf (Elt Bits) ℓ) : Prop :=
  True

def Pre_LastSIdeal (m : (ℓ : Loc Cert.LastSIdeal.nD Cert.LastSIdeal.τ Cert.LastSIdeal.sig) → Buf (Elt Ideal) ℓ) : Prop :=
  True

def Pre_LastSRefIdeal (m : (ℓ : Loc Cert.LastSRefIdeal.nD Cert.LastSRefIdeal.τ Cert.LastSRefIdeal.sig) → Buf (Elt Ideal) ℓ) : Prop :=
  True

def Pre_FoxP (m : (ℓ : Loc Cert.FoxP.nD Cert.FoxP.τ Cert.FoxP.sig) → Buf (Elt Bits) ℓ) : Prop :=
  True

def Pre_FoxPIdeal (m : (ℓ : Loc Cert.FoxPIdeal.nD Cert.FoxPIdeal.τ Cert.FoxPIdeal.sig) → Buf (Elt Ideal) ℓ) : Prop :=
  True

def Pre_FoxPRefIdeal (m : (ℓ : Loc Cert.FoxPRefIdeal.nD Cert.FoxPRefIdeal.τ Cert.FoxPRefIdeal.sig) → Buf (Elt Ideal) ℓ) : Prop :=
  True

def Pre_FoxS (m : (ℓ : Loc Cert.FoxS.nD Cert.FoxS.τ Cert.FoxS.sig) → Buf (Elt Bits) ℓ) : Prop :=
  True

def Pre_FoxSIdeal (m : (ℓ : Loc Cert.FoxSIdeal.nD Cert.FoxSIdeal.τ Cert.FoxSIdeal.sig) → Buf (Elt Ideal) ℓ) : Prop :=
  True

def Pre_FoxSRefIdeal (m : (ℓ : Loc Cert.FoxSRefIdeal.nD Cert.FoxSRefIdeal.τ Cert.FoxSRefIdeal.sig) → Buf (Elt Ideal) ℓ) : Prop :=
  True

def Pre_FoxA (m : (ℓ : Loc Cert.FoxA.nD Cert.FoxA.τ Cert.FoxA.sig) → Buf (Elt Bits) ℓ) : Prop :=
  True

def Pre_FoxAIdeal (m : (ℓ : Loc Cert.FoxAIdeal.nD Cert.FoxAIdeal.τ Cert.FoxAIdeal.sig) → Buf (Elt Ideal) ℓ) : Prop :=
  True

def Pre_FoxAIdeal_finite_scores [hPre_finite_scores : Cert.Pre_finite_scores.Facts] (m : (ℓ : Loc Cert.FoxAIdeal.nD Cert.FoxAIdeal.τ Cert.FoxAIdeal.sig) → Buf (Elt Ideal) ℓ) : Prop :=
  ∀ c : Dev Cert.FoxAIdeal.nD,
    (Cert.Pre_finite_scores.fn (F := Ideal) (m ((c.tc : Thread Cert.FoxAIdeal.nD Cert.FoxAIdeal.τ).loc Cert.FoxAIdeal.main_arg0)) (m ((c.tc : Thread Cert.FoxAIdeal.nD Cert.FoxAIdeal.τ).loc Cert.FoxAIdeal.main_arg1)) (m ((c.tc : Thread Cert.FoxAIdeal.nD Cert.FoxAIdeal.τ).loc Cert.FoxAIdeal.main_arg2)) (m ((c.tc : Thread Cert.FoxAIdeal.nD Cert.FoxAIdeal.τ).loc Cert.FoxAIdeal.main_arg3))).1 = (fun _ => 1#1)
    ∧ (Cert.Pre_finite_scores.fn (F := Ideal) (m ((c.tc : Thread Cert.FoxAIdeal.nD Cert.FoxAIdeal.τ).loc Cert.FoxAIdeal.main_arg0)) (m ((c.tc : Thread Cert.FoxAIdeal.nD Cert.FoxAIdeal.τ).loc Cert.FoxAIdeal.main_arg1)) (m ((c.tc : Thread Cert.FoxAIdeal.nD Cert.FoxAIdeal.τ).loc Cert.FoxAIdeal.main_arg2)) (m ((c.tc : Thread Cert.FoxAIdeal.nD Cert.FoxAIdeal.τ).loc Cert.FoxAIdeal.main_arg3))).2.1 = (fun _ => 1#1)
    ∧ (Cert.Pre_finite_scores.fn (F := Ideal) (m ((c.tc : Thread Cert.FoxAIdeal.nD Cert.FoxAIdeal.τ).loc Cert.FoxAIdeal.main_arg0)) (m ((c.tc : Thread Cert.FoxAIdeal.nD Cert.FoxAIdeal.τ).loc Cert.FoxAIdeal.main_arg1)) (m ((c.tc : Thread Cert.FoxAIdeal.nD Cert.FoxAIdeal.τ).loc Cert.FoxAIdeal.main_arg2)) (m ((c.tc : Thread Cert.FoxAIdeal.nD Cert.FoxAIdeal.τ).loc Cert.FoxAIdeal.main_arg3))).2.2 = (fun _ => 1#1)

def Pre_FoxARefIdeal (m : (ℓ : Loc Cert.FoxARefIdeal.nD Cert.FoxARefIdeal.τ Cert.FoxARefIdeal.sig) → Buf (Elt Ideal) ℓ) : Prop :=
  True

def Pre_FoxARefIdeal_finite_scores [hPre_finite_scores : Cert.Pre_finite_scores.Facts] (m : (ℓ : Loc Cert.FoxARefIdeal.nD Cert.FoxARefIdeal.τ Cert.FoxARefIdeal.sig) → Buf (Elt Ideal) ℓ) : Prop :=
  ∀ c : Dev Cert.FoxARefIdeal.nD,
    (Cert.Pre_finite_scores.fn (F := Ideal) (m ((c.tc : Thread Cert.FoxARefIdeal.nD Cert.FoxARefIdeal.τ).loc Cert.FoxARefIdeal.main_arg0)) (m ((c.tc : Thread Cert.FoxARefIdeal.nD Cert.FoxARefIdeal.τ).loc Cert.FoxARefIdeal.main_arg1)) (m ((c.tc : Thread Cert.FoxARefIdeal.nD Cert.FoxARefIdeal.τ).loc Cert.FoxARefIdeal.main_arg2)) (m ((c.tc : Thread Cert.FoxARefIdeal.nD Cert.FoxARefIdeal.τ).loc Cert.FoxARefIdeal.main_arg3))).1 = (fun _ => 1#1)
    ∧ (Cert.Pre_finite_scores.fn (F := Ideal) (m ((c.tc : Thread Cert.FoxARefIdeal.nD Cert.FoxARefIdeal.τ).loc Cert.FoxARefIdeal.main_arg0)) (m ((c.tc : Thread Cert.FoxARefIdeal.nD Cert.FoxARefIdeal.τ).loc Cert.FoxARefIdeal.main_arg1)) (m ((c.tc : Thread Cert.FoxARefIdeal.nD Cert.FoxARefIdeal.τ).loc Cert.FoxARefIdeal.main_arg2)) (m ((c.tc : Thread Cert.FoxARefIdeal.nD Cert.FoxARefIdeal.τ).loc Cert.FoxARefIdeal.main_arg3))).2.1 = (fun _ => 1#1)
    ∧ (Cert.Pre_finite_scores.fn (F := Ideal) (m ((c.tc : Thread Cert.FoxARefIdeal.nD Cert.FoxARefIdeal.τ).loc Cert.FoxARefIdeal.main_arg0)) (m ((c.tc : Thread Cert.FoxARefIdeal.nD Cert.FoxARefIdeal.τ).loc Cert.FoxARefIdeal.main_arg1)) (m ((c.tc : Thread Cert.FoxARefIdeal.nD Cert.FoxARefIdeal.τ).loc Cert.FoxARefIdeal.main_arg2)) (m ((c.tc : Thread Cert.FoxARefIdeal.nD Cert.FoxARefIdeal.τ).loc Cert.FoxARefIdeal.main_arg3))).2.2 = (fun _ => 1#1)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Hgs [hHgs : Cert.Hgs.Facts] : Prop :=
  ∀ (m : (ℓ : Loc Cert.Hgs.nD Cert.Hgs.τ Cert.Hgs.sig) → Buf (Elt Bits) ℓ) (g : Dev Cert.Hgs.nD → PrngReg), Pre_Hgs m →
    θ_run (Cert.Hgs.defs (F := Bits)) (onTc (τ := Cert.Hgs.τ) (Cert.Hgs.main (F := Bits))) ⟨m, fun _ => 0, g⟩ (fun r => (∀ c : Dev Cert.Hgs.nD,
      r.2.mem ((c.tc : Thread Cert.Hgs.nD Cert.Hgs.τ).loc Cert.Hgs.main_arg0) = m ((c.tc : Thread Cert.Hgs.nD Cert.Hgs.τ).loc Cert.Hgs.main_arg0)
      ∧ r.2.mem ((c.tc : Thread Cert.Hgs.nD Cert.Hgs.τ).loc Cert.Hgs.main_arg1) = m ((c.tc : Thread Cert.Hgs.nD Cert.Hgs.τ).loc Cert.Hgs.main_arg1)
      ∧ r.2.mem ((c.tc : Thread Cert.Hgs.nD Cert.Hgs.τ).loc Cert.Hgs.main_arg2) = m ((c.tc : Thread Cert.Hgs.nD Cert.Hgs.τ).loc Cert.Hgs.main_arg2)
      ∧ r.2.mem ((c.tc : Thread Cert.Hgs.nD Cert.Hgs.τ).loc Cert.Hgs.main_arg3) = m ((c.tc : Thread Cert.Hgs.nD Cert.Hgs.τ).loc Cert.Hgs.main_arg3))
      ∧ r.2.sem = fun _ => 0)

def quiescent_HgsIdeal [hHgsIdeal : Cert.HgsIdeal.Facts] : Prop :=
  ∀ (m : (ℓ : Loc Cert.HgsIdeal.nD Cert.HgsIdeal.τ Cert.HgsIdeal.sig) → Buf (Elt Ideal) ℓ) (g : Dev Cert.HgsIdeal.nD → PrngReg), Pre_HgsIdeal m →
    θ_run (Cert.HgsIdeal.defs (F := Ideal)) (onTc (τ := Cert.HgsIdeal.τ) (Cert.HgsIdeal.main (F := Ideal))) ⟨m, fun _ => 0, g⟩ (fun r => (∀ c : Dev Cert.HgsIdeal.nD,
      r.2.mem ((c.tc : Thread Cert.HgsIdeal.nD Cert.HgsIdeal.τ).loc Cert.HgsIdeal.main_arg0) = m ((c.tc : Thread Cert.HgsIdeal.nD Cert.HgsIdeal.τ).loc Cert.HgsIdeal.main_arg0)
      ∧ r.2.mem ((c.tc : Thread Cert.HgsIdeal.nD Cert.HgsIdeal.τ).loc Cert.HgsIdeal.main_arg1) = m ((c.tc : Thread Cert.HgsIdeal.nD Cert.HgsIdeal.τ).loc Cert.HgsIdeal.main_arg1)
      ∧ r.2.mem ((c.tc : Thread Cert.HgsIdeal.nD Cert.HgsIdeal.τ).loc Cert.HgsIdeal.main_arg2) = m ((c.tc : Thread Cert.HgsIdeal.nD Cert.HgsIdeal.τ).loc Cert.HgsIdeal.main_arg2)
      ∧ r.2.mem ((c.tc : Thread Cert.HgsIdeal.nD Cert.HgsIdeal.τ).loc Cert.HgsIdeal.main_arg3) = m ((c.tc : Thread Cert.HgsIdeal.nD Cert.HgsIdeal.τ).loc Cert.HgsIdeal.main_arg3))
      ∧ r.2.sem = fun _ => 0)

def quiescent_HgsRefIdeal [hHgsRefIdeal : Cert.HgsRefIdeal.Facts] : Prop :=
  ∀ (m : (ℓ : Loc Cert.HgsRefIdeal.nD Cert.HgsRefIdeal.τ Cert.HgsRefIdeal.sig) → Buf (Elt Ideal) ℓ) (g : Dev Cert.HgsRefIdeal.nD → PrngReg), Pre_HgsRefIdeal m →
    θ_run (Cert.HgsRefIdeal.defs (F := Ideal)) (onTc (τ := Cert.HgsRefIdeal.τ) (Cert.HgsRefIdeal.main (F := Ideal))) ⟨m, fun _ => 0, g⟩ (fun r => (∀ c : Dev Cert.HgsRefIdeal.nD,
      r.2.mem ((c.tc : Thread Cert.HgsRefIdeal.nD Cert.HgsRefIdeal.τ).loc Cert.HgsRefIdeal.main_arg0) = m ((c.tc : Thread Cert.HgsRefIdeal.nD Cert.HgsRefIdeal.τ).loc Cert.HgsRefIdeal.main_arg0)
      ∧ r.2.mem ((c.tc : Thread Cert.HgsRefIdeal.nD Cert.HgsRefIdeal.τ).loc Cert.HgsRefIdeal.main_arg1) = m ((c.tc : Thread Cert.HgsRefIdeal.nD Cert.HgsRefIdeal.τ).loc Cert.HgsRefIdeal.main_arg1)
      ∧ r.2.mem ((c.tc : Thread Cert.HgsRefIdeal.nD Cert.HgsRefIdeal.τ).loc Cert.HgsRefIdeal.main_arg2) = m ((c.tc : Thread Cert.HgsRefIdeal.nD Cert.HgsRefIdeal.τ).loc Cert.HgsRefIdeal.main_arg2)
      ∧ r.2.mem ((c.tc : Thread Cert.HgsRefIdeal.nD Cert.HgsRefIdeal.τ).loc Cert.HgsRefIdeal.main_arg3) = m ((c.tc : Thread Cert.HgsRefIdeal.nD Cert.HgsRefIdeal.τ).loc Cert.HgsRefIdeal.main_arg3))
      ∧ r.2.sem = fun _ => 0)

def quiescent_MoeUp [hMoeUp : Cert.MoeUp.Facts] [hPre_up_tables : Cert.Pre_up_tables.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5))
      ∧ r.2.sem = fun _ => 0)

def quiescent_MoeUpIdeal [hMoeUpIdeal : Cert.MoeUpIdeal.Facts] [hPre_up_tables : Cert.Pre_up_tables.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ r.2.sem = fun _ => 0)

def quiescent_MoeUpRefIdeal [hMoeUpRefIdeal : Cert.MoeUpRefIdeal.Facts] [hPre_up_tables : Cert.Pre_up_tables.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4)
      ∧ r.2.mem ((c.tc : Thread Cert.MoeUpRefIdeal.nD Cert.MoeUpRefIdeal.τ).loc Cert.MoeUpRefIdeal.main_arg5) = m ((c.tc : Thread Cert.MoeUpRefIdeal.nD Cert.MoeUpRefIdeal.τ).loc Cert.MoeUpRefIdeal.main_arg5))
      ∧ r.2.sem = fun _ => 0)

def quiescent_MoeDown [hMoeDown : Cert.MoeDown.Facts] [hPre_down_tables : Cert.Pre_down_tables.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4)
      ∧ r.2.mem ((c.tc : Thread Cert.MoeDown.nD Cert.MoeDown.τ).loc Cert.MoeDown.main_arg5) = m ((c.tc : Thread Cert.MoeDown.nD Cert.MoeDown.τ).loc Cert.MoeDown.main_arg5))
      ∧ r.2.sem = fun _ => 0)

def quiescent_MoeDownIdeal [hMoeDownIdeal : Cert.MoeDownIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
      ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ r.2.sem = fun _ => 0)

def quiescent_MoeDownRefIdeal [hMoeDownRefIdeal : Cert.MoeDownRefIdeal.Facts] [hPre_down_tables : Cert.Pre_down_tables.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4)
      ∧ r.2.mem ((c.tc : Thread Cert.MoeDownRefIdeal.nD Cert.MoeDownRefIdeal.τ).loc Cert.MoeDownRefIdeal.main_arg5) = m ((c.tc : Thread Cert.MoeDownRefIdeal.nD Cert.MoeDownRefIdeal.τ).loc Cert.MoeDownRefIdeal.main_arg5))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1)
      ∧ r.2.mem ((c.tc : Thread Cert.OutMix.nD Cert.OutMix.τ).loc Cert.OutMix.main_arg2) = m ((c.tc : Thread Cert.OutMix.nD Cert.OutMix.τ).loc Cert.OutMix.main_arg2)
      ∧ r.2.mem ((c.tc : Thread Cert.OutMix.nD Cert.OutMix.τ).loc Cert.OutMix.main_arg3) = m ((c.tc : Thread Cert.OutMix.nD Cert.OutMix.τ).loc Cert.OutMix.main_arg3)
      ∧ r.2.mem ((c.tc : Thread Cert.OutMix.nD Cert.OutMix.τ).loc Cert.OutMix.main_arg4) = m ((c.tc : Thread Cert.OutMix.nD Cert.OutMix.τ).loc Cert.OutMix.main_arg4))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
      ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2)
      ∧ r.2.mem ((c.tc : Thread Cert.OutMixIdeal.nD Cert.OutMixIdeal.τ).loc Cert.OutMixIdeal.main_arg3) = m ((c.tc : Thread Cert.OutMixIdeal.nD Cert.OutMixIdeal.τ).loc Cert.OutMixIdeal.main_arg3)
      ∧ r.2.mem ((c.tc : Thread Cert.OutMixIdeal.nD Cert.OutMixIdeal.τ).loc Cert.OutMixIdeal.main_arg4) = m ((c.tc : Thread Cert.OutMixIdeal.nD Cert.OutMixIdeal.τ).loc Cert.OutMixIdeal.main_arg4))
      ∧ r.2.sem = fun _ => 0)

def quiescent_OutMixRefIdeal [hOutMixRefIdeal : Cert.OutMixRefIdeal.Facts] : Prop :=
  ∀ (m : (ℓ : Loc Cert.OutMixRefIdeal.nD Cert.OutMixRefIdeal.τ Cert.OutMixRefIdeal.sig) → Buf (Elt Ideal) ℓ) (g : Dev Cert.OutMixRefIdeal.nD → PrngReg), Pre_OutMixRefIdeal m →
    θ_run (Cert.OutMixRefIdeal.defs (F := Ideal)) (onTc (τ := Cert.OutMixRefIdeal.τ) (Cert.OutMixRefIdeal.main (F := Ideal))) ⟨m, fun _ => 0, g⟩ (fun r => (∀ c : Dev Cert.OutMixRefIdeal.nD,
      r.2.mem ((c.tc : Thread Cert.OutMixRefIdeal.nD Cert.OutMixRefIdeal.τ).loc Cert.OutMixRefIdeal.main_arg0) = m ((c.tc : Thread Cert.OutMixRefIdeal.nD Cert.OutMixRefIdeal.τ).loc Cert.OutMixRefIdeal.main_arg0)
      ∧ r.2.mem ((c.tc : Thread Cert.OutMixRefIdeal.nD Cert.OutMixRefIdeal.τ).loc Cert.OutMixRefIdeal.main_arg1) = m ((c.tc : Thread Cert.OutMixRefIdeal.nD Cert.OutMixRefIdeal.τ).loc Cert.OutMixRefIdeal.main_arg1)
      ∧ r.2.mem ((c.tc : Thread Cert.OutMixRefIdeal.nD Cert.OutMixRefIdeal.τ).loc Cert.OutMixRefIdeal.main_arg2) = m ((c.tc : Thread Cert.OutMixRefIdeal.nD Cert.OutMixRefIdeal.τ).loc Cert.OutMixRefIdeal.main_arg2)
      ∧ r.2.mem ((c.tc : Thread Cert.OutMixRefIdeal.nD Cert.OutMixRefIdeal.τ).loc Cert.OutMixRefIdeal.main_arg3) = m ((c.tc : Thread Cert.OutMixRefIdeal.nD Cert.OutMixRefIdeal.τ).loc Cert.OutMixRefIdeal.main_arg3)
      ∧ r.2.mem ((c.tc : Thread Cert.OutMixRefIdeal.nD Cert.OutMixRefIdeal.τ).loc Cert.OutMixRefIdeal.main_arg4) = m ((c.tc : Thread Cert.OutMixRefIdeal.nD Cert.OutMixRefIdeal.τ).loc Cert.OutMixRefIdeal.main_arg4))
      ∧ r.2.sem = fun _ => 0)

def quiescent_OutMem [hOutMem : Cert.OutMem.Facts] : Prop :=
  ∀ (m : (ℓ : Loc Cert.OutMem.nD Cert.OutMem.τ Cert.OutMem.sig) → Buf (Elt Bits) ℓ) (g : Dev Cert.OutMem.nD → PrngReg), Pre_OutMem m →
    θ_run (Cert.OutMem.defs (F := Bits)) (onTc (τ := Cert.OutMem.τ) (Cert.OutMem.main (F := Bits))) ⟨m, fun _ => 0, g⟩ (fun r => (∀ c : Dev Cert.OutMem.nD,
      r.2.mem ((c.tc : Thread Cert.OutMem.nD Cert.OutMem.τ).loc Cert.OutMem.main_arg0) = m ((c.tc : Thread Cert.OutMem.nD Cert.OutMem.τ).loc Cert.OutMem.main_arg0)
      ∧ r.2.mem ((c.tc : Thread Cert.OutMem.nD Cert.OutMem.τ).loc Cert.OutMem.main_arg1) = m ((c.tc : Thread Cert.OutMem.nD Cert.OutMem.τ).loc Cert.OutMem.main_arg1)
      ∧ r.2.mem ((c.tc : Thread Cert.OutMem.nD Cert.OutMem.τ).loc Cert.OutMem.main_arg2) = m ((c.tc : Thread Cert.OutMem.nD Cert.OutMem.τ).loc Cert.OutMem.main_arg2)
      ∧ r.2.mem ((c.tc : Thread Cert.OutMem.nD Cert.OutMem.τ).loc Cert.OutMem.main_arg3) = m ((c.tc : Thread Cert.OutMem.nD Cert.OutMem.τ).loc Cert.OutMem.main_arg3)
      ∧ r.2.mem ((c.tc : Thread Cert.OutMem.nD Cert.OutMem.τ).loc Cert.OutMem.main_arg4) = m ((c.tc : Thread Cert.OutMem.nD Cert.OutMem.τ).loc Cert.OutMem.main_arg4))
      ∧ r.2.sem = fun _ => 0)

def quiescent_OutMemIdeal [hOutMemIdeal : Cert.OutMemIdeal.Facts] : Prop :=
  ∀ (m : (ℓ : Loc Cert.OutMemIdeal.nD Cert.OutMemIdeal.τ Cert.OutMemIdeal.sig) → Buf (Elt Ideal) ℓ) (g : Dev Cert.OutMemIdeal.nD → PrngReg), Pre_OutMemIdeal m →
    θ_run (Cert.OutMemIdeal.defs (F := Ideal)) (onTc (τ := Cert.OutMemIdeal.τ) (Cert.OutMemIdeal.main (F := Ideal))) ⟨m, fun _ => 0, g⟩ (fun r => (∀ c : Dev Cert.OutMemIdeal.nD,
      r.2.mem ((c.tc : Thread Cert.OutMemIdeal.nD Cert.OutMemIdeal.τ).loc Cert.OutMemIdeal.main_arg0) = m ((c.tc : Thread Cert.OutMemIdeal.nD Cert.OutMemIdeal.τ).loc Cert.OutMemIdeal.main_arg0)
      ∧ r.2.mem ((c.tc : Thread Cert.OutMemIdeal.nD Cert.OutMemIdeal.τ).loc Cert.OutMemIdeal.main_arg1) = m ((c.tc : Thread Cert.OutMemIdeal.nD Cert.OutMemIdeal.τ).loc Cert.OutMemIdeal.main_arg1)
      ∧ r.2.mem ((c.tc : Thread Cert.OutMemIdeal.nD Cert.OutMemIdeal.τ).loc Cert.OutMemIdeal.main_arg2) = m ((c.tc : Thread Cert.OutMemIdeal.nD Cert.OutMemIdeal.τ).loc Cert.OutMemIdeal.main_arg2)
      ∧ r.2.mem ((c.tc : Thread Cert.OutMemIdeal.nD Cert.OutMemIdeal.τ).loc Cert.OutMemIdeal.main_arg3) = m ((c.tc : Thread Cert.OutMemIdeal.nD Cert.OutMemIdeal.τ).loc Cert.OutMemIdeal.main_arg3)
      ∧ r.2.mem ((c.tc : Thread Cert.OutMemIdeal.nD Cert.OutMemIdeal.τ).loc Cert.OutMemIdeal.main_arg4) = m ((c.tc : Thread Cert.OutMemIdeal.nD Cert.OutMemIdeal.τ).loc Cert.OutMemIdeal.main_arg4))
      ∧ r.2.sem = fun _ => 0)

def quiescent_OutMemRefIdeal [hOutMemRefIdeal : Cert.OutMemRefIdeal.Facts] : Prop :=
  ∀ (m : (ℓ : Loc Cert.OutMemRefIdeal.nD Cert.OutMemRefIdeal.τ Cert.OutMemRefIdeal.sig) → Buf (Elt Ideal) ℓ) (g : Dev Cert.OutMemRefIdeal.nD → PrngReg), Pre_OutMemRefIdeal m →
    θ_run (Cert.OutMemRefIdeal.defs (F := Ideal)) (onTc (τ := Cert.OutMemRefIdeal.τ) (Cert.OutMemRefIdeal.main (F := Ideal))) ⟨m, fun _ => 0, g⟩ (fun r => (∀ c : Dev Cert.OutMemRefIdeal.nD,
      r.2.mem ((c.tc : Thread Cert.OutMemRefIdeal.nD Cert.OutMemRefIdeal.τ).loc Cert.OutMemRefIdeal.main_arg0) = m ((c.tc : Thread Cert.OutMemRefIdeal.nD Cert.OutMemRefIdeal.τ).loc Cert.OutMemRefIdeal.main_arg0)
      ∧ r.2.mem ((c.tc : Thread Cert.OutMemRefIdeal.nD Cert.OutMemRefIdeal.τ).loc Cert.OutMemRefIdeal.main_arg1) = m ((c.tc : Thread Cert.OutMemRefIdeal.nD Cert.OutMemRefIdeal.τ).loc Cert.OutMemRefIdeal.main_arg1)
      ∧ r.2.mem ((c.tc : Thread Cert.OutMemRefIdeal.nD Cert.OutMemRefIdeal.τ).loc Cert.OutMemRefIdeal.main_arg2) = m ((c.tc : Thread Cert.OutMemRefIdeal.nD Cert.OutMemRefIdeal.τ).loc Cert.OutMemRefIdeal.main_arg2)
      ∧ r.2.mem ((c.tc : Thread Cert.OutMemRefIdeal.nD Cert.OutMemRefIdeal.τ).loc Cert.OutMemRefIdeal.main_arg3) = m ((c.tc : Thread Cert.OutMemRefIdeal.nD Cert.OutMemRefIdeal.τ).loc Cert.OutMemRefIdeal.main_arg3)
      ∧ r.2.mem ((c.tc : Thread Cert.OutMemRefIdeal.nD Cert.OutMemRefIdeal.τ).loc Cert.OutMemRefIdeal.main_arg4) = m ((c.tc : Thread Cert.OutMemRefIdeal.nD Cert.OutMemRefIdeal.τ).loc Cert.OutMemRefIdeal.main_arg4))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1))
      ∧ r.2.sem = fun _ => 0)

def quiescent_LastP [hLastP : Cert.LastP.Facts] : Prop :=
  ∀ (m : (ℓ : Loc Cert.LastP.nD Cert.LastP.τ Cert.LastP.sig) → Buf (Elt Bits) ℓ) (g : Dev Cert.LastP.nD → PrngReg), Pre_LastP m →
    θ_run (Cert.LastP.defs (F := Bits)) (onTc (τ := Cert.LastP.τ) (Cert.LastP.main (F := Bits))) ⟨m, fun _ => 0, g⟩ (fun r => (∀ c : Dev Cert.LastP.nD,
      r.2.mem ((c.tc : Thread Cert.LastP.nD Cert.LastP.τ).loc Cert.LastP.main_arg0) = m ((c.tc : Thread Cert.LastP.nD Cert.LastP.τ).loc Cert.LastP.main_arg0)
      ∧ r.2.mem ((c.tc : Thread Cert.LastP.nD Cert.LastP.τ).loc Cert.LastP.main_arg1) = m ((c.tc : Thread Cert.LastP.nD Cert.LastP.τ).loc Cert.LastP.main_arg1)
      ∧ r.2.mem ((c.tc : Thread Cert.LastP.nD Cert.LastP.τ).loc Cert.LastP.main_arg2) = m ((c.tc : Thread Cert.LastP.nD Cert.LastP.τ).loc Cert.LastP.main_arg2)
      ∧ r.2.mem ((c.tc : Thread Cert.LastP.nD Cert.LastP.τ).loc Cert.LastP.main_arg3) = m ((c.tc : Thread Cert.LastP.nD Cert.LastP.τ).loc Cert.LastP.main_arg3))
      ∧ r.2.sem = fun _ => 0)

def quiescent_LastPIdeal [hLastPIdeal : Cert.LastPIdeal.Facts] : Prop :=
  ∀ (m : (ℓ : Loc Cert.LastPIdeal.nD Cert.LastPIdeal.τ Cert.LastPIdeal.sig) → Buf (Elt Ideal) ℓ) (g : Dev Cert.LastPIdeal.nD → PrngReg), Pre_LastPIdeal m →
    θ_run (Cert.LastPIdeal.defs (F := Ideal)) (onTc (τ := Cert.LastPIdeal.τ) (Cert.LastPIdeal.main (F := Ideal))) ⟨m, fun _ => 0, g⟩ (fun r => (∀ c : Dev Cert.LastPIdeal.nD,
      r.2.mem ((c.tc : Thread Cert.LastPIdeal.nD Cert.LastPIdeal.τ).loc Cert.LastPIdeal.main_arg0) = m ((c.tc : Thread Cert.LastPIdeal.nD Cert.LastPIdeal.τ).loc Cert.LastPIdeal.main_arg0)
      ∧ r.2.mem ((c.tc : Thread Cert.LastPIdeal.nD Cert.LastPIdeal.τ).loc Cert.LastPIdeal.main_arg1) = m ((c.tc : Thread Cert.LastPIdeal.nD Cert.LastPIdeal.τ).loc Cert.LastPIdeal.main_arg1)
      ∧ r.2.mem ((c.tc : Thread Cert.LastPIdeal.nD Cert.LastPIdeal.τ).loc Cert.LastPIdeal.main_arg2) = m ((c.tc : Thread Cert.LastPIdeal.nD Cert.LastPIdeal.τ).loc Cert.LastPIdeal.main_arg2)
      ∧ r.2.mem ((c.tc : Thread Cert.LastPIdeal.nD Cert.LastPIdeal.τ).loc Cert.LastPIdeal.main_arg3) = m ((c.tc : Thread Cert.LastPIdeal.nD Cert.LastPIdeal.τ).loc Cert.LastPIdeal.main_arg3))
      ∧ r.2.sem = fun _ => 0)

def quiescent_LastPRefIdeal [hLastPRefIdeal : Cert.LastPRefIdeal.Facts] : Prop :=
  ∀ (m : (ℓ : Loc Cert.LastPRefIdeal.nD Cert.LastPRefIdeal.τ Cert.LastPRefIdeal.sig) → Buf (Elt Ideal) ℓ) (g : Dev Cert.LastPRefIdeal.nD → PrngReg), Pre_LastPRefIdeal m →
    θ_run (Cert.LastPRefIdeal.defs (F := Ideal)) (onTc (τ := Cert.LastPRefIdeal.τ) (Cert.LastPRefIdeal.main (F := Ideal))) ⟨m, fun _ => 0, g⟩ (fun r => (∀ c : Dev Cert.LastPRefIdeal.nD,
      r.2.mem ((c.tc : Thread Cert.LastPRefIdeal.nD Cert.LastPRefIdeal.τ).loc Cert.LastPRefIdeal.main_arg0) = m ((c.tc : Thread Cert.LastPRefIdeal.nD Cert.LastPRefIdeal.τ).loc Cert.LastPRefIdeal.main_arg0)
      ∧ r.2.mem ((c.tc : Thread Cert.LastPRefIdeal.nD Cert.LastPRefIdeal.τ).loc Cert.LastPRefIdeal.main_arg1) = m ((c.tc : Thread Cert.LastPRefIdeal.nD Cert.LastPRefIdeal.τ).loc Cert.LastPRefIdeal.main_arg1)
      ∧ r.2.mem ((c.tc : Thread Cert.LastPRefIdeal.nD Cert.LastPRefIdeal.τ).loc Cert.LastPRefIdeal.main_arg2) = m ((c.tc : Thread Cert.LastPRefIdeal.nD Cert.LastPRefIdeal.τ).loc Cert.LastPRefIdeal.main_arg2)
      ∧ r.2.mem ((c.tc : Thread Cert.LastPRefIdeal.nD Cert.LastPRefIdeal.τ).loc Cert.LastPRefIdeal.main_arg3) = m ((c.tc : Thread Cert.LastPRefIdeal.nD Cert.LastPRefIdeal.τ).loc Cert.LastPRefIdeal.main_arg3))
      ∧ r.2.sem = fun _ => 0)

def quiescent_LastS [hLastS : Cert.LastS.Facts] : Prop :=
  ∀ (m : (ℓ : Loc Cert.LastS.nD Cert.LastS.τ Cert.LastS.sig) → Buf (Elt Bits) ℓ) (g : Dev Cert.LastS.nD → PrngReg), Pre_LastS m →
    θ_run (Cert.LastS.defs (F := Bits)) (onTc (τ := Cert.LastS.τ) (Cert.LastS.main (F := Bits))) ⟨m, fun _ => 0, g⟩ (fun r => (∀ c : Dev Cert.LastS.nD,
      r.2.mem ((c.tc : Thread Cert.LastS.nD Cert.LastS.τ).loc Cert.LastS.main_arg0) = m ((c.tc : Thread Cert.LastS.nD Cert.LastS.τ).loc Cert.LastS.main_arg0)
      ∧ r.2.mem ((c.tc : Thread Cert.LastS.nD Cert.LastS.τ).loc Cert.LastS.main_arg1) = m ((c.tc : Thread Cert.LastS.nD Cert.LastS.τ).loc Cert.LastS.main_arg1)
      ∧ r.2.mem ((c.tc : Thread Cert.LastS.nD Cert.LastS.τ).loc Cert.LastS.main_arg2) = m ((c.tc : Thread Cert.LastS.nD Cert.LastS.τ).loc Cert.LastS.main_arg2)
      ∧ r.2.mem ((c.tc : Thread Cert.LastS.nD Cert.LastS.τ).loc Cert.LastS.main_arg3) = m ((c.tc : Thread Cert.LastS.nD Cert.LastS.τ).loc Cert.LastS.main_arg3))
      ∧ r.2.sem = fun _ => 0)

def quiescent_LastSIdeal [hLastSIdeal : Cert.LastSIdeal.Facts] : Prop :=
  ∀ (m : (ℓ : Loc Cert.LastSIdeal.nD Cert.LastSIdeal.τ Cert.LastSIdeal.sig) → Buf (Elt Ideal) ℓ) (g : Dev Cert.LastSIdeal.nD → PrngReg), Pre_LastSIdeal m →
    θ_run (Cert.LastSIdeal.defs (F := Ideal)) (onTc (τ := Cert.LastSIdeal.τ) (Cert.LastSIdeal.main (F := Ideal))) ⟨m, fun _ => 0, g⟩ (fun r => (∀ c : Dev Cert.LastSIdeal.nD,
      r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
      ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
      ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2)
      ∧ r.2.mem ((c.tc : Thread Cert.LastSIdeal.nD Cert.LastSIdeal.τ).loc Cert.LastSIdeal.main_arg3) = m ((c.tc : Thread Cert.LastSIdeal.nD Cert.LastSIdeal.τ).loc Cert.LastSIdeal.main_arg3))
      ∧ r.2.sem = fun _ => 0)

def quiescent_LastSRefIdeal [hLastSRefIdeal : Cert.LastSRefIdeal.Facts] : Prop :=
  ∀ (m : (ℓ : Loc Cert.LastSRefIdeal.nD Cert.LastSRefIdeal.τ Cert.LastSRefIdeal.sig) → Buf (Elt Ideal) ℓ) (g : Dev Cert.LastSRefIdeal.nD → PrngReg), Pre_LastSRefIdeal m →
    θ_run (Cert.LastSRefIdeal.defs (F := Ideal)) (onTc (τ := Cert.LastSRefIdeal.τ) (Cert.LastSRefIdeal.main (F := Ideal))) ⟨m, fun _ => 0, g⟩ (fun r => (∀ c : Dev Cert.LastSRefIdeal.nD,
      r.2.mem ((c.tc : Thread Cert.LastSRefIdeal.nD Cert.LastSRefIdeal.τ).loc Cert.LastSRefIdeal.main_arg0) = m ((c.tc : Thread Cert.LastSRefIdeal.nD Cert.LastSRefIdeal.τ).loc Cert.LastSRefIdeal.main_arg0)
      ∧ r.2.mem ((c.tc : Thread Cert.LastSRefIdeal.nD Cert.LastSRefIdeal.τ).loc Cert.LastSRefIdeal.main_arg1) = m ((c.tc : Thread Cert.LastSRefIdeal.nD Cert.LastSRefIdeal.τ).loc Cert.LastSRefIdeal.main_arg1)
      ∧ r.2.mem ((c.tc : Thread Cert.LastSRefIdeal.nD Cert.LastSRefIdeal.τ).loc Cert.LastSRefIdeal.main_arg2) = m ((c.tc : Thread Cert.LastSRefIdeal.nD Cert.LastSRefIdeal.τ).loc Cert.LastSRefIdeal.main_arg2)
      ∧ r.2.mem ((c.tc : Thread Cert.LastSRefIdeal.nD Cert.LastSRefIdeal.τ).loc Cert.LastSRefIdeal.main_arg3) = m ((c.tc : Thread Cert.LastSRefIdeal.nD Cert.LastSRefIdeal.τ).loc Cert.LastSRefIdeal.main_arg3))
      ∧ r.2.sem = fun _ => 0)

def quiescent_FoxP [hFoxP : Cert.FoxP.Facts] : Prop :=
  ∀ (m : (ℓ : Loc Cert.FoxP.nD Cert.FoxP.τ Cert.FoxP.sig) → Buf (Elt Bits) ℓ) (g : Dev Cert.FoxP.nD → PrngReg), Pre_FoxP m →
    θ_run (Cert.FoxP.defs (F := Bits)) (onTc (τ := Cert.FoxP.τ) (Cert.FoxP.main (F := Bits))) ⟨m, fun _ => 0, g⟩ (fun r => (∀ c : Dev Cert.FoxP.nD,
      r.2.mem ((c.tc : Thread Cert.FoxP.nD Cert.FoxP.τ).loc Cert.FoxP.main_arg0) = m ((c.tc : Thread Cert.FoxP.nD Cert.FoxP.τ).loc Cert.FoxP.main_arg0)
      ∧ r.2.mem ((c.tc : Thread Cert.FoxP.nD Cert.FoxP.τ).loc Cert.FoxP.main_arg1) = m ((c.tc : Thread Cert.FoxP.nD Cert.FoxP.τ).loc Cert.FoxP.main_arg1)
      ∧ r.2.mem ((c.tc : Thread Cert.FoxP.nD Cert.FoxP.τ).loc Cert.FoxP.main_arg2) = m ((c.tc : Thread Cert.FoxP.nD Cert.FoxP.τ).loc Cert.FoxP.main_arg2)
      ∧ r.2.mem ((c.tc : Thread Cert.FoxP.nD Cert.FoxP.τ).loc Cert.FoxP.main_arg3) = m ((c.tc : Thread Cert.FoxP.nD Cert.FoxP.τ).loc Cert.FoxP.main_arg3))
      ∧ r.2.sem = fun _ => 0)

def quiescent_FoxPIdeal [hFoxPIdeal : Cert.FoxPIdeal.Facts] : Prop :=
  ∀ (m : (ℓ : Loc Cert.FoxPIdeal.nD Cert.FoxPIdeal.τ Cert.FoxPIdeal.sig) → Buf (Elt Ideal) ℓ) (g : Dev Cert.FoxPIdeal.nD → PrngReg), Pre_FoxPIdeal m →
    θ_run (Cert.FoxPIdeal.defs (F := Ideal)) (onTc (τ := Cert.FoxPIdeal.τ) (Cert.FoxPIdeal.main (F := Ideal))) ⟨m, fun _ => 0, g⟩ (fun r => (∀ c : Dev Cert.FoxPIdeal.nD,
      r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
      ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1)
      ∧ r.2.mem ((c.tc : Thread Cert.FoxPIdeal.nD Cert.FoxPIdeal.τ).loc Cert.FoxPIdeal.main_arg2) = m ((c.tc : Thread Cert.FoxPIdeal.nD Cert.FoxPIdeal.τ).loc Cert.FoxPIdeal.main_arg2)
      ∧ r.2.mem ((c.tc : Thread Cert.FoxPIdeal.nD Cert.FoxPIdeal.τ).loc Cert.FoxPIdeal.main_arg3) = m ((c.tc : Thread Cert.FoxPIdeal.nD Cert.FoxPIdeal.τ).loc Cert.FoxPIdeal.main_arg3))
      ∧ r.2.sem = fun _ => 0)

def quiescent_FoxPRefIdeal [hFoxPRefIdeal : Cert.FoxPRefIdeal.Facts] : Prop :=
  ∀ (m : (ℓ : Loc Cert.FoxPRefIdeal.nD Cert.FoxPRefIdeal.τ Cert.FoxPRefIdeal.sig) → Buf (Elt Ideal) ℓ) (g : Dev Cert.FoxPRefIdeal.nD → PrngReg), Pre_FoxPRefIdeal m →
    θ_run (Cert.FoxPRefIdeal.defs (F := Ideal)) (onTc (τ := Cert.FoxPRefIdeal.τ) (Cert.FoxPRefIdeal.main (F := Ideal))) ⟨m, fun _ => 0, g⟩ (fun r => (∀ c : Dev Cert.FoxPRefIdeal.nD,
      r.2.mem ((c.tc : Thread Cert.FoxPRefIdeal.nD Cert.FoxPRefIdeal.τ).loc Cert.FoxPRefIdeal.main_arg0) = m ((c.tc : Thread Cert.FoxPRefIdeal.nD Cert.FoxPRefIdeal.τ).loc Cert.FoxPRefIdeal.main_arg0)
      ∧ r.2.mem ((c.tc : Thread Cert.FoxPRefIdeal.nD Cert.FoxPRefIdeal.τ).loc Cert.FoxPRefIdeal.main_arg1) = m ((c.tc : Thread Cert.FoxPRefIdeal.nD Cert.FoxPRefIdeal.τ).loc Cert.FoxPRefIdeal.main_arg1)
      ∧ r.2.mem ((c.tc : Thread Cert.FoxPRefIdeal.nD Cert.FoxPRefIdeal.τ).loc Cert.FoxPRefIdeal.main_arg2) = m ((c.tc : Thread Cert.FoxPRefIdeal.nD Cert.FoxPRefIdeal.τ).loc Cert.FoxPRefIdeal.main_arg2)
      ∧ r.2.mem ((c.tc : Thread Cert.FoxPRefIdeal.nD Cert.FoxPRefIdeal.τ).loc Cert.FoxPRefIdeal.main_arg3) = m ((c.tc : Thread Cert.FoxPRefIdeal.nD Cert.FoxPRefIdeal.τ).loc Cert.FoxPRefIdeal.main_arg3))
      ∧ r.2.sem = fun _ => 0)

def quiescent_FoxS [hFoxS : Cert.FoxS.Facts] : Prop :=
  ∀ (m : (ℓ : Loc Cert.FoxS.nD Cert.FoxS.τ Cert.FoxS.sig) → Buf (Elt Bits) ℓ) (g : Dev Cert.FoxS.nD → PrngReg), Pre_FoxS m →
    θ_run (Cert.FoxS.defs (F := Bits)) (onTc (τ := Cert.FoxS.τ) (Cert.FoxS.main (F := Bits))) ⟨m, fun _ => 0, g⟩ (fun r => (∀ c : Dev Cert.FoxS.nD,
      r.2.mem ((c.tc : Thread Cert.FoxS.nD Cert.FoxS.τ).loc Cert.FoxS.main_arg0) = m ((c.tc : Thread Cert.FoxS.nD Cert.FoxS.τ).loc Cert.FoxS.main_arg0)
      ∧ r.2.mem ((c.tc : Thread Cert.FoxS.nD Cert.FoxS.τ).loc Cert.FoxS.main_arg1) = m ((c.tc : Thread Cert.FoxS.nD Cert.FoxS.τ).loc Cert.FoxS.main_arg1)
      ∧ r.2.mem ((c.tc : Thread Cert.FoxS.nD Cert.FoxS.τ).loc Cert.FoxS.main_arg2) = m ((c.tc : Thread Cert.FoxS.nD Cert.FoxS.τ).loc Cert.FoxS.main_arg2)
      ∧ r.2.mem ((c.tc : Thread Cert.FoxS.nD Cert.FoxS.τ).loc Cert.FoxS.main_arg3) = m ((c.tc : Thread Cert.FoxS.nD Cert.FoxS.τ).loc Cert.FoxS.main_arg3))
      ∧ r.2.sem = fun _ => 0)

def quiescent_FoxSIdeal [hFoxSIdeal : Cert.FoxSIdeal.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3))
      ∧ r.2.sem = fun _ => 0)

def quiescent_FoxSRefIdeal [hFoxSRefIdeal : Cert.FoxSRefIdeal.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3))
      ∧ r.2.sem = fun _ => 0)

def quiescent_FoxA [hFoxA : Cert.FoxA.Facts] : Prop :=
  ∀ (m : (ℓ : Loc Cert.FoxA.nD Cert.FoxA.τ Cert.FoxA.sig) → Buf (Elt Bits) ℓ) (g : Dev Cert.FoxA.nD → PrngReg), Pre_FoxA m →
    θ_run (Cert.FoxA.defs (F := Bits)) (onTc (τ := Cert.FoxA.τ) (Cert.FoxA.main (F := Bits))) ⟨m, fun _ => 0, g⟩ (fun r => (∀ c : Dev Cert.FoxA.nD,
      r.2.mem ((c.tc : Thread Cert.FoxA.nD Cert.FoxA.τ).loc Cert.FoxA.main_arg0) = m ((c.tc : Thread Cert.FoxA.nD Cert.FoxA.τ).loc Cert.FoxA.main_arg0)
      ∧ r.2.mem ((c.tc : Thread Cert.FoxA.nD Cert.FoxA.τ).loc Cert.FoxA.main_arg1) = m ((c.tc : Thread Cert.FoxA.nD Cert.FoxA.τ).loc Cert.FoxA.main_arg1)
      ∧ r.2.mem ((c.tc : Thread Cert.FoxA.nD Cert.FoxA.τ).loc Cert.FoxA.main_arg2) = m ((c.tc : Thread Cert.FoxA.nD Cert.FoxA.τ).loc Cert.FoxA.main_arg2)
      ∧ r.2.mem ((c.tc : Thread Cert.FoxA.nD Cert.FoxA.τ).loc Cert.FoxA.main_arg3) = m ((c.tc : Thread Cert.FoxA.nD Cert.FoxA.τ).loc Cert.FoxA.main_arg3))
      ∧ r.2.sem = fun _ => 0)

def quiescent_FoxAIdeal [hFoxAIdeal : Cert.FoxAIdeal.Facts] : Prop :=
  ∀ (m : (ℓ : Loc Cert.FoxAIdeal.nD Cert.FoxAIdeal.τ Cert.FoxAIdeal.sig) → Buf (Elt Ideal) ℓ) (g : Dev Cert.FoxAIdeal.nD → PrngReg), Pre_FoxAIdeal m →
    θ_run (Cert.FoxAIdeal.defs (F := Ideal)) (onTc (τ := Cert.FoxAIdeal.τ) (Cert.FoxAIdeal.main (F := Ideal))) ⟨m, fun _ => 0, g⟩ (fun r => (∀ c : Dev Cert.FoxAIdeal.nD,
      r.2.mem ((c.tc : Thread Cert.FoxAIdeal.nD Cert.FoxAIdeal.τ).loc Cert.FoxAIdeal.main_arg0) = m ((c.tc : Thread Cert.FoxAIdeal.nD Cert.FoxAIdeal.τ).loc Cert.FoxAIdeal.main_arg0)
      ∧ r.2.mem ((c.tc : Thread Cert.FoxAIdeal.nD Cert.FoxAIdeal.τ).loc Cert.FoxAIdeal.main_arg1) = m ((c.tc : Thread Cert.FoxAIdeal.nD Cert.FoxAIdeal.τ).loc Cert.FoxAIdeal.main_arg1)
      ∧ r.2.mem ((c.tc : Thread Cert.FoxAIdeal.nD Cert.FoxAIdeal.τ).loc Cert.FoxAIdeal.main_arg2) = m ((c.tc : Thread Cert.FoxAIdeal.nD Cert.FoxAIdeal.τ).loc Cert.FoxAIdeal.main_arg2)
      ∧ r.2.mem ((c.tc : Thread Cert.FoxAIdeal.nD Cert.FoxAIdeal.τ).loc Cert.FoxAIdeal.main_arg3) = m ((c.tc : Thread Cert.FoxAIdeal.nD Cert.FoxAIdeal.τ).loc Cert.FoxAIdeal.main_arg3))
      ∧ r.2.sem = fun _ => 0)

def quiescent_FoxAIdeal_pre_finite_scores [hFoxAIdeal : Cert.FoxAIdeal.Facts] [hPre_finite_scores : Cert.Pre_finite_scores.Facts] : Prop :=
  ∀ (m : (ℓ : Loc Cert.FoxAIdeal.nD Cert.FoxAIdeal.τ Cert.FoxAIdeal.sig) → Buf (Elt Ideal) ℓ) (g : Dev Cert.FoxAIdeal.nD → PrngReg), Pre_FoxAIdeal_finite_scores m →
    θ_run (Cert.FoxAIdeal.defs (F := Ideal)) (onTc (τ := Cert.FoxAIdeal.τ) (Cert.FoxAIdeal.main (F := Ideal))) ⟨m, fun _ => 0, g⟩ (fun r => (∀ c : Dev Cert.FoxAIdeal.nD,
      r.2.mem ((c.tc : Thread Cert.FoxAIdeal.nD Cert.FoxAIdeal.τ).loc Cert.FoxAIdeal.main_arg0) = m ((c.tc : Thread Cert.FoxAIdeal.nD Cert.FoxAIdeal.τ).loc Cert.FoxAIdeal.main_arg0)
      ∧ r.2.mem ((c.tc : Thread Cert.FoxAIdeal.nD Cert.FoxAIdeal.τ).loc Cert.FoxAIdeal.main_arg1) = m ((c.tc : Thread Cert.FoxAIdeal.nD Cert.FoxAIdeal.τ).loc Cert.FoxAIdeal.main_arg1)
      ∧ r.2.mem ((c.tc : Thread Cert.FoxAIdeal.nD Cert.FoxAIdeal.τ).loc Cert.FoxAIdeal.main_arg2) = m ((c.tc : Thread Cert.FoxAIdeal.nD Cert.FoxAIdeal.τ).loc Cert.FoxAIdeal.main_arg2)
      ∧ r.2.mem ((c.tc : Thread Cert.FoxAIdeal.nD Cert.FoxAIdeal.τ).loc Cert.FoxAIdeal.main_arg3) = m ((c.tc : Thread Cert.FoxAIdeal.nD Cert.FoxAIdeal.τ).loc Cert.FoxAIdeal.main_arg3))
      ∧ r.2.sem = fun _ => 0)

def quiescent_FoxARefIdeal [hFoxARefIdeal : Cert.FoxARefIdeal.Facts] : Prop :=
  ∀ (m : (ℓ : Loc Cert.FoxARefIdeal.nD Cert.FoxARefIdeal.τ Cert.FoxARefIdeal.sig) → Buf (Elt Ideal) ℓ) (g : Dev Cert.FoxARefIdeal.nD → PrngReg), Pre_FoxARefIdeal m →
    θ_run (Cert.FoxARefIdeal.defs (F := Ideal)) (onTc (τ := Cert.FoxARefIdeal.τ) (Cert.FoxARefIdeal.main (F := Ideal))) ⟨m, fun _ => 0, g⟩ (fun r => (∀ c : Dev Cert.FoxARefIdeal.nD,
      r.2.mem ((c.tc : Thread Cert.FoxARefIdeal.nD Cert.FoxARefIdeal.τ).loc Cert.FoxARefIdeal.main_arg0) = m ((c.tc : Thread Cert.FoxARefIdeal.nD Cert.FoxARefIdeal.τ).loc Cert.FoxARefIdeal.main_arg0)
      ∧ r.2.mem ((c.tc : Thread Cert.FoxARefIdeal.nD Cert.FoxARefIdeal.τ).loc Cert.FoxARefIdeal.main_arg1) = m ((c.tc : Thread Cert.FoxARefIdeal.nD Cert.FoxARefIdeal.τ).loc Cert.FoxARefIdeal.main_arg1)
      ∧ r.2.mem ((c.tc : Thread Cert.FoxARefIdeal.nD Cert.FoxARefIdeal.τ).loc Cert.FoxARefIdeal.main_arg2) = m ((c.tc : Thread Cert.FoxARefIdeal.nD Cert.FoxARefIdeal.τ).loc Cert.FoxARefIdeal.main_arg2)
      ∧ r.2.mem ((c.tc : Thread Cert.FoxARefIdeal.nD Cert.FoxARefIdeal.τ).loc Cert.FoxARefIdeal.main_arg3) = m ((c.tc : Thread Cert.FoxARefIdeal.nD Cert.FoxARefIdeal.τ).loc Cert.FoxARefIdeal.main_arg3))
      ∧ r.2.sem = fun _ => 0)

def quiescent_FoxARefIdeal_pre_finite_scores [hFoxARefIdeal : Cert.FoxARefIdeal.Facts] [hPre_finite_scores : Cert.Pre_finite_scores.Facts] : Prop :=
  ∀ (m : (ℓ : Loc Cert.FoxARefIdeal.nD Cert.FoxARefIdeal.τ Cert.FoxARefIdeal.sig) → Buf (Elt Ideal) ℓ) (g : Dev Cert.FoxARefIdeal.nD → PrngReg), Pre_FoxARefIdeal_finite_scores m →
    θ_run (Cert.FoxARefIdeal.defs (F := Ideal)) (onTc (τ := Cert.FoxARefIdeal.τ) (Cert.FoxARefIdeal.main (F := Ideal))) ⟨m, fun _ => 0, g⟩ (fun r => (∀ c : Dev Cert.FoxARefIdeal.nD,
      r.2.mem ((c.tc : Thread Cert.FoxARefIdeal.nD Cert.FoxARefIdeal.τ).loc Cert.FoxARefIdeal.main_arg0) = m ((c.tc : Thread Cert.FoxARefIdeal.nD Cert.FoxARefIdeal.τ).loc Cert.FoxARefIdeal.main_arg0)
      ∧ r.2.mem ((c.tc : Thread Cert.FoxARefIdeal.nD Cert.FoxARefIdeal.τ).loc Cert.FoxARefIdeal.main_arg1) = m ((c.tc : Thread Cert.FoxARefIdeal.nD Cert.FoxARefIdeal.τ).loc Cert.FoxARefIdeal.main_arg1)
      ∧ r.2.mem ((c.tc : Thread Cert.FoxARefIdeal.nD Cert.FoxARefIdeal.τ).loc Cert.FoxARefIdeal.main_arg2) = m ((c.tc : Thread Cert.FoxARefIdeal.nD Cert.FoxARefIdeal.τ).loc Cert.FoxARefIdeal.main_arg2)
      ∧ r.2.mem ((c.tc : Thread Cert.FoxARefIdeal.nD Cert.FoxARefIdeal.τ).loc Cert.FoxARefIdeal.main_arg3) = m ((c.tc : Thread Cert.FoxARefIdeal.nD Cert.FoxARefIdeal.τ).loc Cert.FoxARefIdeal.main_arg3))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v7)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v7) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v6) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Hgs_HgsIdeal : Prop :=
  True

def algebraic_HgsIdeal_HgsRefIdeal [hHgsIdeal : Cert.HgsIdeal.Facts] [hHgsRefIdeal : Cert.HgsRefIdeal.Facts] : Prop :=
  ∀ (m : (ℓ : Loc Cert.HgsIdeal.nD Cert.HgsIdeal.τ Cert.HgsIdeal.sig) → Buf (Elt Ideal) ℓ) (g : Dev Cert.HgsIdeal.nD → PrngReg)
    (m' : (ℓ : Loc Cert.HgsRefIdeal.nD Cert.HgsRefIdeal.τ Cert.HgsRefIdeal.sig) → Buf (Elt Ideal) ℓ) (g' : Dev Cert.HgsRefIdeal.nD → PrngReg), Pre_HgsIdeal m →
    (∀ c : Dev Cert.HgsIdeal.nD,
      m' ((c.tc : Thread Cert.HgsRefIdeal.nD Cert.HgsRefIdeal.τ).loc Cert.HgsRefIdeal.main_arg0) = m ((c.tc : Thread Cert.HgsIdeal.nD Cert.HgsIdeal.τ).loc Cert.HgsIdeal.main_arg0)
      ∧ m' ((c.tc : Thread Cert.HgsRefIdeal.nD Cert.HgsRefIdeal.τ).loc Cert.HgsRefIdeal.main_arg1) = m ((c.tc : Thread Cert.HgsIdeal.nD Cert.HgsIdeal.τ).loc Cert.HgsIdeal.main_arg1)
      ∧ m' ((c.tc : Thread Cert.HgsRefIdeal.nD Cert.HgsRefIdeal.τ).loc Cert.HgsRefIdeal.main_arg2) = m ((c.tc : Thread Cert.HgsIdeal.nD Cert.HgsIdeal.τ).loc Cert.HgsIdeal.main_arg2)
      ∧ m' ((c.tc : Thread Cert.HgsRefIdeal.nD Cert.HgsRefIdeal.τ).loc Cert.HgsRefIdeal.main_arg3) = m ((c.tc : Thread Cert.HgsIdeal.nD Cert.HgsIdeal.τ).loc Cert.HgsIdeal.main_arg3)) →
    ∃ (v0 : (c : Dev Cert.HgsIdeal.nD) → Buf (Elt Ideal) ((c.tc : Thread Cert.HgsIdeal.nD Cert.HgsIdeal.τ).loc Cert.HgsIdeal.main_v18_0)) (v1 : (c : Dev Cert.HgsIdeal.nD) → Buf (Elt Ideal) ((c.tc : Thread Cert.HgsIdeal.nD Cert.HgsIdeal.τ).loc Cert.HgsIdeal.main_v18_1)),
      θ_run (Cert.HgsIdeal.defs (F := Ideal)) (onTc (τ := Cert.HgsIdeal.τ) (Cert.HgsIdeal.main (F := Ideal))) ⟨m, fun _ => 0, g⟩ (fun r => ∀ c : Dev Cert.HgsIdeal.nD,
          r.2.mem ((c.tc : Thread Cert.HgsIdeal.nD Cert.HgsIdeal.τ).loc Cert.HgsIdeal.main_v18_0) = v0 c
          ∧ r.2.mem ((c.tc : Thread Cert.HgsIdeal.nD Cert.HgsIdeal.τ).loc Cert.HgsIdeal.main_v18_1) = v1 c
          ∧ r.2.mem ((c.tc : Thread Cert.HgsIdeal.nD Cert.HgsIdeal.τ).loc Cert.HgsIdeal.main_arg0) = m ((c.tc : Thread Cert.HgsIdeal.nD Cert.HgsIdeal.τ).loc Cert.HgsIdeal.main_arg0)
          ∧ r.2.mem ((c.tc : Thread Cert.HgsIdeal.nD Cert.HgsIdeal.τ).loc Cert.HgsIdeal.main_arg1) = m ((c.tc : Thread Cert.HgsIdeal.nD Cert.HgsIdeal.τ).loc Cert.HgsIdeal.main_arg1)
          ∧ r.2.mem ((c.tc : Thread Cert.HgsIdeal.nD Cert.HgsIdeal.τ).loc Cert.HgsIdeal.main_arg2) = m ((c.tc : Thread Cert.HgsIdeal.nD Cert.HgsIdeal.τ).loc Cert.HgsIdeal.main_arg2)
          ∧ r.2.mem ((c.tc : Thread Cert.HgsIdeal.nD Cert.HgsIdeal.τ).loc Cert.HgsIdeal.main_arg3) = m ((c.tc : Thread Cert.HgsIdeal.nD Cert.HgsIdeal.τ).loc Cert.HgsIdeal.main_arg3))
      ∧ θ_run (Cert.HgsRefIdeal.defs (F := Ideal)) (onTc (τ := Cert.HgsRefIdeal.τ) (Cert.HgsRefIdeal.main (F := Ideal))) ⟨m', fun _ => 0, g'⟩ (fun r => ∀ c : Dev Cert.HgsRefIdeal.nD,
          r.2.mem ((c.tc : Thread Cert.HgsRefIdeal.nD Cert.HgsRefIdeal.τ).loc Cert.HgsRefIdeal.main_v99) = v0 c
          ∧ r.2.mem ((c.tc : Thread Cert.HgsRefIdeal.nD Cert.HgsRefIdeal.τ).loc Cert.HgsRefIdeal.main_v78) = v1 c
          ∧ r.2.mem ((c.tc : Thread Cert.HgsRefIdeal.nD Cert.HgsRefIdeal.τ).loc Cert.HgsRefIdeal.main_arg0) = m' ((c.tc : Thread Cert.HgsRefIdeal.nD Cert.HgsRefIdeal.τ).loc Cert.HgsRefIdeal.main_arg0)
          ∧ r.2.mem ((c.tc : Thread Cert.HgsRefIdeal.nD Cert.HgsRefIdeal.τ).loc Cert.HgsRefIdeal.main_arg1) = m' ((c.tc : Thread Cert.HgsRefIdeal.nD Cert.HgsRefIdeal.τ).loc Cert.HgsRefIdeal.main_arg1)
          ∧ r.2.mem ((c.tc : Thread Cert.HgsRefIdeal.nD Cert.HgsRefIdeal.τ).loc Cert.HgsRefIdeal.main_arg2) = m' ((c.tc : Thread Cert.HgsRefIdeal.nD Cert.HgsRefIdeal.τ).loc Cert.HgsRefIdeal.main_arg2)
          ∧ r.2.mem ((c.tc : Thread Cert.HgsRefIdeal.nD Cert.HgsRefIdeal.τ).loc Cert.HgsRefIdeal.main_arg3) = m' ((c.tc : Thread Cert.HgsRefIdeal.nD Cert.HgsRefIdeal.τ).loc Cert.HgsRefIdeal.main_arg3))

def preserves_MoeUp_MoeUpIdeal : Prop :=
  True

def algebraic_MoeUpIdeal_MoeUpRefIdeal_on_up_kept [hMoeUpIdeal : Cert.MoeUpIdeal.Facts] [hMoeUpRefIdeal : Cert.MoeUpRefIdeal.Facts] [hPre_up_tables : Cert.Pre_up_tables.Facts] [hOn_up_kept : Cert.On_up_kept.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)
      ∧ m' ((c.tc : Thread Cert.MoeUpRefIdeal.nD Cert.MoeUpRefIdeal.τ).loc Cert.MoeUpRefIdeal.main_arg5) = m ((c.tc : Thread Cert.MoeUpIdeal.nD Cert.MoeUpIdeal.τ).loc Cert.MoeUpIdeal.main_arg5)) →
    ∃ (v0 : (c : Dev Cert.MoeUpIdeal.nD) → Buf (Elt Ideal) ((c.tc : Thread Cert.MoeUpIdeal.nD Cert.MoeUpIdeal.τ).loc Cert.MoeUpIdeal.main_v1)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          (∀ i : (⟨2, ![86016, 2048]⟩ : Shape).Idx, (Cert.On_up_kept.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5))) i = 1#1 → r.2.mem ((c.tc : Thread Cert.MoeUpIdeal.nD Cert.MoeUpIdeal.τ).loc Cert.MoeUpIdeal.main_v1) i = v0 c i)
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          (∀ i : (⟨2, ![86016, 2048]⟩ : Shape).Idx, (Cert.On_up_kept.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5))) i = 1#1 → r.2.mem ((c.tc : Thread Cert.MoeUpRefIdeal.nD Cert.MoeUpRefIdeal.τ).loc Cert.MoeUpRefIdeal.main_v42) i = v0 c i)
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4)
          ∧ r.2.mem ((c.tc : Thread Cert.MoeUpRefIdeal.nD Cert.MoeUpRefIdeal.τ).loc Cert.MoeUpRefIdeal.main_arg5) = m' ((c.tc : Thread Cert.MoeUpRefIdeal.nD Cert.MoeUpRefIdeal.τ).loc Cert.MoeUpRefIdeal.main_arg5))

def preserves_MoeDown_MoeDownIdeal : Prop :=
  True

def algebraic_MoeDownIdeal_MoeDownRefIdeal_on_down_kept [hMoeDownIdeal : Cert.MoeDownIdeal.Facts] [hMoeDownRefIdeal : Cert.MoeDownRefIdeal.Facts] [hPre_down_tables : Cert.Pre_down_tables.Facts] [hOn_down_kept : Cert.On_down_kept.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)
      ∧ m' ((c.tc : Thread Cert.MoeDownRefIdeal.nD Cert.MoeDownRefIdeal.τ).loc Cert.MoeDownRefIdeal.main_arg4) = m ((c.tc : Thread Cert.MoeDownIdeal.nD Cert.MoeDownIdeal.τ).loc Cert.MoeDownIdeal.main_arg4)
      ∧ m' ((c.tc : Thread Cert.MoeDownRefIdeal.nD Cert.MoeDownRefIdeal.τ).loc Cert.MoeDownRefIdeal.main_arg5) = m ((c.tc : Thread Cert.MoeDownIdeal.nD Cert.MoeDownIdeal.τ).loc Cert.MoeDownIdeal.main_arg5)) →
    ∃ (v0 : (c : Dev Cert.MoeDownIdeal.nD) → Buf (Elt Ideal) ((c.tc : Thread Cert.MoeDownIdeal.nD Cert.MoeDownIdeal.τ).loc Cert.MoeDownIdeal.main_v1)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          (∀ i : (⟨2, ![86016, 2048]⟩ : Shape).Idx, (Cert.On_down_kept.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))) i = 1#1 → r.2.mem ((c.tc : Thread Cert.MoeDownIdeal.nD Cert.MoeDownIdeal.τ).loc Cert.MoeDownIdeal.main_v1) i = v0 c i)
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
          ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          (∀ i : (⟨2, ![86016, 2048]⟩ : Shape).Idx, (Cert.On_down_kept.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))) i = 1#1 → r.2.mem ((c.tc : Thread Cert.MoeDownRefIdeal.nD Cert.MoeDownRefIdeal.τ).loc Cert.MoeDownRefIdeal.main_v24) i = v0 c i)
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3)
          ∧ r.2.mem ((c.tc : Thread Cert.MoeDownRefIdeal.nD Cert.MoeDownRefIdeal.τ).loc Cert.MoeDownRefIdeal.main_arg4) = m' ((c.tc : Thread Cert.MoeDownRefIdeal.nD Cert.MoeDownRefIdeal.τ).loc Cert.MoeDownRefIdeal.main_arg4)
          ∧ r.2.mem ((c.tc : Thread Cert.MoeDownRefIdeal.nD Cert.MoeDownRefIdeal.τ).loc Cert.MoeDownRefIdeal.main_arg5) = m' ((c.tc : Thread Cert.MoeDownRefIdeal.nD Cert.MoeDownRefIdeal.τ).loc Cert.MoeDownRefIdeal.main_arg5))

def preserves_OutMix_OutMixIdeal : Prop :=
  True

def algebraic_OutMixIdeal_OutMixRefIdeal [hOutMixIdeal : Cert.OutMixIdeal.Facts] [hOutMixRefIdeal : Cert.OutMixRefIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixRefIdeal.nD Cert.OutMixRefIdeal.τ Cert.OutMixRefIdeal.sig) → Buf (Elt Ideal) ℓ) (g' : Dev Cert.OutMixRefIdeal.nD → PrngReg), Pre_OutMixIdeal m →
    (∀ c : Dev Cert.OutMixIdeal.nD,
      m' ((c.tc : Thread Cert.OutMixRefIdeal.nD Cert.OutMixRefIdeal.τ).loc Cert.OutMixRefIdeal.main_arg0) = m ((c.tc : Thread Cert.OutMixIdeal.nD Cert.OutMixIdeal.τ).loc Cert.OutMixIdeal.main_arg0)
      ∧ m' ((c.tc : Thread Cert.OutMixRefIdeal.nD Cert.OutMixRefIdeal.τ).loc Cert.OutMixRefIdeal.main_arg1) = m ((c.tc : Thread Cert.OutMixIdeal.nD Cert.OutMixIdeal.τ).loc Cert.OutMixIdeal.main_arg1)
      ∧ m' ((c.tc : Thread Cert.OutMixRefIdeal.nD Cert.OutMixRefIdeal.τ).loc Cert.OutMixRefIdeal.main_arg2) = m ((c.tc : Thread Cert.OutMixIdeal.nD Cert.OutMixIdeal.τ).loc Cert.OutMixIdeal.main_arg2)
      ∧ m' ((c.tc : Thread Cert.OutMixRefIdeal.nD Cert.OutMixRefIdeal.τ).loc Cert.OutMixRefIdeal.main_arg3) = m ((c.tc : Thread Cert.OutMixIdeal.nD Cert.OutMixIdeal.τ).loc Cert.OutMixIdeal.main_arg3)
      ∧ m' ((c.tc : Thread Cert.OutMixRefIdeal.nD Cert.OutMixRefIdeal.τ).loc Cert.OutMixRefIdeal.main_arg4) = m ((c.tc : Thread Cert.OutMixIdeal.nD Cert.OutMixIdeal.τ).loc Cert.OutMixIdeal.main_arg4)) →
    ∃ (v0 : (c : Dev Cert.OutMixIdeal.nD) → Buf (Elt Ideal) ((c.tc : Thread Cert.OutMixIdeal.nD Cert.OutMixIdeal.τ).loc Cert.OutMixIdeal.main_v8)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v8) = v0 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
          ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2)
          ∧ r.2.mem ((c.tc : Thread Cert.OutMixIdeal.nD Cert.OutMixIdeal.τ).loc Cert.OutMixIdeal.main_arg3) = m ((c.tc : Thread Cert.OutMixIdeal.nD Cert.OutMixIdeal.τ).loc Cert.OutMixIdeal.main_arg3)
          ∧ r.2.mem ((c.tc : Thread Cert.OutMixIdeal.nD Cert.OutMixIdeal.τ).loc Cert.OutMixIdeal.main_arg4) = m ((c.tc : Thread Cert.OutMixIdeal.nD Cert.OutMixIdeal.τ).loc Cert.OutMixIdeal.main_arg4))
      ∧ θ_run (Cert.OutMixRefIdeal.defs (F := Ideal)) (onTc (τ := Cert.OutMixRefIdeal.τ) (Cert.OutMixRefIdeal.main (F := Ideal))) ⟨m', fun _ => 0, g'⟩ (fun r => ∀ c : Dev Cert.OutMixRefIdeal.nD,
          r.2.mem ((c.tc : Thread Cert.OutMixRefIdeal.nD Cert.OutMixRefIdeal.τ).loc Cert.OutMixRefIdeal.main_v33) = v0 c
          ∧ r.2.mem ((c.tc : Thread Cert.OutMixRefIdeal.nD Cert.OutMixRefIdeal.τ).loc Cert.OutMixRefIdeal.main_arg0) = m' ((c.tc : Thread Cert.OutMixRefIdeal.nD Cert.OutMixRefIdeal.τ).loc Cert.OutMixRefIdeal.main_arg0)
          ∧ r.2.mem ((c.tc : Thread Cert.OutMixRefIdeal.nD Cert.OutMixRefIdeal.τ).loc Cert.OutMixRefIdeal.main_arg1) = m' ((c.tc : Thread Cert.OutMixRefIdeal.nD Cert.OutMixRefIdeal.τ).loc Cert.OutMixRefIdeal.main_arg1)
          ∧ r.2.mem ((c.tc : Thread Cert.OutMixRefIdeal.nD Cert.OutMixRefIdeal.τ).loc Cert.OutMixRefIdeal.main_arg2) = m' ((c.tc : Thread Cert.OutMixRefIdeal.nD Cert.OutMixRefIdeal.τ).loc Cert.OutMixRefIdeal.main_arg2)
          ∧ r.2.mem ((c.tc : Thread Cert.OutMixRefIdeal.nD Cert.OutMixRefIdeal.τ).loc Cert.OutMixRefIdeal.main_arg3) = m' ((c.tc : Thread Cert.OutMixRefIdeal.nD Cert.OutMixRefIdeal.τ).loc Cert.OutMixRefIdeal.main_arg3)
          ∧ r.2.mem ((c.tc : Thread Cert.OutMixRefIdeal.nD Cert.OutMixRefIdeal.τ).loc Cert.OutMixRefIdeal.main_arg4) = m' ((c.tc : Thread Cert.OutMixRefIdeal.nD Cert.OutMixRefIdeal.τ).loc Cert.OutMixRefIdeal.main_arg4))

def preserves_OutMem_OutMemIdeal : Prop :=
  True

def algebraic_OutMemIdeal_OutMemRefIdeal [hOutMemIdeal : Cert.OutMemIdeal.Facts] [hOutMemRefIdeal : Cert.OutMemRefIdeal.Facts] : Prop :=
  ∀ (m : (ℓ : Loc Cert.OutMemIdeal.nD Cert.OutMemIdeal.τ Cert.OutMemIdeal.sig) → Buf (Elt Ideal) ℓ) (g : Dev Cert.OutMemIdeal.nD → PrngReg)
    (m' : (ℓ : Loc Cert.OutMemRefIdeal.nD Cert.OutMemRefIdeal.τ Cert.OutMemRefIdeal.sig) → Buf (Elt Ideal) ℓ) (g' : Dev Cert.OutMemRefIdeal.nD → PrngReg), Pre_OutMemIdeal m →
    (∀ c : Dev Cert.OutMemIdeal.nD,
      m' ((c.tc : Thread Cert.OutMemRefIdeal.nD Cert.OutMemRefIdeal.τ).loc Cert.OutMemRefIdeal.main_arg0) = m ((c.tc : Thread Cert.OutMemIdeal.nD Cert.OutMemIdeal.τ).loc Cert.OutMemIdeal.main_arg0)
      ∧ m' ((c.tc : Thread Cert.OutMemRefIdeal.nD Cert.OutMemRefIdeal.τ).loc Cert.OutMemRefIdeal.main_arg1) = m ((c.tc : Thread Cert.OutMemIdeal.nD Cert.OutMemIdeal.τ).loc Cert.OutMemIdeal.main_arg1)
      ∧ m' ((c.tc : Thread Cert.OutMemRefIdeal.nD Cert.OutMemRefIdeal.τ).loc Cert.OutMemRefIdeal.main_arg2) = m ((c.tc : Thread Cert.OutMemIdeal.nD Cert.OutMemIdeal.τ).loc Cert.OutMemIdeal.main_arg2)
      ∧ m' ((c.tc : Thread Cert.OutMemRefIdeal.nD Cert.OutMemRefIdeal.τ).loc Cert.OutMemRefIdeal.main_arg3) = m ((c.tc : Thread Cert.OutMemIdeal.nD Cert.OutMemIdeal.τ).loc Cert.OutMemIdeal.main_arg3)
      ∧ m' ((c.tc : Thread Cert.OutMemRefIdeal.nD Cert.OutMemRefIdeal.τ).loc Cert.OutMemRefIdeal.main_arg4) = m ((c.tc : Thread Cert.OutMemIdeal.nD Cert.OutMemIdeal.τ).loc Cert.OutMemIdeal.main_arg4)) →
    ∃ (v0 : (c : Dev Cert.OutMemIdeal.nD) → Buf (Elt Ideal) ((c.tc : Thread Cert.OutMemIdeal.nD Cert.OutMemIdeal.τ).loc Cert.OutMemIdeal.main_v9)),
      θ_run (Cert.OutMemIdeal.defs (F := Ideal)) (onTc (τ := Cert.OutMemIdeal.τ) (Cert.OutMemIdeal.main (F := Ideal))) ⟨m, fun _ => 0, g⟩ (fun r => ∀ c : Dev Cert.OutMemIdeal.nD,
          r.2.mem ((c.tc : Thread Cert.OutMemIdeal.nD Cert.OutMemIdeal.τ).loc Cert.OutMemIdeal.main_v9) = v0 c
          ∧ r.2.mem ((c.tc : Thread Cert.OutMemIdeal.nD Cert.OutMemIdeal.τ).loc Cert.OutMemIdeal.main_arg0) = m ((c.tc : Thread Cert.OutMemIdeal.nD Cert.OutMemIdeal.τ).loc Cert.OutMemIdeal.main_arg0)
          ∧ r.2.mem ((c.tc : Thread Cert.OutMemIdeal.nD Cert.OutMemIdeal.τ).loc Cert.OutMemIdeal.main_arg1) = m ((c.tc : Thread Cert.OutMemIdeal.nD Cert.OutMemIdeal.τ).loc Cert.OutMemIdeal.main_arg1)
          ∧ r.2.mem ((c.tc : Thread Cert.OutMemIdeal.nD Cert.OutMemIdeal.τ).loc Cert.OutMemIdeal.main_arg2) = m ((c.tc : Thread Cert.OutMemIdeal.nD Cert.OutMemIdeal.τ).loc Cert.OutMemIdeal.main_arg2)
          ∧ r.2.mem ((c.tc : Thread Cert.OutMemIdeal.nD Cert.OutMemIdeal.τ).loc Cert.OutMemIdeal.main_arg3) = m ((c.tc : Thread Cert.OutMemIdeal.nD Cert.OutMemIdeal.τ).loc Cert.OutMemIdeal.main_arg3)
          ∧ r.2.mem ((c.tc : Thread Cert.OutMemIdeal.nD Cert.OutMemIdeal.τ).loc Cert.OutMemIdeal.main_arg4) = m ((c.tc : Thread Cert.OutMemIdeal.nD Cert.OutMemIdeal.τ).loc Cert.OutMemIdeal.main_arg4))
      ∧ θ_run (Cert.OutMemRefIdeal.defs (F := Ideal)) (onTc (τ := Cert.OutMemRefIdeal.τ) (Cert.OutMemRefIdeal.main (F := Ideal))) ⟨m', fun _ => 0, g'⟩ (fun r => ∀ c : Dev Cert.OutMemRefIdeal.nD,
          r.2.mem ((c.tc : Thread Cert.OutMemRefIdeal.nD Cert.OutMemRefIdeal.τ).loc Cert.OutMemRefIdeal.main_v34) = v0 c
          ∧ r.2.mem ((c.tc : Thread Cert.OutMemRefIdeal.nD Cert.OutMemRefIdeal.τ).loc Cert.OutMemRefIdeal.main_arg0) = m' ((c.tc : Thread Cert.OutMemRefIdeal.nD Cert.OutMemRefIdeal.τ).loc Cert.OutMemRefIdeal.main_arg0)
          ∧ r.2.mem ((c.tc : Thread Cert.OutMemRefIdeal.nD Cert.OutMemRefIdeal.τ).loc Cert.OutMemRefIdeal.main_arg1) = m' ((c.tc : Thread Cert.OutMemRefIdeal.nD Cert.OutMemRefIdeal.τ).loc Cert.OutMemRefIdeal.main_arg1)
          ∧ r.2.mem ((c.tc : Thread Cert.OutMemRefIdeal.nD Cert.OutMemRefIdeal.τ).loc Cert.OutMemRefIdeal.main_arg2) = m' ((c.tc : Thread Cert.OutMemRefIdeal.nD Cert.OutMemRefIdeal.τ).loc Cert.OutMemRefIdeal.main_arg2)
          ∧ r.2.mem ((c.tc : Thread Cert.OutMemRefIdeal.nD Cert.OutMemRefIdeal.τ).loc Cert.OutMemRefIdeal.main_arg3) = m' ((c.tc : Thread Cert.OutMemRefIdeal.nD Cert.OutMemRefIdeal.τ).loc Cert.OutMemRefIdeal.main_arg3)
          ∧ r.2.mem ((c.tc : Thread Cert.OutMemRefIdeal.nD Cert.OutMemRefIdeal.τ).loc Cert.OutMemRefIdeal.main_arg4) = m' ((c.tc : Thread Cert.OutMemRefIdeal.nD Cert.OutMemRefIdeal.τ).loc Cert.OutMemRefIdeal.main_arg4))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)) →
    ∃ (v0 : (c : Dev Cert.MemQIdeal.nD) → Buf (Elt Ideal) ((c.tc : Thread Cert.MemQIdeal.nD Cert.MemQIdeal.τ).loc Cert.MemQIdeal.main_v3)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v3) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v3) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1))

def preserves_LastP_LastPIdeal : Prop :=
  True

def algebraic_LastPIdeal_LastPRefIdeal [hLastPIdeal : Cert.LastPIdeal.Facts] [hLastPRefIdeal : Cert.LastPRefIdeal.Facts] : Prop :=
  ∀ (m : (ℓ : Loc Cert.LastPIdeal.nD Cert.LastPIdeal.τ Cert.LastPIdeal.sig) → Buf (Elt Ideal) ℓ) (g : Dev Cert.LastPIdeal.nD → PrngReg)
    (m' : (ℓ : Loc Cert.LastPRefIdeal.nD Cert.LastPRefIdeal.τ Cert.LastPRefIdeal.sig) → Buf (Elt Ideal) ℓ) (g' : Dev Cert.LastPRefIdeal.nD → PrngReg), Pre_LastPIdeal m →
    (∀ c : Dev Cert.LastPIdeal.nD,
      m' ((c.tc : Thread Cert.LastPRefIdeal.nD Cert.LastPRefIdeal.τ).loc Cert.LastPRefIdeal.main_arg0) = m ((c.tc : Thread Cert.LastPIdeal.nD Cert.LastPIdeal.τ).loc Cert.LastPIdeal.main_arg0)
      ∧ m' ((c.tc : Thread Cert.LastPRefIdeal.nD Cert.LastPRefIdeal.τ).loc Cert.LastPRefIdeal.main_arg1) = m ((c.tc : Thread Cert.LastPIdeal.nD Cert.LastPIdeal.τ).loc Cert.LastPIdeal.main_arg1)
      ∧ m' ((c.tc : Thread Cert.LastPRefIdeal.nD Cert.LastPRefIdeal.τ).loc Cert.LastPRefIdeal.main_arg2) = m ((c.tc : Thread Cert.LastPIdeal.nD Cert.LastPIdeal.τ).loc Cert.LastPIdeal.main_arg2)
      ∧ m' ((c.tc : Thread Cert.LastPRefIdeal.nD Cert.LastPRefIdeal.τ).loc Cert.LastPRefIdeal.main_arg3) = m ((c.tc : Thread Cert.LastPIdeal.nD Cert.LastPIdeal.τ).loc Cert.LastPIdeal.main_arg3)) →
    ∃ (v0 : (c : Dev Cert.LastPIdeal.nD) → Buf (Elt Ideal) ((c.tc : Thread Cert.LastPIdeal.nD Cert.LastPIdeal.τ).loc Cert.LastPIdeal.main_v6)),
      θ_run (Cert.LastPIdeal.defs (F := Ideal)) (onTc (τ := Cert.LastPIdeal.τ) (Cert.LastPIdeal.main (F := Ideal))) ⟨m, fun _ => 0, g⟩ (fun r => ∀ c : Dev Cert.LastPIdeal.nD,
          r.2.mem ((c.tc : Thread Cert.LastPIdeal.nD Cert.LastPIdeal.τ).loc Cert.LastPIdeal.main_v6) = v0 c
          ∧ r.2.mem ((c.tc : Thread Cert.LastPIdeal.nD Cert.LastPIdeal.τ).loc Cert.LastPIdeal.main_arg0) = m ((c.tc : Thread Cert.LastPIdeal.nD Cert.LastPIdeal.τ).loc Cert.LastPIdeal.main_arg0)
          ∧ r.2.mem ((c.tc : Thread Cert.LastPIdeal.nD Cert.LastPIdeal.τ).loc Cert.LastPIdeal.main_arg1) = m ((c.tc : Thread Cert.LastPIdeal.nD Cert.LastPIdeal.τ).loc Cert.LastPIdeal.main_arg1)
          ∧ r.2.mem ((c.tc : Thread Cert.LastPIdeal.nD Cert.LastPIdeal.τ).loc Cert.LastPIdeal.main_arg2) = m ((c.tc : Thread Cert.LastPIdeal.nD Cert.LastPIdeal.τ).loc Cert.LastPIdeal.main_arg2)
          ∧ r.2.mem ((c.tc : Thread Cert.LastPIdeal.nD Cert.LastPIdeal.τ).loc Cert.LastPIdeal.main_arg3) = m ((c.tc : Thread Cert.LastPIdeal.nD Cert.LastPIdeal.τ).loc Cert.LastPIdeal.main_arg3))
      ∧ θ_run (Cert.LastPRefIdeal.defs (F := Ideal)) (onTc (τ := Cert.LastPRefIdeal.τ) (Cert.LastPRefIdeal.main (F := Ideal))) ⟨m', fun _ => 0, g'⟩ (fun r => ∀ c : Dev Cert.LastPRefIdeal.nD,
          r.2.mem ((c.tc : Thread Cert.LastPRefIdeal.nD Cert.LastPRefIdeal.τ).loc Cert.LastPRefIdeal.main_v32) = v0 c
          ∧ r.2.mem ((c.tc : Thread Cert.LastPRefIdeal.nD Cert.LastPRefIdeal.τ).loc Cert.LastPRefIdeal.main_arg0) = m' ((c.tc : Thread Cert.LastPRefIdeal.nD Cert.LastPRefIdeal.τ).loc Cert.LastPRefIdeal.main_arg0)
          ∧ r.2.mem ((c.tc : Thread Cert.LastPRefIdeal.nD Cert.LastPRefIdeal.τ).loc Cert.LastPRefIdeal.main_arg1) = m' ((c.tc : Thread Cert.LastPRefIdeal.nD Cert.LastPRefIdeal.τ).loc Cert.LastPRefIdeal.main_arg1)
          ∧ r.2.mem ((c.tc : Thread Cert.LastPRefIdeal.nD Cert.LastPRefIdeal.τ).loc Cert.LastPRefIdeal.main_arg2) = m' ((c.tc : Thread Cert.LastPRefIdeal.nD Cert.LastPRefIdeal.τ).loc Cert.LastPRefIdeal.main_arg2)
          ∧ r.2.mem ((c.tc : Thread Cert.LastPRefIdeal.nD Cert.LastPRefIdeal.τ).loc Cert.LastPRefIdeal.main_arg3) = m' ((c.tc : Thread Cert.LastPRefIdeal.nD Cert.LastPRefIdeal.τ).loc Cert.LastPRefIdeal.main_arg3))

def preserves_LastS_LastSIdeal : Prop :=
  True

def algebraic_LastSIdeal_LastSRefIdeal [hLastSIdeal : Cert.LastSIdeal.Facts] [hLastSRefIdeal : Cert.LastSRefIdeal.Facts] : Prop :=
  ∀ (m : (ℓ : Loc Cert.LastSIdeal.nD Cert.LastSIdeal.τ Cert.LastSIdeal.sig) → Buf (Elt Ideal) ℓ) (g : Dev Cert.LastSIdeal.nD → PrngReg)
    (m' : (ℓ : Loc Cert.LastSRefIdeal.nD Cert.LastSRefIdeal.τ Cert.LastSRefIdeal.sig) → Buf (Elt Ideal) ℓ) (g' : Dev Cert.LastSRefIdeal.nD → PrngReg), Pre_LastSIdeal m →
    (∀ c : Dev Cert.LastSIdeal.nD,
      m' ((c.tc : Thread Cert.LastSRefIdeal.nD Cert.LastSRefIdeal.τ).loc Cert.LastSRefIdeal.main_arg0) = m ((c.tc : Thread Cert.LastSIdeal.nD Cert.LastSIdeal.τ).loc Cert.LastSIdeal.main_arg0)
      ∧ m' ((c.tc : Thread Cert.LastSRefIdeal.nD Cert.LastSRefIdeal.τ).loc Cert.LastSRefIdeal.main_arg1) = m ((c.tc : Thread Cert.LastSIdeal.nD Cert.LastSIdeal.τ).loc Cert.LastSIdeal.main_arg1)
      ∧ m' ((c.tc : Thread Cert.LastSRefIdeal.nD Cert.LastSRefIdeal.τ).loc Cert.LastSRefIdeal.main_arg2) = m ((c.tc : Thread Cert.LastSIdeal.nD Cert.LastSIdeal.τ).loc Cert.LastSIdeal.main_arg2)
      ∧ m' ((c.tc : Thread Cert.LastSRefIdeal.nD Cert.LastSRefIdeal.τ).loc Cert.LastSRefIdeal.main_arg3) = m ((c.tc : Thread Cert.LastSIdeal.nD Cert.LastSIdeal.τ).loc Cert.LastSIdeal.main_arg3)) →
    ∃ (v0 : (c : Dev Cert.LastSIdeal.nD) → Buf (Elt Ideal) ((c.tc : Thread Cert.LastSIdeal.nD Cert.LastSIdeal.τ).loc Cert.LastSIdeal.main_v6)),
      θ_run (Cert.LastSIdeal.defs (F := Ideal)) (onTc (τ := Cert.LastSIdeal.τ) (Cert.LastSIdeal.main (F := Ideal))) ⟨m, fun _ => 0, g⟩ (fun r => ∀ c : Dev Cert.LastSIdeal.nD,
          r.2.mem ((c.tc : Thread Cert.LastSIdeal.nD Cert.LastSIdeal.τ).loc Cert.LastSIdeal.main_v6) = v0 c
          ∧ r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
          ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
          ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2)
          ∧ r.2.mem ((c.tc : Thread Cert.LastSIdeal.nD Cert.LastSIdeal.τ).loc Cert.LastSIdeal.main_arg3) = m ((c.tc : Thread Cert.LastSIdeal.nD Cert.LastSIdeal.τ).loc Cert.LastSIdeal.main_arg3))
      ∧ θ_run (Cert.LastSRefIdeal.defs (F := Ideal)) (onTc (τ := Cert.LastSRefIdeal.τ) (Cert.LastSRefIdeal.main (F := Ideal))) ⟨m', fun _ => 0, g'⟩ (fun r => ∀ c : Dev Cert.LastSRefIdeal.nD,
          r.2.mem ((c.tc : Thread Cert.LastSRefIdeal.nD Cert.LastSRefIdeal.τ).loc Cert.LastSRefIdeal.main_v32) = v0 c
          ∧ r.2.mem ((c.tc : Thread Cert.LastSRefIdeal.nD Cert.LastSRefIdeal.τ).loc Cert.LastSRefIdeal.main_arg0) = m' ((c.tc : Thread Cert.LastSRefIdeal.nD Cert.LastSRefIdeal.τ).loc Cert.LastSRefIdeal.main_arg0)
          ∧ r.2.mem ((c.tc : Thread Cert.LastSRefIdeal.nD Cert.LastSRefIdeal.τ).loc Cert.LastSRefIdeal.main_arg1) = m' ((c.tc : Thread Cert.LastSRefIdeal.nD Cert.LastSRefIdeal.τ).loc Cert.LastSRefIdeal.main_arg1)
          ∧ r.2.mem ((c.tc : Thread Cert.LastSRefIdeal.nD Cert.LastSRefIdeal.τ).loc Cert.LastSRefIdeal.main_arg2) = m' ((c.tc : Thread Cert.LastSRefIdeal.nD Cert.LastSRefIdeal.τ).loc Cert.LastSRefIdeal.main_arg2)
          ∧ r.2.mem ((c.tc : Thread Cert.LastSRefIdeal.nD Cert.LastSRefIdeal.τ).loc Cert.LastSRefIdeal.main_arg3) = m' ((c.tc : Thread Cert.LastSRefIdeal.nD Cert.LastSRefIdeal.τ).loc Cert.LastSRefIdeal.main_arg3))

def preserves_FoxP_FoxPIdeal : Prop :=
  True

def algebraic_FoxPIdeal_FoxPRefIdeal [hFoxPIdeal : Cert.FoxPIdeal.Facts] [hFoxPRefIdeal : Cert.FoxPRefIdeal.Facts] : Prop :=
  ∀ (m : (ℓ : Loc Cert.FoxPIdeal.nD Cert.FoxPIdeal.τ Cert.FoxPIdeal.sig) → Buf (Elt Ideal) ℓ) (g : Dev Cert.FoxPIdeal.nD → PrngReg)
    (m' : (ℓ : Loc Cert.FoxPRefIdeal.nD Cert.FoxPRefIdeal.τ Cert.FoxPRefIdeal.sig) → Buf (Elt Ideal) ℓ) (g' : Dev Cert.FoxPRefIdeal.nD → PrngReg), Pre_FoxPIdeal m →
    (∀ c : Dev Cert.FoxPIdeal.nD,
      m' ((c.tc : Thread Cert.FoxPRefIdeal.nD Cert.FoxPRefIdeal.τ).loc Cert.FoxPRefIdeal.main_arg0) = m ((c.tc : Thread Cert.FoxPIdeal.nD Cert.FoxPIdeal.τ).loc Cert.FoxPIdeal.main_arg0)
      ∧ m' ((c.tc : Thread Cert.FoxPRefIdeal.nD Cert.FoxPRefIdeal.τ).loc Cert.FoxPRefIdeal.main_arg1) = m ((c.tc : Thread Cert.FoxPIdeal.nD Cert.FoxPIdeal.τ).loc Cert.FoxPIdeal.main_arg1)
      ∧ m' ((c.tc : Thread Cert.FoxPRefIdeal.nD Cert.FoxPRefIdeal.τ).loc Cert.FoxPRefIdeal.main_arg2) = m ((c.tc : Thread Cert.FoxPIdeal.nD Cert.FoxPIdeal.τ).loc Cert.FoxPIdeal.main_arg2)
      ∧ m' ((c.tc : Thread Cert.FoxPRefIdeal.nD Cert.FoxPRefIdeal.τ).loc Cert.FoxPRefIdeal.main_arg3) = m ((c.tc : Thread Cert.FoxPIdeal.nD Cert.FoxPIdeal.τ).loc Cert.FoxPIdeal.main_arg3)) →
    ∃ (v0 : (c : Dev Cert.FoxPIdeal.nD) → Buf (Elt Ideal) ((c.tc : Thread Cert.FoxPIdeal.nD Cert.FoxPIdeal.τ).loc Cert.FoxPIdeal.main_v8_0)) (v1 : (c : Dev Cert.FoxPIdeal.nD) → Buf (Elt Ideal) ((c.tc : Thread Cert.FoxPIdeal.nD Cert.FoxPIdeal.τ).loc Cert.FoxPIdeal.main_v8_1)) (v2 : (c : Dev Cert.FoxPIdeal.nD) → Buf (Elt Ideal) ((c.tc : Thread Cert.FoxPIdeal.nD Cert.FoxPIdeal.τ).loc Cert.FoxPIdeal.main_v8_2)) (v3 : (c : Dev Cert.FoxPIdeal.nD) → Buf (Elt Ideal) ((c.tc : Thread Cert.FoxPIdeal.nD Cert.FoxPIdeal.τ).loc Cert.FoxPIdeal.main_v9)),
      θ_run (Cert.FoxPIdeal.defs (F := Ideal)) (onTc (τ := Cert.FoxPIdeal.τ) (Cert.FoxPIdeal.main (F := Ideal))) ⟨m, fun _ => 0, g⟩ (fun r => ∀ c : Dev Cert.FoxPIdeal.nD,
          r.2.mem ((c.tc : Thread Cert.FoxPIdeal.nD Cert.FoxPIdeal.τ).loc Cert.FoxPIdeal.main_v8_0) = v0 c
          ∧ r.2.mem ((c.tc : Thread Cert.FoxPIdeal.nD Cert.FoxPIdeal.τ).loc Cert.FoxPIdeal.main_v8_1) = v1 c
          ∧ r.2.mem ((c.tc : Thread Cert.FoxPIdeal.nD Cert.FoxPIdeal.τ).loc Cert.FoxPIdeal.main_v8_2) = v2 c
          ∧ r.2.mem ((c.tc : Thread Cert.FoxPIdeal.nD Cert.FoxPIdeal.τ).loc Cert.FoxPIdeal.main_v9) = v3 c
          ∧ r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
          ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1)
          ∧ r.2.mem ((c.tc : Thread Cert.FoxPIdeal.nD Cert.FoxPIdeal.τ).loc Cert.FoxPIdeal.main_arg2) = m ((c.tc : Thread Cert.FoxPIdeal.nD Cert.FoxPIdeal.τ).loc Cert.FoxPIdeal.main_arg2)
          ∧ r.2.mem ((c.tc : Thread Cert.FoxPIdeal.nD Cert.FoxPIdeal.τ).loc Cert.FoxPIdeal.main_arg3) = m ((c.tc : Thread Cert.FoxPIdeal.nD Cert.FoxPIdeal.τ).loc Cert.FoxPIdeal.main_arg3))
      ∧ θ_run (Cert.FoxPRefIdeal.defs (F := Ideal)) (onTc (τ := Cert.FoxPRefIdeal.τ) (Cert.FoxPRefIdeal.main (F := Ideal))) ⟨m', fun _ => 0, g'⟩ (fun r => ∀ c : Dev Cert.FoxPRefIdeal.nD,
          r.2.mem ((c.tc : Thread Cert.FoxPRefIdeal.nD Cert.FoxPRefIdeal.τ).loc Cert.FoxPRefIdeal.main_v13) = v0 c
          ∧ r.2.mem ((c.tc : Thread Cert.FoxPRefIdeal.nD Cert.FoxPRefIdeal.τ).loc Cert.FoxPRefIdeal.main_v14) = v1 c
          ∧ r.2.mem ((c.tc : Thread Cert.FoxPRefIdeal.nD Cert.FoxPRefIdeal.τ).loc Cert.FoxPRefIdeal.main_v15) = v2 c
          ∧ r.2.mem ((c.tc : Thread Cert.FoxPRefIdeal.nD Cert.FoxPRefIdeal.τ).loc Cert.FoxPRefIdeal.main_v16) = v3 c
          ∧ r.2.mem ((c.tc : Thread Cert.FoxPRefIdeal.nD Cert.FoxPRefIdeal.τ).loc Cert.FoxPRefIdeal.main_arg0) = m' ((c.tc : Thread Cert.FoxPRefIdeal.nD Cert.FoxPRefIdeal.τ).loc Cert.FoxPRefIdeal.main_arg0)
          ∧ r.2.mem ((c.tc : Thread Cert.FoxPRefIdeal.nD Cert.FoxPRefIdeal.τ).loc Cert.FoxPRefIdeal.main_arg1) = m' ((c.tc : Thread Cert.FoxPRefIdeal.nD Cert.FoxPRefIdeal.τ).loc Cert.FoxPRefIdeal.main_arg1)
          ∧ r.2.mem ((c.tc : Thread Cert.FoxPRefIdeal.nD Cert.FoxPRefIdeal.τ).loc Cert.FoxPRefIdeal.main_arg2) = m' ((c.tc : Thread Cert.FoxPRefIdeal.nD Cert.FoxPRefIdeal.τ).loc Cert.FoxPRefIdeal.main_arg2)
          ∧ r.2.mem ((c.tc : Thread Cert.FoxPRefIdeal.nD Cert.FoxPRefIdeal.τ).loc Cert.FoxPRefIdeal.main_arg3) = m' ((c.tc : Thread Cert.FoxPRefIdeal.nD Cert.FoxPRefIdeal.τ).loc Cert.FoxPRefIdeal.main_arg3))

def preserves_FoxS_FoxSIdeal : Prop :=
  True

def algebraic_FoxSIdeal_FoxSRefIdeal [hFoxSIdeal : Cert.FoxSIdeal.Facts] [hFoxSRefIdeal : Cert.FoxSRefIdeal.Facts] : Prop :=
  ∀ (m : (ℓ : Loc Cert.FoxSIdeal.nD Cert.FoxSIdeal.τ Cert.FoxSIdeal.sig) → Buf (Elt Ideal) ℓ) (g : Dev Cert.FoxSIdeal.nD → PrngReg)
    (m' : (ℓ : Loc Cert.FoxSRefIdeal.nD Cert.FoxSRefIdeal.τ Cert.FoxSRefIdeal.sig) → Buf (Elt Ideal) ℓ) (g' : Dev Cert.FoxSRefIdeal.nD → PrngReg), Pre_FoxSIdeal m →
    (∀ c : Dev Cert.FoxSIdeal.nD,
      m' ((c.tc : Thread Cert.FoxSRefIdeal.nD Cert.FoxSRefIdeal.τ).loc Cert.FoxSRefIdeal.main_arg0) = m ((c.tc : Thread Cert.FoxSIdeal.nD Cert.FoxSIdeal.τ).loc Cert.FoxSIdeal.main_arg0)
      ∧ m' ((c.tc : Thread Cert.FoxSRefIdeal.nD Cert.FoxSRefIdeal.τ).loc Cert.FoxSRefIdeal.main_arg1) = m ((c.tc : Thread Cert.FoxSIdeal.nD Cert.FoxSIdeal.τ).loc Cert.FoxSIdeal.main_arg1)
      ∧ m' ((c.tc : Thread Cert.FoxSRefIdeal.nD Cert.FoxSRefIdeal.τ).loc Cert.FoxSRefIdeal.main_arg2) = m ((c.tc : Thread Cert.FoxSIdeal.nD Cert.FoxSIdeal.τ).loc Cert.FoxSIdeal.main_arg2)
      ∧ m' ((c.tc : Thread Cert.FoxSRefIdeal.nD Cert.FoxSRefIdeal.τ).loc Cert.FoxSRefIdeal.main_arg3) = m ((c.tc : Thread Cert.FoxSIdeal.nD Cert.FoxSIdeal.τ).loc Cert.FoxSIdeal.main_arg3)) →
    ∃ (v0 : (c : Dev Cert.FoxSIdeal.nD) → Buf (Elt Ideal) ((c.tc : Thread Cert.FoxSIdeal.nD Cert.FoxSIdeal.τ).loc Cert.FoxSIdeal.main_v8_0)) (v1 : (c : Dev Cert.FoxSIdeal.nD) → Buf (Elt Ideal) ((c.tc : Thread Cert.FoxSIdeal.nD Cert.FoxSIdeal.τ).loc Cert.FoxSIdeal.main_v8_1)) (v2 : (c : Dev Cert.FoxSIdeal.nD) → Buf (Elt Ideal) ((c.tc : Thread Cert.FoxSIdeal.nD Cert.FoxSIdeal.τ).loc Cert.FoxSIdeal.main_v8_2)) (v3 : (c : Dev Cert.FoxSIdeal.nD) → Buf (Elt Ideal) ((c.tc : Thread Cert.FoxSIdeal.nD Cert.FoxSIdeal.τ).loc Cert.FoxSIdeal.main_v9)),
      θ_run (Cert.FoxSIdeal.defs (F := Ideal)) (onTc (τ := Cert.FoxSIdeal.τ) (Cert.FoxSIdeal.main (F := Ideal))) ⟨m, fun _ => 0, g⟩ (fun r => ∀ c : Dev Cert.FoxSIdeal.nD,
          r.2.mem ((c.tc : Thread Cert.FoxSIdeal.nD Cert.FoxSIdeal.τ).loc Cert.FoxSIdeal.main_v8_0) = v0 c
          ∧ r.2.mem ((c.tc : Thread Cert.FoxSIdeal.nD Cert.FoxSIdeal.τ).loc Cert.FoxSIdeal.main_v8_1) = v1 c
          ∧ r.2.mem ((c.tc : Thread Cert.FoxSIdeal.nD Cert.FoxSIdeal.τ).loc Cert.FoxSIdeal.main_v8_2) = v2 c
          ∧ r.2.mem ((c.tc : Thread Cert.FoxSIdeal.nD Cert.FoxSIdeal.τ).loc Cert.FoxSIdeal.main_v9) = v3 c
          ∧ r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
          ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
          ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
          ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3))
      ∧ θ_run (Cert.FoxSRefIdeal.defs (F := Ideal)) (onTc (τ := Cert.FoxSRefIdeal.τ) (Cert.FoxSRefIdeal.main (F := Ideal))) ⟨m', fun _ => 0, g'⟩ (fun r => ∀ c : Dev Cert.FoxSRefIdeal.nD,
          r.2.mem ((c.tc : Thread Cert.FoxSRefIdeal.nD Cert.FoxSRefIdeal.τ).loc Cert.FoxSRefIdeal.main_v13) = v0 c
          ∧ r.2.mem ((c.tc : Thread Cert.FoxSRefIdeal.nD Cert.FoxSRefIdeal.τ).loc Cert.FoxSRefIdeal.main_v14) = v1 c
          ∧ r.2.mem ((c.tc : Thread Cert.FoxSRefIdeal.nD Cert.FoxSRefIdeal.τ).loc Cert.FoxSRefIdeal.main_v15) = v2 c
          ∧ r.2.mem ((c.tc : Thread Cert.FoxSRefIdeal.nD Cert.FoxSRefIdeal.τ).loc Cert.FoxSRefIdeal.main_v16) = v3 c
          ∧ r.2.mem ((c.tc : Thread Cert.FoxSRefIdeal.nD Cert.FoxSRefIdeal.τ).loc Cert.FoxSRefIdeal.main_arg0) = m' ((c.tc : Thread Cert.FoxSRefIdeal.nD Cert.FoxSRefIdeal.τ).loc Cert.FoxSRefIdeal.main_arg0)
          ∧ r.2.mem ((c.tc : Thread Cert.FoxSRefIdeal.nD Cert.FoxSRefIdeal.τ).loc Cert.FoxSRefIdeal.main_arg1) = m' ((c.tc : Thread Cert.FoxSRefIdeal.nD Cert.FoxSRefIdeal.τ).loc Cert.FoxSRefIdeal.main_arg1)
          ∧ r.2.mem ((c.tc : Thread Cert.FoxSRefIdeal.nD Cert.FoxSRefIdeal.τ).loc Cert.FoxSRefIdeal.main_arg2) = m' ((c.tc : Thread Cert.FoxSRefIdeal.nD Cert.FoxSRefIdeal.τ).loc Cert.FoxSRefIdeal.main_arg2)
          ∧ r.2.mem ((c.tc : Thread Cert.FoxSRefIdeal.nD Cert.FoxSRefIdeal.τ).loc Cert.FoxSRefIdeal.main_arg3) = m' ((c.tc : Thread Cert.FoxSRefIdeal.nD Cert.FoxSRefIdeal.τ).loc Cert.FoxSRefIdeal.main_arg3))

def preserves_FoxA_FoxAIdeal : Prop :=
  IdealRules.named_const.Statement Cert.FoxAIdeal.κ "mask" .f32 0xF149F2CA#32 ⊥

def algebraic_FoxAIdeal_FoxARefIdeal_pre_finite_scores [hFoxAIdeal : Cert.FoxAIdeal.Facts] [hFoxARefIdeal : Cert.FoxARefIdeal.Facts] [hPre_finite_scores : Cert.Pre_finite_scores.Facts] : Prop :=
  ∀ (m : (ℓ : Loc Cert.FoxAIdeal.nD Cert.FoxAIdeal.τ Cert.FoxAIdeal.sig) → Buf (Elt Ideal) ℓ) (g : Dev Cert.FoxAIdeal.nD → PrngReg)
    (m' : (ℓ : Loc Cert.FoxARefIdeal.nD Cert.FoxARefIdeal.τ Cert.FoxARefIdeal.sig) → Buf (Elt Ideal) ℓ) (g' : Dev Cert.FoxARefIdeal.nD → PrngReg), Pre_FoxAIdeal_finite_scores m →
    (∀ c : Dev Cert.FoxAIdeal.nD,
      m' ((c.tc : Thread Cert.FoxARefIdeal.nD Cert.FoxARefIdeal.τ).loc Cert.FoxARefIdeal.main_arg0) = m ((c.tc : Thread Cert.FoxAIdeal.nD Cert.FoxAIdeal.τ).loc Cert.FoxAIdeal.main_arg0)
      ∧ m' ((c.tc : Thread Cert.FoxARefIdeal.nD Cert.FoxARefIdeal.τ).loc Cert.FoxARefIdeal.main_arg1) = m ((c.tc : Thread Cert.FoxAIdeal.nD Cert.FoxAIdeal.τ).loc Cert.FoxAIdeal.main_arg1)
      ∧ m' ((c.tc : Thread Cert.FoxARefIdeal.nD Cert.FoxARefIdeal.τ).loc Cert.FoxARefIdeal.main_arg2) = m ((c.tc : Thread Cert.FoxAIdeal.nD Cert.FoxAIdeal.τ).loc Cert.FoxAIdeal.main_arg2)
      ∧ m' ((c.tc : Thread Cert.FoxARefIdeal.nD Cert.FoxARefIdeal.τ).loc Cert.FoxARefIdeal.main_arg3) = m ((c.tc : Thread Cert.FoxAIdeal.nD Cert.FoxAIdeal.τ).loc Cert.FoxAIdeal.main_arg3)) →
    ∃ (v0 : (c : Dev Cert.FoxAIdeal.nD) → Buf (Elt Ideal) ((c.tc : Thread Cert.FoxAIdeal.nD Cert.FoxAIdeal.τ).loc Cert.FoxAIdeal.main_v3)),
      θ_run (Cert.FoxAIdeal.defs (F := Ideal)) (onTc (τ := Cert.FoxAIdeal.τ) (Cert.FoxAIdeal.main (F := Ideal))) ⟨m, fun _ => 0, g⟩ (fun r => ∀ c : Dev Cert.FoxAIdeal.nD,
          r.2.mem ((c.tc : Thread Cert.FoxAIdeal.nD Cert.FoxAIdeal.τ).loc Cert.FoxAIdeal.main_v3) = v0 c
          ∧ r.2.mem ((c.tc : Thread Cert.FoxAIdeal.nD Cert.FoxAIdeal.τ).loc Cert.FoxAIdeal.main_arg0) = m ((c.tc : Thread Cert.FoxAIdeal.nD Cert.FoxAIdeal.τ).loc Cert.FoxAIdeal.main_arg0)
          ∧ r.2.mem ((c.tc : Thread Cert.FoxAIdeal.nD Cert.FoxAIdeal.τ).loc Cert.FoxAIdeal.main_arg1) = m ((c.tc : Thread Cert.FoxAIdeal.nD Cert.FoxAIdeal.τ).loc Cert.FoxAIdeal.main_arg1)
          ∧ r.2.mem ((c.tc : Thread Cert.FoxAIdeal.nD Cert.FoxAIdeal.τ).loc Cert.FoxAIdeal.main_arg2) = m ((c.tc : Thread Cert.FoxAIdeal.nD Cert.FoxAIdeal.τ).loc Cert.FoxAIdeal.main_arg2)
          ∧ r.2.mem ((c.tc : Thread Cert.FoxAIdeal.nD Cert.FoxAIdeal.τ).loc Cert.FoxAIdeal.main_arg3) = m ((c.tc : Thread Cert.FoxAIdeal.nD Cert.FoxAIdeal.τ).loc Cert.FoxAIdeal.main_arg3))
      ∧ θ_run (Cert.FoxARefIdeal.defs (F := Ideal)) (onTc (τ := Cert.FoxARefIdeal.τ) (Cert.FoxARefIdeal.main (F := Ideal))) ⟨m', fun _ => 0, g'⟩ (fun r => ∀ c : Dev Cert.FoxARefIdeal.nD,
          r.2.mem ((c.tc : Thread Cert.FoxARefIdeal.nD Cert.FoxARefIdeal.τ).loc Cert.FoxARefIdeal.main_v36) = v0 c
          ∧ r.2.mem ((c.tc : Thread Cert.FoxARefIdeal.nD Cert.FoxARefIdeal.τ).loc Cert.FoxARefIdeal.main_arg0) = m' ((c.tc : Thread Cert.FoxARefIdeal.nD Cert.FoxARefIdeal.τ).loc Cert.FoxARefIdeal.main_arg0)
          ∧ r.2.mem ((c.tc : Thread Cert.FoxARefIdeal.nD Cert.FoxARefIdeal.τ).loc Cert.FoxARefIdeal.main_arg1) = m' ((c.tc : Thread Cert.FoxARefIdeal.nD Cert.FoxARefIdeal.τ).loc Cert.FoxARefIdeal.main_arg1)
          ∧ r.2.mem ((c.tc : Thread Cert.FoxARefIdeal.nD Cert.FoxARefIdeal.τ).loc Cert.FoxARefIdeal.main_arg2) = m' ((c.tc : Thread Cert.FoxARefIdeal.nD Cert.FoxARefIdeal.τ).loc Cert.FoxARefIdeal.main_arg2)
          ∧ r.2.mem ((c.tc : Thread Cert.FoxARefIdeal.nD Cert.FoxARefIdeal.τ).loc Cert.FoxARefIdeal.main_arg3) = m' ((c.tc : Thread Cert.FoxARefIdeal.nD Cert.FoxARefIdeal.τ).loc Cert.FoxARefIdeal.main_arg3))

def Claim : Prop :=
  ∃ (hMemKv : Cert.MemKv.Facts) (hMemKvIdeal : Cert.MemKvIdeal.Facts) (hMemKvRefIdeal : Cert.MemKvRefIdeal.Facts) (hProj : Cert.Proj.Facts) (hProjIdeal : Cert.ProjIdeal.Facts) (hProjRefIdeal : Cert.ProjRefIdeal.Facts) (hHgs : Cert.Hgs.Facts) (hHgsIdeal : Cert.HgsIdeal.Facts) (hHgsRefIdeal : Cert.HgsRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hOutMix : Cert.OutMix.Facts) (hOutMixIdeal : Cert.OutMixIdeal.Facts) (hOutMixRefIdeal : Cert.OutMixRefIdeal.Facts) (hOutMem : Cert.OutMem.Facts) (hOutMemIdeal : Cert.OutMemIdeal.Facts) (hOutMemRefIdeal : Cert.OutMemRefIdeal.Facts) (hMemQ : Cert.MemQ.Facts) (hMemQIdeal : Cert.MemQIdeal.Facts) (hMemQRefIdeal : Cert.MemQRefIdeal.Facts) (hLastP : Cert.LastP.Facts) (hLastPIdeal : Cert.LastPIdeal.Facts) (hLastPRefIdeal : Cert.LastPRefIdeal.Facts) (hLastS : Cert.LastS.Facts) (hLastSIdeal : Cert.LastSIdeal.Facts) (hLastSRefIdeal : Cert.LastSRefIdeal.Facts) (hFoxP : Cert.FoxP.Facts) (hFoxPIdeal : Cert.FoxPIdeal.Facts) (hFoxPRefIdeal : Cert.FoxPRefIdeal.Facts) (hFoxS : Cert.FoxS.Facts) (hFoxSIdeal : Cert.FoxSIdeal.Facts) (hFoxSRefIdeal : Cert.FoxSRefIdeal.Facts) (hFoxA : Cert.FoxA.Facts) (hFoxAIdeal : Cert.FoxAIdeal.Facts) (hFoxARefIdeal : Cert.FoxARefIdeal.Facts) (hPre_up_tables : Cert.Pre_up_tables.Facts) (hPre_down_tables : Cert.Pre_down_tables.Facts) (hPre_finite_scores : Cert.Pre_finite_scores.Facts) (hOn_up_kept : Cert.On_up_kept.Facts) (hOn_down_kept : Cert.On_down_kept.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Proj (hProj := hProj)
    ∧ quiescent_ProjIdeal (hProjIdeal := hProjIdeal)
    ∧ quiescent_ProjRefIdeal (hProjRefIdeal := hProjRefIdeal)
    ∧ quiescent_Hgs (hHgs := hHgs)
    ∧ quiescent_HgsIdeal (hHgsIdeal := hHgsIdeal)
    ∧ quiescent_HgsRefIdeal (hHgsRefIdeal := hHgsRefIdeal)
    ∧ quiescent_MoeUp (hMoeUp := hMoeUp) (hPre_up_tables := hPre_up_tables)
    ∧ quiescent_MoeUpIdeal (hMoeUpIdeal := hMoeUpIdeal) (hPre_up_tables := hPre_up_tables)
    ∧ quiescent_MoeUpRefIdeal (hMoeUpRefIdeal := hMoeUpRefIdeal) (hPre_up_tables := hPre_up_tables)
    ∧ quiescent_MoeDown (hMoeDown := hMoeDown) (hPre_down_tables := hPre_down_tables)
    ∧ quiescent_MoeDownIdeal (hMoeDownIdeal := hMoeDownIdeal) (hPre_down_tables := hPre_down_tables)
    ∧ quiescent_MoeDownRefIdeal (hMoeDownRefIdeal := hMoeDownRefIdeal) (hPre_down_tables := hPre_down_tables)
    ∧ quiescent_OutMix (hOutMix := hOutMix)
    ∧ quiescent_OutMixIdeal (hOutMixIdeal := hOutMixIdeal)
    ∧ quiescent_OutMixRefIdeal (hOutMixRefIdeal := hOutMixRefIdeal)
    ∧ quiescent_OutMem (hOutMem := hOutMem)
    ∧ quiescent_OutMemIdeal (hOutMemIdeal := hOutMemIdeal)
    ∧ quiescent_OutMemRefIdeal (hOutMemRefIdeal := hOutMemRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_LastP (hLastP := hLastP)
    ∧ quiescent_LastPIdeal (hLastPIdeal := hLastPIdeal)
    ∧ quiescent_LastPRefIdeal (hLastPRefIdeal := hLastPRefIdeal)
    ∧ quiescent_LastS (hLastS := hLastS)
    ∧ quiescent_LastSIdeal (hLastSIdeal := hLastSIdeal)
    ∧ quiescent_LastSRefIdeal (hLastSRefIdeal := hLastSRefIdeal)
    ∧ quiescent_FoxP (hFoxP := hFoxP)
    ∧ quiescent_FoxPIdeal (hFoxPIdeal := hFoxPIdeal)
    ∧ quiescent_FoxPRefIdeal (hFoxPRefIdeal := hFoxPRefIdeal)
    ∧ quiescent_FoxS (hFoxS := hFoxS)
    ∧ quiescent_FoxSIdeal (hFoxSIdeal := hFoxSIdeal)
    ∧ quiescent_FoxSRefIdeal (hFoxSRefIdeal := hFoxSRefIdeal)
    ∧ quiescent_FoxA (hFoxA := hFoxA)
    ∧ quiescent_FoxAIdeal (hFoxAIdeal := hFoxAIdeal)
    ∧ quiescent_FoxAIdeal_pre_finite_scores (hFoxAIdeal := hFoxAIdeal) (hPre_finite_scores := hPre_finite_scores)
    ∧ quiescent_FoxARefIdeal (hFoxARefIdeal := hFoxARefIdeal)
    ∧ quiescent_FoxARefIdeal_pre_finite_scores (hFoxARefIdeal := hFoxARefIdeal) (hPre_finite_scores := hPre_finite_scores)
    ∧ preserves_MemKv_MemKvIdeal
    ∧ algebraic_MemKvIdeal_MemKvRefIdeal (hMemKvIdeal := hMemKvIdeal) (hMemKvRefIdeal := hMemKvRefIdeal)
    ∧ preserves_Proj_ProjIdeal
    ∧ algebraic_ProjIdeal_ProjRefIdeal (hProjIdeal := hProjIdeal) (hProjRefIdeal := hProjRefIdeal)
    ∧ preserves_Hgs_HgsIdeal
    ∧ algebraic_HgsIdeal_HgsRefIdeal (hHgsIdeal := hHgsIdeal) (hHgsRefIdeal := hHgsRefIdeal)
    ∧ preserves_MoeUp_MoeUpIdeal
    ∧ algebraic_MoeUpIdeal_MoeUpRefIdeal_on_up_kept (hMoeUpIdeal := hMoeUpIdeal) (hMoeUpRefIdeal := hMoeUpRefIdeal) (hPre_up_tables := hPre_up_tables) (hOn_up_kept := hOn_up_kept)
    ∧ preserves_MoeDown_MoeDownIdeal
    ∧ algebraic_MoeDownIdeal_MoeDownRefIdeal_on_down_kept (hMoeDownIdeal := hMoeDownIdeal) (hMoeDownRefIdeal := hMoeDownRefIdeal) (hPre_down_tables := hPre_down_tables) (hOn_down_kept := hOn_down_kept)
    ∧ preserves_OutMix_OutMixIdeal
    ∧ algebraic_OutMixIdeal_OutMixRefIdeal (hOutMixIdeal := hOutMixIdeal) (hOutMixRefIdeal := hOutMixRefIdeal)
    ∧ preserves_OutMem_OutMemIdeal
    ∧ algebraic_OutMemIdeal_OutMemRefIdeal (hOutMemIdeal := hOutMemIdeal) (hOutMemRefIdeal := hOutMemRefIdeal)
    ∧ preserves_MemQ_MemQIdeal
    ∧ algebraic_MemQIdeal_MemQRefIdeal (hMemQIdeal := hMemQIdeal) (hMemQRefIdeal := hMemQRefIdeal)
    ∧ preserves_LastP_LastPIdeal
    ∧ algebraic_LastPIdeal_LastPRefIdeal (hLastPIdeal := hLastPIdeal) (hLastPRefIdeal := hLastPRefIdeal)
    ∧ preserves_LastS_LastSIdeal
    ∧ algebraic_LastSIdeal_LastSRefIdeal (hLastSIdeal := hLastSIdeal) (hLastSRefIdeal := hLastSRefIdeal)
    ∧ preserves_FoxP_FoxPIdeal
    ∧ algebraic_FoxPIdeal_FoxPRefIdeal (hFoxPIdeal := hFoxPIdeal) (hFoxPRefIdeal := hFoxPRefIdeal)
    ∧ preserves_FoxS_FoxSIdeal
    ∧ algebraic_FoxSIdeal_FoxSRefIdeal (hFoxSIdeal := hFoxSIdeal) (hFoxSRefIdeal := hFoxSRefIdeal)
    ∧ preserves_FoxA_FoxAIdeal
    ∧ algebraic_FoxAIdeal_FoxARefIdeal_pre_finite_scores (hFoxAIdeal := hFoxAIdeal) (hFoxARefIdeal := hFoxARefIdeal) (hPre_finite_scores := hPre_finite_scores)
-- ==== On_down_kept.lean ====
abbrev S86016x2048 : Shape := ⟨2, ![86016, 2048]⟩
abbrev S168 : Shape := ⟨1, ![168]⟩
abbrev S1 : Shape := ⟨1, ![1]⟩
abbrev S2x32x2048x2048 : Shape := ⟨4, ![2, 32, 2048, 2048]⟩
abbrev S2x32x2048 : Shape := ⟨3, ![2, 32, 2048]⟩
abbrev S_ : Shape := ⟨0, ![]⟩

class Facts : Prop where
  shapeCasts_S1_S_ : S1.ShapeCasts S_
  bcast_S_S86016x2048 : S_.BroadcastsInDim S86016x2048 (![] : Fin 0 → Fin S86016x2048.rank)

variable [Facts]

def fn {F : FTy → Type} [FloatOps F] (main_arg0 : FVec F S86016x2048 .bf16) (main_arg1 : IVec S168 32) (main_arg2 : IVec S168 32) (main_arg3 : IVec S1 32) (main_arg4 : FVec F S2x32x2048x2048 .f32) (main_arg5 : FVec F S2x32x2048 .f32) : IVec S86016x2048 1 :=
  let main_v0 : IVec S86016x2048 32 := iotaInDim S86016x2048 32 0
  let main_v1 : IVec S_ 32 := shapeCast S_ main_arg3 shapeCasts_S1_S_
  let main_c : IVec S_ 32 := constantI S_ 32 512#32
  let main_v2 : IVec S_ 32 := muli main_v1 main_c
  let main_v3 : IVec S86016x2048 32 := broadcastInDim S86016x2048 ![] bcast_S_S86016x2048 main_v2
  let main_v4 : IVec S86016x2048 1 := cmpi .slt main_v0 main_v3
  main_v4
-- ==== On_up_kept.lean ====
abbrev S86016x2048 : Shape := ⟨2, ![86016, 2048]⟩
abbrev S168 : Shape := ⟨1, ![168]⟩
abbrev S1 : Shape := ⟨1, ![1]⟩
abbrev S2x32x2048x4096 : Shape := ⟨4, ![2, 32, 2048, 4096]⟩
abbrev S2x32x4096 : Shape := ⟨3, ![2, 32, 4096]⟩
abbrev S_ : Shape := ⟨0, ![]⟩

class Facts : Prop where
  shapeCasts_S1_S_ : S1.ShapeCasts S_
  bcast_S_S86016x2048 : S_.BroadcastsInDim S86016x2048 (![] : Fin 0 → Fin S86016x2048.rank)

variable [Facts]

def fn {F : FTy → Type} [FloatOps F] (main_arg0 : FVec F S86016x2048 .bf16) (main_arg1 : IVec S168 32) (main_arg2 : IVec S168 32) (main_arg3 : IVec S1 32) (main_arg4 : FVec F S2x32x2048x4096 .f32) (main_arg5 : FVec F S2x32x4096 .f32) : IVec S86016x2048 1 :=
  let main_v0 : IVec S86016x2048 32 := iotaInDim S86016x2048 32 0
  let main_v1 : IVec S_ 32 := shapeCast S_ main_arg3 shapeCasts_S1_S_
  let main_c : IVec S_ 32 := constantI S_ 32 512#32
  let main_v2 : IVec S_ 32 := muli main_v1 main_c
  let main_v3 : IVec S86016x2048 32 := broadcastInDim S86016x2048 ![] bcast_S_S86016x2048 main_v2
  let main_v4 : IVec S86016x2048 1 := cmpi .slt main_v0 main_v3
  main_v4
-- ==== Pre_down_tables.lean ====
abbrev S86016x2048 : Shape := ⟨2, ![86016, 2048]⟩
abbrev S168 : Shape := ⟨1, ![168]⟩
abbrev S1 : Shape := ⟨1, ![1]⟩
abbrev S2x32x2048x2048 : Shape := ⟨4, ![2, 32, 2048, 2048]⟩
abbrev S2x32x2048 : Shape := ⟨3, ![2, 32, 2048]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  shapeCasts_S1_S_ : S1.ShapeCasts S_

variable [Facts]

def fn {F : FTy → Type} [FloatOps F] (main_arg0 : FVec F S86016x2048 .bf16) (main_arg1 : IVec S168 32) (main_arg2 : IVec S168 32) (main_arg3 : IVec S1 32) (main_arg4 : FVec F S2x32x2048x2048 .f32) (main_arg5 : FVec F S2x32x2048 .f32) : IVec S_ 1 :=
  let main_v0 : IVec S168 32 := iotaInDim S168 32 0
  let main_c : IVec S_ 32 := constantI S_ 32 0#32
  let main_v1 : IVec S168 32 := broadcastInDim S168 ![] bcast_S_S168 main_c
  let main_v2 : IVec S168 1 := cmpi .sge main_arg1 main_v1
  let main_c_0 : IVec S_ 32 := constantI S_ 32 32#32
  let main_v3 : IVec S168 32 := broadcastInDim S168 ![] bcast_S_S168 main_c_0
  let main_v4 : IVec S168 1 := cmpi .slt main_arg1 main_v3
  let main_v5 : IVec S168 1 := andi main_v2 main_v4
  let main_c_1 : IVec S_ 1 := constantI S_ 1 1#1
  let main_v6 : IVec S_ 1 := (fun x v => Host.reduce IntOp.andi x v reducesTo_S168_S_d0 h_S_) main_v5 main_c_1
  let main_v7 : IVec S_ 32 := shapeCast S_ main_arg3 shapeCasts_S1_S_
  let main_c_2 : IVec S_ 32 := constantI S_ 32 1#32
  let main_v8 : IVec S_ 1 := cmpi .sge main_v7 main_c_2
  let main_v9 : IVec S_ 1 := andi main_v6 main_v8
  let main_v10 : IVec S_ 32 := shapeCast S_ main_arg3 shapeCasts_S1_S_
  let main_c_3 : IVec S_ 32 := constantI S_ 32 1#32
  let main_v11 : IVec S_ 32 := subi main_v10 main_c_3
  let main_v12 : IVec S168 32 := broadcastInDim S168 ![] bcast_S_S168 main_v11
  let main_v13 : IVec S168 32 := minsi main_v0 main_v12
  let main_v14 : IVec S168 1 := cmpi .eq main_arg2 main_v13
  let main_c_4 : IVec S_ 1 := constantI S_ 1 1#1
  let main_v15 : IVec S_ 1 := (fun x v => Host.reduce IntOp.andi x v reducesTo_S168_S_d0 h_S_) main_v14 main_c_4
  let main_v16 : IVec S_ 1 := andi main_v9 main_v15
  main_v16
-- ==== Pre_finite_scores.lean ====
abbrev S16384x2048 : Shape := ⟨2, ![16384, 2048]⟩
abbrev S8x2048x16 : Shape := ⟨3, ![8, 2048, 16]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S8x2048x16 : S_.BroadcastsInDim S8x2048x16 (![] : Fin 0 → Fin S8x2048x16.rank)

variable [Facts]

def fn {F : FTy → Type} [FloatOps F] (main_arg0 : FVec F S16384x2048 .bf16) (main_arg1 : FVec F S16384x2048 .f32) (main_arg2 : FVec F S16384x2048 .f32) (main_arg3 : FVec F S8x2048x16 .f32) : IVec S16384x2048 1 × IVec S16384x2048 1 × IVec S8x2048x16 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_v7 : FVec F S8x2048x16 .f32 := Host.absf main_arg3
  let main_cst_1 : FVec F S_ .f32 := constant S_ .f32 0x7F800000#32
  let main_v8 : FVec F S8x2048x16 .f32 := broadcastInDim S8x2048x16 ![] bcast_S_S8x2048x16 main_cst_1
  let main_v9 : IVec S8x2048x16 1 := cmpf .olt main_v7 main_v8
  (main_v3, main_v6, main_v9)
-- ==== Pre_up_tables.lean ====
abbrev S86016x2048 : Shape := ⟨2, ![86016, 2048]⟩
abbrev S168 : Shape := ⟨1, ![168]⟩
abbrev S1 : Shape := ⟨1, ![1]⟩
abbrev S2x32x2048x4096 : Shape := ⟨4, ![2, 32, 2048, 4096]⟩
abbrev S2x32x4096 : Shape := ⟨3, ![2, 32, 4096]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  shapeCasts_S1_S_ : S1.ShapeCasts S_

variable [Facts]

def fn {F : FTy → Type} [FloatOps F] (main_arg0 : FVec F S86016x2048 .bf16) (main_arg1 : IVec S168 32) (main_arg2 : IVec S168 32) (main_arg3 : IVec S1 32) (main_arg4 : FVec F S2x32x2048x4096 .f32) (main_arg5 : FVec F S2x32x4096 .f32) : IVec S_ 1 :=
  let main_v0 : IVec S168 32 := iotaInDim S168 32 0
  let main_c : IVec S_ 32 := constantI S_ 32 0#32
  let main_v1 : IVec S168 32 := broadcastInDim S168 ![] bcast_S_S168 main_c
  let main_v2 : IVec S168 1 := cmpi .sge main_arg1 main_v1
  let main_c_0 : IVec S_ 32 := constantI S_ 32 32#32
  let main_v3 : IVec S168 32 := broadcastInDim S168 ![] bcast_S_S168 main_c_0
  let main_v4 : IVec S168 1 := cmpi .slt main_arg1 main_v3
  let main_v5 : IVec S168 1 := andi main_v2 main_v4
  let main_c_1 : IVec S_ 1 := constantI S_ 1 1#1
  let main_v6 : IVec S_ 1 := (fun x v => Host.reduce IntOp.andi x v reducesTo_S168_S_d0 h_S_) main_v5 main_c_1
  let main_v7 : IVec S_ 32 := shapeCast S_ main_arg3 shapeCasts_S1_S_
  let main_c_2 : IVec S_ 32 := constantI S_ 32 1#32
  let main_v8 : IVec S_ 1 := cmpi .sge main_v7 main_c_2
  let main_v9 : IVec S_ 1 := andi main_v6 main_v8
  let main_v10 : IVec S_ 32 := shapeCast S_ main_arg3 shapeCasts_S1_S_
  let main_c_3 : IVec S_ 32 := constantI S_ 32 1#32
  let main_v11 : IVec S_ 32 := subi main_v10 main_c_3
  let main_v12 : IVec S168 32 := broadcastInDim S168 ![] bcast_S_S168 main_v11
  let main_v13 : IVec S168 32 := minsi main_v0 main_v12
  let main_v14 : IVec S168 1 := cmpi .eq main_arg2 main_v13
  let main_c_4 : IVec S_ 1 := constantI S_ 1 1#1
  let main_v15 : IVec S_ 1 := (fun x v => Host.reduce IntOp.andi x v reducesTo_S168_S_d0 h_S_) main_v14 main_c_4
  let main_v16 : IVec S_ 1 := andi main_v9 main_v15
  main_v16
-- ==== MemKv.lean ====
abbrev S8x256x2048 : Shape := ⟨3, ![8, 256, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8x256x2048, .f32⟩
  | .hbm, ⟨1, _⟩ => ⟨S2x2048x1024, .f32⟩
  | .hbm, ⟨2, _⟩ => ⟨S1x2048x1024, .f32⟩
  | .hbm, ⟨3, _⟩ => ⟨S2048x1024, .f32⟩
  | .hbm, ⟨4, _⟩ => ⟨S1x2048x1024, .f32⟩
  | .hbm, ⟨5, _⟩ => ⟨S2048x1024, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S8x256x2048 : Shape := ⟨3, ![8, 256, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S8x256x1024 : Shape := ⟨3, ![8, 256, 1024]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2x2048x1024, .f32⟩
  | .hbm, ⟨2, _⟩ => ⟨S1x2048x1024, .f32⟩
  | .hbm, ⟨3, _⟩ => ⟨S2048x1024, .f32⟩
  | .hbm, ⟨4, _⟩ => ⟨S8x256x1024, .f32⟩
  | .hbm, ⟨5, _⟩ => ⟨S1x2048x1024, .f32⟩
  | .hbm, ⟨6, _⟩ => ⟨S2048x1024, .f32⟩
  | .hbm, ⟨7, _⟩ => ⟨S8x256x1024, .f32⟩
  | .hbm, ⟨8, _⟩ => ⟨S8x256x2048, .f32⟩
  | .hbm, ⟨9, _⟩ => ⟨S2048x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proj.lean ====
abbrev S8x2048x2048 : Shape := ⟨3, ![8, 2048, 2048]⟩
abbrev S32x32x2048 : Shape := ⟨3, ![32, 32, 2048]⟩
abbrev S1x2048x8192 : Shape := ⟨3, ![1, 2048, 8192]⟩
abbrev S16384x2048 : Shape := ⟨2, ![16384, 2048]⟩
abbrev S1024x2048 : Shape := ⟨2, ![1024, 2048]⟩
abbrev S17408x2048 : Shape := ⟨2, ![17408, 2048]⟩
abbrev S2048x8192 : Shape := ⟨2, ![2048, 8192]⟩
abbrev S17408x8192 : Shape := ⟨2, ![17408, 8192]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S32x32x2048, .f32⟩
  | .hbm, ⟨2, _⟩ => ⟨S1x2048x8192, .f32⟩
  | .hbm, ⟨3, _⟩ => ⟨S16384x2048, .f32⟩
  | .hbm, ⟨4, _⟩ => ⟨S1024x2048, .f32⟩
  | .hbm, ⟨5, _⟩ => ⟨S17408x2048, .f32⟩
  | .hbm, ⟨6, _⟩ => ⟨S2048x8192, .f32⟩
  | .hbm, ⟨7, _⟩ => ⟨S2048x8192, .bf16⟩
  | .hbm, ⟨8, _⟩ => ⟨S17408x8192, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8x2048x2048 : Shape := ⟨3, ![8, 2048, 2048]⟩
abbrev S32x32x2048 : Shape := ⟨3, ![32, 32, 2048]⟩
abbrev S1x2048x8192 : Shape := ⟨3, ![1, 2048, 8192]⟩
abbrev S2048x8192 : Shape := ⟨2, ![2048, 8192]⟩
abbrev S8x2048x8192 : Shape := ⟨3, ![8, 2048, 8192]⟩
abbrev S32x32x8192 : Shape := ⟨3, ![32, 32, 8192]⟩
abbrev S16384x8192 : Shape := ⟨2, ![16384, 8192]⟩
abbrev S1024x8192 : Shape := ⟨2, ![1024, 8192]⟩
abbrev S17408x8192 : Shape := ⟨2, ![17408, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S32x32x2048, .f32⟩
  | .hbm, ⟨2, _⟩ => ⟨S1x2048x8192, .f32⟩
  | .hbm, ⟨3, _⟩ => ⟨S2048x8192, .f32⟩
  | .hbm, ⟨4, _⟩ => ⟨S8x2048x8192, .f32⟩
  | .hbm, ⟨5, _⟩ => ⟨S2048x8192, .f32⟩
  | .hbm, ⟨6, _⟩ => ⟨S32x32x8192, .f32⟩
  | .hbm, ⟨7, _⟩ => ⟨S16384x8192, .f32⟩
  | .hbm, ⟨8, _⟩ => ⟨S1024x8192, .f32⟩
  | .hbm, ⟨9, _⟩ => ⟨S17408x8192, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Hgs.lean ====
abbrev S17408x8192 : Shape := ⟨2, ![17408, 8192]⟩
abbrev S2x2048 : Shape := ⟨2, ![2, 2048]⟩
abbrev S1x2048 : Shape := ⟨2, ![1, 2048]⟩
abbrev S1x32x16x128x128 : Shape := ⟨5, ![1, 32, 16, 128, 128]⟩
abbrev S_ : Shape := ⟨0, ![]⟩
abbrev S2048 : Shape := ⟨1, ![2048]⟩
abbrev S32x16x128x128 : Shape := ⟨4, ![32, 16, 128, 128]⟩
abbrev S1024x2048 : Shape := ⟨2, ![1024, 2048]⟩
abbrev S32x2048 : Shape := ⟨2, ![32, 2048]⟩
abbrev S1x16x128x128 : Shape := ⟨4, ![1, 16, 128, 128]⟩
abbrev S16x128x128 : Shape := ⟨3, ![16, 128, 128]⟩
abbrev S1x1x128x128 : Shape := ⟨4, ![1, 1, 128, 128]⟩
abbrev S128x128 : Shape := ⟨2, ![128, 128]⟩
abbrev S1x128x128 : Shape := ⟨3, ![1, 128, 128]⟩
abbrev S32x32 : Shape := ⟨2, ![32, 32]⟩
abbrev S32x128 : Shape := ⟨2, ![32, 128]⟩
abbrev S1x128 : Shape := ⟨2, ![1, 128]⟩
abbrev S32 : Shape := ⟨1, ![32]⟩
abbrev S32x1 : Shape := ⟨2, ![32, 1]⟩

abbrev nBuf : Space → Nat
  | .hbm => 29
  | .vmem => 17
  | .smem => 0
  | _ => 0

abbrev bufTy : (tb : Table) → Fin (tcTables nBuf tb) → BufTy
  | .hbm, ⟨0, _⟩ => ⟨S17408x8192, .f32⟩
  | .hbm, ⟨1, _⟩ => ⟨S2x2048, .f32⟩
  | .hbm, ⟨2, _⟩ => ⟨S1x2048, .f32⟩
  | .hbm, ⟨3, _⟩ => ⟨S1x32x16x128x128, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S2048, .f32⟩
  | .hbm, ⟨24, _⟩ => ⟨S32x16x128x128, .f32⟩
  | .hbm, ⟨25, _⟩ => ⟨S1x2048, .f32⟩
  | .hbm, ⟨26, _⟩ => ⟨S1x2048, .f32⟩
  | .hbm, ⟨27, _⟩ => ⟨S1024x2048, .bf16⟩
  | .hbm, ⟨28, _⟩ => ⟨S32x16x128x128, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S1x2048, .f32⟩
  | .local _ .vmem, ⟨9, _⟩ => ⟨S1x2048, .f32⟩
  | .local _ .vmem, ⟨10, _⟩ => ⟨S1x16x128x128, .f32⟩
  | .local _ .vmem, ⟨11, _⟩ => ⟨S1x16x128x128, .f32⟩
  | .local _ .vmem, ⟨12, _⟩ => ⟨S32x2048, .bf16⟩
  | .local _ .vmem, ⟨13, _⟩ => ⟨S32x2048, .bf16⟩
  | .local _ .vmem, ⟨14, _⟩ => ⟨S1x16x128x128, .f32⟩
  | .local _ .vmem, ⟨15, _⟩ => ⟨S1x16x128x128, .f32⟩
  | .local _ .vmem, ⟨16, _⟩ => ⟨S16x128x128, .f32⟩
  | _, _ => ⟨S17408x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_254 : BitVec 32 := 0#32
  let v760 : BitVec 1 := Scalar.cmpi .eq arg1 c0_i32_254
  let v761 : BitVec 32 := Scalar.extui v760
  let c0_i32_255 : BitVec 32 := 0#32
  let v762 : BitVec 1 := Scalar.cmpi .ne v761 c0_i32_255
  v762

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c3_i32 : BitVec 32 := 3#32
  let c0_i32 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== HgsRefIdeal.lean ====
abbrev S17408x8192 : Shape := ⟨2, ![17408, 8192]⟩
abbrev S2x2048 : Shape := ⟨2, ![2, 2048]⟩
abbrev S1x2048 : Shape := ⟨2, ![1, 2048]⟩
abbrev S1x32x16x128x128 : Shape := ⟨5, ![1, 32, 16, 128, 128]⟩
abbrev S_ : Shape := ⟨0, ![]⟩
abbrev S2048 : Shape := ⟨1, ![2048]⟩
abbrev S1024x8192 : Shape := ⟨2, ![1024, 8192]⟩
abbrev S32x32x8192 : Shape := ⟨3, ![32, 32, 8192]⟩
abbrev S32x32x2048 : Shape := ⟨3, ![32, 32, 2048]⟩
abbrev S1x1x2048 : Shape := ⟨3, ![1, 1, 2048]⟩
abbrev S32x16x128x128 : Shape := ⟨4, ![32, 16, 128, 128]⟩
abbrev S32x32x16x128 : Shape := ⟨4, ![32, 32, 16, 128]⟩
abbrev S32x32 : Shape := ⟨2, ![32, 32]⟩
abbrev S32x16x32x32 : Shape := ⟨4, ![32, 16, 32, 32]⟩
abbrev S32x16x128x32 : Shape := ⟨4, ![32, 16, 128, 32]⟩
abbrev S32x1x16x128 : Shape := ⟨4, ![32, 1, 16, 128]⟩
abbrev S32x16x128 : Shape := ⟨3, ![32, 16, 128]⟩
abbrev S32x16x128x1 : Shape := ⟨4, ![32, 16, 128, 1]⟩
abbrev S32x32x16 : Shape := ⟨3, ![32, 32, 16]⟩
abbrev S32x32x16x1 : Shape := ⟨4, ![32, 32, 16, 1]⟩
abbrev S16x128 : Shape := ⟨2, ![16, 128]⟩
abbrev S1x1x16x128 : Shape := ⟨4, ![1, 1, 16, 128]⟩
abbrev S1024x2048 : Shape := ⟨2, ![1024, 2048]⟩

abbrev nBuf : Space → Nat
  | .hbm => 149
  | .vmem => 0
  | .smem => 0
  | _ => 0

abbrev hbmTy0_0 (i : Nat) : BufTy := match i % 128 with
  | 0 => ⟨S17408x8192, .f32⟩
  | 1 => ⟨S2x2048, .f32⟩
  | 2 => ⟨S1x2048, .f32⟩
  | 3 => ⟨S1x32x16x128x128, .f32⟩
  | 4 => ⟨S_, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S2x2048, .f32⟩
  | 11 => ⟨S2x2048, .f32⟩
  | 12 => ⟨S2x2048, .f32⟩
  | 13 => ⟨S_, .f32⟩
  | 14 => ⟨S2048, .f32⟩
  | 15 => ⟨S1x2048, .f32⟩
  | 16 => ⟨S2x2048, .f32⟩
  | 17 => ⟨S2x2048, .f32⟩
  | 18 => ⟨S_, .f32⟩
  | 19 => ⟨S_, .f32⟩
  | 20 => ⟨S2x2048, .f32⟩
  | 21 => ⟨S1024x8192, .f32⟩
  | 22 => ⟨S32x32x8192, .f32⟩
  | 23 => ⟨S1x2048, .f32⟩
  | 24 => ⟨S2048, .f32⟩
  | 25 => ⟨S32x32x2048, .f32⟩
  | 26 => ⟨S32x32x2048, .f32⟩
  | 27 => ⟨S32x32x2048, .f32⟩
  | 28 => ⟨S32x32x2048, .f32⟩
  | 29 => ⟨S32x32x2048, .f32⟩
  | 30 => ⟨S_, .f32⟩
  | 31 => ⟨S32x32x2048, .f32⟩
  | 32 => ⟨S32x32x2048, .f32⟩
  | 33 => ⟨S_, .f32⟩
  | 34 => ⟨S32x32x2048, .f32⟩
  | 35 => ⟨S32x32x2048, .f32⟩
  | 36 => ⟨S32x32x2048, .f32⟩
  | 37 => ⟨S_, .f32⟩
  | 38 => ⟨S2048, .f32⟩
  | 39 => ⟨S2048, .f32⟩
  | 40 => ⟨S32x32x2048, .f32⟩
  | 41 => ⟨S32x32x2048, .f32⟩
  | 42 => ⟨S_, .f32⟩
  | 43 => ⟨S32x32x2048, .f32⟩
  | 44 => ⟨S32x32x2048, .f32⟩
  | 45 => ⟨S_, .f32⟩
  | 46 => ⟨S32x32x2048, .f32⟩
  | 47 => ⟨S32x32x2048, .f32⟩
  | 48 => ⟨S1x1x2048, .f32⟩
  | 49 => ⟨S32x32x2048, .f32⟩
  | 50 => ⟨S32x32x2048, .f32⟩
  | 51 => ⟨S1x1x2048, .f32⟩
  | 52 => ⟨S32x32x2048, .f32⟩
  | 53 => ⟨S32x32x2048, .f32⟩
  | 54 => ⟨S_, .f32⟩
  | 55 => ⟨S2048, .f32⟩
  | 56 => ⟨S2048, .f32⟩
  | 57 => ⟨S32x32x2048, .f32⟩
  | 58 => ⟨S32x32x2048, .f32⟩
  | 59 => ⟨S32x32x2048, .f32⟩
  | 60 => ⟨S_, .f32⟩
  | 61 => ⟨S32x32x2048, .f32⟩
  | 62 => ⟨S32x32x2048, .f32⟩
  | 63 => ⟨S_, .f32⟩
  | 64 => ⟨S32x32x2048, .f32⟩
  | 65 => ⟨S32x32x2048, .f32⟩
  | 66 => ⟨S1x1x2048, .f32⟩
  | 67 => ⟨S32x32x2048, .f32⟩
  | 68 => ⟨S32x32x2048, .f32⟩
  | 69 => ⟨S32x32x2048, .f32⟩
  | 70 => ⟨S32x16x128x128, .f32⟩
  | 71 => ⟨S32x32x16x128, .f32⟩
  | 72 => ⟨S32x32x16x128, .f32⟩
  | 73 => ⟨S32x32x16x128, .f32⟩
  | 74 => ⟨S32x32x16x128, .f32⟩
  | 75 => ⟨S_, .f32⟩
  | 76 => ⟨S_, .f32⟩
  | 77 => ⟨S32x32x16x128, .f32⟩
  | 78 => ⟨S32x32x16x128, .f32⟩
  | 79 => ⟨S32x32x16x128, .f32⟩
  | 80 => ⟨S32x32x16x128, .f32⟩
  | 81 => ⟨S32x32x16x128, .f32⟩
  | 82 => ⟨S32x32x16x128, .f32⟩
  | 83 => ⟨S_, .i1⟩
  | 84 => ⟨S32x32, .i1⟩
  | 85 => ⟨S32x32, .i32⟩
  | 86 => ⟨S_, .i32⟩
  | 87 => ⟨S32x32, .i32⟩
  | 88 => ⟨S32x32, .i32⟩
  | 89 => ⟨S32x32, .i32⟩
  | 90 => ⟨S32x32, .i1⟩
  | 91 => ⟨S_, .i1⟩
  | 92 => ⟨S32x32, .i1⟩
  | 93 => ⟨S32x32, .i1⟩
  | 94 => ⟨S32x16x32x32, .f32⟩
  | 95 => ⟨S_, .f32⟩
  | 96 => ⟨S_, .f32⟩
  | 97 => ⟨S32x16x32x32, .i1⟩
  | 98 => ⟨S32x16x32x32, .f32⟩
  | 99 => ⟨S32x16x32x32, .f32⟩
  | 100 => ⟨S32x16x128x32, .f32⟩
  | 101 => ⟨S32x32x16x128, .f32⟩
  | 102 => ⟨S32x16x128x32, .f32⟩
  | 103 => ⟨S32x32x16x128, .f32⟩
  | 104 => ⟨S32x32x16x128, .f32⟩
  | 105 => ⟨S32x1x16x128, .f32⟩
  | 106 => ⟨S32x32x16x128, .f32⟩
  | 107 => ⟨S32x32x16x128, .f32⟩
  | 108 => ⟨S32x32x16x128, .f32⟩
  | 109 => ⟨S32x32x16x128, .f32⟩
  | 110 => ⟨S32x16x128, .f32⟩
  | 111 => ⟨S32x16x128, .f32⟩
  | 112 => ⟨S32x16x128x1, .f32⟩
  | 113 => ⟨S32x16x128x128, .f32⟩
  | 114 => ⟨S32x16x128x128, .f32⟩
  | 115 => ⟨S32x16x128x128, .f32⟩
  | 116 => ⟨S32x16x128x128, .f32⟩
  | 117 => ⟨S32x32x2048, .f32⟩
  | 118 => ⟨S2048, .f32⟩
  | 119 => ⟨S32x32x16x128, .f32⟩
  | 120 => ⟨S_, .f32⟩
  | 121 => ⟨S32x32x16, .f32⟩
  | 122 => ⟨S32x32x16x1, .f32⟩
  | 123 => ⟨S_, .f32⟩
  | 124 => ⟨S32x32x16x1, .f32⟩
  | 125 => ⟨S32x32x16x1, .f32⟩
  | 126 => ⟨S_, .f32⟩
  | 127 => ⟨S32x32x16x1, .f32⟩
  | _ => ⟨S17408x8192, .f32⟩

abbrev hbmTy0_1 (i : Nat) : BufTy := match i % 128 with
  | 0 => ⟨S32x32x16x1, .f32⟩
  | 1 => ⟨S32x32x16x1, .f32⟩
  | 2 => ⟨S32x32x16x128, .f32⟩
  | 3 => ⟨S32x32x16x128, .f32⟩
  | 4 => ⟨S16x128, .f32⟩
  | 5 => ⟨S1x1x16x128, .f32⟩
  | 6 => ⟨S32x32x16x128, .f32⟩
  | 7 => ⟨S32x32x16x128, .f32⟩
  | 8 => ⟨S32x32x2048, .f32⟩
  | 9 => ⟨S32x32x2048, .f32⟩
  | 10 => ⟨S32x32x2048, .f32⟩
  | 11 => ⟨S_, .f32⟩
  | 12 => ⟨S32x32x2048, .f32⟩
  | 13 => ⟨S32x32x2048, .f32⟩
  | 14 => ⟨S_, .f32⟩
  | 15 => ⟨S32x32x2048, .f32⟩
  | 16 => ⟨S32x32x2048, .f32⟩
  | 17 => ⟨S32x32x2048, .f32⟩
  | 18 => ⟨S32x32x2048, .f32⟩
  | 19 => ⟨S1024x2048, .f32⟩
  | 20 => ⟨S1024x2048, .bf16⟩
  | _ => ⟨S17408x8192, .f32⟩

abbrev hbmTy (i : Nat) : BufTy := match i / 128 with
  | 0 => hbmTy0_0 i
  | 1 => hbmTy0_1 i
  | _ => ⟨S17408x8192, .f32⟩

abbrev bufTy : (tb : Table) → Fin (tcTables nBuf tb) → BufTy
  | .hbm, ⟨i, _⟩ => hbmTy i
  | _, _ => ⟨S17408x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_call0_cst : Ref sig .tc := ⟨.hbm, 75, rfl⟩
abbrev main_call2_call0_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c : Ref sig .tc := ⟨.hbm, 83, rfl⟩
abbrev main_v58 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_0 : Ref sig .tc := ⟨.hbm, 91, rfl⟩
abbrev main_call3_v5 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_9 : Ref sig .tc := ⟨.hbm, 120, rfl⟩
abbrev main_v82 : Ref sig .tc := ⟨.hbm, 121, rfl⟩
abbrev main_v83 : Ref sig .tc := ⟨.hbm, 122, rfl⟩
abbrev main_cst_10 : Ref sig .tc := ⟨.hbm, 123, rfl⟩
abbrev main_v84 : Ref sig .tc := ⟨.hbm, 124, rfl⟩
abbrev main_v85 : Ref sig .tc := ⟨.hbm, 125, rfl⟩
abbrev main_cst_11 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call5_v0 : Ref sig .tc := ⟨.hbm, 137, rfl⟩
abbrev main_call5_v1 : Ref sig .tc := ⟨.hbm, 138, rfl⟩
abbrev main_call5_cst : Ref sig .tc := ⟨.hbm, 139, rfl⟩
abbrev main_call5_v2 : Ref sig .tc := ⟨.hbm, 140, rfl⟩
abbrev main_call5_v3 : Ref sig .tc := ⟨.hbm, 141, rfl⟩
abbrev main_call5_cst_0 : Ref sig .tc := ⟨.hbm, 142, rfl⟩
abbrev main_call5_v4 : Ref sig .tc := ⟨.hbm, 143, rfl⟩
abbrev main_call5_v5 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩

abbrev nD : Nat := 1
abbrev τ : Topo := Topo.v7x

variable {F : FTy → Type} [FloatOps F]
-- ==== MoeUp.lean ====
abbrev S86016x2048 : Shape := ⟨2, ![86016, 2048]⟩
abbrev S168 : Shape := ⟨1, ![168]⟩
abbrev S1 : Shape := ⟨1, ![1]⟩
abbrev S2x32x2048x4096 : Shape := ⟨4, ![2, 32, 2048, 4096]⟩
abbrev S2x32x4096 : Shape := ⟨3, ![2, 32, 4096]⟩
abbrev S2x32x1x4096 : Shape := ⟨4, ![2, 32, 1, 4096]⟩
abbrev S512x2048 : Shape := ⟨2, ![512, 2048]⟩
abbrev S1x1x2048x512 : Shape := ⟨4, ![1, 1, 2048, 512]⟩
abbrev S1x1x1x512 : Shape := ⟨4, ![1, 1, 1, 512]⟩
abbrev S512x512 : Shape := ⟨2, ![512, 512]⟩
abbrev S2048x512 : Shape := ⟨2, ![2048, 512]⟩
abbrev S1x512 : Shape := ⟨2, ![1, 512]⟩

abbrev nBuf : Space → Nat
  | .hbm => 5
  | .vmem => 12
  | .smem => 3
  | _ => 0

abbrev bufTy : (tb : Table) → Fin (tcTables nBuf tb) → BufTy
  | .hbm, ⟨0, _⟩ => ⟨S86016x2048, .bf16⟩
  | .hbm, ⟨1, _⟩ => ⟨S2x32x2048x4096, .f32⟩
  | .hbm, ⟨2, _⟩ => ⟨S2x32x4096, .f32⟩
  | .hbm, ⟨3, _⟩ => ⟨S2x32x1x4096, .f32⟩
  | .hbm, ⟨4, _⟩ => ⟨S86016x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .smem, ⟨0, _⟩ => ⟨S168, .i32⟩
  | .local _ .smem, ⟨1, _⟩ => ⟨S168, .i32⟩
  | .local _ .smem, ⟨2, _⟩ => ⟨S1, .i32⟩
  | _, _ => ⟨S86016x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 168], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S168.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S168) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (k0_off1_inb : ∀ i : grid0.Coords, ∀ a, (k0_off1 i) a + S1.size a ≤ S168.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S168) ![v0.toNat] S1.size (k0_off1_inb i)) numel1_S1
  let c0_i32 : BitVec 32 := 0#32
  ![v1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MoeUpRefIdeal.lean ====
abbrev S86016x2048 : Shape := ⟨2, ![86016, 2048]⟩
abbrev S168 : Shape := ⟨1, ![168]⟩
abbrev S1 : Shape := ⟨1, ![1]⟩
abbrev S2x32x2048x4096 : Shape := ⟨4, ![2, 32, 2048, 4096]⟩
abbrev S2x32x4096 : Shape := ⟨3, ![2, 32, 4096]⟩
abbrev S168x512x2048 : Shape := ⟨3, ![168, 512, 2048]⟩
abbrev S1x32x2048x4096 : Shape := ⟨4, ![1, 32, 2048, 4096]⟩
abbrev S32x2048x4096 : Shape := ⟨3, ![32, 2048, 4096]⟩
abbrev S_ : Shape := ⟨0, ![]⟩
abbrev S168x1 : Shape := ⟨2, ![168, 1]⟩
abbrev S168x2048x4096 : Shape := ⟨3, ![168, 2048, 4096]⟩
abbrev S1x32x4096 : Shape := ⟨3, ![1, 32, 4096]⟩
abbrev S32x4096 : Shape := ⟨2, ![32, 4096]⟩
abbrev S168x4096 : Shape := ⟨2, ![168, 4096]⟩
abbrev S168x512x4096 : Shape := ⟨3, ![168, 512, 4096]⟩
abbrev S168x1x4096 : Shape := ⟨3, ![168, 1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S86016x2048, .bf16⟩
  | .hbm, ⟨1, _⟩ => ⟨S168, .i32⟩
  | .hbm, ⟨2, _⟩ => ⟨S168, .i32⟩
  | .hbm, ⟨3, _⟩ => ⟨S1, .i32⟩
  | .hbm, ⟨4, _⟩ => ⟨S2x32x2048x4096, .f32⟩
  | .hbm, ⟨5, _⟩ => ⟨S2x32x4096, .f32⟩
  | .hbm, ⟨6, _⟩ => ⟨S168x512x2048, .bf16⟩
  | .hbm, ⟨7, _⟩ => ⟨S1x32x2048x4096, .f32⟩
  | .hbm, ⟨8, _⟩ => ⟨S32x2048x4096, .f32⟩
  | .hbm, ⟨9, _⟩ => ⟨S_, .i32⟩
  | .hbm, ⟨10, _⟩ => ⟨S168, .i32⟩
  | .hbm, ⟨11, _⟩ => ⟨S168, .i1⟩
  | .hbm, ⟨12, _⟩ => ⟨S_, .i32⟩
  | .hbm, ⟨13, _⟩ => ⟨S168, .i32⟩
  | .hbm, ⟨14, _⟩ => ⟨S168, .i32⟩
  | .hbm, ⟨15, _⟩ => ⟨S168, .i32⟩
  | .hbm, ⟨16, _⟩ => ⟨S168x1, .i32⟩
  | .hbm, ⟨17, _⟩ => ⟨S168x2048x4096, .f32⟩
  | .hbm, ⟨18, _⟩ => ⟨S1x32x4096, .f32⟩
  | .hbm, ⟨19, _⟩ => ⟨S32x4096, .f32⟩
  | .hbm, ⟨20, _⟩ => ⟨S_, .i32⟩
  | .hbm, ⟨21, _⟩ => ⟨S168, .i32⟩
  | .hbm, ⟨22, _⟩ => ⟨S168, .i1⟩
  | .hbm, ⟨23, _⟩ => ⟨S_, .i32⟩
  | .hbm, ⟨24, _⟩ => ⟨S168, .i32⟩
  | .hbm, ⟨25, _⟩ => ⟨S168, .i32⟩
  | .hbm, ⟨26, _⟩ => ⟨S168, .i32⟩
  | .hbm, ⟨27, _⟩ => ⟨S168x1, .i32⟩
  | .hbm, ⟨28, _⟩ => ⟨S168x4096, .f32⟩
  | .hbm, ⟨29, _⟩ => ⟨S168x512x2048, .f32⟩
  | .hbm, ⟨30, _⟩ => ⟨S168x512x4096, .f32⟩
  | .hbm, ⟨31, _⟩ => ⟨S168x1x4096, .f32⟩
  | .hbm, ⟨32, _⟩ => ⟨S168x512x4096, .f32⟩
  | .hbm, ⟨33, _⟩ => ⟨S168x512x4096, .f32⟩
  | .hbm, ⟨34, _⟩ => ⟨S168x512x2048, .f32⟩
  | .hbm, ⟨35, _⟩ => ⟨S_, .f32⟩
  | .hbm, ⟨36, _⟩ => ⟨S168x512x2048, .f32⟩
  | .hbm, ⟨37, _⟩ => ⟨S168x512x2048, .f32⟩
  | .hbm, ⟨38, _⟩ => ⟨S168x512x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S168x512x2048, .f32⟩
  | .hbm, ⟨43, _⟩ => ⟨S168x512x2048, .f32⟩
  | .hbm, ⟨44, _⟩ => ⟨S_, .f32⟩
  | .hbm, ⟨45, _⟩ => ⟨S168x512x2048, .f32⟩
  | .hbm, ⟨46, _⟩ => ⟨S168x512x2048, .f32⟩
  | .hbm, ⟨47, _⟩ => ⟨S_, .f32⟩
  | .hbm, ⟨48, _⟩ => ⟨S168x512x2048, .f32⟩
  | .hbm, ⟨49, _⟩ => ⟨S168x512x2048, .f32⟩
  | .hbm, ⟨50, _⟩ => ⟨S168x512x2048, .f32⟩
  | .hbm, ⟨51, _⟩ => ⟨S168x512x2048, .f32⟩
  | .hbm, ⟨52, _⟩ => ⟨S_, .f32⟩
  | .hbm, ⟨53, _⟩ => ⟨S168x512x2048, .f32⟩
  | .hbm, ⟨54, _⟩ => ⟨S168x512x2048, .f32⟩
  | .hbm, ⟨55, _⟩ => ⟨S_, .f32⟩
  | .hbm, ⟨56, _⟩ => ⟨S168x512x2048, .f32⟩
  | .hbm, ⟨57, _⟩ => ⟨S168x512x2048, .f32⟩
  | .hbm, ⟨58, _⟩ => ⟨S168x512x2048, .f32⟩
  | .hbm, ⟨59, _⟩ => ⟨S_, .f32⟩
  | .hbm, ⟨60, _⟩ => ⟨S168x512x2048, .f32⟩
  | .hbm, ⟨61, _⟩ => ⟨S168x512x2048, .f32⟩
  | .hbm, ⟨62, _⟩ => ⟨S168x512x2048, .f32⟩
  | .hbm, ⟨63, _⟩ => ⟨S86016x2048, .f32⟩
  | .hbm, ⟨64, _⟩ => ⟨S86016x2048, .bf16⟩
  | _, _ => ⟨S86016x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== MoeDown.lean ====
abbrev S86016x2048 : Shape := ⟨2, ![86016, 2048]⟩
abbrev S168 : Shape := ⟨1, ![168]⟩
abbrev S1 : Shape := ⟨1, ![1]⟩
abbrev S2x32x2048x2048 : Shape := ⟨4, ![2, 32, 2048, 2048]⟩
abbrev S2x32x2048 : Shape := ⟨3, ![2, 32, 2048]⟩
abbrev S2x32x1x2048 : Shape := ⟨4, ![2, 32, 1, 2048]⟩
abbrev S512x2048 : Shape := ⟨2, ![512, 2048]⟩
abbrev S1x1x2048x1024 : Shape := ⟨4, ![1, 1, 2048, 1024]⟩
abbrev S1x1x1x1024 : Shape := ⟨4, ![1, 1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 5
  | .vmem => 8
  | .smem => 3
  | _ => 0

abbrev bufTy : (tb : Table) → Fin (tcTables nBuf tb) → BufTy
  | .hbm, ⟨0, _⟩ => ⟨S86016x2048, .bf16⟩
  | .hbm, ⟨1, _⟩ => ⟨S2x32x2048x2048, .f32⟩
  | .hbm, ⟨2, _⟩ => ⟨S2x32x2048, .f32⟩
  | .hbm, ⟨3, _⟩ => ⟨S2x32x1x2048, .f32⟩
  | .hbm, ⟨4, _⟩ => ⟨S86016x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .smem, ⟨0, _⟩ => ⟨S168, .i32⟩
  | .local _ .smem, ⟨1, _⟩ => ⟨S168, .i32⟩
  | .local _ .smem, ⟨2, _⟩ => ⟨S1, .i32⟩
  | _, _ => ⟨S86016x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 168], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S168.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S168) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S168) ![v0.toNat] S1.size (k0_off1_inb i)) numel1_S1
  let c0_i32 : BitVec 32 := 0#32
  ![v1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeDownRefIdeal.lean ====
abbrev S86016x2048 : Shape := ⟨2, ![86016, 2048]⟩
abbrev S168 : Shape := ⟨1, ![168]⟩
abbrev S1 : Shape := ⟨1, ![1]⟩
abbrev S2x32x2048x2048 : Shape := ⟨4, ![2, 32, 2048, 2048]⟩
abbrev S2x32x2048 : Shape := ⟨3, ![2, 32, 2048]⟩
abbrev S168x512x2048 : Shape := ⟨3, ![168, 512, 2048]⟩
abbrev S1x32x2048x2048 : Shape := ⟨4, ![1, 32, 2048, 2048]⟩
abbrev S32x2048x2048 : Shape := ⟨3, ![32, 2048, 2048]⟩
abbrev S_ : Shape := ⟨0, ![]⟩
abbrev S168x1 : Shape := ⟨2, ![168, 1]⟩
abbrev S168x2048x2048 : Shape := ⟨3, ![168, 2048, 2048]⟩
abbrev S1x32x2048 : Shape := ⟨3, ![1, 32, 2048]⟩
abbrev S32x2048 : Shape := ⟨2, ![32, 2048]⟩
abbrev S168x2048 : Shape := ⟨2, ![168, 2048]⟩
abbrev S168x1x2048 : Shape := ⟨3, ![168, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S86016x2048, .bf16⟩
  | .hbm, ⟨1, _⟩ => ⟨S168, .i32⟩
  | .hbm, ⟨2, _⟩ => ⟨S168, .i32⟩
  | .hbm, ⟨3, _⟩ => ⟨S1, .i32⟩
  | .hbm, ⟨4, _⟩ => ⟨S2x32x2048x2048, .f32⟩
  | .hbm, ⟨5, _⟩ => ⟨S2x32x2048, .f32⟩
  | .hbm, ⟨6, _⟩ => ⟨S168x512x2048, .bf16⟩
  | .hbm, ⟨7, _⟩ => ⟨S1x32x2048x2048, .f32⟩
  | .hbm, ⟨8, _⟩ => ⟨S32x2048x2048, .f32⟩
  | .hbm, ⟨9, _⟩ => ⟨S_, .i32⟩
  | .hbm, ⟨10, _⟩ => ⟨S168, .i32⟩
  | .hbm, ⟨11, _⟩ => ⟨S168, .i1⟩
  | .hbm, ⟨12, _⟩ => ⟨S_, .i32⟩
  | .hbm, ⟨13, _⟩ => ⟨S168, .i32⟩
  | .hbm, ⟨14, _⟩ => ⟨S168, .i32⟩
  | .hbm, ⟨15, _⟩ => ⟨S168, .i32⟩
  | .hbm, ⟨16, _⟩ => ⟨S168x1, .i32⟩
  | .hbm, ⟨17, _⟩ => ⟨S168x2048x2048, .f32⟩
  | .hbm, ⟨18, _⟩ => ⟨S1x32x2048, .f32⟩
  | .hbm, ⟨19, _⟩ => ⟨S32x2048, .f32⟩
  | .hbm, ⟨20, _⟩ => ⟨S_, .i32⟩
  | .hbm, ⟨21, _⟩ => ⟨S168, .i32⟩
  | .hbm, ⟨22, _⟩ => ⟨S168, .i1⟩
  | .hbm, ⟨23, _⟩ => ⟨S_, .i32⟩
  | .hbm, ⟨24, _⟩ => ⟨S168, .i32⟩
  | .hbm, ⟨25, _⟩ => ⟨S168, .i32⟩
  | .hbm, ⟨26, _⟩ => ⟨S168, .i32⟩
  | .hbm, ⟨27, _⟩ => ⟨S168x1, .i32⟩
  | .hbm, ⟨28, _⟩ => ⟨S168x2048, .f32⟩
  | .hbm, ⟨29, _⟩ => ⟨S168x512x2048, .f32⟩
  | .hbm, ⟨30, _⟩ => ⟨S168x512x2048, .f32⟩
  | .hbm, ⟨31, _⟩ => ⟨S168x1x2048, .f32⟩
  | .hbm, ⟨32, _⟩ => ⟨S168x512x2048, .f32⟩
  | .hbm, ⟨33, _⟩ => ⟨S168x512x2048, .f32⟩
  | .hbm, ⟨34, _⟩ => ⟨S86016x2048, .f32⟩
  | _, _ => ⟨S86016x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== OutMix.lean ====
abbrev S17408x2048 : Shape := ⟨2, ![17408, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S17408x2048, .bf16⟩
  | .hbm, ⟨1, _⟩ => ⟨S1x2048x2048, .f32⟩
  | .hbm, ⟨2, _⟩ => ⟨S17408x2048, .f32⟩
  | .hbm, ⟨3, _⟩ => ⟨S2x3x2048, .f32⟩
  | .hbm, ⟨4, _⟩ => ⟨S2x3x2048, .f32⟩
  | .hbm, ⟨5, _⟩ => ⟨S2048x2048, .f32⟩
  | .hbm, ⟨6, _⟩ => ⟨S2048x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S17408x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutMixRefIdeal.lean ====
abbrev S17408x2048 : Shape := ⟨2, ![17408, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S17408 : Shape := ⟨1, ![17408]⟩
abbrev S17408x1 : Shape := ⟨2, ![17408, 1]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S1x2048x2048, .f32⟩
  | .hbm, ⟨2, _⟩ => ⟨S17408x2048, .f32⟩
  | .hbm, ⟨3, _⟩ => ⟨S2x3x2048, .f32⟩
  | .hbm, ⟨4, _⟩ => ⟨S2x3x2048, .f32⟩
  | .hbm, ⟨5, _⟩ => ⟨S17408x2048, .f32⟩
  | .hbm, ⟨6, _⟩ => ⟨S2048x2048, .f32⟩
  | .hbm, ⟨7, _⟩ => ⟨S17408x2048, .f32⟩
  | .hbm, ⟨8, _⟩ => ⟨S_, .f32⟩
  | .hbm, ⟨9, _⟩ => ⟨S17408x2048, .f32⟩
  | .hbm, ⟨10, _⟩ => ⟨S17408x2048, .f32⟩
  | .hbm, ⟨11, _⟩ => ⟨S17408x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S_, .f32⟩
  | .hbm, ⟨17, _⟩ => ⟨S17408, .f32⟩
  | .hbm, ⟨18, _⟩ => ⟨S17408x1, .f32⟩
  | .hbm, ⟨19, _⟩ => ⟨S_, .f32⟩
  | .hbm, ⟨20, _⟩ => ⟨S17408x1, .f32⟩
  | .hbm, ⟨21, _⟩ => ⟨S17408x1, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S_, .f32⟩
  | .hbm, ⟨26, _⟩ => ⟨S17408, .f32⟩
  | .hbm, ⟨27, _⟩ => ⟨S17408x1, .f32⟩
  | .hbm, ⟨28, _⟩ => ⟨S_, .f32⟩
  | .hbm, ⟨29, _⟩ => ⟨S17408x1, .f32⟩
  | .hbm, ⟨30, _⟩ => ⟨S17408x1, .f32⟩
  | .hbm, ⟨31, _⟩ => ⟨S17408x2048, .f32⟩
  | .hbm, ⟨32, _⟩ => ⟨S17408x2048, .f32⟩
  | .hbm, ⟨33, _⟩ => ⟨S_, .f32⟩
  | .hbm, ⟨34, _⟩ => ⟨S17408x1, .f32⟩
  | .hbm, ⟨35, _⟩ => ⟨S17408x1, .f32⟩
  | .hbm, ⟨36, _⟩ => ⟨S17408x1, .f32⟩
  | .hbm, ⟨37, _⟩ => ⟨S17408x2048, .f32⟩
  | .hbm, ⟨38, _⟩ => ⟨S17408x2048, .f32⟩
  | .hbm, ⟨39, _⟩ => ⟨S1x2048, .f32⟩
  | .hbm, ⟨40, _⟩ => ⟨S17408x2048, .f32⟩
  | .hbm, ⟨41, _⟩ => ⟨S17408x2048, .f32⟩
  | .hbm, ⟨42, _⟩ => ⟨S1x2048, .f32⟩
  | .hbm, ⟨43, _⟩ => ⟨S17408x2048, .f32⟩
  | .hbm, ⟨44, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== OutMem.lean ====
abbrev S17408x512 : Shape := ⟨2, ![17408, 512]⟩
abbrev S2x512x2048 : Shape := ⟨3, ![2, 512, 2048]⟩
abbrev S17408x2048 : Shape := ⟨2, ![17408, 2048]⟩
abbrev S2x3x2048 : Shape := ⟨3, ![2, 3, 2048]⟩
abbrev S1x512x2048 : Shape := ⟨3, ![1, 512, 2048]⟩
abbrev S512x2048 : Shape := ⟨2, ![512, 2048]⟩
abbrev S1x1x2048 : Shape := ⟨3, ![1, 1, 2048]⟩
abbrev S2048 : Shape := ⟨1, ![2048]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S17408x512, .bf16⟩
  | .hbm, ⟨1, _⟩ => ⟨S2x512x2048, .f32⟩
  | .hbm, ⟨2, _⟩ => ⟨S17408x2048, .f32⟩
  | .hbm, ⟨3, _⟩ => ⟨S2x3x2048, .f32⟩
  | .hbm, ⟨4, _⟩ => ⟨S2x3x2048, .f32⟩
  | .hbm, ⟨5, _⟩ => ⟨S1x512x2048, .f32⟩
  | .hbm, ⟨6, _⟩ => ⟨S512x2048, .f32⟩
  | .hbm, ⟨7, _⟩ => ⟨S512x2048, .bf16⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S17408x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutMemRefIdeal.lean ====
abbrev S17408x512 : Shape := ⟨2, ![17408, 512]⟩
abbrev S2x512x2048 : Shape := ⟨3, ![2, 512, 2048]⟩
abbrev S17408x2048 : Shape := ⟨2, ![17408, 2048]⟩
abbrev S2x3x2048 : Shape := ⟨3, ![2, 3, 2048]⟩
abbrev S1x512x2048 : Shape := ⟨3, ![1, 512, 2048]⟩
abbrev S512x2048 : Shape := ⟨2, ![512, 2048]⟩
abbrev S_ : Shape := ⟨0, ![]⟩
abbrev S1x1x2048 : Shape := ⟨3, ![1, 1, 2048]⟩
abbrev S2048 : Shape := ⟨1, ![2048]⟩
abbrev S17408 : Shape := ⟨1, ![17408]⟩
abbrev S17408x1 : Shape := ⟨2, ![17408, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S2x512x2048, .f32⟩
  | .hbm, ⟨2, _⟩ => ⟨S17408x2048, .f32⟩
  | .hbm, ⟨3, _⟩ => ⟨S2x3x2048, .f32⟩
  | .hbm, ⟨4, _⟩ => ⟨S2x3x2048, .f32⟩
  | .hbm, ⟨5, _⟩ => ⟨S17408x512, .f32⟩
  | .hbm, ⟨6, _⟩ => ⟨S1x512x2048, .f32⟩
  | .hbm, ⟨7, _⟩ => ⟨S512x2048, .f32⟩
  | .hbm, ⟨8, _⟩ => ⟨S17408x2048, .f32⟩
  | .hbm, ⟨9, _⟩ => ⟨S_, .f32⟩
  | .hbm, ⟨10, _⟩ => ⟨S17408x2048, .f32⟩
  | .hbm, ⟨11, _⟩ => ⟨S17408x2048, .f32⟩
  | .hbm, ⟨12, _⟩ => ⟨S17408x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S_, .f32⟩
  | .hbm, ⟨18, _⟩ => ⟨S17408, .f32⟩
  | .hbm, ⟨19, _⟩ => ⟨S17408x1, .f32⟩
  | .hbm, ⟨20, _⟩ => ⟨S_, .f32⟩
  | .hbm, ⟨21, _⟩ => ⟨S17408x1, .f32⟩
  | .hbm, ⟨22, _⟩ => ⟨S17408x1, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S_, .f32⟩
  | .hbm, ⟨27, _⟩ => ⟨S17408, .f32⟩
  | .hbm, ⟨28, _⟩ => ⟨S17408x1, .f32⟩
  | .hbm, ⟨29, _⟩ => ⟨S_, .f32⟩
  | .hbm, ⟨30, _⟩ => ⟨S17408x1, .f32⟩
  | .hbm, ⟨31, _⟩ => ⟨S17408x1, .f32⟩
  | .hbm, ⟨32, _⟩ => ⟨S17408x2048, .f32⟩
  | .hbm, ⟨33, _⟩ => ⟨S17408x2048, .f32⟩
  | .hbm, ⟨34, _⟩ => ⟨S_, .f32⟩
  | .hbm, ⟨35, _⟩ => ⟨S17408x1, .f32⟩
  | .hbm, ⟨36, _⟩ => ⟨S17408x1, .f32⟩
  | .hbm, ⟨37, _⟩ => ⟨S17408x1, .f32⟩
  | .hbm, ⟨38, _⟩ => ⟨S17408x2048, .f32⟩
  | .hbm, ⟨39, _⟩ => ⟨S17408x2048, .f32⟩
  | .hbm, ⟨40, _⟩ => ⟨S1x2048, .f32⟩
  | .hbm, ⟨41, _⟩ => ⟨S17408x2048, .f32⟩
  | .hbm, ⟨42, _⟩ => ⟨S17408x2048, .f32⟩
  | .hbm, ⟨43, _⟩ => ⟨S1x2048, .f32⟩
  | .hbm, ⟨44, _⟩ => ⟨S17408x2048, .f32⟩
  | .hbm, ⟨45, _⟩ => ⟨S17408x2048, .f32⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== MemQ.lean ====
abbrev S17408x2048 : Shape := ⟨2, ![17408, 2048]⟩
abbrev S2x2048x512 : Shape := ⟨3, ![2, 2048, 512]⟩
abbrev S1x2048x512 : Shape := ⟨3, ![1, 2048, 512]⟩
abbrev S2048x512 : Shape := ⟨2, ![2048, 512]⟩
abbrev S17408x512 : Shape := ⟨2, ![17408, 512]⟩
abbrev S1024x2048 : Shape := ⟨2, ![1024, 2048]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S17408x2048, .f32⟩
  | .hbm, ⟨1, _⟩ => ⟨S2x2048x512, .f32⟩
  | .hbm, ⟨2, _⟩ => ⟨S1x2048x512, .f32⟩
  | .hbm, ⟨3, _⟩ => ⟨S2048x512, .f32⟩
  | .hbm, ⟨4, _⟩ => ⟨S2048x512, .bf16⟩
  | .hbm, ⟨5, _⟩ => ⟨S17408x512, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemQRefIdeal.lean ====
abbrev S17408x2048 : Shape := ⟨2, ![17408, 2048]⟩
abbrev S2x2048x512 : Shape := ⟨3, ![2, 2048, 512]⟩
abbrev S1x2048x512 : Shape := ⟨3, ![1, 2048, 512]⟩
abbrev S2048x512 : Shape := ⟨2, ![2048, 512]⟩
abbrev S17408x512 : Shape := ⟨2, ![17408, 512]⟩

abbrev nBuf : Space → Nat
  | .hbm => 6
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2x2048x512, .f32⟩
  | .hbm, ⟨2, _⟩ => ⟨S1x2048x512, .f32⟩
  | .hbm, ⟨3, _⟩ => ⟨S2048x512, .f32⟩
  | .hbm, ⟨4, _⟩ => ⟨S17408x512, .f32⟩
  | .hbm, ⟨5, _⟩ => ⟨S17408x512, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LastP.lean ====
abbrev S17408x2048 : Shape := ⟨2, ![17408, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S2x3x2048, .f32⟩
  | .hbm, ⟨3, _⟩ => ⟨S2x3x2048, .f32⟩
  | .hbm, ⟨4, _⟩ => ⟨S1x1x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastPRefIdeal.lean ====
abbrev S17408x2048 : Shape := ⟨2, ![17408, 2048]⟩
abbrev S2x3x2048 : Shape := ⟨3, ![2, 3, 2048]⟩
abbrev S16384x2048 : Shape := ⟨2, ![16384, 2048]⟩
abbrev S_ : Shape := ⟨0, ![]⟩
abbrev S1x1x2048 : Shape := ⟨3, ![1, 1, 2048]⟩
abbrev S2048 : Shape := ⟨1, ![2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S2x3x2048, .f32⟩
  | .hbm, ⟨3, _⟩ => ⟨S2x3x2048, .f32⟩
  | .hbm, ⟨4, _⟩ => ⟨S16384x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== LastS.lean ====
abbrev S17408x2048 : Shape := ⟨2, ![17408, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S2x3x2048, .f32⟩
  | .hbm, ⟨3, _⟩ => ⟨S2x3x2048, .f32⟩
  | .hbm, ⟨4, _⟩ => ⟨S1x1x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastSRefIdeal.lean ====
abbrev S17408x2048 : Shape := ⟨2, ![17408, 2048]⟩
abbrev S2x3x2048 : Shape := ⟨3, ![2, 3, 2048]⟩
abbrev S1024x2048 : Shape := ⟨2, ![1024, 2048]⟩
abbrev S_ : Shape := ⟨0, ![]⟩
abbrev S1x1x2048 : Shape := ⟨3, ![1, 1, 2048]⟩
abbrev S2048 : Shape := ⟨1, ![2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S2x3x2048, .f32⟩
  | .hbm, ⟨3, _⟩ => ⟨S2x3x2048, .f32⟩
  | .hbm, ⟨4, _⟩ => ⟨S1024x2048, .f32⟩
  | .hbm, ⟨5, _⟩ => ⟨S_, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x1, .f32⟩
  | .hbm, ⟨35, _⟩ => ⟨S1024x2048, .f32⟩
  | .hbm, ⟨36, _⟩ => ⟨S1024x2048, .f32⟩
  | .hbm, ⟨37, _⟩ => ⟨S1x2048, .f32⟩
  | .hbm, ⟨38, _⟩ => ⟨S1024x2048, .f32⟩
  | .hbm, ⟨39, _⟩ => ⟨S1024x2048, .f32⟩
  | .hbm, ⟨40, _⟩ => ⟨S1x2048, .f32⟩
  | .hbm, ⟨41, _⟩ => ⟨S1024x2048, .f32⟩
  | .hbm, ⟨42, _⟩ => ⟨S1024x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== FoxP.lean ====
abbrev S17408x2048 : Shape := ⟨2, ![17408, 2048]⟩
abbrev S1x2048x6144 : Shape := ⟨3, ![1, 2048, 6144]⟩
abbrev S1x2048x16 : Shape := ⟨3, ![1, 2048, 16]⟩
abbrev S1x16 : Shape := ⟨2, ![1, 16]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S16 : Shape := ⟨1, ![16]⟩
abbrev S128 : Shape := ⟨1, ![128]⟩
abbrev S1x128 : Shape := ⟨2, ![1, 128]⟩
abbrev S16384x2048 : Shape := ⟨2, ![16384, 2048]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S16384x16 : Shape := ⟨2, ![16384, 16]⟩

abbrev nBuf : Space → Nat
  | .hbm => 21
  | .vmem => 18
  | .smem => 0
  | _ => 0

abbrev bufTy : (tb : Table) → Fin (tcTables nBuf tb) → BufTy
  | .hbm, ⟨0, _⟩ => ⟨S17408x2048, .f32⟩
  | .hbm, ⟨1, _⟩ => ⟨S1x2048x6144, .f32⟩
  | .hbm, ⟨2, _⟩ => ⟨S1x2048x16, .f32⟩
  | .hbm, ⟨3, _⟩ => ⟨S1x16, .f32⟩
  | .hbm, ⟨4, _⟩ => ⟨S2048x6144, .f32⟩
  | .hbm, ⟨5, _⟩ => ⟨S2048x6144, .bf16⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S16384x2048, .bf16⟩
  | .hbm, ⟨17, _⟩ => ⟨S16384x2048, .f32⟩
  | .hbm, ⟨18, _⟩ => ⟨S16384x2048, .f32⟩
  | .hbm, ⟨19, _⟩ => ⟨S16384x128, .f32⟩
  | .hbm, ⟨20, _⟩ => ⟨S16384x16, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .bf16⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x128, .f32⟩
  | .local _ .vmem, ⟨17, _⟩ => ⟨S1024x128, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_15 : BitVec 32 := 0#32
  let v17 : BitVec 1 := Scalar.cmpi .ne v16 c0_i32_15
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FoxPRefIdeal.lean ====
abbrev S17408x2048 : Shape := ⟨2, ![17408, 2048]⟩
abbrev S1x2048x6144 : Shape := ⟨3, ![1, 2048, 6144]⟩
abbrev S1x2048x16 : Shape := ⟨3, ![1, 2048, 16]⟩
abbrev S1x16 : Shape := ⟨2, ![1, 16]⟩
abbrev S16384x2048 : Shape := ⟨2, ![16384, 2048]⟩
abbrev S8x2048x2048 : Shape := ⟨3, ![8, 2048, 2048]⟩
abbrev S2048x6144 : Shape := ⟨2, ![2048, 6144]⟩
abbrev S2048x16 : Shape := ⟨2, ![2048, 16]⟩
abbrev S16 : Shape := ⟨1, ![16]⟩
abbrev S8x2048x6144 : Shape := ⟨3, ![8, 2048, 6144]⟩
abbrev S8x2048x16 : Shape := ⟨3, ![8, 2048, 16]⟩
abbrev S1x1x16 : Shape := ⟨3, ![1, 1, 16]⟩
abbrev S_ : Shape := ⟨0, ![]⟩
abbrev S16384x6144 : Shape := ⟨2, ![16384, 6144]⟩
abbrev S16384x16 : Shape := ⟨2, ![16384, 16]⟩

abbrev nBuf : Space → Nat
  | .hbm => 36
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S1x2048x6144, .f32⟩
  | .hbm, ⟨2, _⟩ => ⟨S1x2048x16, .f32⟩
  | .hbm, ⟨3, _⟩ => ⟨S1x16, .f32⟩
  | .hbm, ⟨4, _⟩ => ⟨S16384x2048, .f32⟩
  | .hbm, ⟨5, _⟩ => ⟨S8x2048x2048, .f32⟩
  | .hbm, ⟨6, _⟩ => ⟨S2048x6144, .f32⟩
  | .hbm, ⟨7, _⟩ => ⟨S2048x16, .f32⟩
  | .hbm, ⟨8, _⟩ => ⟨S16, .f32⟩
  | .hbm, ⟨9, _⟩ => ⟨S8x2048x6144, .f32⟩
  | .hbm, ⟨10, _⟩ => ⟨S8x2048x16, .f32⟩
  | .hbm, ⟨11, _⟩ => ⟨S1x1x16, .f32⟩
  | .hbm, ⟨12, _⟩ => ⟨S8x2048x16, .f32⟩
  | .hbm, ⟨13, _⟩ => ⟨S8x2048x16, .f32⟩
  | .hbm, ⟨14, _⟩ => ⟨S8x2048x16, .f32⟩
  | .hbm, ⟨15, _⟩ => ⟨S_, .f32⟩
  | .hbm, ⟨16, _⟩ => ⟨S8x2048x16, .f32⟩
  | .hbm, ⟨17, _⟩ => ⟨S8x2048x16, .f32⟩
  | .hbm, ⟨18, _⟩ => ⟨S8x2048x16, .f32⟩
  | .hbm, ⟨19, _⟩ => ⟨S8x2048x16, .f32⟩
  | .hbm, ⟨20, _⟩ => ⟨S8x2048x16, .i1⟩
  | .hbm, ⟨21, _⟩ => ⟨S8x2048x16, .f32⟩
  | .hbm, ⟨22, _⟩ => ⟨S8x2048x16, .f32⟩
  | .hbm, ⟨23, _⟩ => ⟨S8x2048x16, .f32⟩
  | .hbm, ⟨24, _⟩ => ⟨S8x2048x16, .f32⟩
  | .hbm, ⟨25, _⟩ => ⟨S8x2048x16, .f32⟩
  | .hbm, ⟨26, _⟩ => ⟨S8x2048x16, .f32⟩
  | .hbm, ⟨27, _⟩ => ⟨S8x2048x16, .f32⟩
  | .hbm, ⟨28, _⟩ => ⟨S8x2048x16, .f32⟩
  | .hbm, ⟨29, _⟩ => ⟨S8x2048x16, .f32⟩
  | .hbm, ⟨30, _⟩ => ⟨S16384x6144, .f32⟩
  | .hbm, ⟨31, _⟩ => ⟨S16384x2048, .f32⟩
  | .hbm, ⟨32, _⟩ => ⟨S16384x2048, .bf16⟩
  | .hbm, ⟨33, _⟩ => ⟨S16384x2048, .f32⟩
  | .hbm, ⟨34, _⟩ => ⟨S16384x2048, .f32⟩
  | .hbm, ⟨35, _⟩ => ⟨S16384x16, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== FoxS.lean ====
abbrev S17408x2048 : Shape := ⟨2, ![17408, 2048]⟩
abbrev S1x2048x6144 : Shape := ⟨3, ![1, 2048, 6144]⟩
abbrev S1x2048x16 : Shape := ⟨3, ![1, 2048, 16]⟩
abbrev S1x16 : Shape := ⟨2, ![1, 16]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S16 : Shape := ⟨1, ![16]⟩
abbrev S128 : Shape := ⟨1, ![128]⟩
abbrev S1x128 : Shape := ⟨2, ![1, 128]⟩
abbrev S1024x2048 : Shape := ⟨2, ![1024, 2048]⟩
abbrev S1024x128 : Shape := ⟨2, ![1024, 128]⟩
abbrev S2048x512 : Shape := ⟨2, ![2048, 512]⟩
abbrev S1024x512 : Shape := ⟨2, ![1024, 512]⟩
abbrev S1024x16 : Shape := ⟨2, ![1024, 16]⟩

abbrev nBuf : Space → Nat
  | .hbm => 21
  | .vmem => 16
  | .smem => 0
  | _ => 0

abbrev bufTy : (tb : Table) → Fin (tcTables nBuf tb) → BufTy
  | .hbm, ⟨0, _⟩ => ⟨S17408x2048, .f32⟩
  | .hbm, ⟨1, _⟩ => ⟨S1x2048x6144, .f32⟩
  | .hbm, ⟨2, _⟩ => ⟨S1x2048x16, .f32⟩
  | .hbm, ⟨3, _⟩ => ⟨S1x16, .f32⟩
  | .hbm, ⟨4, _⟩ => ⟨S2048x6144, .f32⟩
  | .hbm, ⟨5, _⟩ => ⟨S2048x6144, .bf16⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S1024x2048, .bf16⟩
  | .hbm, ⟨17, _⟩ => ⟨S1024x2048, .f32⟩
  | .hbm, ⟨18, _⟩ => ⟨S1024x2048, .f32⟩
  | .hbm, ⟨19, _⟩ => ⟨S1024x128, .f32⟩
  | .hbm, ⟨20, _⟩ => ⟨S1024x16, .f32⟩
  | .local _ .vmem, ⟨0, _⟩ => ⟨S1024x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x128, .bf16⟩
  | .local _ .vmem, ⟨8, _⟩ => ⟨S1x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x128, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_15 : BitVec 32 := 0#32
  let v17 : BitVec 1 := Scalar.cmpi .ne v16 c0_i32_15
  v17

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== FoxSRefIdeal.lean ====
abbrev S17408x2048 : Shape := ⟨2, ![17408, 2048]⟩
abbrev S1x2048x6144 : Shape := ⟨3, ![1, 2048, 6144]⟩
abbrev S1x2048x16 : Shape := ⟨3, ![1, 2048, 16]⟩
abbrev S1x16 : Shape := ⟨2, ![1, 16]⟩
abbrev S1024x2048 : Shape := ⟨2, ![1024, 2048]⟩
abbrev S32x32x2048 : Shape := ⟨3, ![32, 32, 2048]⟩
abbrev S2048x6144 : Shape := ⟨2, ![2048, 6144]⟩
abbrev S2048x16 : Shape := ⟨2, ![2048, 16]⟩
abbrev S16 : Shape := ⟨1, ![16]⟩
abbrev S32x32x6144 : Shape := ⟨3, ![32, 32, 6144]⟩
abbrev S32x32x16 : Shape := ⟨3, ![32, 32, 16]⟩
abbrev S1x1x16 : Shape := ⟨3, ![1, 1, 16]⟩
abbrev S_ : Shape := ⟨0, ![]⟩
abbrev S1024x6144 : Shape := ⟨2, ![1024, 6144]⟩
abbrev S1024x16 : Shape := ⟨2, ![1024, 16]⟩

abbrev nBuf : Space → Nat
  | .hbm => 36
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S1x2048x6144, .f32⟩
  | .hbm, ⟨2, _⟩ => ⟨S1x2048x16, .f32⟩
  | .hbm, ⟨3, _⟩ => ⟨S1x16, .f32⟩
  | .hbm, ⟨4, _⟩ => ⟨S1024x2048, .f32⟩
  | .hbm, ⟨5, _⟩ => ⟨S32x32x2048, .f32⟩
  | .hbm, ⟨6, _⟩ => ⟨S2048x6144, .f32⟩
  | .hbm, ⟨7, _⟩ => ⟨S2048x16, .f32⟩
  | .hbm, ⟨8, _⟩ => ⟨S16, .f32⟩
  | .hbm, ⟨9, _⟩ => ⟨S32x32x6144, .f32⟩
  | .hbm, ⟨10, _⟩ => ⟨S32x32x16, .f32⟩
  | .hbm, ⟨11, _⟩ => ⟨S1x1x16, .f32⟩
  | .hbm, ⟨12, _⟩ => ⟨S32x32x16, .f32⟩
  | .hbm, ⟨13, _⟩ => ⟨S32x32x16, .f32⟩
  | .hbm, ⟨14, _⟩ => ⟨S32x32x16, .f32⟩
  | .hbm, ⟨15, _⟩ => ⟨S_, .f32⟩
  | .hbm, ⟨16, _⟩ => ⟨S32x32x16, .f32⟩
  | .hbm, ⟨17, _⟩ => ⟨S32x32x16, .f32⟩
  | .hbm, ⟨18, _⟩ => ⟨S32x32x16, .f32⟩
  | .hbm, ⟨19, _⟩ => ⟨S32x32x16, .f32⟩
  | .hbm, ⟨20, _⟩ => ⟨S32x32x16, .i1⟩
  | .hbm, ⟨21, _⟩ => ⟨S32x32x16, .f32⟩
  | .hbm, ⟨22, _⟩ => ⟨S32x32x16, .f32⟩
  | .hbm, ⟨23, _⟩ => ⟨S32x32x16, .f32⟩
  | .hbm, ⟨24, _⟩ => ⟨S32x32x16, .f32⟩
  | .hbm, ⟨25, _⟩ => ⟨S32x32x16, .f32⟩
  | .hbm, ⟨26, _⟩ => ⟨S32x32x16, .f32⟩
  | .hbm, ⟨27, _⟩ => ⟨S32x32x16, .f32⟩
  | .hbm, ⟨28, _⟩ => ⟨S32x32x16, .f32⟩
  | .hbm, ⟨29, _⟩ => ⟨S32x32x16, .f32⟩
  | .hbm, ⟨30, _⟩ => ⟨S1024x6144, .f32⟩
  | .hbm, ⟨31, _⟩ => ⟨S1024x2048, .f32⟩
  | .hbm, ⟨32, _⟩ => ⟨S1024x2048, .bf16⟩
  | .hbm, ⟨33, _⟩ => ⟨S1024x2048, .f32⟩
  | .hbm, ⟨34, _⟩ => ⟨S1024x2048, .f32⟩
  | .hbm, ⟨35, _⟩ => ⟨S1024x16, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== FoxA.lean ====
abbrev S16384x2048 : Shape := ⟨2, ![16384, 2048]⟩
abbrev S8x2048x16 : Shape := ⟨3, ![8, 2048, 16]⟩
abbrev S16384x16 : Shape := ⟨2, ![16384, 16]⟩
abbrev S8x16x2048 : Shape := ⟨3, ![8, 16, 2048]⟩
abbrev S8x16x4x512 : Shape := ⟨4, ![8, 16, 4, 512]⟩
abbrev S512x128 : Shape := ⟨2, ![512, 128]⟩
abbrev S2048x128 : Shape := ⟨2, ![2048, 128]⟩
abbrev S512x16 : Shape := ⟨2, ![512, 16]⟩
abbrev S1x1x4x512 : Shape := ⟨4, ![1, 1, 4, 512]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S8x2048x16, .f32⟩
  | .hbm, ⟨4, _⟩ => ⟨S16384x16, .f32⟩
  | .hbm, ⟨5, _⟩ => ⟨S8x16x2048, .f32⟩
  | .hbm, ⟨6, _⟩ => ⟨S8x16x4x512, .f32⟩
  | .hbm, ⟨7, _⟩ => ⟨S16384x2048, .bf16⟩
  | .local _ .vmem, ⟨0, _⟩ => ⟨S512x128, .bf16⟩
  | .local _ .vmem, ⟨1, _⟩ => ⟨S512x128, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x16, .f32⟩
  | .local _ .vmem, ⟨7, _⟩ => ⟨S512x16, .f32⟩
  | .local _ .vmem, ⟨8, _⟩ => ⟨S1x1x4x512, .f32⟩
  | .local _ .vmem, ⟨9, _⟩ => ⟨S1x1x4x512, .f32⟩
  | .local _ .vmem, ⟨10, _⟩ => ⟨S512x128, .bf16⟩
  | .local _ .vmem, ⟨11, _⟩ => ⟨S512x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 4], ![false, false, false]⟩

@[reducible] def k0_t1_loop (i : grid0.Coords) : Scf.Loop 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_7 : BitVec 32 := 1#32
  ⟨c0_i32, v17, c1_i32_7⟩
def k0_mult1 (i : grid0.Coords) (k0_t1 : Fin (k0_t1_loop i).trips) : BitVec 32 :=
  let c0_i32 : BitVec 32 := 0#32
  let c1_i32_7 : BitVec 32 := 1#32
  let arg9 : BitVec 32 := Scf.iv c0_i32 c1_i32_7 k0_t1
  let c512_i32_22 : BitVec 32 := 512#32
  let v64 : BitVec 32 := Scalar.muli arg9 c512_i32_22
  v64
def k0_off1 (i : grid0.Coords) (k0_t1 : Fin (k0_t1_loop i).trips) : Fin 2 → Nat :=
  let c0_i32 : BitVec 32 := 0#32
  let c1_i32_7 : BitVec 32 := 1#32
  let arg9 : BitVec 32 := Scf.iv c0_i32 c1_i32_7 k0_t1
  let c512_i32_22 : BitVec 32 := 512#32
  let v64 : BitVec 32 := Scalar.muli arg9 c512_i32_22
  let v65 : BitVec 32 := v64
  let v66 : Index := Scalar.indexCast v65
  let c0_23 : Index := 0#32
  ![v66.toNat, 0]
def k0_off2 (i : grid0.Coords) (k0_t1 : Fin (k0_t1_loop i).trips) : Fin 4 → Nat :=
  let c0_25 : Index := 0#32
  let c0_26 : Index := 0#32
  let c0_i32 : BitVec 32 := 0#32
  let c1_i32_7 : BitVec 32 := 1#32
  let arg9 : BitVec 32 := Scf.iv c0_i32 c1_i32_7 k0_t1
  let v70 : Index := Scalar.indexCast arg9
  let c0_27 : Index := 0#32
  ![0, 0, v70.toNat, 0]
@[reducible] def k0_t2_loop (i : grid0.Coords) : Scf.Loop 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let v14 : BitVec 32 := Scalar.addi c0_i32 v13
  let c1_i32_8 : BitVec 32 := 1#32
  ⟨v17, v14, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_8 : BitVec 32 := 1#32
  let arg9 : BitVec 32 := Scf.iv v17 c1_i32_8 k0_t2
  let c512_i32_22 : BitVec 32 := 512#32
  let v64 : BitVec 32 := Scalar.muli arg9 c512_i32_22
  v64
def k0_off3 (i : grid0.Coords) (k0_t2 : Fin (k0_t2_loop i).trips) : Fin 2 → Nat :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_8 : BitVec 32 := 1#32
  let arg9 : BitVec 32 := Scf.iv v17 c1_i32_8 k0_t2
  let c512_i32_22 : BitVec 32 := 512#32
  let v64 : BitVec 32 := Scalar.muli arg9 c512_i32_22
  let v65 : BitVec 32 := v64
  let v66 : Index := Scalar.indexCast v65
  let c0_23 : Index := 0#32
  ![v66.toNat, 0]
def k0_off4 (i : grid0.Coords) (k0_t2 : Fin (k0_t2_loop i).trips) : Fin 4 → Nat :=
  let c0_25 : Index := 0#32
  let c0_26 : Index := 0#32
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_8 : BitVec 32 := 1#32
  let arg9 : BitVec 32 := Scf.iv v17 c1_i32_8 k0_t2
  let v70 : Index := Scalar.indexCast arg9
  let c0_27 : Index := 0#32
  ![0, 0, v70.toNat, 0]
def k0_mult3 (i : grid0.Coords) : BitVec 32 :=
  let arg2 : BitVec 32 := BitVec.ofNat 32 (i 2).val
  let c512_i32 : BitVec 32 := 512#32
  let v20 : BitVec 32 := Scalar.muli arg2 c512_i32
  v20
def k0_off5 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  let c0_9 : Index := 0#32
  ![v22.toNat, 0]
def k0_off6 (i : grid0.Coords) : Fin 4 → Nat :=
  let c0_11 : Index := 0#32
  let c0_12 : Index := 0#32
  let arg2 : BitVec 32 := BitVec.ofNat 32 (i 2).val
  let v26 : Index := Scalar.indexCast arg2
  let c0_13 : Index := 0#32
  ![0, 0, v26.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxAIdeal.lean ====
variable {F : FTy → Type} [FloatOps F] [Named F]
def κ : String → Option EReal := fun
  | "mask" => some ⊥
  | _ => none
-- ==== FoxARefIdeal.lean ====
abbrev S16384x2048 : Shape := ⟨2, ![16384, 2048]⟩
abbrev S8x2048x16 : Shape := ⟨3, ![8, 2048, 16]⟩
abbrev S2048 : Shape := ⟨1, ![2048]⟩
abbrev S8x2048x16x128 : Shape := ⟨4, ![8, 2048, 16, 128]⟩
abbrev S8x16x2048x2048 : Shape := ⟨4, ![8, 16, 2048, 2048]⟩
abbrev S_ : Shape := ⟨0, ![]⟩
abbrev S8x16x2048 : Shape := ⟨3, ![8, 16, 2048]⟩
abbrev S8x16x2048x1 : Shape := ⟨4, ![8, 16, 2048, 1]⟩
abbrev S8x16x1x2048 : Shape := ⟨4, ![8, 16, 1, 2048]⟩
abbrev S2048x1 : Shape := ⟨2, ![2048, 1]⟩
abbrev S1x2048 : Shape := ⟨2, ![1, 2048]⟩
abbrev S2048x2048 : Shape := ⟨2, ![2048, 2048]⟩
abbrev S8x16x128x2048 : Shape := ⟨4, ![8, 16, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S8x2048x16, .f32⟩
  | .hbm, ⟨4, _⟩ => ⟨S2048, .i32⟩
  | .hbm, ⟨5, _⟩ => ⟨S16384x2048, .f32⟩
  | .hbm, ⟨6, _⟩ => ⟨S8x2048x16x128, .f32⟩
  | .hbm, ⟨7, _⟩ => ⟨S8x2048x16x128, .f32⟩
  | .hbm, ⟨8, _⟩ => ⟨S8x2048x16x128, .f32⟩
  | .hbm, ⟨9, _⟩ => ⟨S8x16x2048x2048, .f32⟩
  | .hbm, ⟨10, _⟩ => ⟨S_, .f32⟩
  | .hbm, ⟨11, _⟩ => ⟨S8x16x2048x2048, .f32⟩
  | .hbm, ⟨12, _⟩ => ⟨S8x16x2048x2048, .f32⟩
  | .hbm, ⟨13, _⟩ => ⟨S8x16x2048, .f32⟩
  | .hbm, ⟨14, _⟩ => ⟨S8x16x2048x1, .f32⟩
  | .hbm, ⟨15, _⟩ => ⟨S8x16x2048x2048, .f32⟩
  | .hbm, ⟨16, _⟩ => ⟨S8x16x2048x2048, .f32⟩
  | .hbm, ⟨17, _⟩ => ⟨S8x16x2048, .f32⟩
  | .hbm, ⟨18, _⟩ => ⟨S8x16x1x2048, .f32⟩
  | .hbm, ⟨19, _⟩ => ⟨S8x16x2048x2048, .f32⟩
  | .hbm, ⟨20, _⟩ => ⟨S8x16x2048x2048, .f32⟩
  | .hbm, ⟨21, _⟩ => ⟨S2048x1, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x16x2048x2048, .i1⟩
  | .hbm, ⟨29, _⟩ => ⟨S8x16x2048x2048, .f32⟩
  | .hbm, ⟨30, _⟩ => ⟨S8x16x2048x2048, .f32⟩
  | .hbm, ⟨31, _⟩ => ⟨S_, .f32⟩
  | .hbm, ⟨32, _⟩ => ⟨S8x16x2048, .f32⟩
  | .hbm, ⟨33, _⟩ => ⟨S_, .f32⟩
  | .hbm, ⟨34, _⟩ => ⟨S8x16x2048, .f32⟩
  | .hbm, ⟨35, _⟩ => ⟨S8x16x2048, .f32⟩
  | .hbm, ⟨36, _⟩ => ⟨S8x16x2048x1, .f32⟩
  | .hbm, ⟨37, _⟩ => ⟨S8x16x2048x2048, .f32⟩
  | .hbm, ⟨38, _⟩ => ⟨S8x16x2048x2048, .f32⟩
  | .hbm, ⟨39, _⟩ => ⟨S8x16x2048x2048, .f32⟩
  | .hbm, ⟨40, _⟩ => ⟨S_, .f32⟩
  | .hbm, ⟨41, _⟩ => ⟨S8x16x2048, .f32⟩
  | .hbm, ⟨42, _⟩ => ⟨S8x16x2048x1, .f32⟩
  | .hbm, ⟨43, _⟩ => ⟨S8x16x2048x2048, .f32⟩
  | .hbm, ⟨44, _⟩ => ⟨S8x16x2048x2048, .f32⟩
  | .hbm, ⟨45, _⟩ => ⟨S8x16x128x2048, .f32⟩
  | .hbm, ⟨46, _⟩ => ⟨S8x2048x16x128, .f32⟩
  | .hbm, ⟨47, _⟩ => ⟨S16384x2048, .f32⟩
  | .hbm, ⟨48, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.KvValue.lean ====
/- The cross attention's keys and values, one product for both layers: the array the call leaves is the reference's two products laid side by side. -/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Claim

@[expose] public section

set_option maxRecDepth 16384

noncomputable section

namespace Cert.MemKvIdeal.Value

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)

/-- The weights the region finds: the two layers' weights laid side by side, rounded. -/
def WREF (W : FVec Ideal S2x2048x1024 .f32) : FVec Ideal S2048x2048 .bf16 :=
  truncf .bf16 (concatenate S2048x2048 1
    [⟨S2048x1024, (shapeCast _ (extractStridedSlice S1x2048x1024 ![0, 0, 0] W slices_S2x2048x1024_S1x2048x1024_0_0_0) shapeCasts_S1x2048x1024_S2048x1024 : FVec Ideal S2048x1024 .f32)⟩,
     ⟨S2048x1024, (shapeCast _ (extractStridedSlice S1x2048x1024 ![1, 0, 0] W slices_S2x2048x1024_S1x2048x1024_1_0_0) shapeCasts_S1x2048x1024_S2048x1024 : FVec Ideal S2048x1024 .f32)⟩]
    concatenates_S2048x1024_S2048x1024_S2048x2048_d1) bitsLt_bf16_f32

theorem V_w (c : Dev nD) : V m c main_v5 = WREF (m ((c : Thread nD τ).loc main_arg1)) := by
  show StableHlo.after hostOps0 _ _ = _
  after_results_simp <;> rfl

/-- The reference's array, as a function of the memory tokens and the layers' weights. -/
abbrev REF (X : FVec Ideal S8x256x2048 .f32) (W : FVec Ideal S2x2048x1024 .f32) : FVec Ideal Cert.MemKvRefIdeal.S2048x2048 .f32 :=
  shapeCast _ (concatenate Cert.MemKvRefIdeal.S8x256x2048 2
    [⟨Cert.MemKvRefIdeal.S8x256x1024, (Host.dotGeneral Cert.MemKvRefIdeal.dot_S8x256x2048_S2048x1024_S8x256x1024_2_0_01_1_n_n none X
        (shapeCast _ (extractStridedSlice Cert.MemKvRefIdeal.S1x2048x1024 ![0, 0, 0] W Cert.MemKvRefIdeal.Gen.slices_S2x2048x1024_S1x2048x1024_0_0_0) Cert.MemKvRefIdeal.Gen.shapeCasts_S1x2048x1024_S2048x1024 : FVec Ideal Cert.MemKvRefIdeal.S2048x1024 .f32) : FVec Ideal Cert.MemKvRefIdeal.S8x256x1024 .f32)⟩,
     ⟨Cert.MemKvRefIdeal.S8x256x1024, (Host.dotGeneral Cert.MemKvRefIdeal.dot_S8x256x2048_S2048x1024_S8x256x1024_2_0_01_1_n_n none X
        (shapeCast _ (extractStridedSlice Cert.MemKvRefIdeal.S1x2048x1024 ![1, 0, 0] W Cert.MemKvRefIdeal.Gen.slices_S2x2048x1024_S1x2048x1024_1_0_0) Cert.MemKvRefIdeal.Gen.shapeCasts_S1x2048x1024_S2048x1024 : FVec Ideal Cert.MemKvRefIdeal.S2048x1024 .f32) : FVec Ideal Cert.MemKvRefIdeal.S8x256x1024 .f32)⟩]
    Cert.MemKvRefIdeal.Gen.concatenates_S8x256x1024_S8x256x1024_S8x256x2048_d2) Cert.MemKvRefIdeal.Gen.shapeCasts_S8x256x2048_S2048x2048

theorem idx : ∀ t : Fin cfg0.N, win0_0.index t = ![t.val / 2, 0] ∧ win0_1.index t = ![0, t.val % 2] ∧ win0_2.index t = ![t.val / 2, t.val % 2] ∧ t.val / 2 < 2 :=
  (by decide +kernel : ∀ t : Fin grid0.N, _)

/-- The tokens as the region finds them, one row each. -/
def XREF (X : FVec Ideal S8x256x2048 .f32) : FVec Ideal S2048x2048 .f32 := shapeCast _ X shapeCasts_S8x256x2048_S2048x2048

theorem V_x (c : Dev nD) : V m c main_v6 = XREF (m ((c : Thread nD τ).loc main_arg0)) := by
  show StableHlo.after hostOps0 _ _ = _
  after_results_simp <;> rfl

/-- Index by index, the product of the tokens' rows with the joined weights is the reference. -/
theorem core (X : FVec Ideal S8x256x2048 .f32) (W : FVec Ideal S2x2048x1024 .f32) (j : S2048x2048.Idx) :
    ∑ x : Fin 2048, XREF X (ix2 (j 0) x) * WREF W (ix2 x (j 1)) = REF X W j := by
  pointwise [REF, WREF, XREF]
  split <;> rfl

/-- What a grid point stores at its block's index is the reference at the array's index. -/
theorem point (c : Dev nD) (t : Fin cfg0.N) (y) : k0_pay1 (iblk m c 0 t) (iblk m c 1 t) y =
    REF (m ((c : Thread nD τ).loc main_arg0)) (m ((c : Thread nD τ).loc main_arg1)) (((cfg0.win 2).blk t).view.emb y) := by
  refine Eq.trans ?_ (core _ _ _)
  pointwise [k0_pay1]
  blk_simp [iblk]
  rw [V_w, V_x]
  refine Fin.sum_fin_congr fun x => ?_
  congr 2 <;> blk_ext [idx t]

/-- The array after the run is the reference. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MemKvIdeal.Value

end
-- ==== Proof.ProjValue.lean ====
/- The projections of the recurrence: the array the call leaves is the reference's two products (prompt and sample) one below the other. -/
module

public import proofs.«01_k».proof.Proof.Gen.ProjIdeal.Value
public import proofs.«01_k».proof.Proof.Gen.ProjRefIdeal.Run
public import Idealize.ShloMosaic.Lib.Pipeline.ValueKit
public import Idealize.ShloMosaic.Lib.Claim

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The weights the region finds: the layer's weights, rounded. -/
def WREF (W : FVec Ideal S1x2048x8192 .f32) : FVec Ideal S2048x8192 .bf16 :=
  truncf .bf16 (shapeCast _ W shapeCasts_S1x2048x8192_S2048x8192 : FVec Ideal S2048x8192 .f32) bitsLt_bf16_f32

/-- The tokens as the region finds them, one row each, the prompt's first. -/
def XREF (X : FVec Ideal S8x2048x2048 .f32) (Y : FVec Ideal S32x32x2048 .f32) : FVec Ideal S17408x2048 .f32 :=
  concatenate S17408x2048 0 [⟨S16384x2048, (shapeCast _ X shapeCasts_S8x2048x2048_S16384x2048 : FVec Ideal S16384x2048 .f32)⟩, ⟨S1024x2048, (shapeCast _ Y shapeCasts_S32x32x2048_S1024x2048 : FVec Ideal S1024x2048 .f32)⟩]
    concatenates_S16384x2048_S1024x2048_S17408x2048_d0

theorem V_w (c : Dev nD) : V m c main_v4 = WREF (m ((c : Thread nD τ).loc main_arg2)) := by
  show StableHlo.after hostOps0 _ _ = _
  after_results_simp <;> rfl

theorem V_x (c : Dev nD) : V m c main_v2 = XREF (m ((c : Thread nD τ).loc main_arg0)) (m ((c : Thread nD τ).loc main_arg1)) := by
  show StableHlo.after hostOps0 _ _ = _
  after_results_simp <;> rfl

/-- The reference's array, as a function of the tokens and the layer's weights. -/
abbrev REF (X : FVec Ideal S8x2048x2048 .f32) (Y : FVec Ideal S32x32x2048 .f32) (W : FVec Ideal S1x2048x8192 .f32) : FVec Ideal Cert.ProjRefIdeal.S17408x8192 .f32 :=
  concatenate Cert.ProjRefIdeal.S17408x8192 0
    [⟨Cert.ProjRefIdeal.S16384x8192, (shapeCast _ (Host.dotGeneral Cert.ProjRefIdeal.dot_S8x2048x2048_S2048x8192_S8x2048x8192_2_0_01_1_n_n none X
        (shapeCast _ W Cert.ProjRefIdeal.Gen.shapeCasts_S1x2048x8192_S2048x8192 : FVec Ideal Cert.ProjRefIdeal.S2048x8192 .f32) : FVec Ideal Cert.ProjRefIdeal.S8x2048x8192 .f32) Cert.ProjRefIdeal.Gen.shapeCasts_S8x2048x8192_S16384x8192 : FVec Ideal Cert.ProjRefIdeal.S16384x8192 .f32)⟩,
     ⟨Cert.ProjRefIdeal.S1024x8192, (shapeCast _ (Host.dotGeneral Cert.ProjRefIdeal.dot_S32x32x2048_S2048x8192_S32x32x8192_2_0_01_1_n_n none Y
        (shapeCast _ W Cert.ProjRefIdeal.Gen.shapeCasts_S1x2048x8192_S2048x8192 : FVec Ideal Cert.ProjRefIdeal.S2048x8192 .f32) : FVec Ideal Cert.ProjRefIdeal.S32x32x8192 .f32) Cert.ProjRefIdeal.Gen.shapeCasts_S32x32x8192_S1024x8192 : FVec Ideal Cert.ProjRefIdeal.S1024x8192 .f32)⟩]
    Cert.ProjRefIdeal.Gen.concatenates_S16384x8192_S1024x8192_S17408x8192_d0

theorem idx : ∀ t : Fin cfg0.N, win0_0.index t = ![t.val / 8, 0] ∧ win0_1.index t = ![0, t.val % 8] ∧ win0_2.index t = ![t.val / 8, t.val % 8] ∧ t.val / 8 < 17 :=
  (by decide +kernel : ∀ t : Fin grid0.N, _)

/-- Index by index, the product of the tokens' rows with the weights is the reference. -/
theorem core (X : FVec Ideal S8x2048x2048 .f32) (Y : FVec Ideal S32x32x2048 .f32) (W : FVec Ideal S1x2048x8192 .f32) (j : S17408x8192.Idx) :
    ∑ x : Fin 2048, XREF X Y (ix2 (j 0) x) * WREF W (ix2 x (j 1)) = REF X Y W j := by
  pointwise [REF, WREF, XREF]
  split <;> rfl

/-- What a grid point stores at its block's index is the reference at the array's index. -/
theorem point (c : Dev nD) (t : Fin cfg0.N) (y) : k0_pay1 (iblk m c 0 t) (iblk m c 1 t) y =
    REF (m ((c : Thread nD τ).loc main_arg0)) (m ((c : Thread nD τ).loc main_arg1)) (m ((c : Thread nD τ).loc main_arg2)) (((cfg0.win 2).blk t).view.emb y) := by
  refine Eq.trans ?_ (core _ _ _ _)
  pointwise [k0_pay1]
  blk_simp [iblk]
  rw [V_w, V_x]
  refine Fin.sum_fin_congr fun x => ?_
  congr 2 <;> blk_ext [idx t]

/-- The array after the run is the reference. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.ProjIdeal.Value

end
-- ==== Proof.Cumsum.lean ====
/- A running sum along the second of four axes, read at an index; and the comparison mask of a triangular product, as a choice. -/
module

public import Idealize.ShloMosaic.Lib.Pipeline.ValueKit
public import Idealize.ShloMosaic.Lib.Claim

@[expose] public section

set_option maxRecDepth 16384

noncomputable section

namespace Cert.Recur

open Idealize.ShloMosaic Idealize.ShloMosaic.TcCoe

/-- The window of a running sum over 32 rows. -/
abbrev Win : Shape := ⟨4, ![1, 32, 1, 1]⟩

theorem win_numel : Win.numel = 32 := by decide +kernel

theorem win_symm : ∀ n : Fin Win.numel, ((Win.rowMajor.symm n) 0).val = 0 ∧ ((Win.rowMajor.symm n) 1).val = n.val
    ∧ ((Win.rowMajor.symm n) 2).val = 0 ∧ ((Win.rowMajor.symm n) 3).val = 0 := by decide +kernel

theorem foldl_add {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- Row `l` of the running sum is the sum of the rows up to and including `l`. -/
theorem cumsum {A H K : ℕ} {u : Shape} (x : FVec Ideal ⟨4, ![A, 32, H, K]⟩ .f32) (init : u.Idx → Ideal .f32) (h) (hu)
    (hinit : init (Shape.Idx.first hu) = (0 : EReal)) (a : Fin A) (l : Fin 32) (b : Fin H) (k : Fin K) :
    (Host.reduceWindowAdd (F := Ideal) (s := ⟨4, ![A, 32, H, K]⟩) (t := ⟨4, ![A, 32, H, K]⟩) ![1, 32, 1, 1] ![1, 1, 1, 1] ![0, 31, 0, 0] ![0, 0, 0, 0] x init h hu (ix4 a l b k) : EReal)
      = ∑ s : Fin 32, if s ≤ l then x (ix4 a s b k) else 0 := by
  show Host.reduceWindow (· + ·) _ _ _ _ x (fun _ : (⟨0, ![]⟩ : Shape).Idx => init (Shape.Idx.first hu)) h (by decide) (ix4 a l b k) = _
  rw [hinit]
  unfold Host.reduceWindow
  dsimp only
  rw [foldl_add, zero_add, ← Fin.sum_univ_def]
  refine Fintype.sum_equiv ((finCongr win_numel).trans (Equiv.addRight (l + 1))) _ _ fun n => ?_
  obtain ⟨w0, w1, w2, w3⟩ := win_symm n
  have hn : n.val < 32 := lt_of_lt_of_eq n.isLt win_numel
  have hs : (((finCongr win_numel).trans (Equiv.addRight (l + 1))) n : Fin 32).val = (n.val + (l.val + 1)) % 32 := by
    show ((n.cast win_numel + (l + 1) : Fin 32)).val = _
    rw [Fin.val_add, Fin.val_add]; simp
  generalize ((finCongr win_numel).trans (Equiv.addRight (l + 1))) n = s at hs
  by_cases hc : 31 ≤ l.val + n.val
  · have e : s.val = l.val + n.val - 31 := by omega
    rw [if_pos (Fin.le_def.2 (by omega)), dif_pos ?_]
    · refine congrArg x (funext fun q => Fin.ext ?_)
      match q with
      | ⟨0, _⟩ => show a.val * 1 + ((Win.rowMajor.symm n) 0).val - 0 = a.val; omega
      | ⟨1, _⟩ => show l.val * 1 + ((Win.rowMajor.symm n) 1).val - 31 = s.val; omega
      | ⟨2, _⟩ => show b.val * 1 + ((Win.rowMajor.symm n) 2).val - 0 = b.val; omega
      | ⟨3, _⟩ => show k.val * 1 + ((Win.rowMajor.symm n) 3).val - 0 = k.val; omega
    · intro q
      match q with
      | ⟨0, _⟩ => show 0 ≤ a.val * 1 + ((Win.rowMajor.symm n) 0).val ∧ a.val * 1 + ((Win.rowMajor.symm n) 0).val - 0 < A; omega
      | ⟨1, _⟩ => show 31 ≤ l.val * 1 + ((Win.rowMajor.symm n) 1).val ∧ l.val * 1 + ((Win.rowMajor.symm n) 1).val - 31 < 32; omega
      | ⟨2, _⟩ => show 0 ≤ b.val * 1 + ((Win.rowMajor.symm n) 2).val ∧ b.val * 1 + ((Win.rowMajor.symm n) 2).val - 0 < H; omega
      | ⟨3, _⟩ => show 0 ≤ k.val * 1 + ((Win.rowMajor.symm n) 3).val ∧ k.val * 1 + ((Win.rowMajor.symm n) 3).val - 0 < K; omega
  · rw [if_neg (fun q => by have := Fin.le_def.1 q; omega), dif_neg ?_]
    intro q
    have := (q 1).1
    change 31 ≤ l.val * 1 + ((Win.rowMajor.symm n) 1).val at this
    omega

/-- A comparison of two rows' numbers, as a factor zero or one, chooses between a value and zero. -/
theorem mask_mul (l x : Fin 32) (a : EReal) :
    (FloatOps.sitofp (F := Ideal) .f32 (BitVec.setWidth 32 (IntOp.cmpi .sge (BitVec.ofNat 32 l.val) (BitVec.ofNat 32 x.val))) : EReal) * a = if x ≤ l then a else 0 := by
  have e : ∀ l x : Fin 32, (BitVec.setWidth 32 (IntOp.cmpi .sge (BitVec.ofNat 32 l.val) (BitVec.ofNat 32 x.val))) = if x ≤ l then 1#32 else 0#32 := by decide +kernel
  rw [e]
  split
  · rw [show (FloatOps.sitofp (F := Ideal) .f32 (1#32) : EReal) = 1 by show (((1#32 : BitVec 32).toInt : ℝ) : EReal) = 1; simp, one_mul]
  · rw [show (FloatOps.sitofp (F := Ideal) .f32 (0#32) : EReal) = 0 by show (((0#32 : BitVec 32).toInt : ℝ) : EReal) = 0; simp, zero_mul]

theorem mask_mul_last (x : Fin 32) (a : EReal) :
    (FloatOps.sitofp (F := Ideal) .f32 (BitVec.setWidth 32 (IntOp.cmpi .sge (31#32) (BitVec.ofNat 32 x.val))) : EReal) * a = if x ≤ (31 : Fin 32) then a else 0 :=
  mask_mul 31 x a

/-- A choice between a value and zero by the comparison of two rows' numbers. -/
theorem mask_select (l x : Fin 32) (a : EReal) :
    Scalar.select (IntOp.cmpi .sge (BitVec.ofNat 32 l.val) (BitVec.ofNat 32 x.val)) a (0 : EReal) = if x ≤ l then a else 0 := by
  have e : ∀ l x : Fin 32, (IntOp.cmpi .sge (BitVec.ofNat 32 l.val) (BitVec.ofNat 32 x.val)) = if x ≤ l then 1#1 else 0#1 := by decide +kernel
  rw [e]
  split <;> rfl

/-- The same choice as a lower triangle of ones spells it. -/
theorem tril_select (l x : Fin 32) (a : EReal) :
    Scalar.select (Scalar.select (IntOp.cmpi .sge (IntOp.addi (BitVec.ofNat 32 l.val) 0#32) (BitVec.ofNat 32 x.val)) 1#1 0#1) a (0 : EReal) = if x ≤ l then a else 0 := by
  have e : ∀ l x : Fin 32, Scalar.select (IntOp.cmpi .sge (IntOp.addi (BitVec.ofNat 32 l.val) 0#32) (BitVec.ofNat 32 x.val)) 1#1 0#1 = if x ≤ l then 1#1 else 0#1 := by decide +kernel
  rw [e]
  split <;> rfl

/-! ## One chunk of the recurrence, at a lane -/

/-- The logistic function. -/
def sig (z : EReal) : EReal := Ideal.div 1 (1 + Ideal.exp (-z))

/-- The forget gate above the lower bound `b`. -/
def forget (b z : EReal) : EReal := b + (1 - b) * sig z

/-- The key, the complement of the forget gate. -/
def key (b z : EReal) : EReal := (1 - b) * sig (-z)

theorem sig_fold (z : EReal) : Ideal.div 1 (1 + Ideal.exp (-z)) = sig z := rfl
theorem forget_fold (b z : EReal) : b + (1 - b) * sig z = forget b z := rfl
theorem key_fold (b z : EReal) : (1 - b) * sig (-z) = key b z := rfl

section
variable (lb : Fin 2048 → EReal) (zq zf zi : Fin 32 → Fin 2048 → EReal)

/-- The logarithms of the forget gates, summed up to row `l`. -/
def cum (l : Fin 32) (n : Fin 2048) : EReal := ∑ x : Fin 32, if x ≤ l then Ideal.log (forget (lb n) (zf x n)) else 0

/-- The state's entry after the chunk, from its entry `s` before: key lane `n`, value lane `p`. -/
def newState (s : EReal) (n p : Fin 2048) : EReal :=
  s * Ideal.exp (cum lb zf 31 n) + ∑ x : Fin 32, key (lb n) (zf x n) * Ideal.exp (cum lb zf 31 n - cum lb zf x n) * zi x p

/-- The query, decayed to row `l`. -/
def query (l : Fin 32) (n : Fin 2048) : EReal := zq l n * sig (zq l n) * Ideal.exp (cum lb zf l n)

/-- The state's new entry, its products the other way round. -/
theorem newState_comm (s : EReal) (n p : Fin 2048) : s * Ideal.exp (cum lb zf 31 n) + ∑ x : Fin 32, zi x p * (key (lb n) (zf x n) * Ideal.exp (cum lb zf 31 n - cum lb zf x n))
    = newState lb zf zi s n p :=
  congrArg _ (Finset.sum_congr rfl fun x _ => mul_comm _ _)

/-- How much row `l` reads of row `s`, over a head's lanes `n`. -/
def score (n : Fin 128 → Fin 2048) (l s : Fin 32) : EReal :=
  if s ≤ l then ∑ k : Fin 128, query lb zq zf l (n k) * (key (lb (n k)) (zf s (n k)) * Ideal.exp (-cum lb zf s (n k))) else 0

/-- What row `l` reads at value lane `p`: from the state before the chunk, `S` along the key lanes, and from the chunk's own rows. -/
def readOut (n : Fin 128 → Fin 2048) (S : Fin 128 → EReal) (l : Fin 32) (p : Fin 2048) : EReal :=
  ∑ k : Fin 128, S k * query lb zq zf l (n k) + ∑ s : Fin 32, zi s p * score lb zq zf n l s

/-- The read-out, its products the other way round. -/
def readOut' (n : Fin 128 → Fin 2048) (S : Fin 128 → EReal) (l : Fin 32) (p : Fin 2048) : EReal :=
  ∑ k : Fin 128, query lb zq zf l (n k) * S k
    + ∑ s : Fin 32, if s ≤ l then (∑ k : Fin 128, query lb zq zf l (n k) * (key (lb (n k)) (zf s (n k)) * Ideal.exp (-cum lb zf s (n k)))) * zi s p else 0

theorem readOut_comm (n : Fin 128 → Fin 2048) (S : Fin 128 → EReal) (l : Fin 32) (p : Fin 2048) :
    readOut' lb zq zf zi n S l p = readOut lb zq zf zi n S l p := by
  refine congrArg₂ (· + ·) (Finset.sum_congr rfl fun k _ => mul_comm _ _) (Finset.sum_congr rfl fun s _ => ?_)
  unfold score
  split
  · exact mul_comm _ _
  · exact (mul_zero _).symm

end

/-- The read-out `o v` normed over its head, scaled and gated. -/
def gated (o : Fin 128 → EReal) (g z : EReal) (v : Fin 128) : EReal :=
  o v * Ideal.rsqrt (Ideal.div (∑ x : Fin 128, o x * o x) (Ideal.ofBits .f32 1124073472#32) + Ideal.ofBits .f32 897988541#32) * g * (z * sig z)

/-- The lane of a head's entry. -/
def lane (h : Fin 16) (k : Fin 128) : Fin 2048 := ⟨h.val * 128 + k.val, by omega⟩

end Cert.Recur

end
-- ==== Proof.HgsRefStages.lean ====
/- The sample reference's two results, in named stages. -/
module

public import proofs.«01_k».proof.Proof.Gen.HgsRefIdeal.Run
public import proofs.«01_k».proof.Proof.Cumsum
public import Idealize.ShloMosaic.Lib.Pipeline.ValueKit
public import Idealize.ShloMosaic.Lib.Claim

@[expose] public section

set_option maxRecDepth 16384

noncomputable section

namespace Cert.HgsRefIdeal.Value

open Cert.HgsRefIdeal Cert.HgsRefIdeal.Gen Idealize.ShloMosaic Idealize.ShloMosaic.TcCoe Idealize.SL.Sem

/-- The lower bounds of the first layer's gates. -/
def LBT (HL : FVec Ideal S2x2048 .f32) : FVec Ideal S2048 .f32 :=
  (shapeCast _ (extractStridedSlice S1x2048 ![0, 0] (Host.reduceWindowAdd ![2, 1] ![1, 1] ![1, 0] ![0, 0] (Host.divf (Host.exp (subf HL (broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf HL (constant S_ .f32 0xFF800000#32) reducesTo_S2x2048_S2048_d0 h_S_)))))) (broadcastInDim S2x2048 ![0, 1] bcast_S1x2048_S2x2048_0_1 (broadcastInDim S1x2048 ![1] bcast_S2048_S1x2048_1 (Host.reduceAdd (Host.exp (subf HL (broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf HL (constant S_ .f32 0xFF800000#32) reducesTo_S2x2048_S2048_d0 h_S_)))))) (constant S_ .f32 0x00000000#32) reducesTo_S2x2048_S2048_d0 h_S_)))) (broadcastInDim S_ ![] bcast_S_S_ (constant S_ .f32 0x00000000#32)) reduceWindows_S2x2048_S2x2048_w2s1p1_0_w1s1p0_0 h_S_) slices_S2x2048_S1x2048_0_0) shapeCasts_S1x2048_S2048)

/-- The sample tokens' projections. -/
def PST (P : FVec Ideal S17408x8192 .f32) : FVec Ideal S32x32x8192 .f32 :=
  (shapeCast _ (extractStridedSlice S1024x8192 ![16384, 0] P slices_S17408x8192_S1024x8192_16384_0) shapeCasts_S1024x8192_S32x32x8192)

/-- The running sums of the logarithms of the forget gates. -/
def BB (LB : FVec Ideal S2048 .f32) (PS : FVec Ideal S32x32x8192 .f32) : FVec Ideal S32x32x16x128 .f32 :=
  (Host.reduceWindowAdd ![1, 32, 1, 1] ![1, 1, 1, 1] ![0, 31, 0, 0] ![0, 0, 0, 0] (shapeCast _ (Host.log (addf (broadcastInDim S32x32x2048 ![0, 1, 2] bcast_S1x1x2048_S32x32x2048_0_1_2 (broadcastInDim S1x1x2048 ![2] bcast_S2048_S1x1x2048_2 LB)) (mulf (broadcastInDim S32x32x2048 ![0, 1, 2] bcast_S1x1x2048_S32x32x2048_0_1_2 (broadcastInDim S1x1x2048 ![2] bcast_S2048_S1x1x2048_2 (subf (broadcastInDim S2048 ![] bcast_S_S2048 (constant S_ .f32 0x3F800000#32)) LB))) (Host.divf (broadcastInDim S32x32x2048 ![] bcast_S_S32x32x2048 (constant S_ .f32 0x3F800000#32)) (addf (broadcastInDim S32x32x2048 ![] bcast_S_S32x32x2048 (constant S_ .f32 0x3F800000#32)) (Host.exp (Host.negf (extractStridedSlice S32x32x2048 ![0, 0, 2048] PS slices_S32x32x8192_S32x32x2048_0_0_2048)))))))) shapeCasts_S32x32x2048_S32x32x16x128) (broadcastInDim S_ ![] bcast_S_S_ (constant S_ .f32 0x00000000#32)) reduceWindows_S32x32x16x128_S32x32x16x128_w1s1p0_0_w32s1p31_0_w1s1p0_0_w1s1p0_0 h_S_)

/-- The keys. -/
def KK (LB : FVec Ideal S2048 .f32) (PS : FVec Ideal S32x32x8192 .f32) : FVec Ideal S32x32x16x128 .f32 :=
  (shapeCast _ (mulf (broadcastInDim S32x32x2048 ![0, 1, 2] bcast_S1x1x2048_S32x32x2048_0_1_2 (broadcastInDim S1x1x2048 ![2] bcast_S2048_S1x1x2048_2 (subf (broadcastInDim S2048 ![] bcast_S_S2048 (constant S_ .f32 0x3F800000#32)) LB))) (Host.divf (broadcastInDim S32x32x2048 ![] bcast_S_S32x32x2048 (constant S_ .f32 0x3F800000#32)) (addf (broadcastInDim S32x32x2048 ![] bcast_S_S32x32x2048 (constant S_ .f32 0x3F800000#32)) (Host.exp (Host.negf (Host.negf (extractStridedSlice S32x32x2048 ![0, 0, 2048] PS slices_S32x32x8192_S32x32x2048_0_0_2048))))))) shapeCasts_S32x32x2048_S32x32x16x128)

/-- The values. -/
def VV (PS : FVec Ideal S32x32x8192 .f32) : FVec Ideal S32x32x16x128 .f32 :=
  (shapeCast _ (extractStridedSlice S32x32x2048 ![0, 0, 4096] PS slices_S32x32x8192_S32x32x2048_0_0_4096) shapeCasts_S32x32x2048_S32x32x16x128)

/-- The queries. -/
def QQ (PS : FVec Ideal S32x32x8192 .f32) : FVec Ideal S32x32x16x128 .f32 :=
  (shapeCast _ (mulf (extractStridedSlice S32x32x2048 ![0, 0, 0] PS slices_S32x32x8192_S32x32x2048_0_0_0) (Host.divf (broadcastInDim S32x32x2048 ![] bcast_S_S32x32x2048 (constant S_ .f32 0x3F800000#32)) (addf (broadcastInDim S32x32x2048 ![] bcast_S_S32x32x2048 (constant S_ .f32 0x3F800000#32)) (Host.exp (Host.negf (extractStridedSlice S32x32x2048 ![0, 0, 0] PS slices_S32x32x8192_S32x32x2048_0_0_0)))))) shapeCasts_S32x32x2048_S32x32x16x128)

/-- The state after the chunk. -/
def ST (LB : FVec Ideal S2048 .f32) (PS : FVec Ideal S32x32x8192 .f32) (S : FVec Ideal S1x32x16x128x128 .f32) : FVec Ideal S32x16x128x128 .f32 :=
  addf (mulf (shapeCast _ S shapeCasts_S1x32x16x128x128_S32x16x128x128) (broadcastInDim S32x16x128x128 ![0, 1, 2, 3] bcast_S32x16x128x1_S32x16x128x128_0_1_2_3 (broadcastInDim S32x16x128x1 ![0, 1, 2] bcast_S32x16x128_S32x16x128x1_0_1_2 (Host.exp (shapeCast _ (extractStridedSlice S32x1x16x128 ![0, 31, 0, 0] (BB LB PS) slices_S32x32x16x128_S32x1x16x128_0_31_0_0) shapeCasts_S32x1x16x128_S32x16x128))))) (Host.dotGeneral dot_S32x32x16x128_S32x32x16x128_S32x16x128x128_1_1_3_3_02_02 none (mulf (KK LB PS) (Host.exp (subf (broadcastInDim S32x32x16x128 ![0, 1, 2, 3] bcast_S32x1x16x128_S32x32x16x128_0_1_2_3 (extractStridedSlice S32x1x16x128 ![0, 31, 0, 0] (BB LB PS) slices_S32x32x16x128_S32x1x16x128_0_31_0_0)) (BB LB PS)))) (VV PS))

/-- What the chunk reads out, before the norm. -/
def OO (LB : FVec Ideal S2048 .f32) (PS : FVec Ideal S32x32x8192 .f32) (S : FVec Ideal S1x32x16x128x128 .f32) : FVec Ideal S32x32x16x128 .f32 :=
  (addf (transpose S32x32x16x128 [0, 3, 1, 2] (Host.dotGeneral dot_S32x16x128x128_S32x32x16x128_S32x16x128x32_2_3_3_1_01_02 none (shapeCast _ S shapeCasts_S1x32x16x128x128_S32x16x128x128) (mulf (QQ PS) (Host.exp (BB LB PS)))) transposes_S32x16x128x32_S32x32x16x128_0_3_1_2) (transpose S32x32x16x128 [0, 3, 1, 2] (Host.dotGeneral dot_S32x32x16x128_S32x16x32x32_S32x16x128x32_1_3_3_2_02_01 none (VV PS) (select (broadcastInDim S32x16x32x32 ![2, 3] bcast_S32x32_S32x16x32x32_2_3 (select (cmpi .sge (addi (iotaInDim S32x32 32 0) (broadcastInDim S32x32 ![] bcast_S_S32x32 (constantI S_ 32 0#32))) (iotaInDim S32x32 32 1)) (broadcastInDim S32x32 ![] bcast_S_S32x32 (constantI S_ 1 1#1)) (broadcastInDim S32x32 ![] bcast_S_S32x32 (constantI S_ 1 0#1)))) (Host.dotGeneral dot_S32x32x16x128_S32x32x16x128_S32x16x32x32_3_3_1_1_02_02 none (mulf (QQ PS) (Host.exp (BB LB PS))) (mulf (KK LB PS) (Host.exp (Host.negf (BB LB PS))))) (broadcastInDim S32x16x32x32 ![] bcast_S_S32x16x32x32 (id (constant S_ .f32 0x00000000#32))))) transposes_S32x16x128x32_S32x32x16x128_0_3_1_2))

/-- The gated and normed read-out. -/
def OG (LB : FVec Ideal S2048 .f32) (PS : FVec Ideal S32x32x8192 .f32) (NG : FVec Ideal S1x2048 .f32) (S : FVec Ideal S1x32x16x128x128 .f32) : FVec Ideal S1024x2048 .bf16 :=
  truncf .bf16 (shapeCast _ (mulf (shapeCast _ (mulf (mulf (OO LB PS S) (broadcastInDim S32x32x16x128 ![0, 1, 2, 3] bcast_S32x32x16x1_S32x32x16x128_0_1_2_3 (Host.rsqrt (addf (Host.divf (broadcastInDim S32x32x16x1 ![0, 1, 2] bcast_S32x32x16_S32x32x16x1_0_1_2 (Host.reduceAdd (mulf (OO LB PS S) (OO LB PS S)) (constant S_ .f32 0x00000000#32) reducesTo_S32x32x16x128_S32x32x16_d3 h_S_)) (broadcastInDim S32x32x16x1 ![] bcast_S_S32x32x16x1 (constant S_ .f32 0x43000000#32))) (broadcastInDim S32x32x16x1 ![] bcast_S_S32x32x16x1 (constant S_ .f32 0x358637BD#32)))))) (broadcastInDim S32x32x16x128 ![0, 1, 2, 3] bcast_S1x1x16x128_S32x32x16x128_0_1_2_3 (broadcastInDim S1x1x16x128 ![2, 3] bcast_S16x128_S1x1x16x128_2_3 (shapeCast _ (shapeCast _ NG shapeCasts_S1x2048_S2048) shapeCasts_S2048_S16x128)))) shapeCasts_S32x32x16x128_S32x32x2048) (mulf (extractStridedSlice S32x32x2048 ![0, 0, 6144] PS slices_S32x32x8192_S32x32x2048_0_0_6144) (Host.divf (broadcastInDim S32x32x2048 ![] bcast_S_S32x32x2048 (constant S_ .f32 0x3F800000#32)) (addf (broadcastInDim S32x32x2048 ![] bcast_S_S32x32x2048 (constant S_ .f32 0x3F800000#32)) (Host.exp (Host.negf (extractStridedSlice S32x32x2048 ![0, 0, 6144] PS slices_S32x32x8192_S32x32x2048_0_0_6144))))))) shapeCasts_S32x32x2048_S1024x2048) bitsLt_bf16_f32

variable (m : (ℓ : Loc nD τ sig) → Buf (Elt Ideal) ℓ)

theorem state_eq (c : Dev nD) : res_main_v78 m c = ST (LBT (m ((c.tc : Thread nD τ).loc main_arg1))) (PST (m ((c.tc : Thread nD τ).loc main_arg0))) (m ((c.tc : Thread nD τ).loc main_arg3)) := rfl

theorem out_eq (c : Dev nD) : res_main_v99 m c = OG (LBT (m ((c.tc : Thread nD τ).loc main_arg1))) (PST (m ((c.tc : Thread nD τ).loc main_arg0))) (m ((c.tc : Thread nD τ).loc main_arg2)) (m ((c.tc : Thread nD τ).loc main_arg3)) := rfl

variable (LB : FVec Ideal S2048 .f32) (PS : FVec Ideal S32x32x8192 .f32) (NG : FVec Ideal S1x2048 .f32) (S : FVec Ideal S1x32x16x128x128 .f32)

/-- A chunk's rows of the projections, from lane `o` on. -/
def rows (o : ℕ) (ho : o + 2048 ≤ 8192) (b : Fin 32) (l : Fin 32) (n : Fin 2048) : EReal := PS (ix3 b l ⟨o + n.val, by omega⟩)

theorem rows_zero (b : Fin 32) : rows PS 0 (by decide) b = fun l n => PS (ix3 b l ⟨n.val, by omega⟩) := by
  funext l n; unfold rows; simp only [Nat.zero_add]

/-- The lower bounds by lane. -/
def bounds (n : Fin 2048) : EReal := LB (ix1 n)

open Recur in
theorem BB_at (b l : Fin 32) (h : Fin 16) (k : Fin 128) : BB LB PS (ix4 b l h k) = cum (bounds LB) (rows PS 2048 (by decide) b) l (lane h k) := by
  unfold BB
  refine (Recur.cumsum _ _ _ _ ?_ _ _ _ _).trans ?_
  · pointwise
  pointwise
  rfl

open Recur in
theorem ST_at (b : Fin 32) (h : Fin 16) (k v : Fin 128) : ST LB PS S (ix4 b h k v)
    = newState (bounds LB) (rows PS 2048 (by decide) b) (rows PS 4096 (by decide) b) (S (ix5 0 b h k v)) (lane h k) (lane h v) := by
  pointwise [ST, KK, VV]
  simp only [BB_at]
  rfl

open Recur in
theorem OO_at (b l : Fin 32) (h : Fin 16) (v : Fin 128) : OO LB PS S (ix4 b l h v)
    = readOut (bounds LB) (rows PS 0 (by decide) b) (rows PS 2048 (by decide) b) (rows PS 4096 (by decide) b) (lane h) (fun k => S (ix5 0 b h k v)) l (lane h v) := by
  pointwise [OO, KK, VV, QQ]
  simp only [BB_at]
  rw [show (id (constant (F := Ideal) S_ .f32 0x00000000#32) ix0 : EReal) = 0 by show (constant (F := Ideal) S_ .f32 0x00000000#32) ix0 = _; pointwise]
  simp only [tril_select]
  rw [rows_zero]
  rfl

open Recur in
theorem OG_at (r : Fin 1024) (n : Fin 2048) : OG LB PS NG S (ix2 r n) = gated
    (fun v => OO LB PS S (ix4 ⟨r.val / 32, by omega⟩ ⟨r.val % 32, by omega⟩ ⟨n.val / 128, by omega⟩ v)) (NG (ix2 0 n)) (rows PS 6144 (by decide) ⟨r.val / 32, by omega⟩ ⟨r.val % 32, by omega⟩ n) ⟨n.val % 128, by omega⟩ := by
  pointwise [OG]
  rfl

end Cert.HgsRefIdeal.Value

end
-- ==== Proof.HgsValue.lean ====
module

public import proofs.«01_k».proof.Proof.Gen.HgsIdeal.Value
public import proofs.«01_k».proof.Proof.HgsRefStages
public import Idealize.ShloMosaic.Lib.Pipeline.ValueKit
public import Idealize.ShloMosaic.Lib.Claim
public import Idealize.ShloMosaic.Lib.Pipeline.ReadBack

@[expose] public section

set_option maxRecDepth 16384

noncomputable section

namespace Cert.HgsIdeal.Value

open Cert.HgsIdeal Cert.HgsIdeal.Gen Idealize.ShloMosaic Idealize.ShloMosaic.TcCoe Idealize.SL.Sem
open Idealize.ShloMosaic.Pipeline (Dat)

variable (m : (ℓ : Loc nD τ sig) → Buf (Elt Ideal) ℓ)

open Recur

/-- A block of 32 rows, as rows and lanes. -/
def blkRows (x : FVec Ideal S32x2048 .f32) (l : Fin 32) (n : Fin 2048) : EReal := x (ix2 l n)

/-- A block of one row, by lane. -/
def blkRow (x : FVec Ideal S1x2048 .f32) (n : Fin 2048) : EReal := x (ix2 0 n)

/-- What the body computes at the lanes `n` is what the recurrence reads at head `h`, when those lanes are the head's. -/
theorem gated_at (x4 : FVec Ideal S1x2048 .f32) (x0 x1 x2 x3 : FVec Ideal S32x2048 .f32) (x5 : FVec Ideal S1x2048 .f32) (x6 : FVec Ideal S1x16x128x128 .f32) (l : Fin 32)
    (n : Fin 128 → Fin 2048) (v : Fin 128) (g h : Fin 16) (hg : g = h) (hn : ∀ k, n k = lane h k) :
    gated (fun v => readOut' (blkRow x4) (blkRows x0) (blkRows x1) (blkRows x2) n (fun k => x6 (ix4 0 g k v)) l (n v))
        (x5 (ix2 0 (n v))) (x3 (ix2 l (n v))) v
      = gated (fun v => readOut (blkRow x4) (blkRows x0) (blkRows x1) (blkRows x2) (lane h) (fun k => x6 (ix4 0 h k v)) l (lane h v)) (blkRow x5 (lane h v)) (blkRows x3 l (lane h v)) v := by
  obtain rfl : n = lane h := funext hn
  subst hg
  simp only [readOut_comm]
  rfl

/-- What the body leaves of the state at the lanes `n` is the recurrence's new state of head `h`, when those lanes are the head's. -/
theorem state_at (x4 : FVec Ideal S1x2048 .f32) (x1 x2 : FVec Ideal S32x2048 .f32) (x6 : FVec Ideal S1x16x128x128 .f32)
    (n : Fin 128 → Fin 2048) (k v : Fin 128) (g h : Fin 16) (hg : g = h) (hn : ∀ k, n k = lane h k) :
    x6 (ix4 0 g k v) * Ideal.exp (∑ x : Fin 32, if x ≤ (31 : Fin 32) then Ideal.log (forget (x4 (ix2 0 (n k))) (x1 (ix2 x (n k)))) else 0)
      + ∑ x : Fin 32, x2 (ix2 x (n v)) * (key (x4 (ix2 0 (n k))) (x1 (ix2 x (n k)))
        * Ideal.exp ((∑ z : Fin 32, if z ≤ (31 : Fin 32) then Ideal.log (forget (x4 (ix2 0 (n k))) (x1 (ix2 z (n k)))) else 0)
          - ∑ z : Fin 32, if z ≤ x then Ideal.log (forget (x4 (ix2 0 (n k))) (x1 (ix2 z (n k)))) else 0))
      = newState (blkRow x4) (blkRows x1) (blkRows x2) (x6 (ix4 0 h k v)) (lane h k) (lane h v) := by
  obtain rfl : n = lane h := funext hn
  subst hg
  exact newState_comm (blkRow x4) (blkRows x1) (blkRows x2) _ (lane g k) (lane g v)

set_option maxHeartbeats 1600000 in
/-- What a grid point leaves in the state's block. -/
theorem pointS (c : Dev nD) (t : Fin cfg0.N) (h : Fin 16) (k v : Fin 128) (y : S1x16x128x128.Idx) (e1 : ((y 1 : Fin 16) : ℕ) = h) (e2 : ((y 2 : Fin 128) : ℕ) = k) (e3 : ((y 3 : Fin 128) : ℕ) = v) :
    (outsAt0 m c t).2 y
    = newState (blkRow (iblk m c 4 t)) (blkRows (iblk m c 1 t)) (blkRows (iblk m c 2 t)) ((iblk m c 6 t : FVec Ideal S1x16x128x128 .f32) (ix4 0 h k v)) (lane h k) (lane h v) := by
  unfold outsAt0
  frame_open
  simp (disch := decide) only [↓ View.readCov_skip, ↓ View.readCov_cons_toLoadRect, ↓ View.readCov_fill]
  frame_out
  canon_tiles x g
  all_goals
    open_payloads; pointwise
    idx_vars x
    simp only [mask_mul, mask_mul_last, zero_sub, sig_fold, forget_fold, key_fold]
    obtain rfl : k = x2 := Fin.ext (by omega)
    obtain rfl : v = x3 := Fin.ext (by omega)
  case piece15 => exact state_at (iblk m c 4 t) (iblk m c 1 t) (iblk m c 2 t) (iblk m c 6 t) (fun k => ⟨k.val, by omega⟩) k v 0 h (Fin.ext (by omega)) (fun q => Fin.ext (by unfold lane; dsimp only; omega))
  all_goals exact state_at (iblk m c 4 t) (iblk m c 1 t) (iblk m c 2 t) (iblk m c 6 t) (fun k => ⟨_ + k.val, by omega⟩) k v _ h (Fin.ext (by first | omega | (simp; omega))) (fun q => Fin.ext (by unfold lane; dsimp only; omega))

set_option maxHeartbeats 1600000 in
/-- What a grid point leaves in the read-out's block. -/
theorem pointO (c : Dev nD) (t : Fin cfg0.N) (l : Fin 32) (h : Fin 16) (v : Fin 128) (y : S32x2048.Idx) (e0 : ((y 0 : Fin 32) : ℕ) = l) (e1 : ((y 1 : Fin 2048) : ℕ) = h.val * 128 + v.val) :
    (outsAt0 m c t).1 y
    = gated (fun v => readOut (blkRow (iblk m c 4 t)) (blkRows (iblk m c 0 t)) (blkRows (iblk m c 1 t)) (blkRows (iblk m c 2 t)) (lane h) (fun k => (iblk m c 6 t : FVec Ideal S1x16x128x128 .f32) (ix4 0 h k v)) l (lane h v))
       (blkRow (iblk m c 5 t) (lane h v)) (blkRows (iblk m c 3 t) l (lane h v)) v := by
  unfold outsAt0
  frame_open
  simp (disch := decide) only [↓ View.readCov_skip, ↓ View.readCov_cons_toLoadRect, ↓ View.readCov_fill]
  frame_out
  canon_tiles x g
  all_goals
    open_payloads; pointwise
    idx_vars x
    simp only [mask_mul, mask_mul_last, mask_select, zero_sub, sig_fold, forget_fold, key_fold]
    obtain rfl : l = x0 := Fin.ext (by omega)
    obtain rfl : v = x1 := Fin.ext (by omega)
  case piece15 => exact gated_at (iblk m c 4 t) (iblk m c 0 t) (iblk m c 1 t) (iblk m c 2 t) (iblk m c 3 t) (iblk m c 5 t) (iblk m c 6 t) l (fun k => ⟨k.val, by omega⟩) v 0 h (Fin.ext (by omega)) (fun q => Fin.ext (by unfold lane; dsimp only; omega))
  all_goals exact gated_at (iblk m c 4 t) (iblk m c 0 t) (iblk m c 1 t) (iblk m c 2 t) (iblk m c 3 t) (iblk m c 5 t) (iblk m c 6 t) l (fun k => ⟨_ + k.val, by omega⟩) v _ h (Fin.ext (by first | omega | (simp; omega))) (fun q => Fin.ext (by unfold lane; dsimp only; omega))

end Cert.HgsIdeal.Value

end
-- ==== Proof.HgsFinal.lean ====
module

public import proofs.«01_k».proof.Proof.HgsValue

@[expose] public section

set_option maxRecDepth 16384

noncomputable section

namespace Cert.HgsIdeal.Value

open Cert.HgsIdeal Cert.HgsIdeal.Gen Idealize.ShloMosaic Idealize.ShloMosaic.TcCoe Idealize.SL.Sem
open Idealize.ShloMosaic.Pipeline (Dat)

variable (m : (ℓ : Loc nD τ sig) → Buf (Elt Ideal) ℓ)

open Recur

/-- The forget gate's lower bounds as the region finds them, one row. -/
theorem V_lb (c : Dev nD) : V m c main_v16 = (shapeCast _ (Cert.HgsRefIdeal.Value.LBT (m ((c : Thread nD τ).loc main_arg1))) shapeCasts_S2048_S1x2048 : FVec Ideal S1x2048 .f32) := by
  dsimp only [V]
  simp only [hostOps0, hostOps0_1, hostOps0_2, List.flatten_cons, List.flatten_nil, List.append_nil, List.cons_append, List.nil_append]
  after_results_simp <;> rfl

/-- The norm's weights as the region finds them. -/
theorem V_ng (c : Dev nD) : V m c main_v17 = (shapeCast _ (shapeCast _ (m ((c : Thread nD τ).loc main_arg2) : FVec Ideal S1x2048 .f32) shapeCasts_S1x2048_S2048 : FVec Ideal S2048 .f32) shapeCasts_S2048_S1x2048 : FVec Ideal S1x2048 .f32) := by
  dsimp only [V]
  simp only [hostOps0, hostOps0_1, hostOps0_2, List.flatten_cons, List.flatten_nil, List.append_nil, List.cons_append, List.nil_append]
  after_results_simp <;> rfl

/-- The states as the region finds them, without the layer's axis. -/
theorem V_s0 (c : Dev nD) : V m c main_v15 = (shapeCast _ (m ((c : Thread nD τ).loc main_arg3) : FVec Ideal S1x32x16x128x128 .f32) shapeCasts_S1x32x16x128x128_S32x16x128x128 : FVec Ideal S32x16x128x128 .f32) := by
  dsimp only [V]
  simp only [hostOps0, hostOps0_1, hostOps0_2, List.flatten_cons, List.flatten_nil, List.append_nil, List.cons_append, List.nil_append]
  after_results_simp <;> rfl

theorem idx : ∀ t : Fin cfg0.N, win0_0.index t = ![512 + t.val, 0] ∧ win0_1.index t = ![512 + t.val, 1] ∧ win0_2.index t = ![512 + t.val, 2] ∧ win0_3.index t = ![512 + t.val, 3]
    ∧ win0_4.index t = ![0, 0] ∧ win0_5.index t = ![0, 0] ∧ win0_6.index t = ![t.val, 0, 0, 0] ∧ win0_7.index t = ![t.val, 0] ∧ win0_8.index t = ![t.val, 0, 0, 0] ∧ t.val < 32 :=
  (by decide +kernel : ∀ t : Fin grid0.N, _)

open Cert.HgsRefIdeal.Value

theorem lb_row (c : Dev nD) (t : Fin cfg0.N) : blkRow (iblk m c 4 t) = bounds (LBT (m ((c : Thread nD τ).loc main_arg1))) := by
  funext n
  unfold blkRow bounds
  blk_simp [iblk]
  rw [V_lb]
  generalize (LBT (m ((c : Thread nD τ).loc main_arg1))) = L
  pointwise
  blk_ext [idx t]

theorem ng_row (c : Dev nD) (t : Fin cfg0.N) (n : Fin 2048) : blkRow (iblk m c 5 t) n = (m ((c : Thread nD τ).loc main_arg2) : FVec Ideal S1x2048 .f32) (ix2 0 n) := by
  unfold blkRow
  blk_simp [iblk]
  rw [V_ng]
  pointwise
  blk_ext [idx t]

theorem zq_rows (c : Dev nD) (t : Fin cfg0.N) : blkRows (iblk m c 0 t) = rows (PST (m ((c : Thread nD τ).loc main_arg0))) 0 (by decide) ⟨t.val, (idx t).2.2.2.2.2.2.2.2.2⟩ := by
  funext l n
  unfold blkRows rows
  pointwise [PST]
  blk_simp [iblk]
  rw [V_main_arg0]
  blk_ext [idx t]

theorem zf_rows (c : Dev nD) (t : Fin cfg0.N) : blkRows (iblk m c 1 t) = rows (PST (m ((c : Thread nD τ).loc main_arg0))) 2048 (by decide) ⟨t.val, (idx t).2.2.2.2.2.2.2.2.2⟩ := by
  funext l n
  unfold blkRows rows
  pointwise [PST]
  blk_simp [iblk]
  rw [V_main_arg0]
  blk_ext [idx t]

theorem zi_rows (c : Dev nD) (t : Fin cfg0.N) : blkRows (iblk m c 2 t) = rows (PST (m ((c : Thread nD τ).loc main_arg0))) 4096 (by decide) ⟨t.val, (idx t).2.2.2.2.2.2.2.2.2⟩ := by
  funext l n
  unfold blkRows rows
  pointwise [PST]
  blk_simp [iblk]
  rw [V_main_arg0]
  blk_ext [idx t]

theorem zg_rows (c : Dev nD) (t : Fin cfg0.N) : blkRows (iblk m c 3 t) = rows (PST (m ((c : Thread nD τ).loc main_arg0))) 6144 (by decide) ⟨t.val, (idx t).2.2.2.2.2.2.2.2.2⟩ := by
  funext l n
  unfold blkRows rows
  pointwise [PST]
  blk_simp [iblk]
  rw [V_main_arg0]
  blk_ext [idx t]

theorem drop_layer (S : FVec Ideal S1x32x16x128x128 .f32) (b : Fin 32) (h : Fin 16) (k v : Fin 128) :
    (shapeCast _ S shapeCasts_S1x32x16x128x128_S32x16x128x128 : FVec Ideal S32x16x128x128 .f32) (ix4 b h k v) = S (ix5 0 b h k v) := by
  pointwise

theorem s0_at (c : Dev nD) (t : Fin cfg0.N) (h : Fin 16) (k v : Fin 128) : (iblk m c 6 t : FVec Ideal S1x16x128x128 .f32) (ix4 0 h k v)
    = (m ((c : Thread nD τ).loc main_arg3) : FVec Ideal S1x32x16x128x128 .f32) (ix5 0 ⟨t.val, (idx t).2.2.2.2.2.2.2.2.2⟩ h k v) := by
  blk_simp [iblk]
  rw [V_s0]
  have e : ((cfg0.win 6).blk t).view.emb (ix4 0 h k v) = (ix4 (⟨t.val, (idx t).2.2.2.2.2.2.2.2.2⟩ : Fin 32) h k v : S32x16x128x128.Idx) := by
    blk_ext [idx t]
  exact (congrArg _ e).trans (drop_layer _ _ _ _ _)

/-- The state's array after the run is the reference's. -/
theorem finalS (c : Dev nD) : (dats m 0 c).arrAt 8 (cfgs 0).N
    = (Cert.HgsRefIdeal.Value.ST (Cert.HgsRefIdeal.Value.LBT (m ((c : Thread nD τ).loc main_arg1))) (Cert.HgsRefIdeal.Value.PST (m ((c : Thread nD τ).loc main_arg0))) (m ((c : Thread nD τ).loc main_arg3)) : FVec Ideal S32x16x128x128 .f32) := by
  refine (dats m 0 c).arrAt_eq_of_covers 8 _ (by decide +kernel) fun t _ y => ?_
  obtain ⟨h, e1⟩ : ∃ h : Fin 16, ((y 1 : Fin 16) : ℕ) = h := ⟨y 1, rfl⟩
  obtain ⟨k, e2⟩ : ∃ k : Fin 128, ((y 2 : Fin 128) : ℕ) = k := ⟨y 2, rfl⟩
  obtain ⟨v, e3⟩ : ∃ v : Fin 128, ((y 3 : Fin 128) : ℕ) = v := ⟨y 3, rfl⟩
  have e : (ix4 (⟨t.val, (idx t).2.2.2.2.2.2.2.2.2⟩ : Fin 32) h k v : S32x16x128x128.Idx) = ((cfg0.win 8).blk t).view.emb y := by
    blk_ext [idx t]
  blk_simp
  rw [after0_8, pointS m c t h k v y e1 e2 e3, s0_at, lb_row, zf_rows, zi_rows, ← ST_at]
  exact congrArg (Cert.HgsRefIdeal.Value.ST _ _ _) e

/-- The read-out's array after the run is the reference's. -/
theorem finalO (c : Dev nD) : (dats m 0 c).arrAt 7 (cfgs 0).N
    = (Cert.HgsRefIdeal.Value.OG (Cert.HgsRefIdeal.Value.LBT (m ((c : Thread nD τ).loc main_arg1))) (Cert.HgsRefIdeal.Value.PST (m ((c : Thread nD τ).loc main_arg0))) (m ((c : Thread nD τ).loc main_arg2)) (m ((c : Thread nD τ).loc main_arg3)) : FVec Ideal S1024x2048 .bf16) := by
  refine (dats m 0 c).arrAt_eq_of_covers 7 _ (by decide +kernel) fun t _ y => ?_
  have ht := (idx t).2.2.2.2.2.2.2.2.2
  obtain ⟨l, e0⟩ : ∃ l : Fin 32, ((y 0 : Fin 32) : ℕ) = l := ⟨y 0, rfl⟩
  obtain ⟨n, e1⟩ : ∃ n : Fin 2048, ((y 1 : Fin 2048) : ℕ) = n := ⟨y 1, rfl⟩
  have e : (ix2 (⟨t.val * 32 + l.val, by omega⟩ : Fin 1024) n : S1024x2048.Idx) = ((cfg0.win 7).blk t).view.emb y := by
    blk_ext [idx t]
  have ed : (⟨(t.val * 32 + l.val) / 32, by omega⟩ : Fin 32) = ⟨t.val, ht⟩ := Fin.ext (by dsimp only; omega)
  have em : (⟨(t.val * 32 + l.val) % 32, by omega⟩ : Fin 32) = l := Fin.ext (by dsimp only; omega)
  have el : lane ⟨n.val / 128, by omega⟩ ⟨n.val % 128, by omega⟩ = n := Fin.ext (by unfold lane; dsimp only; omega)
  refine Eq.trans ?_ (congrArg (Cert.HgsRefIdeal.Value.OG _ _ _ _) e)
  rw [OG_at, ed, em]
  simp only [OO_at]
  blk_simp
  rw [after0_7, pointO m c t l ⟨n.val / 128, by omega⟩ ⟨n.val % 128, by omega⟩ y e0 (by dsimp only; omega), lb_row, zq_rows, zf_rows, zi_rows, zg_rows, ng_row, el]
  simp only [s0_at]

end Cert.HgsIdeal.Value

end
-- ==== Proof.MoeUpSetup.lean ====
/- The launch of the experts' first products: what the pipeline finds in the arrays and tables when it starts, the blocks
   its windows read, and the facts about the tables that the precondition gives. -/
module

public import proofs.«01_k».proof.Proof.Gen.MoeUp.Launch
public import proofs.«01_k».proof.Proof.Gen.MoeUp.Skeleton
public import Idealize.ShloMosaic.Lib.Pipeline.FrameBody
public import Idealize.ShloMosaic.Lib.Pipeline.TableIdle
public import Idealize.ShloMosaic.Lib.Pipeline.Kit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.MoeUp.Run

open Cert.MoeUp Cert.MoeUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the core's buffers hold when the pipeline starts: the launch memory after the reshaping of the biases. -/
abbrev V (c : Dev nD) (b : Ref sig .tc) : Buf (Elt F) ((c : Thread nD τ).loc b) :=
  StableHlo.after hostOps0 (fun b => m (c, b)) b

/-- The reshaping writes a buffer of its own. -/
theorem fresh0 : (hostOps0 : List (HloOp τ sig (Elt F))).Forall fun op => op.fresh = ∅ := by
  simp only [List.Forall]; repeat' constructor

set_option maxHeartbeats 800000 in
/-- The program up to the pipeline runs its host operation and leaves `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- A buffer other than the reshaped biases is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The tables as the pipeline finds them; there is one device. -/
def tbl : pre0.Contents (Elt F) := fun j => V m (0 : Dev nD) (pre0.ref j)

/-- Every device finds those tables. -/
theorem V_pre (c : Dev nD) (j : Fin 3) : V m c (pre0.ref j) = tbl m j := by
  obtain rfl : c = 0 := Subsingleton.elim _ _; rfl

/-- Every block the tables name lies inside its array. -/
abbrev Ok : Prop := ok0 (F := F) (tbl m)

/-- The tables as contents the pipeline admits, and the pipeline at them. -/
abbrev adm (hO : Ok m) : (pcfg0 (F := F)).Adm := ⟨tbl m, hO⟩
abbrev cfgM (hO : Ok m) : Pipeline.Cfg sig Λ₀ := cfg0 (adm m hO)

/-- The tables as the kernel's body is handed them. -/
abbrev tb0 : Memref sig .tc .smem S168 .i32 := Memref.whole main_arg1
abbrev tb1 : Memref sig .tc .smem S168 .i32 := Memref.whole main_arg2
abbrev tb2 : Memref sig .tc .smem S1 .i32 := Memref.whole main_arg3

/-- A table's buffer on a core, and its half share that the body reads. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The half shares of the tables, one by one. -/
theorem tables_eq (c : Dev nD) : (Pipeline.ΦT pre0 (tbl m) c : sProp 𝕄)
    = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The staging buffers at point `t`. -/
abbrev ms0 (hO : Ok m) (t : Fin (cfgM m hO).N) : Memref sig .tc .vmem S512x2048 .bf16 := spec0_0.stage ((cfgM m hO).slots t 0)
abbrev ms1 (hO : Ok m) (t : Fin (cfgM m hO).N) : Memref sig .tc .vmem S1x1x2048x512 .f32 := spec0_1.stage ((cfgM m hO).slots t 1)
abbrev ms2 (hO : Ok m) (t : Fin (cfgM m hO).N) : Memref sig .tc .vmem S1x1x2048x512 .f32 := spec0_2.stage ((cfgM m hO).slots t 2)
abbrev ms3 (hO : Ok m) (t : Fin (cfgM m hO).N) : Memref sig .tc .vmem S1x1x1x512 .f32 := spec0_3.stage ((cfgM m hO).slots t 3)
abbrev ms4 (hO : Ok m) (t : Fin (cfgM m hO).N) : Memref sig .tc .vmem S1x1x1x512 .f32 := spec0_4.stage ((cfgM m hO).slots t 4)
abbrev ms5 (hO : Ok m) (t : Fin (cfgM m hO).N) : Memref sig .tc .vmem S512x512 .bf16 := spec0_5.stage ((cfgM m hO).slots t 5)

/-- The kernel's body at point `t`, on the buffers the pipeline hands it. -/
abbrev bodyAt (a : (pcfg0 (F := F)).Adm) (t : Fin (cfg0 a).N) : Prog (TpuEff nD τ sig (Elt F) Λ₀ .tc) PUnit :=
  cc0_moe_up (grid0.coords t) tb0 (Memref.isWhole_whole _) tb1 (Memref.isWhole_whole _) tb2 (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))

end Cert.MoeUp.Run

end
-- ==== Proof.MoeUpBody.lean ====
/- The body of the experts' first products, run once: at a block that holds rows it stores the gated activation of the
   block's two products; at any other it stores nothing. -/
module

public import proofs.«01_k».proof.Proof.MoeUpSetup

@[expose] public section

set_option maxRecDepth 16384

noncomputable section

namespace Cert.MoeUp.Run

open Cert.MoeUp Cert.MoeUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangles the body loads and stores: each a whole block. -/
abbrev rX : Rect S512x2048 := Rect.unit (s := S512x2048) ![0, 0] S512x2048.size inb_S512x2048_S512x2048_0_0
abbrev rW : Rect S1x1x2048x512 := Rect.unit (s := S1x1x2048x512) ![0, 0, 0, 0] S1x1x2048x512.size inb_S1x1x2048x512_S1x1x2048x512_0_0_0_0
abbrev rB : Rect S1x1x1x512 := Rect.unit (s := S1x1x1x512) ![0, 0, 0, 0] S1x1x1x512.size inb_S1x1x1x512_S1x1x1x512_0_0_0_0
abbrev rO : Rect S512x512 := Rect.unit (s := S512x512) ![0, 0] S512x512.size inb_S512x512_S512x512_0_0

/-- What the body stores, from the blocks of the rows, the two weights and the two biases. -/
def outB (x0 : Vec F S512x2048 .bf16) (x1 x2 : Vec F S1x1x2048x512 .f32) (x3 x4 : Vec F S1x1x1x512 .f32) : Vec F S512x512 .bf16 :=
  View.canon [⟨rO, k0_pay1 (k0_pay2 (View.ld x0 rX) (View.ld x2 rW) (View.ld x4 rB)) (k0_pay3 (View.ld x0 rX) (View.ld x1 rW) (View.ld x3 rB))⟩]

/-- The store covers the block. -/
theorem cover (p : Vec F S512x512 .bf16) (y : S512x512.Idx) :
    ∃ pc ∈ ([⟨rO, p⟩] : List (View.Piece (Elt F) S512x512 .bf16)), y ∈ pc.1.set :=
  View.cover_of_tiled [⟨rO, p⟩] S512x512.size (by rfl) y

set_option maxHeartbeats 1000000 in
/-- At a block that holds rows, by the word of the third table. -/
theorem body_stores (c : Dev nD) (E : Set ℕ) (i : grid0.Coords) (arg5 : Memref sig .tc .vmem S512x2048 .bf16) (harg5 : arg5.IsWhole) (arg6 : Memref sig .tc .vmem S1x1x2048x512 .f32) (harg6 : arg6.IsWhole) (arg7 : Memref sig .tc .vmem S1x1x2048x512 .f32) (harg7 : arg7.IsWhole) (arg8 : Memref sig .tc .vmem S1x1x1x512 .f32) (harg8 : arg8.IsWhole) (arg9 : Memref sig .tc .vmem S1x1x1x512 .f32) (harg9 : arg9.IsWhole) (arg10 : Memref sig .tc .vmem S512x512 .bf16) (harg10 : arg10.IsWhole)
    (x0 : Vec F S512x2048 .bf16) (x1 x2 : Vec F S1x1x2048x512 .f32) (x3 x4 : Vec F S1x1x1x512 .f32)
    (xt0 : TbBuf (F := F) c tb0) (xt1 : TbBuf (F := F) c tb1) (xt2 : TbBuf (F := F) c tb2)
    (y0 : Vec F S512x512 .bf16) (word : BitVec 32) (hw : ∀ x : S1.Idx, xt2 x = word) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare y0 ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (if k0_cond1 i word = 1#1 then outB x0 x1 x2 x3 x4 else y0) ∗ tbPt c tb0 xt0 ∗ tbPt c tb1 xt1 ∗ tbPt c tb2 xt2) -∗ K ⟨⟩))
      ⊢ wp frame (wpE (defs₀ (F := F)) Variants.none c none) E (cc0_moe_up i tb0 (Memref.isWhole_whole _) tb1 (Memref.isWhole_whole _) tb2 (Memref.isWhole_whole _) arg5 harg5 arg6 harg6 arg7 harg7 arg8 harg8 arg9 harg9 arg10 harg10) K := by
  simp only [cc0_moe_up_eq_skeleton]; unfold cc0_moe_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have e : body_stores.sl.r c xt2 = word := by
      unfold body_stores.sl.r
      exact hw _
    rw [e]
    by_cases hc : k0_cond1 i word = 1#1
    · rw [dif_pos hc, if_pos hc]
      exact View.read_writes_eq_canon _ _ _ (cover _)
    · rw [dif_neg hc, if_neg hc]
  isplitl [HT0]; · iexact HT0
  isplitl [HT1]; · iexact HT1
  iexact HT2

end Cert.MoeUp.Run

end
-- ==== Proof.MoeUpSchedule.lean ====
/- When the experts' first products are written back: what the precondition says of the tables, where the grid's points
   lie, at which of them a block holds rows, and which of them write a block back. -/
module

public import proofs.«01_k».proof.Proof.MoeUpSetup
public import Idealize.ShloMosaic.Lib.Affine
public import Idealize.ShloMosaic.Lib.Pointwise.Index

@[expose] public section

set_option maxRecDepth 16384

noncomputable section

namespace Cert.MoeUp.Run

open Cert.MoeUp Cert.MoeUp.Gen
open Idealize.ShloMosaic Idealize.ShloMosaic.TcCoe

variable {F : FTy → Type} [FloatOps F]

variable (m : (ℓ : Loc nD τ sig) → Buf (Elt F) ℓ)

/-- The expert of block `r`, the block that block `r` stands for, and the number of blocks that hold rows. -/
def expertW (r : Fin 168) : BitVec 32 := tbl m 0 (ix1 r : S168.Idx)
def rowW (r : Fin 168) : BitVec 32 := tbl m 1 (ix1 r : S168.Idx)
def usedW : BitVec 32 := tbl m 2 (ix1 (0 : Fin 1) : S1.Idx)
def used : ℕ := (usedW m).toNat

/-- What the precondition says of the tables: an expert of the table for every block, at least one block that holds
    rows, and every block past the last of those standing for that last one. -/
structure Tables : Prop where
  expert : ∀ r, (expertW m r).toNat < 32
  some : 1 ≤ used m
  small : used m < 2 ^ 31
  row : ∀ r, (rowW m r).toNat = min r.val (used m - 1)

/-- The column step and the block of a grid point. -/
def col (t : Fin grid0.N) : Fin 4 := grid0.coords t 0
def blk (t : Fin grid0.N) : Fin 168 := grid0.coords t 1

theorem col_val (t : Fin grid0.N) : (col t).val = t.val / 168 := by
  have h := Pipeline.Grid.coords_val t 0 (S := 168) (B := 4) (by decide) rfl
  have := t.isLt
  have e : grid0.N = 672 := N_0
  unfold col; omega

theorem blk_val (t : Fin grid0.N) : (blk t).val = t.val % 168 := by
  have h := Pipeline.Grid.coords_val t 1 (S := 1) (B := 168) (by decide) rfl
  unfold blk; omega

theorem ofNat_toNat {n k : ℕ} (h : n < k) (hk : k ≤ 2 ^ 32) : (BitVec.ofNat 32 n).toNat = n := by
  rw [BitVec.toNat_ofNat]; exact Nat.mod_eq_of_lt (by omega)

/-- The word a table holds at a grid point's block. -/
theorem expert_at (i : grid0.Coords) : (tbl m).at 0 (Rect.unit (s := S168) ![(Scalar.indexCast (BitVec.ofNat 32 (i 1).val)).toNat] S1.size (k0_off1_inb i)) numel1_S1
    = expertW m (i 1) := by
  unfold expertW
  refine congrArg (tbl m 0) (funext fun a => Fin.ext ?_)
  match a with
  | ⟨0, _⟩ => exact (Nat.add_zero _).trans (ofNat_toNat (k := 168) (i 1).isLt (by decide))

theorem row_at (i : grid0.Coords) : (tbl m).at 1 (Rect.unit (s := S168) ![(Scalar.indexCast (BitVec.ofNat 32 (i 1).val)).toNat] S1.size (k0_off1_inb i)) numel1_S1
    = rowW m (i 1) := by
  unfold rowW
  refine congrArg (tbl m 1) (funext fun a => Fin.ext ?_)
  match a with
  | ⟨0, _⟩ => exact (Nat.add_zero _).trans (ofNat_toNat (k := 168) (i 1).isLt (by decide))

theorem col_word (i : grid0.Coords) : (BitVec.ofNat 32 (i 0).val).toNat = (i 0).val := ofNat_toNat (k := 4) (i 0).isLt (by decide)
theorem col_word' (i : grid0.Coords) : (Scalar.addi 4#32 (BitVec.ofNat 32 (i 0).val)).toNat = 4 + (i 0).val := by
  have := (i 0).isLt
  have h : grid0.bound 0 = 4 := rfl
  show (4#32 + BitVec.ofNat 32 (i 0).val).toNat = _
  rw [BitVec.toNat_add, col_word]
  simp; omega

/-- Each window's block, in those names. -/
theorem ix_0 (i : grid0.Coords) : ix0 (tbl m) 0 i = (![(rowW m (i 1)).toNat, 0] : Fin 2 → ℕ) := by
  show ![((tbl m).at 1 _ _ : BitVec 32).toNat, 0] = _
  rw [row_at m i]
theorem ix_1 (i : grid0.Coords) : ix0 (tbl m) 1 i = (![0, (expertW m (i 1)).toNat, 0, (i 0).val] : Fin 4 → ℕ) := by
  show ![0, ((tbl m).at 0 _ _ : BitVec 32).toNat, 0, (BitVec.ofNat 32 (i 0).val).toNat] = _
  rw [expert_at m i, col_word]
theorem ix_2 (i : grid0.Coords) : ix0 (tbl m) 2 i = (![0, (expertW m (i 1)).toNat, 0, 4 + (i 0).val] : Fin 4 → ℕ) := by
  show ![0, ((tbl m).at 0 _ _ : BitVec 32).toNat, 0, (Scalar.addi 4#32 (BitVec.ofNat 32 (i 0).val)).toNat] = _
  rw [expert_at m i, col_word']
theorem ix_3 (i : grid0.Coords) : ix0 (tbl m) 3 i = (![0, (expertW m (i 1)).toNat, 0, (i 0).val] : Fin 4 → ℕ) := by
  show ![0, ((tbl m).at 0 _ _ : BitVec 32).toNat, 0, (BitVec.ofNat 32 (i 0).val).toNat] = _
  rw [expert_at m i, col_word]
theorem ix_4 (i : grid0.Coords) : ix0 (tbl m) 4 i = (![0, (expertW m (i 1)).toNat, 0, 4 + (i 0).val] : Fin 4 → ℕ) := by
  show ![0, ((tbl m).at 0 _ _ : BitVec 32).toNat, 0, (Scalar.addi 4#32 (BitVec.ofNat 32 (i 0).val)).toNat] = _
  rw [expert_at m i, col_word']
theorem ix_5 (i : grid0.Coords) : ix0 (tbl m) 5 i = (![(rowW m (i 1)).toNat, (i 0).val] : Fin 2 → ℕ) := by
  show ![((tbl m).at 1 _ _ : BitVec 32).toNat, (BitVec.ofNat 32 (i 0).val).toNat] = _
  rw [row_at m i, col_word]

variable {m}

/-- Tables the precondition admits name blocks inside their arrays only. -/
theorem Tables.ok (T : Tables m) : Ok m := by
  have hx : ∀ i : grid0.Coords, (expertW m (i 1)).toNat < 32 := fun i => T.expert _
  have hr : ∀ i : grid0.Coords, (rowW m (i 1)).toNat < 168 := fun i => by
    have h := T.row (i 1); have h2 : (i 1).val < 168 := (i 1).isLt
    have h3 : (rowW m (i 1)).toNat = min (i 1).val _ := h
    omega
  have hj : ∀ i : grid0.Coords, (i 0).val < 4 := fun i => (i 0).isLt
  refine ⟨fun i => ?_, fun i => ?_, fun i => ?_, fun i => ?_, fun i => ?_, fun i => ?_⟩
  · refine ⟨fun a => ?_, .inr (Affine.block_words_dvd (by decide) (by decide))⟩
    rw [show cc0_transform_0 k0_off1_inb numel1_S1 (tbl m) i = _ from ix_0 m i]
    have := hr i
    match a with
    | 0 => show (_ + 1) * 512 ≤ 86016; simp; omega
    | 1 => exact Nat.le_of_ble_eq_true rfl
  · refine ⟨fun a => ?_, .inl rfl⟩
    rw [show cc0_transform_1 k0_off1_inb numel1_S1 (tbl m) i = _ from ix_1 m i]
    have := hx i; have := hj i
    match a with
    | 0 => exact Nat.le_of_ble_eq_true rfl
    | 1 => show (_ + 1) * 1 ≤ 32; simp; omega
    | 2 => exact Nat.le_of_ble_eq_true rfl
    | 3 => show (_ + 1) * 512 ≤ 4096; simp; omega
  · refine ⟨fun a => ?_, .inl rfl⟩
    rw [show cc0_transform_2 k0_off1_inb numel1_S1 (tbl m) i = _ from ix_2 m i]
    have := hx i; have := hj i
    match a with
    | 0 => exact Nat.le_of_ble_eq_true rfl
    | 1 => show (_ + 1) * 1 ≤ 32; simp; omega
    | 2 => exact Nat.le_of_ble_eq_true rfl
    | 3 => show (_ + 1) * 512 ≤ 4096; simp; omega
  · refine ⟨fun a => ?_, .inl rfl⟩
    rw [show cc0_transform_3 k0_off1_inb numel1_S1 (tbl m) i = _ from ix_3 m i]
    have := hx i; have := hj i
    match a with
    | 0 => exact Nat.le_of_ble_eq_true rfl
    | 1 => show (_ + 1) * 1 ≤ 32; simp; omega
    | 2 => exact Nat.le_of_ble_eq_true rfl
    | 3 => show (_ + 1) * 512 ≤ 4096; simp; omega
  · refine ⟨fun a => ?_, .inl rfl⟩
    rw [show cc0_transform_4 k0_off1_inb numel1_S1 (tbl m) i = _ from ix_4 m i]
    have := hx i; have := hj i
    match a with
    | 0 => exact Nat.le_of_ble_eq_true rfl
    | 1 => show (_ + 1) * 1 ≤ 32; simp; omega
    | 2 => exact Nat.le_of_ble_eq_true rfl
    | 3 => show (_ + 1) * 512 ≤ 4096; simp; omega
  · refine ⟨fun a => ?_, .inr (Affine.block_words_dvd (by decide) (by decide))⟩
    rw [show cc0_transform_5 k0_off1_inb numel1_S1 (tbl m) i = _ from ix_5 m i]
    have := hr i; have := hj i
    match a with
    | 0 => show (_ + 1) * 512 ≤ 86016; simp; omega
    | 1 => show (_ + 1) * 512 ≤ 2048; simp; omega

/-- A block holds rows when its number is below the count the third table holds. -/
theorem cond_iff (T : Tables m) (i : grid0.Coords) : (k0_cond1 i (usedW m) = 1#1) ↔ (i 1).val < used m := by
  have h1 : (usedW m).toNat < 2 ^ 31 := T.small
  have h2 : (i 1).val < 168 := (i 1).isLt
  have e : (BitVec.ofNat 32 (i 1).val).toInt = (i 1).val := by
    rw [BitVec.toInt_eq_toNat_of_lt (by rw [ofNat_toNat h2 (by decide)]; omega), ofNat_toNat h2 (by decide)]
  have e' : (usedW m).toInt = ((usedW m).toNat : ℤ) := BitVec.toInt_eq_toNat_of_lt (by omega)
  have h : k0_cond1 i (usedW m) = BitVec.ofBool (decide ((i 1).val < (usedW m).toNat)) := by
    show Scalar.cmpi .ne (Scalar.extui (BitVec.ofBool (decide ((BitVec.ofNat 32 (i 1).val).toInt < (usedW m).toInt)))) 0#32 = _
    rw [e, e']
    simp only [Nat.cast_lt]
    cases decide ((i 1).val < (usedW m).toNat) <;> decide
  rw [h, WordCmp.ofBool_decide_eq_one_iff]; rfl

/-- At a point whose block holds no rows the body stores nothing, and only there. -/
theorem idle_iff (T : Tables m) (t : Fin grid0.N) :
    idle0 (tbl m) 5 (grid0.coords t) = true ↔ used m ≤ t.val % 168 := by
  have e : (tbl m).atD 2 ![0] = usedW m := by
    unfold usedW Pipeline.Prefetch.Contents.atD
    rw [dif_pos (fun a => by match a with | ⟨0, _⟩ => exact Nat.le_of_ble_eq_true rfl)]
    exact congrArg (tbl m 2) (funext fun a => Fin.ext (by match a with | ⟨0, _⟩ => rfl))
  have h := cond_iff T (grid0.coords t)
  have hb : (grid0.coords t 1).val = t.val % 168 := blk_val t
  rw [hb] at h
  show (!(k0_cond1 (grid0.coords t) ((tbl m).atD 2 ![0]) == 1#1)) = true ↔ _
  rw [e, Bool.not_eq_true', beq_eq_false_iff_ne, ne_eq, h]; omega

/-- The output's block at a point. -/
theorem index_out (T : Tables m) (hO : Ok m) (t : Fin grid0.N) :
    ((cfgM m hO).win 5).index t = (![min (t.val % 168) (used m - 1), t.val / 168] : Fin 2 → ℕ) := by
  have h : ((cfgM m hO).win 5).index t = _ := ix_5 m (grid0.coords t)
  have e : (rowW m (grid0.coords t 1)).toNat = min (t.val % 168) (used m - 1) := (T.row _).trans (by rw [show (grid0.coords t 1).val = _ from blk_val t])
  rw [h, e, show (grid0.coords t 0).val = _ from col_val t]

/-- The output's block stays from a point to the next where the next point's block holds no rows. -/
theorem flush_false (T : Tables m) (hO : Ok m) (n : ℕ) (h : n + 1 < grid0.N) (hn : used m ≤ (n + 1) % 168) :
    ((cfgM m hO).win 5).flush ⟨n, Nat.lt_of_succ_lt h⟩ = false := by
  have hs := T.some
  have e1 := index_out T hO ⟨n, Nat.lt_of_succ_lt h⟩
  have e2 := index_out T hO ⟨n + 1, h⟩
  have e : ((cfgM m hO).win 5).index ⟨n + 1, h⟩ = ((cfgM m hO).win 5).index ⟨n, Nat.lt_of_succ_lt h⟩ := by
    rw [e1, e2]
    have a1 : (n + 1) / 168 = n / 168 := by omega
    have a2 : min ((n + 1) % 168) (used m - 1) = min (n % 168) (used m - 1) := by omega
    show ![min ((n + 1) % 168) _, (n + 1) / 168] = ![min (n % 168) _, n / 168]
    rw [a1, a2]
  have hN : ¬ (n + 1 = (cfgM m hO).grid.N) := by exact Nat.ne_of_lt h
  unfold Pipeline.Window.flush
  rw [decide_eq_false hN, Bool.false_or, decide_eq_false, Bool.and_false]
  rintro ⟨h', hne⟩
  exact hne e

/-- The output's block is written back from the last point of each block that holds rows. -/
theorem flush_true (T : Tables m) (hO : Ok m) (t : Fin grid0.N) (ht : t.val % 168 + 1 < used m ∨ t.val % 168 = 167) :
    ((cfgM m hO).win 5).flush t = true := by
  have hN : grid0.N = 672 := N_0
  have hs := T.some
  have hlt := t.isLt
  unfold Pipeline.Window.flush
  rw [Bool.and_eq_true]
  refine ⟨rfl, ?_⟩
  by_cases hl : t.val + 1 = grid0.N
  · rw [decide_eq_true (show t.val + 1 = (cfgM m hO).grid.N from hl), Bool.true_or]
  · rw [Bool.or_eq_true]
    refine .inr (decide_eq_true ⟨(by show t.val + 1 < grid0.N; omega), fun e => ?_⟩)
    have e1 := index_out T hO t
    have e2 := index_out T hO ⟨t.val + 1, by omega⟩
    have e3 : (![min ((t.val + 1) % 168) (used m - 1), (t.val + 1) / 168] : Fin 2 → ℕ) = ![min (t.val % 168) (used m - 1), t.val / 168] :=
      e2.symm.trans (e.trans e1)
    have f0 : min ((t.val + 1) % 168) (used m - 1) = min (t.val % 168) (used m - 1) := congrFun e3 0
    have f1 : (t.val + 1) / 168 = t.val / 168 := congrFun e3 1
    omega

/-- A window no carried point of which is written back before the next holds, there, what was stored earlier. -/
theorem fresh_of {sg : RefSig} {Λ : Idealize.SL.Sem.Labels} (cfg : Pipeline.Cfg sg Λ) (w : Fin cfg.W) (P : ℕ → Prop) (h0 : ¬ P 0)
    (hf : ∀ n (h : n + 1 < cfg.N), P (n + 1) → (cfg.win w).flush ⟨n, Nat.lt_of_succ_lt h⟩ = false)
    (hi : ∀ n (h : n < cfg.N), ¬ P n → cfg.idle w (cfg.grid.coords ⟨n, h⟩) = false) :
    ∀ n, n < cfg.N → P n → cfg.fresh w n = false
  | 0, _, h => absurd h h0
  | n + 1, h, hn => by
    rw [cfg.fresh_succ w n (Nat.lt_of_succ_lt h), hf n h hn, Bool.false_or]
    by_cases hp : P n
    · rw [fresh_of cfg w P h0 hf hi n (Nat.lt_of_succ_lt h) hp, Bool.and_false]
    · rw [hi n (Nat.lt_of_succ_lt h) hp, Bool.false_and]

/-- The pipeline's idle points are the body's. -/
theorem idle_cfg (hO : Ok m) : (cfgM m hO).idle = idle0 (tbl m) := rfl

theorem idle_at (hO : Ok m) (i : (cfgM m hO).grid.Coords) : (cfgM m hO).idle 5 i = idle0 (tbl m) 5 i := by
  rw [idle_cfg hO]; rfl

theorem idle_false (T : Tables m) (hO : Ok m) (t : Fin grid0.N) (h : ¬ used m ≤ t.val % 168) :
    (cfgM m hO).idle 5 ((cfgM m hO).grid.coords t) = false := by
  have h' : idle0 (tbl m) 5 (grid0.coords t) = false := Bool.eq_false_iff.mpr fun e => h ((idle_iff T t).mp e)
  rw [idle_at hO]; exact h'

theorem idle_true (T : Tables m) (hO : Ok m) (t : Fin grid0.N) (h : used m ≤ t.val % 168) :
    (cfgM m hO).idle 5 ((cfgM m hO).grid.coords t) = true := by
  have h' : idle0 (tbl m) 5 (grid0.coords t) = true := (idle_iff T t).mpr h
  rw [idle_at hO]; exact h'

/-- At a point whose block holds no rows the output's buffer holds what an earlier point stored. -/
theorem fresh_false (T : Tables m) (hO : Ok m) (n : ℕ) (h : n < grid0.N) (hn : used m ≤ n % 168) :
    (cfgM m hO).fresh 5 n = false := by
  refine fresh_of (cfgM m hO) 5 (fun n => used m ≤ n % 168) (by have := T.some; show ¬ (used m ≤ 0 % 168); omega) ?_ ?_ n h hn
  · exact fun n h hn => flush_false T hO n h hn
  · exact fun n h hn => idle_false T hO ⟨n, h⟩ hn

/-- The point whose products the output's buffer holds at point `t`: `t` itself where its block holds rows, and the last
    such point of the column step otherwise. -/
def live (m : (ℓ : Loc nD τ sig) → Buf (Elt F) ℓ) (t : Fin grid0.N) : Fin grid0.N :=
  ⟨t.val / 168 * 168 + min (t.val % 168) (used m - 1),
    Nat.lt_of_le_of_lt (by have h1 := Nat.div_add_mod t.val 168; have h2 := Nat.min_le_left (t.val % 168) (used m - 1); omega) t.isLt⟩

theorem live_val (t : Fin grid0.N) : (live m t).val = t.val / 168 * 168 + min (t.val % 168) (used m - 1) := rfl

theorem live_self (t : Fin grid0.N) (h : t.val % 168 < used m) : live m t = t := Fin.ext (by
  rw [live_val]
  have e : min (t.val % 168) (used m - 1) = t.val % 168 := Nat.min_eq_left (by omega)
  rw [e]; omega)

theorem live_pred (T : Tables m) (t : Fin grid0.N) (h : used m ≤ t.val % 168) :
    live m t = live m ⟨t.val - 1, Nat.lt_of_le_of_lt (Nat.sub_le _ _) t.isLt⟩ := Fin.ext (by
  have hs := T.some
  rw [live_val, live_val]
  have e1 : min (t.val % 168) (used m - 1) = used m - 1 := Nat.min_eq_right (by omega)
  have e2 : min ((t.val - 1) % 168) (used m - 1) = used m - 1 := Nat.min_eq_right (by omega)
  have e3 : (t.val - 1) / 168 = t.val / 168 := by omega
  show _ = (t.val - 1) / 168 * 168 + min ((t.val - 1) % 168) (used m - 1)
  rw [e1, e2, e3])

end Cert.MoeUp.Run
end
-- ==== Proof.MoeUpRun.lean ====
/- The run of the experts' first products: what every staging buffer holds point by point, the body's obligation at every
   point, the run it gives, and the frame. -/
module

public import proofs.«01_k».proof.Proof.MoeUpBody
public import proofs.«01_k».proof.Proof.MoeUpSchedule

@[expose] public section

set_option maxRecDepth 16384

noncomputable section

namespace Cert.MoeUp.Run

open Cert.MoeUp Cert.MoeUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body's products at point `t` are. -/
def outAt (hO : Ok m) (c : Dev nD) (t : Fin grid0.N) : Vec F S512x512 .bf16 :=
  outB (iblk m hO c 0 t) (iblk m hO c 1 t) (iblk m hO c 2 t) (iblk m hO c 3 t) (iblk m hO c 4 t)

/-- The pipeline's data: the arrays as found; after the body each input's buffer at its block, and the output's at the
    products of the last point at which it was stored. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c (live m t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c (live m t) := by dsimp only [dats]; try rfl

/-- Each input's buffer holds its block when the body is called. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

variable {m}

/-- Where a block holds no rows the output's buffer holds the products of the last block that does. -/
theorem before_5 (T : Tables m) (hO : Ok m) (c : Dev nD) (t : Fin grid0.N) (h : used m ≤ t.val % 168) (d) :
    (dats m hO 0 c).before 5 t d = outAt m hO c (live m t) := by
  have ht : (t : ℕ) ≠ 0 := fun e => by have := T.some; rw [e] at h; omega
  have hc : ∀ (t : Fin (cfgM m hO).N) (_ : t.val ≠ 0), (cfgM m hO).idle 5 ((cfgM m hO).grid.coords t) = true → (cfgM m hO).fresh 5 t.val = false →
      (dats m hO 0 c).after 5 t = (dats m hO 0 c).after 5 ⟨t.val - 1, Nat.lt_of_le_of_lt (Nat.sub_le _ _) t.isLt⟩ := fun t _ hi _ => by
    rw [after_5, after_5]
    have hu : used m ≤ t.val % 168 := by
      by_contra hne
      have := idle_false T hO t hne
      rw [this] at hi; exact Bool.false_ne_true hi
    exact congrArg (outAt m hO c) (live_pred T t hu)
  have hb := (dats m hO 0 c).before_out_traj 5 rfl (fun _ _ => rfl) hc t.val t rfl d
  have hf : (cfgM m hO).fresh 5 t.val = false := fresh_false T hO t.val t.isLt h
  rw [hf] at hb
  refine hb.trans ?_
  rw [if_neg Bool.false_ne_true, after_5]
  exact (congrArg (outAt m hO c) (live_pred T t h)).symm

variable (m)

/-- What the body is called with at point `t`, and what it leaves. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare (outAt m hO c (live m t)))

/-- The word of the third table, at its one index. -/
theorem used_word (x : S1.Idx) : (tbl m 2 : S1.Idx → BitVec 32) x = usedW m := by
  unfold usedW
  exact congrArg (tbl m 2 : S1.Idx → BitVec 32) (funext fun a => by
    match a with | ⟨0, _⟩ => exact Subsingleton.elim (α := Fin 1) _ _)

/-- What the output's buffer holds after the body, whether it stored or not. -/
theorem stored_eq (T : Tables m) (hO : Ok m) (c : Dev nD) (t : Fin grid0.N) (d) :
    (if k0_cond1 (grid0.coords t) (usedW m) = 1#1 then outAt m hO c t else (dats m hO 0 c).before 5 t d)
      = outAt m hO c (live m t) := by
  have hc := cond_iff T (grid0.coords t)
  have hb : (grid0.coords t 1).val = t.val % 168 := blk_val t
  rw [hb] at hc
  by_cases h : t.val % 168 < used m
  · exact (if_pos (hc.mpr h)).trans (congrArg (outAt m hO c) (live_self t h).symm)
  · exact (if_neg (fun e => h (hc.mp e))).trans (before_5 T hO c t (Nat.le_of_not_lt h) d)

set_option maxHeartbeats 1000000 in
/-- The body at any point. -/
theorem sound_body (T : Tables m) (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
  rw [← stored_eq m T hO c t d5]
  iapply (body_stores c Set.univ (grid0.coords t) _ _ _ _ _ _ _ _ _ _ _ _ (iblk m hO c 0 t) (iblk m hO c 1 t) (iblk m hO c 2 t) (iblk m hO c 3 t) (iblk m hO c 4 t) (tbl m 0) (tbl m 1) (tbl m 2) ((dats m hO 0 c).before 5 t d5) (usedW m) (used_word m))
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HT2]; · iexact HT2
  iintro ⟨H0, H1, H2, H3, H4, H5, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s buffers. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output's buffer at those contents is what the obligation asks of it, whether the point stores, carries or
    writes back. -/
theorem post_out (T : Tables m) (hO : Ok m) (c : Dev nD) (t : Fin (cfgM m hO).N) :
    owns (c : Thread nD τ) (ms5 m hO t) fullShare (outAt m hO c (live m t))
      ⊢ (match (cfgM m hO).idle 5 ((cfgM m hO).grid.coords t) with
        | true => match ((cfgM m hO).win 5).flush t with
          | false => iprop(∃ d, owns (c : Thread nD τ) (ms5 m hO t) fullShare ((dats m hO 0 c).before 5 t d))
          | true => owns (c : Thread nD τ) (ms5 m hO t) fullShare ((dats m hO 0 c).after 5 t)
        | false => owns (c : Thread nD τ) (ms5 m hO t) fullShare ((dats m hO 0 c).after 5 t) : sProp 𝕄) := by
  rw [after_5]
  have hX : ∀ X : Vec F S512x512 .bf16, X = outAt m hO c (live m t) →
      ((owns (c : Thread nD τ) (ms5 m hO t) fullShare (outAt m hO c (live m t)) : sProp 𝕄) ⊢ owns (c : Thread nD τ) (ms5 m hO t) fullShare X) := by
    rintro _ rfl; exact .rfl
  by_cases h : used m ≤ t.val % 168
  · rw [idle_true T hO t h]
    cases ((cfgM m hO).win 5).flush t
    · iintro H
      iexists (outAt m hO c (live m t))
      iapply (hX _ (before_5 T hO c t h _)) $$ H
    · iintro H; iexact H
  · rw [idle_false T hO t h]

set_option maxHeartbeats 1000000 in
/-- The obligation of the body, at every point. -/
theorem body_obligation (T : Tables m) (hO : Ok m) (c : Dev nD) :
    BodyObligation (dats (F := F) m hO 0 c) (defs₀ (F := F)) Variants.none () Set.univ := fun t => by
  rw [bigSep_W0, bigSep_W0, defs₀_row m hO]
  refine triple_restated (sound_body m T hO c t) rfl .rfl fun _ => ?_
  unfold bodyPost
  exact sep_mono .rfl (sep_mono .rfl (sep_mono .rfl (sep_mono .rfl (sep_mono .rfl (sep_mono .rfl (sep_mono .rfl
    (post_out m T hO c t)))))))

/-! ## The run -/

/-- A buffer the pipeline does not stage and the host does not write ends as launched. -/
theorem rest_kept (hO : Ok m) {r : PUnit × MemSt nD τ sig (Elt F)}
    (h : Pipeline.FramePost (Pipeline.pin pcfgs fun _ => adm m hO) (dats m hO) 0 (V m) r) (c : Dev nD) (b : Ref sig .tc)
    (hb : b ∈ Pipeline.restRefs sig spec0) (hv : b ≠ main_v0) :
    r.2.mem ((c.tc : Thread nD τ).loc b) = m ((c.tc : Thread nD τ).loc b) :=
  ((h c).2 b hb).trans (V_of_ne m c b hv)

set_option backward.isDefEq.respectTransparency.types false in
/-- Every run of the program ends with each array of the pipeline at the contents its write-backs leave, every other
    buffer as the pipeline found it, and every semaphore at zero. -/
theorem run_main (T : Tables m) (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m T hO c).loose) (hq := fun _ _ _ => rfl)
    (howed := fun _ _ => rfl) (V := V m) (hmain := hmain m Variants.none) (hA := A_eq m hO) (hpf := V_pre m) (hΦ := fun _ _ => rfl)

/-- What the final states hold: the arguments as launched, every semaphore at zero, and the result at the contents the
    write-backs leave. -/
theorem run_results (T : Tables m) (hO : Ok m) : θ_run defs (onTc (τ := τ) (main (F := F))) ⟨m, fun _ => 0, ρ⟩ (fun r =>
    (∀ c : Dev nD, r.2.mem ((c.tc : Thread nD τ).loc main_v1) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 5,
      (((h.1 c).1 0).trans ((dats m hO 0 c).arrAt_in 0 rfl _)).trans ((A_eq m hO c 0).trans (V_of_ne m c main_arg0 (by decide))),
      rest_kept m hO h.1 c main_arg1 (by decide) (by decide),
      rest_kept m hO h.1 c main_arg2 (by decide) (by decide),
      rest_kept m hO h.1 c main_arg3 (by decide) (by decide),
      (((h.1 c).1 1).trans ((dats m hO 0 c).arrAt_in 1 rfl _)).trans ((A_eq m hO c 1).trans (V_of_ne m c main_arg4 (by decide))),
      rest_kept m hO h.1 c main_arg5 (by decide) (by decide)⟩, h.2⟩) (run_main m ρ T hO)

end Cert.MoeUp.Run
end
-- ==== Proof.GatherRows.lean ====
/- A gather of whole slices of an array by their leading coordinate, read at an index: the array at the slice its index
   array names, read as a signed number and clamped into the array. -/
module

public import Idealize.ShloMosaic.Lib.ValueIdxCore
public import Idealize.ShloMosaic.Lib.Pointwise.Index

@[expose] public section

noncomputable section

namespace Gather

open Idealize.ShloMosaic

variable {α : Type}

/-- The dimension numbers of a gather of `[A, B]` slices of an `[N, A, B]` array by `R` indices. -/
abbrev dims3 (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a gather of `[A]` rows of an `[N, A]` array by `R` indices. -/
abbrev dims2 (N R A : ℕ) (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

theorem gather3 {N R A B w : ℕ} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N R A B wf) x idx (ix3 r a b) = x (ix3 ⟨min (idx (ix2 r 0)).toInt.toNat (N - 1), by omega⟩ a b) := by
  unfold Host.gather
  congr 1
  funext d
  refine Fin.ext ?_
  show (dims3 N R A B wf).start (ix3 r a b) idx d + (dims3 N R A B wf).batchCoord (ix3 r a b) d + (dims3 N R A B wf).offCoord (ix3 r a b) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (dims3 N R A B wf).startIndexMap from List.mem_singleton.mpr rfl)]
    have hsi : (dims3 N R A B wf).siIdx (ix3 r a b) ⟨List.idxOf (0 : Fin 3) (dims3 N R A B wf).startIndexMap,
        List.idxOf_lt_length_iff.2 (List.mem_singleton.mpr rfl)⟩ = ix2 r 0 := by
      funext d; refine Fin.ext ?_
      match d with
      | ⟨0, _⟩ => rfl
      | ⟨1, _⟩ => rfl
    exact congrArg (fun k => min (idx k).toInt.toNat (N - 1)) hsi
  | ⟨1, _⟩ =>
    unfold GatherDims.start
    rw [dif_neg (fun h => by have := List.mem_singleton.mp h; exact absurd (congrArg Fin.val this) (Nat.succ_ne_zero _)), Nat.zero_add]
    rfl
  | ⟨2, _⟩ =>
    unfold GatherDims.start
    rw [dif_neg (fun h => by have := List.mem_singleton.mp h; exact absurd (congrArg Fin.val this) (Nat.succ_ne_zero _)), Nat.zero_add]
    rfl

theorem gather2 {N R A w : ℕ} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N R A wf) x idx (ix2 r a) = x (ix2 ⟨min (idx (ix2 r 0)).toInt.toNat (N - 1), by omega⟩ a) := by
  unfold Host.gather
  congr 1
  funext d
  refine Fin.ext ?_
  show (dims2 N R A wf).start (ix2 r a) idx d + (dims2 N R A wf).batchCoord (ix2 r a) d + (dims2 N R A wf).offCoord (ix2 r a) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (dims2 N R A wf).startIndexMap from List.mem_singleton.mpr rfl)]
    have hsi : (dims2 N R A wf).siIdx (ix2 r a) ⟨List.idxOf (0 : Fin 2) (dims2 N R A wf).startIndexMap,
        List.idxOf_lt_length_iff.2 (List.mem_singleton.mpr rfl)⟩ = ix2 r 0 := by
      funext d; refine Fin.ext ?_
      match d with
      | ⟨0, _⟩ => rfl
      | ⟨1, _⟩ => rfl
    exact congrArg (fun k => min (idx k).toInt.toNat (N - 1)) hsi
  | ⟨1, _⟩ =>
    unfold GatherDims.start
    rw [dif_neg (fun h => by have := List.mem_singleton.mp h; exact absurd (congrArg Fin.val this) (Nat.succ_ne_zero _)), Nat.zero_add]
    rfl

end Gather
end
-- ==== Proof.MoeUpRefValue.lean ====
/- The reference of the experts' first products, index by index: each row through its block's expert. -/
module

public import proofs.«01_k».proof.Proof.Gen.MoeUpRefIdeal.Run
public import proofs.«01_k».proof.Proof.GatherRows
public import Idealize.ShloMosaic.Lib.Pipeline.ValueKit
public import Idealize.ShloMosaic.Lib.Claim
public import Idealize.ShloMosaic.Lib.WordCmp

@[expose] public section

set_option maxRecDepth 16384

noncomputable section

namespace Cert.MoeUpRefIdeal.Stages

open Cert.MoeUpRefIdeal Cert.MoeUpRefIdeal.Gen Idealize.ShloMosaic Idealize.ShloMosaic.TcCoe Idealize.SL.Sem

/-- The experts of the blocks, a negative number counted from the end of the table. -/
def IX (E : IVec S168 32) : IVec S168x1 32 :=
  broadcastInDim S168x1 ![0] bcast_S168_S168x1_0 (select (cmpi .slt E (broadcastInDim S168 ![] bcast_S_S168 (constantI S_ 32 0#32))) (addi E (broadcastInDim S168 ![] bcast_S_S168 (constantI S_ 32 32#32))) E)

/-- Every block's weights and biases. -/
def WT (E : IVec S168 32) (W : FVec Ideal S2x32x2048x4096 .f32) : FVec Ideal S168x2048x4096 .f32 :=
  Host.gather gather_S32x2048x4096_S168x1_S168x2048x4096_12_0_n_n_0_1_120484096 (shapeCast _ (extractStridedSlice S1x32x2048x4096 ![0, 0, 0, 0] W slices_S2x32x2048x4096_S1x32x2048x4096_0_0_0_0) shapeCasts_S1x32x2048x4096_S32x2048x4096) (IX E)

def BT (E : IVec S168 32) (B : FVec Ideal S2x32x4096 .f32) : FVec Ideal S168x4096 .f32 :=
  Host.gather gather_S32x4096_S168x1_S168x4096_1_0_n_n_0_1_14096 (shapeCast _ (extractStridedSlice S1x32x4096 ![0, 0, 0] B slices_S2x32x4096_S1x32x4096_0_0_0) shapeCasts_S1x32x4096_S32x4096) (IX E)

/-- The products of the rows with their blocks' weights, plus the biases. -/
def Z (X : FVec Ideal S86016x2048 .bf16) (U : FVec Ideal S168x2048x4096 .f32) (B : FVec Ideal S168x4096 .f32) : FVec Ideal S168x512x4096 .f32 :=
  addf (Host.dotGeneral dot_S168x512x2048_S168x2048x4096_S168x512x4096_2_1_1_2_0_0 none (extf .f32 (shapeCast _ X shapeCasts_S86016x2048_S168x512x2048 : FVec Ideal S168x512x2048 .bf16) bitsLt_bf16_f32) U) (broadcastInDim S168x512x4096 ![0, 1, 2] bcast_S168x1x4096_S168x512x4096_0_1_2 (broadcastInDim S168x1x4096 ![0, 2] bcast_S168x4096_S168x1x4096_0_2 B))

/-- The first half of the columns, capped. -/
def Capped (z : FVec Ideal S168x512x4096 .f32) : FVec Ideal S168x512x2048 .f32 :=
  minimumf (extractStridedSlice S168x512x2048 ![0, 0, 0] z slices_S168x512x4096_S168x512x2048_0_0_0) (broadcastInDim S168x512x2048 ![] bcast_S_S168x512x2048 (constant S_ .f32 0x40E00000#32))

/-- The gated activation of the products, as one row of the result per row. -/
def ACT (z : FVec Ideal S168x512x4096 .f32) : FVec Ideal S86016x2048 .bf16 :=
  truncf .bf16 (shapeCast _ (mulf (mulf (Capped z) (Host.divf (broadcastInDim S168x512x2048 ![] bcast_S_S168x512x2048 (constant S_ .f32 0x3F800000#32)) (addf (broadcastInDim S168x512x2048 ![] bcast_S_S168x512x2048 (constant S_ .f32 0x3F800000#32)) (Host.exp (Host.negf (mulf (broadcastInDim S168x512x2048 ![] bcast_S_S168x512x2048 (constant S_ .f32 0x3FD9DB23#32)) (Capped z))))))) (addf (minimumf (broadcastInDim S168x512x2048 ![] bcast_S_S168x512x2048 (id (constant S_ .f32 0x40E00000#32))) (maximumf (broadcastInDim S168x512x2048 ![] bcast_S_S168x512x2048 (id (constant S_ .f32 0xC0E00000#32))) (extractStridedSlice S168x512x2048 ![0, 0, 2048] z slices_S168x512x4096_S168x512x2048_0_0_2048))) (broadcastInDim S168x512x2048 ![] bcast_S_S168x512x2048 (constant S_ .f32 0x3F800000#32))) : FVec Ideal S168x512x2048 .f32) shapeCasts_S168x512x2048_S86016x2048 : FVec Ideal S86016x2048 .f32) bitsLt_bf16_f32

/-- The reference's array, as a function of the rows, the blocks' experts, the weights and the biases. -/
def REF (X : FVec Ideal S86016x2048 .bf16) (E : IVec S168 32) (W : FVec Ideal S2x32x2048x4096 .f32) (B : FVec Ideal S2x32x4096 .f32) : FVec Ideal S86016x2048 .bf16 :=
  ACT (Z X (WT E W) (BT E B))

/-- It is what the reference leaves. -/
theorem res_eq (m : (ℓ : Loc nD τ sig) → Buf (Elt Ideal) ℓ) (c : Dev nD) : Value.res_main_v42 m c
    = REF (m ((c.tc : Thread nD τ).loc main_arg0)) (m ((c.tc : Thread nD τ).loc main_arg1)) (m ((c.tc : Thread nD τ).loc main_arg4)) (m ((c.tc : Thread nD τ).loc main_arg5)) := rfl

/-- A number below 32 is not negative as a signed word, and is itself. -/
theorem toInt_small (e : BitVec 32) (h : e.toNat < 32) : e.toInt = e.toNat := by
  rw [BitVec.toInt_eq_toNat_cond, if_pos (by omega)]

/-- An expert of the table is taken as it is. -/
theorem IX_apply (E : IVec S168 32) (hE : ∀ r : Fin 168, (E (ix1 r)).toNat < 32) (r : Fin 168) : IX E (ix2 r 0) = E (ix1 r) := by
  have h := hE r
  pointwise [IX]
  have hc : IntOp.cmpi CmpIPredicate.slt (E (ix1 r)) 0#32 = 0#1 := by
    have hn : ¬ IntOp.cmpi CmpIPredicate.slt (E (ix1 r)) 0#32 = 1#1 := by
      rw [Idealize.ShloMosaic.WordCmp.cmpi_slt_eq, toInt_small _ h, decide_eq_false (by simp)]
      decide
    exact (BitVec.eq_zero_or_eq_one _).resolve_right hn
  rw [hc]
  rfl

/-- The weight rows a block multiplies are its expert's. -/
theorem WT_apply (E : IVec S168 32) (hE : ∀ r : Fin 168, (E (ix1 r)).toNat < 32) (W : FVec Ideal S2x32x2048x4096 .f32) (r : Fin 168) (k : Fin 2048) (n : Fin 4096) :
    WT E W (ix3 r k n) = W (ix4 0 ⟨(E (ix1 r)).toNat, hE r⟩ k n) := by
  have h := hE r
  unfold WT
  refine (Gather.gather3 (by decide) gather_S32x2048x4096_S168x1_S168x2048x4096_12_0_n_n_0_1_120484096_wf _ _ r k n).trans ?_
  pointwise []
  refine congrArg (fun e => W (ix4 0 e k n)) (Fin.ext ?_)
  show min (IX E (ix2 r 0)).toInt.toNat 31 = (E (ix1 r)).toNat
  rw [IX_apply E hE r, toInt_small _ h, Int.toNat_natCast]
  omega

/-- And so are the biases. -/
theorem BT_apply (E : IVec S168 32) (hE : ∀ r : Fin 168, (E (ix1 r)).toNat < 32) (B : FVec Ideal S2x32x4096 .f32) (r : Fin 168) (n : Fin 4096) :
    BT E B (ix2 r n) = B (ix3 0 ⟨(E (ix1 r)).toNat, hE r⟩ n) := by
  have h := hE r
  unfold BT
  refine (Gather.gather2 (by decide) gather_S32x4096_S168x1_S168x4096_1_0_n_n_0_1_14096_wf _ _ r n).trans ?_
  pointwise []
  refine congrArg (fun e => B (ix3 0 e n)) (Fin.ext ?_)
  show min (IX E (ix2 r 0)).toInt.toNat 31 = (E (ix1 r)).toNat
  rw [IX_apply E hE r, toInt_small _ h, Int.toNat_natCast]
  omega

/-- One product: a row of a block against a column of its weights, plus the bias. -/
theorem Z_apply (X : FVec Ideal S86016x2048 .bf16) (U : FVec Ideal S168x2048x4096 .f32) (B : FVec Ideal S168x4096 .f32) (r : Fin 168) (i : Fin 512) (n : Fin 4096) :
    Z X U B (ix3 r i n) = ∑ x : Fin 2048, X (ix2 ⟨r.val * 512 + i.val, by omega⟩ x) * U (ix3 r x n) + B (ix2 r n) := by
  pointwise [Z]

/-- The gated activation of a pair of products. -/
def act (g u : EReal) : EReal :=
  min g (Ideal.ofBits .f32 1088421888#32) * Ideal.div 1 (1 + Ideal.exp (-(Ideal.ofBits .f32 1071242019#32 * min g (Ideal.ofBits .f32 1088421888#32))))
    * (min (Ideal.ofBits .f32 1088421888#32) (max (Ideal.ofBits .f32 3235905536#32) u) + 1)

/-- One element of the result from its pair of products. -/
theorem ACT_apply (z : FVec Ideal S168x512x4096 .f32) (r : Fin 86016) (n : Fin 2048) :
    ACT z (ix2 r n) = act (z (ix3 ⟨r.val / 512, by omega⟩ ⟨r.val % 512, by omega⟩ ⟨n.val, by omega⟩)) (z (ix3 ⟨r.val / 512, by omega⟩ ⟨r.val % 512, by omega⟩ ⟨2048 + n.val, by omega⟩)) := by
  unfold act
  pointwise [ACT, Capped]
  rfl

/-- One product of the reference through the expert of the row's block. -/
def prod (X : FVec Ideal S86016x2048 .bf16) (W : FVec Ideal S2x32x2048x4096 .f32) (B : FVec Ideal S2x32x4096 .f32) (r : Fin 86016) (e : Fin 32) (n : Fin 4096) : EReal :=
  ∑ x : Fin 2048, X (ix2 r x) * W (ix4 0 e x n) + B (ix3 0 e n)

/-- One element of the reference's array. -/
theorem REF_apply (X : FVec Ideal S86016x2048 .bf16) (E : IVec S168 32) (hE : ∀ r : Fin 168, (E (ix1 r)).toNat < 32) (W : FVec Ideal S2x32x2048x4096 .f32) (B : FVec Ideal S2x32x4096 .f32)
    (r : Fin 86016) (n : Fin 2048) :
    REF X E W B (ix2 r n) = act (prod X W B r ⟨(E (ix1 ⟨r.val / 512, by omega⟩)).toNat, hE _⟩ ⟨n.val, by omega⟩) (prod X W B r ⟨(E (ix1 ⟨r.val / 512, by omega⟩)).toNat, hE _⟩ ⟨2048 + n.val, by omega⟩) := by
  have hz : ∀ k : Fin 4096, Z X (WT E W) (BT E B) (ix3 ⟨r.val / 512, by omega⟩ ⟨r.val % 512, by omega⟩ k)
      = prod X W B r ⟨(E (ix1 ⟨r.val / 512, by omega⟩)).toNat, hE _⟩ k := fun k => by
    rw [Z_apply, BT_apply E hE]
    unfold prod
    refine congrArg (· + _) (Finset.sum_congr rfl fun x _ => ?_)
    rw [WT_apply E hE]
    refine congrArg (fun q => X (ix2 q x) * _) (Fin.ext ?_)
    show r.val / 512 * 512 + r.val % 512 = r.val
    omega
  unfold REF
  rw [ACT_apply, hz, hz]

end Cert.MoeUpRefIdeal.Stages
end
-- ==== Proof.MoeUpValue.lean ====
/- What the experts' first products leave, index by index: on the rows of the blocks in use the array is the reference's. -/
module

public import proofs.«01_k».proof.Proof.MoeUpRun
public import proofs.«01_k».proof.Proof.MoeUpRefValue
public import Idealize.ShloMosaic.Lib.Pipeline.ValueKit
public import Idealize.ShloMosaic.Lib.Claim

@[expose] public section

set_option maxRecDepth 16384

noncomputable section

namespace Cert.MoeUp.Run

open Cert.MoeUp Cert.MoeUp.Gen
open Idealize.ShloMosaic Idealize.ShloMosaic.TcCoe Idealize.SL.Sem
open Idealize.ShloMosaic.Pipeline (Dat)
open Cert.MoeUpRefIdeal.Stages (REF act prod REF_apply)

variable (m : (ℓ : Loc nD τ sig) → Buf (Elt Ideal) ℓ)

/-- The rows, the weights, the biases and the blocks' experts, as launched. -/
abbrev rows (c : Dev nD) : FVec Ideal S86016x2048 .bf16 := m ((c : Thread nD τ).loc main_arg0)
abbrev wts (c : Dev nD) : FVec Ideal S2x32x2048x4096 .f32 := m ((c : Thread nD τ).loc main_arg4)
abbrev biases (c : Dev nD) : FVec Ideal S2x32x4096 .f32 := m ((c : Thread nD τ).loc main_arg5)
abbrev experts (c : Dev nD) : IVec S168 32 := m ((c : Thread nD τ).loc main_arg1)

/-- The biases as the pipeline finds them: the same numbers with an axis of one added. -/
theorem V_biases (c : Dev nD) (e : Fin 32) (n : Fin 4096) :
    (V m c main_v0 : FVec Ideal S2x32x1x4096 .f32) (ix4 0 e 0 n) = biases m c (ix3 0 e n) := by
  have h : V m c main_v0 = (shapeCast _ (biases m c) shapeCasts_S2x32x4096_S2x32x1x4096 : FVec Ideal S2x32x1x4096 .f32) := by
    show StableHlo.after hostOps0 _ _ = _
    after_results_simp <;> rfl
  rw [h]
  pointwise []

/-- The table of experts is the argument. -/
theorem expertW_eq (c : Dev nD) (r : Fin 168) : expertW m r = experts m c (ix1 r) := by
  obtain rfl : c = 0 := Subsingleton.elim _ _
  exact congrFun (V_of_ne m 0 main_arg1 (by decide)) _

variable (hO : Ok m) (c : Dev nD) (t : Fin grid0.N)

/-- The block of rows at a point. -/
theorem blk_rows (p : Fin 512) (x : Fin 2048) (q : Fin 86016) (hq : q.val = (rowW m (blk t)).toNat * 512 + p.val) :
    iblk m hO c 0 t (ix2 p x : S512x2048.Idx) = rows m c (ix2 q x) := by
  have hi : ((cfgM m hO).win 0).index t = (![(rowW m (blk t)).toNat, 0] : Fin 2 → ℕ) := ix_0 m (grid0.coords t)
  have e : (((cfgM m hO).win 0).blk t).view.emb (ix2 p x : S512x2048.Idx) = (ix2 q x : S86016x2048.Idx) := by
    funext a; refine Fin.ext ?_
    refine (Pipeline.Window.rect_emb_val ((cfgM m hO).win 0) t (ix2 p x : S512x2048.Idx) a rfl).trans ?_
    rw [hi]
    match a with
    | ⟨0, _⟩ => exact hq.symm
    | ⟨1, _⟩ => exact Nat.zero_add x.val
  have v : (V m c main_arg0 : FVec Ideal S86016x2048 .bf16) = rows m c := V_of_ne m c main_arg0 (by decide)
  exact (congrArg (V m c main_arg0 : FVec Ideal S86016x2048 .bf16) e).trans (congrFun v _)

/-- The blocks of the weights at a point. -/
theorem blk_gate (x : Fin 2048) (k : Fin 512) (q : Fin 4096) (e : Fin 32) (he : e.val = (expertW m (blk t)).toNat) (hq : q.val = (col t).val * 512 + k.val) :
    iblk m hO c 1 t (ix4 0 0 x k : S1x1x2048x512.Idx) = wts m c (ix4 0 e x q) := by
  have hi : ((cfgM m hO).win 1).index t = (![0, (expertW m (blk t)).toNat, 0, (col t).val] : Fin 4 → ℕ) := ix_1 m (grid0.coords t)
  have h : (((cfgM m hO).win 1).blk t).view.emb (ix4 0 0 x k : S1x1x2048x512.Idx) = (ix4 0 e x q : S2x32x2048x4096.Idx) := by
    funext a; refine Fin.ext ?_
    refine (Pipeline.Window.rect_emb_val ((cfgM m hO).win 1) t (ix4 0 0 x k : S1x1x2048x512.Idx) a rfl).trans ?_
    rw [hi]
    match a with
    | ⟨0, _⟩ => rfl
    | ⟨1, _⟩ => exact (Nat.mul_one _).trans he.symm
    | ⟨2, _⟩ => exact Nat.zero_add x.val
    | ⟨3, _⟩ => exact hq.symm
  have v : (V m c main_arg4 : FVec Ideal S2x32x2048x4096 .f32) = wts m c := V_of_ne m c main_arg4 (by decide)
  exact (congrArg (V m c main_arg4 : FVec Ideal S2x32x2048x4096 .f32) h).trans (congrFun v _)

theorem blk_up (x : Fin 2048) (k : Fin 512) (q : Fin 4096) (e : Fin 32) (he : e.val = (expertW m (blk t)).toNat) (hq : q.val = (4 + (col t).val) * 512 + k.val) :
    iblk m hO c 2 t (ix4 0 0 x k : S1x1x2048x512.Idx) = wts m c (ix4 0 e x q) := by
  have hi : ((cfgM m hO).win 2).index t = (![0, (expertW m (blk t)).toNat, 0, 4 + (col t).val] : Fin 4 → ℕ) := ix_2 m (grid0.coords t)
  have h : (((cfgM m hO).win 2).blk t).view.emb (ix4 0 0 x k : S1x1x2048x512.Idx) = (ix4 0 e x q : S2x32x2048x4096.Idx) := by
    funext a; refine Fin.ext ?_
    refine (Pipeline.Window.rect_emb_val ((cfgM m hO).win 2) t (ix4 0 0 x k : S1x1x2048x512.Idx) a rfl).trans ?_
    rw [hi]
    match a with
    | ⟨0, _⟩ => rfl
    | ⟨1, _⟩ => exact (Nat.mul_one _).trans he.symm
    | ⟨2, _⟩ => exact Nat.zero_add x.val
    | ⟨3, _⟩ => exact hq.symm
  have v : (V m c main_arg4 : FVec Ideal S2x32x2048x4096 .f32) = wts m c := V_of_ne m c main_arg4 (by decide)
  exact (congrArg (V m c main_arg4 : FVec Ideal S2x32x2048x4096 .f32) h).trans (congrFun v _)

/-- The blocks of the biases at a point. -/
theorem blk_gate_bias (k : Fin 512) (q : Fin 4096) (e : Fin 32) (he : e.val = (expertW m (blk t)).toNat) (hq : q.val = (col t).val * 512 + k.val) :
    iblk m hO c 3 t (ix4 0 0 0 k : S1x1x1x512.Idx) = biases m c (ix3 0 e q) := by
  have hi : ((cfgM m hO).win 3).index t = (![0, (expertW m (blk t)).toNat, 0, (col t).val] : Fin 4 → ℕ) := ix_3 m (grid0.coords t)
  have h : (((cfgM m hO).win 3).blk t).view.emb (ix4 0 0 0 k : S1x1x1x512.Idx) = (ix4 0 e 0 q : S2x32x1x4096.Idx) := by
    funext a; refine Fin.ext ?_
    refine (Pipeline.Window.rect_emb_val ((cfgM m hO).win 3) t (ix4 0 0 0 k : S1x1x1x512.Idx) a rfl).trans ?_
    rw [hi]
    match a with
    | ⟨0, _⟩ => rfl
    | ⟨1, _⟩ => exact (Nat.mul_one _).trans he.symm
    | ⟨2, _⟩ => rfl
    | ⟨3, _⟩ => exact hq.symm
  exact (congrArg (V m c main_v0 : FVec Ideal S2x32x1x4096 .f32) h).trans (V_biases m c e q)

theorem blk_up_bias (k : Fin 512) (q : Fin 4096) (e : Fin 32) (he : e.val = (expertW m (blk t)).toNat) (hq : q.val = (4 + (col t).val) * 512 + k.val) :
    iblk m hO c 4 t (ix4 0 0 0 k : S1x1x1x512.Idx) = biases m c (ix3 0 e q) := by
  have hi : ((cfgM m hO).win 4).index t = (![0, (expertW m (blk t)).toNat, 0, 4 + (col t).val] : Fin 4 → ℕ) := ix_4 m (grid0.coords t)
  have h : (((cfgM m hO).win 4).blk t).view.emb (ix4 0 0 0 k : S1x1x1x512.Idx) = (ix4 0 e 0 q : S2x32x1x4096.Idx) := by
    funext a; refine Fin.ext ?_
    refine (Pipeline.Window.rect_emb_val ((cfgM m hO).win 4) t (ix4 0 0 0 k : S1x1x1x512.Idx) a rfl).trans ?_
    rw [hi]
    match a with
    | ⟨0, _⟩ => rfl
    | ⟨1, _⟩ => exact (Nat.mul_one _).trans he.symm
    | ⟨2, _⟩ => rfl
    | ⟨3, _⟩ => exact hq.symm
  exact (congrArg (V m c main_v0 : FVec Ideal S2x32x1x4096 .f32) h).trans (V_biases m c e q)

/-- What the body stores, at an index: the gated activation of the block's two products. -/
theorem outB_apply (x0 : Vec Ideal S512x2048 .bf16) (x1 x2 : Vec Ideal S1x1x2048x512 .f32) (x3 x4 : Vec Ideal S1x1x1x512 .f32) (p k : Fin 512) :
    outB x0 x1 x2 x3 x4 (ix2 p k) = act (∑ x : Fin 2048, x0 (ix2 p x) * x1 (ix4 0 0 x k) + x3 (ix4 0 0 0 k)) (∑ x : Fin 2048, x0 (ix2 p x) * x2 (ix4 0 0 x k) + x4 (ix4 0 0 0 k)) := by
  unfold outB act
  frame_out
  pointwise [k0_pay1, k0_pay2, k0_pay3]
  simp only [zero_sub]

/-- What the body's products at a point are: the reference's two products at the rows of its block, through its expert. -/
theorem outAt_apply (p k : Fin 512) (q : Fin 86016) (e : Fin 32) (n : Fin 2048)
    (hq : q.val = (rowW m (blk t)).toNat * 512 + p.val) (he : e.val = (expertW m (blk t)).toNat) (hn : n.val = (col t).val * 512 + k.val) :
    outAt m hO c t (ix2 p k) = act (prod (rows m c) (wts m c) (biases m c) q e ⟨n.val, by omega⟩) (prod (rows m c) (wts m c) (biases m c) q e ⟨2048 + n.val, by omega⟩) := by
  unfold outAt prod
  refine (outB_apply _ _ _ _ _ p k).trans ?_
  have hn' : 2048 + n.val = (4 + (col t).val) * 512 + k.val := by omega
  exact congrArg₂ act
    (congrArg₂ (· + ·) (Finset.sum_congr rfl fun x _ => congrArg₂ (· * ·) (blk_rows m hO c t p x q hq) (blk_gate m hO c t x k ⟨n.val, by omega⟩ e he hn)) (blk_gate_bias m hO c t k ⟨n.val, by omega⟩ e he hn))
    (congrArg₂ (· + ·) (Finset.sum_congr rfl fun x _ => congrArg₂ (· * ·) (blk_rows m hO c t p x q hq) (blk_up m hO c t x k ⟨2048 + n.val, by omega⟩ e he hn')) (blk_up_bias m hO c t k ⟨2048 + n.val, by omega⟩ e he hn'))

/-- The reference's array of the launched arguments. -/
abbrev result : FVec Ideal S86016x2048 .bf16 := REF (rows m c) (experts m c) (wts m c) (biases m c)

/-- What the output's buffer holds at a point is the reference at the rows of its block. -/
theorem stored (T : Tables m) (p k : Fin 512) (i : Fin 86016) (n : Fin 2048)
    (hi : i.val = min (t.val % 168) (used m - 1) * 512 + p.val) (hn : n.val = t.val / 168 * 512 + k.val) :
    outAt m hO c (live m t) (ix2 p k) = result m c (ix2 i n) := by
  have hs := T.some
  have hE : ∀ r : Fin 168, (experts m c (ix1 r)).toNat < 32 := fun r => by rw [← expertW_eq]; exact T.expert r
  have h1 := Nat.min_le_left (t.val % 168) (used m - 1)
  have h2 := Nat.mod_lt t.val (show 0 < 168 by decide)
  have hb : (blk (live m t)).val = min (t.val % 168) (used m - 1) := by rw [blk_val, live_val]; omega
  have hc : (col (live m t)).val = t.val / 168 := by rw [col_val, live_val]; omega
  have hr : (rowW m (blk (live m t))).toNat = min (t.val % 168) (used m - 1) := by
    rw [T.row, hb]; exact Nat.min_eq_left (Nat.min_le_right _ _)
  have hbi : blk (live m t) = ⟨i.val / 512, by omega⟩ := Fin.ext (by rw [hb]; show _ = i.val / 512; omega)
  rw [outAt_apply m hO c (live m t) p k i ⟨(experts m c (ix1 ⟨i.val / 512, by omega⟩)).toNat, hE _⟩ n
    (by rw [hr]; exact hi) (by rw [expertW_eq m c, hbi]) (by rw [hc]; exact hn)]
  exact (REF_apply _ _ hE _ _ i n).symm

/-- A block index of the output, placed in the array. -/
theorem out_place (T : Tables m) (p k : Fin 512) (i : Fin 86016) (n : Fin 2048)
    (hi : i.val = min (t.val % 168) (used m - 1) * 512 + p.val) (hn : n.val = t.val / 168 * 512 + k.val) :
    (((cfgM m hO).win 5).blk t).view.emb (ix2 p k : S512x512.Idx) = (ix2 i n : S86016x2048.Idx) := by
  funext a; refine Fin.ext ?_
  refine (Pipeline.Window.rect_emb_val ((cfgM m hO).win 5) t (ix2 p k : S512x512.Idx) a rfl).trans ?_
  rw [index_out T hO t]
  match a with
  | ⟨0, _⟩ => exact hi.symm
  | ⟨1, _⟩ => exact hn.symm

/-- An index of a block of the output is its two coordinates. -/
theorem block_index (y : S512x512.Idx) : ∃ p k : Fin 512, y = ix2 p k :=
  ⟨y 0, y 1, by funext a; match a with | ⟨0, _⟩ => rfl | ⟨1, _⟩ => rfl⟩

/-- What every write-back writes is its block of the reference. -/
theorem flushed_eq (T : Tables m) : (dats m hO 0 c).flushed 5 t = (((cfgM m hO).win 5).blk t).view.read (Elt Ideal) (result m c) := by
  have hN : t.val < 672 := Nat.lt_of_lt_of_eq t.isLt N_0
  have h1 := Nat.min_le_left (t.val % 168) (used m - 1)
  have h2 := Nat.mod_lt t.val (show 0 < 168 by decide)
  funext y
  obtain ⟨p, k, rfl⟩ := block_index y
  have hp : min (t.val % 168) (used m - 1) * 512 + p.val < 86016 := by omega
  have hk : t.val / 168 * 512 + k.val < 2048 := by omega
  refine (congrFun (after_5 m hO c t) _).trans ?_
  refine (stored m hO c t T p k ⟨_, hp⟩ ⟨_, hk⟩ rfl rfl).trans ?_
  exact congrArg (result m c) (out_place m hO t T p k ⟨_, hp⟩ ⟨_, hk⟩ rfl rfl).symm

/-- After the run, a row of a block in use holds the reference's row. -/
theorem kept (T : Tables m) (i : Fin 86016) (n : Fin 2048) (hu : i.val / 512 < used m) :
    (dats m hO 0 c).arrAt 5 (cfgM m hO).N (ix2 i n : S86016x2048.Idx) = result m c (ix2 i n) := by
  have hs := T.some
  have hN : grid0.N = 672 := N_0
  obtain ⟨t, hf, ht⟩ : ∃ t : Fin grid0.N, ((cfgM m hO).win 5).flush t = true ∧ min (t.val % 168) (used m - 1) = i.val / 512 ∧ t.val / 168 = n.val / 512 := by
    by_cases h : i.val / 512 + 1 < used m
    · refine ⟨⟨n.val / 512 * 168 + i.val / 512, by omega⟩, flush_true T hO _ (Or.inl ?_), ?_, ?_⟩
      · show (n.val / 512 * 168 + i.val / 512) % 168 + 1 < used m; omega
      · show min ((n.val / 512 * 168 + i.val / 512) % 168) (used m - 1) = _; omega
      · show (n.val / 512 * 168 + i.val / 512) / 168 = _; omega
    · refine ⟨⟨n.val / 512 * 168 + 167, by omega⟩, flush_true T hO _ (Or.inr ?_), ?_, ?_⟩
      · show (n.val / 512 * 168 + 167) % 168 = 167; omega
      · show min ((n.val / 512 * 168 + 167) % 168) (used m - 1) = _; omega
      · show (n.val / 512 * 168 + 167) / 168 = _; omega
  refine (dats m hO 0 c).arrAt_apply_of_mem (w := 5) (result m c) (fun t _ => flushed_eq m hO c t T) _ t _ t.isLt hf ?_
  have e := out_place m hO t T ⟨i.val % 512, by omega⟩ ⟨n.val % 512, by omega⟩ i n (by rw [ht.1]; show _ = i.val / 512 * 512 + i.val % 512; omega) (by rw [ht.2]; show _ = n.val / 512 * 512 + n.val % 512; omega)
  rw [← e]
  exact View.emb_mem_set _ _

end Cert.MoeUp.Run

end
-- ==== Proof.MoeWords.lean ====
/- What the words of the block tables say, once they meet the precondition: the experts are below 32, at least one block
   holds rows, a block's row is its own as far as the last such block; and what the mask says of a row. -/
module

public import Idealize.ShloMosaic.PureOps
public import Idealize.ShloMosaic.Lib.WordCmp
public import Idealize.ShloMosaic.Lib.Affine

@[expose] public section

namespace MoeWords

open Idealize.ShloMosaic

/-- A word that is at least 0 and below 32 as a signed number is below 32. -/
theorem expert_of (e : BitVec 32) (h1 : IntOp.cmpi .sge e 0#32 = 1#1) (h2 : IntOp.cmpi .slt e 32#32 = 1#1) : e.toNat < 32 := by
  rw [IntOp.cmpi_sge] at h1
  rw [IntOp.cmpi_slt] at h2
  have e0 : (0#32 : BitVec 32).toInt = 0 := by decide
  have e32 : (32#32 : BitVec 32).toInt = 32 := by decide
  rw [e0] at h1; rw [e32] at h2
  rw [BitVec.toInt_eq_toNat_cond] at h1 h2
  have := e.isLt
  split at h1 <;> omega

/-- A word that is at least 1 as a signed number. -/
theorem used_of (n : BitVec 32) (h : IntOp.cmpi .sge n 1#32 = 1#1) : 1 ≤ n.toNat ∧ n.toNat < 2 ^ 31 := by
  rw [IntOp.cmpi_sge] at h
  have e1 : (1#32 : BitVec 32).toInt = 1 := by decide
  rw [e1, BitVec.toInt_eq_toNat_cond] at h
  have := n.isLt
  split at h <;> omega

/-- The row of a block: its own, up to the last block in use. -/
theorem row_of (n w : BitVec 32) (r : ℕ) (hr : r < 168) (hn : 1 ≤ n.toNat ∧ n.toNat < 2 ^ 31)
    (h : IntOp.cmpi .eq w (IntOp.minsi (BitVec.ofNat 32 r) (IntOp.subi n 1#32)) = 1#1) : w.toNat = min r (n.toNat - 1) := by
  rw [IntOp.cmpi_eq] at h
  subst h
  have e1 : (BitVec.ofNat 32 r).toNat = r := by rw [BitVec.toNat_ofNat]; omega
  have e2 : (IntOp.subi n 1#32).toNat = n.toNat - 1 := by
    show (n - 1#32).toNat = _
    rw [BitVec.toNat_sub]
    have : (1#32 : BitVec 32).toNat = 1 := by decide
    omega
  have i1 : (BitVec.ofNat 32 r).toInt = r := by rw [BitVec.toInt_eq_toNat_cond, e1, if_pos (by omega)]
  have i2 : (IntOp.subi n 1#32).toInt = ((n.toNat - 1 : ℕ) : ℤ) := by rw [BitVec.toInt_eq_toNat_cond, e2, if_pos (by omega)]
  unfold IntOp.minsi
  simp only [BitVec.slt_iff_toInt_lt, BitVec.sle_iff_toInt_le, i1, i2]
  split <;> simp only [e1, e2] <;> omega

/-- A row the mask keeps lies in a block in use. -/
theorem kept_of (n : BitVec 32) (r : ℕ) (hr : r < 86016) (hn : 1 ≤ n.toNat ∧ n.toNat < 2 ^ 31)
    (h : IntOp.cmpi .slt (BitVec.ofNat 32 r) (IntOp.muli n 512#32) = 1#1) : r / 512 < n.toNat := by
  by_cases hb : 168 ≤ n.toNat
  · omega
  rw [IntOp.cmpi_slt] at h
  have e1 : (BitVec.ofNat 32 r).toNat = r := by rw [BitVec.toNat_ofNat]; omega
  have e2 : (IntOp.muli n 512#32).toNat = n.toNat * 512 := by
    show (n * 512#32).toNat = _
    rw [BitVec.toNat_mul]
    have : (512#32 : BitVec 32).toNat = 512 := by decide
    rw [this]; omega
  rw [BitVec.toInt_eq_toNat_cond, BitVec.toInt_eq_toNat_cond, e1, e2, if_pos (by omega), if_pos (by omega)] at h
  omega

end MoeWords
-- ==== Proof.MoeUpTables.lean ====
/- The precondition on the block tables as the schedule uses it, and the mask as the value claim uses it. -/
module

public import proofs.«01_k».proof.Pre_up_tables
public import proofs.«01_k».proof.On_up_kept
public import proofs.«01_k».proof.Proof.MoeWords
public import proofs.«01_k».proof.Proof.MoeUpSchedule
public import Idealize.ShloMosaic.Lib.ReduceAll

@[expose] public section

set_option maxRecDepth 16384

noncomputable section

namespace Cert.MoeUp.Run

open Cert.MoeUp Cert.MoeUp.Gen
open Idealize.ShloMosaic Idealize.ShloMosaic.TcCoe

/-- The side conditions of the precondition and of the mask. -/
theorem preFacts : Cert.Pre_up_tables.Facts := by constructor <;> decide
theorem onFacts : Cert.On_up_kept.Facts := by constructor <;> decide

variable {F : FTy → Type} [FloatOps F]

instance : Subsingleton (Cert.Pre_up_tables.S_).Idx := ⟨fun a b => funext fun k => k.elim0⟩

instance : Subsingleton S1.Idx := ⟨fun a b => funext fun k => by match k with | ⟨0, _⟩ => exact Subsingleton.elim (α := Fin 1) (a 0) (b 0)⟩

/-- A table of one word, taken as a scalar, is that word. -/
theorem word_cast (n : IVec S1 32) (h : S1.ShapeCasts Cert.Pre_up_tables.S_) (k : Cert.Pre_up_tables.S_.Idx) : shapeCast Cert.Pre_up_tables.S_ n h k = n (ix1 0) :=
  congrArg n (Subsingleton.elim _ _)

/-- The precondition, element by element. -/
theorem pre_words [Cert.Pre_up_tables.Facts] (X : FVec F S86016x2048 .bf16) (E R : IVec S168 32) (n : IVec S1 32) (W : FVec F S2x32x2048x4096 .f32) (B : FVec F S2x32x4096 .f32)
    (h : Cert.Pre_up_tables.fn X E R n W B = fun _ => 1#1) :
    (∀ r : Fin 168, (E (ix1 r)).toNat < 32) ∧ (1 ≤ (n (ix1 0)).toNat ∧ (n (ix1 0)).toNat < 2 ^ 31)
      ∧ ∀ r : Fin 168, (R (ix1 r)).toNat = min r.val ((n (ix1 0)).toNat - 1) := by
  have h0 := congrFun h (fun k => k.elim0)
  unfold Cert.Pre_up_tables.fn at h0
  obtain ⟨h1, h2⟩ := IntOp.andi_eq_one.1 h0
  obtain ⟨h3, h4⟩ := IntOp.andi_eq_one.1 h1
  have hn := MoeWords.used_of (n (ix1 0)) (by
    have e : IntOp.cmpi .sge (shapeCast Cert.Pre_up_tables.S_ n Cert.Pre_up_tables.Facts.shapeCasts_S1_S_ (fun k => k.elim0)) 1#32 = 1#1 := h4
    rwa [word_cast] at e)
  refine ⟨fun r => ?_, hn, fun r => ?_⟩
  · have h5 := Host.reduce_andi_all _ _ _ _ _ h3 (ix1 r)
    obtain ⟨a, b⟩ := IntOp.andi_eq_one.1 h5
    exact MoeWords.expert_of _ a b
  · have h5 := Host.reduce_andi_all _ _ _ _ _ h2 (ix1 r)
    refine MoeWords.row_of (n (ix1 0)) _ r.val r.isLt hn ?_
    have e : IntOp.cmpi .eq (R (ix1 r)) (IntOp.minsi (BitVec.ofNat 32 r.val) (IntOp.subi (shapeCast Cert.Pre_up_tables.S_ n Cert.Pre_up_tables.Facts.shapeCasts_S1_S_ _) 1#32)) = 1#1 := h5
    rwa [word_cast] at e

/-- A row the mask keeps, element by element. -/
theorem on_words [Cert.On_up_kept.Facts] (X : FVec F S86016x2048 .bf16) (E R : IVec S168 32) (n : IVec S1 32) (W : FVec F S2x32x2048x4096 .f32) (B : FVec F S2x32x4096 .f32)
    (hn : 1 ≤ (n (ix1 0)).toNat ∧ (n (ix1 0)).toNat < 2 ^ 31) (i : Fin 86016) (j : Fin 2048)
    (h : Cert.On_up_kept.fn X E R n W B (ix2 i j) = 1#1) : i.val / 512 < (n (ix1 0)).toNat := by
  unfold Cert.On_up_kept.fn at h
  refine MoeWords.kept_of (n (ix1 0)) i.val i.isLt hn ?_
  have e : IntOp.cmpi .slt (BitVec.ofNat 32 i.val) (IntOp.muli (shapeCast Cert.On_up_kept.S_ n Cert.On_up_kept.Facts.shapeCasts_S1_S_ _) 512#32) = 1#1 := h
  rwa [word_cast] at e

variable (m : (ℓ : Loc nD τ sig) → Buf (Elt F) ℓ)

/-- The tables of a launch that meets the precondition. -/
theorem tables_of [Cert.Pre_up_tables.Facts] (h : ∀ c : Dev nD, Cert.Pre_up_tables.fn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    Tables m := by
  obtain ⟨h1, h2, h3⟩ := pre_words _ _ _ _ _ _ (h 0)
  have e0 : ∀ r, expertW m r = (m (((0 : Dev nD).tc : Thread nD τ).loc main_arg1) : IVec S168 32) (ix1 r) := fun r => congrFun (V_of_ne m 0 main_arg1 (by decide)) _
  have e1 : ∀ r, rowW m r = (m (((0 : Dev nD).tc : Thread nD τ).loc main_arg2) : IVec S168 32) (ix1 r) := fun r => congrFun (V_of_ne m 0 main_arg2 (by decide)) _
  have e2 : usedW m = (m (((0 : Dev nD).tc : Thread nD τ).loc main_arg3) : IVec S1 32) (ix1 0) := congrFun (V_of_ne m 0 main_arg3 (by decide)) _
  exact ⟨fun r => by rw [e0]; exact h1 r, by unfold used; rw [e2]; exact h2.1, by unfold used; rw [e2]; exact h2.2, fun r => by unfold used; rw [e1, e2]; exact h3 r⟩

/-- A row the mask keeps lies in a block in use. -/
theorem used_of_on [Cert.On_up_kept.Facts] (T : Tables m) (c : Dev nD) (i : Fin 86016) (j : Fin 2048)
    (h : Cert.On_up_kept.fn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 i j) = 1#1) :
    i.val / 512 < used m := by
  obtain rfl : c = 0 := Subsingleton.elim _ _
  have e2 : usedW m = (m (((0 : Dev nD).tc : Thread nD τ).loc main_arg3) : IVec S1 32) (ix1 0) := congrFun (V_of_ne m 0 main_arg3 (by decide)) _
  have hn : 1 ≤ (usedW m).toNat ∧ (usedW m).toNat < 2 ^ 31 := ⟨T.some, T.small⟩
  unfold used
  rw [e2] at hn ⊢
  exact on_words _ _ _ _ _ _ hn i j h

end Cert.MoeUp.Run

end
-- ==== Proof.MoeUpSame.lean ====
/- The experts' first products read over the extended reals: the program is textually the one its frame and its run are
   proved of at any arithmetic, so a run of the one is a run of the other. -/
module

public import proofs.«01_k».proof.Proof.Gen.MoeUp.Launch
public import proofs.«01_k».proof.Proof.Gen.MoeUpIdeal.Launch
public import Idealize.ShloMosaic.PureOps.Ideal

@[expose] public section

set_option maxRecDepth 16384

noncomputable section

namespace Cert.MoeUp.Same

open Idealize.ShloMosaic Idealize.ShloMosaic.TcCoe Idealize.SL.Sem

theorem main_eq : Cert.MoeUp.main (F := Ideal) = Cert.MoeUpIdeal.main (F := Ideal) := rfl
theorem pcfgs_eq : Cert.MoeUp.pcfgs (F := Ideal) = Cert.MoeUpIdeal.pcfgs (F := Ideal) := rfl

set_option maxHeartbeats 1000000 in
theorem defs₀_eq : Cert.MoeUp.defs₀ (F := Ideal) = Cert.MoeUpIdeal.defs₀ (F := Ideal) := by
  unfold Cert.MoeUp.defs₀ Cert.MoeUpIdeal.defs₀
  refine congrArg (Defs.onTc) ?_
  funext x
  match x with
  | 0 => rfl

theorem defs_eq : Cert.MoeUp.defs (F := Ideal) = Cert.MoeUpIdeal.defs (F := Ideal) :=
  congrArg (Pipeline.defs (Cert.MoeUpIdeal.pcfgs (F := Ideal))) defs₀_eq

/-- A run of the one is a run of the other. -/
theorem run_eq (s : MemSt Cert.MoeUpIdeal.nD Cert.MoeUpIdeal.τ Cert.MoeUpIdeal.sig (Elt Ideal)) (P : PUnit × MemSt Cert.MoeUpIdeal.nD Cert.MoeUpIdeal.τ Cert.MoeUpIdeal.sig (Elt Ideal) → Prop)
    (h : θ_run (Cert.MoeUp.defs (F := Ideal)) (onTc (τ := Cert.MoeUp.τ) (Cert.MoeUp.main (F := Ideal))) s P) :
    θ_run (Cert.MoeUpIdeal.defs (F := Ideal)) (onTc (τ := Cert.MoeUpIdeal.τ) (Cert.MoeUpIdeal.main (F := Ideal))) s P :=
  (congrArg (fun d => θ_run d (onTc (τ := Cert.MoeUpIdeal.τ) (Cert.MoeUpIdeal.main (F := Ideal))) s P) defs_eq).mp h

end Cert.MoeUp.Same
end
-- ==== Proof.MoeUpClaim.lean ====
/- The claims about the experts' first products: their frames, and the equality with the reference on the rows in use. -/
module

public import proofs.«01_k».proof.Defs
public import proofs.«01_k».proof.Proof.MoeUpValue
public import proofs.«01_k».proof.Proof.MoeUpTables
public import proofs.«01_k».proof.Proof.MoeUpSame
public import Idealize.ShloMosaic.Lib.Quiescent

@[expose] public section

set_option maxRecDepth 16384

noncomputable section

namespace Cert.MoeUp.Claims

open Idealize.ShloMosaic Idealize.ShloMosaic.TcCoe Idealize.SL.Sem
open Cert.MoeUp.Run (preFacts onFacts Tables tables_of used_of_on run_results kept result)

/-- The frame, at the machine's arithmetic. -/
theorem frame : Cert.quiescent_MoeUp (hMoeUp := Cert.MoeUp.Gen.facts) (hPre_up_tables := preFacts) := by
  intro m g hp
  haveI := preFacts
  have T : Tables m := tables_of m hp
  exact (θ_run Cert.MoeUp.defs _ _).mono (fun r h => ⟨fun c => (h.1 c).2, h.2⟩) (run_results m g T T.ok)

/-- The frame, over the extended reals. -/
theorem frame_ideal : Cert.quiescent_MoeUpIdeal (hMoeUpIdeal := Cert.MoeUpIdeal.Gen.facts) (hPre_up_tables := preFacts) := by
  intro m g hp
  haveI := preFacts
  have T : Tables (F := Ideal) m := tables_of (F := Ideal) m hp
  exact Cert.MoeUp.Same.run_eq _ _ ((θ_run Cert.MoeUp.defs _ _).mono (fun r h => ⟨fun c => (h.1 c).2, h.2⟩) (run_results m g T T.ok))

/-- The frame of the reference. -/
theorem frame_ref : Cert.quiescent_MoeUpRefIdeal (hMoeUpRefIdeal := Cert.MoeUpRefIdeal.Gen.facts) (hPre_up_tables := preFacts) := by
  intro m g _
  exact (θ_run Cert.MoeUpRefIdeal.defs _ _).mono (fun r h => ⟨fun c => (h c).2, sem_eq_zero_of_no_sems (by decide) r.2⟩) (Cert.MoeUpRefIdeal.Value.run m g)

/-- On the rows in use the kernel's array is the reference's. -/
theorem value : Cert.algebraic_MoeUpIdeal_MoeUpRefIdeal_on_up_kept (hMoeUpIdeal := Cert.MoeUpIdeal.Gen.facts) (hMoeUpRefIdeal := Cert.MoeUpRefIdeal.Gen.facts)
    (hPre_up_tables := preFacts) (hOn_up_kept := onFacts) := by
  intro m g m' g' hp hagree
  haveI := preFacts
  haveI := onFacts
  have T : Tables (F := Ideal) m := tables_of (F := Ideal) m hp
  refine ⟨fun c => result m c, ?_, ?_⟩
  · refine Cert.MoeUp.Same.run_eq _ _ ((θ_run Cert.MoeUp.defs _ _).mono (fun r h c => ⟨fun i hi => ?_, (h.1 c).2⟩) (run_results m g T T.ok))
    obtain ⟨a, b, rfl⟩ : ∃ (a : Fin 86016) (b : Fin 2048), i = ix2 a b := ⟨i 0, i 1, by funext k; match k with | ⟨0, _⟩ => rfl | ⟨1, _⟩ => rfl⟩
    exact (congrFun (h.1 c).1 _).trans (kept m T.ok c T a b (used_of_on m T c a b hi))
  · refine (θ_run Cert.MoeUpRefIdeal.defs _ _).mono (fun r h c => ⟨fun i _ => ?_, (h c).2⟩) (Cert.MoeUpRefIdeal.Value.run m' g')
    have e := (h c).1
    obtain ⟨h0, h1, h2, h3, h4, h5⟩ := hagree c
    refine (congrFun e i).trans (congrFun ?_ i)
    refine (Cert.MoeUpRefIdeal.Stages.res_eq m' c).trans ?_
    rw [h0, h1, h4, h5]

end Cert.MoeUp.Claims

end
-- ==== Proof.MoeDownSetup.lean ====
/- The launch of the experts' second products: what the pipeline finds in the arrays and tables when it starts, the blocks
   its windows read, and the facts about the tables that the precondition gives. -/
module

public import proofs.«01_k».proof.Proof.Gen.MoeDown.Launch
public import proofs.«01_k».proof.Proof.Gen.MoeDown.Skeleton
public import Idealize.ShloMosaic.Lib.Pipeline.FrameBody
public import Idealize.ShloMosaic.Lib.Pipeline.TableIdle
public import Idealize.ShloMosaic.Lib.Pipeline.Kit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.MoeDown.Run

open Cert.MoeDown Cert.MoeDown.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the core's buffers hold when the pipeline starts: the launch memory after the reshaping of the biases. -/
abbrev V (c : Dev nD) (b : Ref sig .tc) : Buf (Elt F) ((c : Thread nD τ).loc b) :=
  StableHlo.after hostOps0 (fun b => m (c, b)) b

/-- The reshaping writes a buffer of its own. -/
theorem fresh0 : (hostOps0 : List (HloOp τ sig (Elt F))).Forall fun op => op.fresh = ∅ := by
  simp only [List.Forall]; repeat' constructor

set_option maxHeartbeats 800000 in
/-- The program up to the pipeline runs its host operation and leaves `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- A buffer other than the reshaped biases is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The tables as the pipeline finds them; there is one device. -/
def tbl : pre0.Contents (Elt F) := fun j => V m (0 : Dev nD) (pre0.ref j)

/-- Every device finds those tables. -/
theorem V_pre (c : Dev nD) (j : Fin 3) : V m c (pre0.ref j) = tbl m j := by
  obtain rfl : c = 0 := Subsingleton.elim _ _; rfl

/-- Every block the tables name lies inside its array. -/
abbrev Ok : Prop := ok0 (F := F) (tbl m)

/-- The tables as contents the pipeline admits, and the pipeline at them. -/
abbrev adm (hO : Ok m) : (pcfg0 (F := F)).Adm := ⟨tbl m, hO⟩
abbrev cfgM (hO : Ok m) : Pipeline.Cfg sig Λ₀ := cfg0 (adm m hO)

/-- The tables as the kernel's body is handed them. -/
abbrev tb0 : Memref sig .tc .smem S168 .i32 := Memref.whole main_arg1
abbrev tb1 : Memref sig .tc .smem S168 .i32 := Memref.whole main_arg2
abbrev tb2 : Memref sig .tc .smem S1 .i32 := Memref.whole main_arg3

/-- A table's buffer on a core, and its half share that the body reads. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The half shares of the tables, one by one. -/
theorem tables_eq (c : Dev nD) : (Pipeline.ΦT pre0 (tbl m) c : sProp 𝕄)
    = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The staging buffers at point `t`. -/
abbrev ms0 (hO : Ok m) (t : Fin (cfgM m hO).N) : Memref sig .tc .vmem S512x2048 .bf16 := spec0_0.stage ((cfgM m hO).slots t 0)
abbrev ms1 (hO : Ok m) (t : Fin (cfgM m hO).N) : Memref sig .tc .vmem S1x1x2048x1024 .f32 := spec0_1.stage ((cfgM m hO).slots t 1)
abbrev ms2 (hO : Ok m) (t : Fin (cfgM m hO).N) : Memref sig .tc .vmem S1x1x1x1024 .f32 := spec0_2.stage ((cfgM m hO).slots t 2)
abbrev ms3 (hO : Ok m) (t : Fin (cfgM m hO).N) : Memref sig .tc .vmem S512x1024 .f32 := spec0_3.stage ((cfgM m hO).slots t 3)

/-- The kernel's body at point `t`, on the buffers the pipeline hands it. -/
abbrev bodyAt (a : (pcfg0 (F := F)).Adm) (t : Fin (cfg0 a).N) : Prog (TpuEff nD τ sig (Elt F) Λ₀ .tc) PUnit :=
  cc0_moe_down (grid0.coords t) tb0 (Memref.isWhole_whole _) tb1 (Memref.isWhole_whole _) tb2 (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

end Cert.MoeDown.Run

end
-- ==== Proof.MoeDownBody.lean ====
/- The body of the experts' second products, run once: at a block that holds rows it stores the block's product plus its bias; at any other it stores nothing. -/
module

public import proofs.«01_k».proof.Proof.MoeDownSetup

@[expose] public section

set_option maxRecDepth 16384

noncomputable section

namespace Cert.MoeDown.Run

open Cert.MoeDown Cert.MoeDown.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangles the body loads and stores: each a whole block. -/
abbrev rX : Rect S512x2048 := Rect.unit (s := S512x2048) ![0, 0] S512x2048.size inb_S512x2048_S512x2048_0_0
abbrev rW : Rect S1x1x2048x1024 := Rect.unit (s := S1x1x2048x1024) ![0, 0, 0, 0] S1x1x2048x1024.size inb_S1x1x2048x1024_S1x1x2048x1024_0_0_0_0
abbrev rB : Rect S1x1x1x1024 := Rect.unit (s := S1x1x1x1024) ![0, 0, 0, 0] S1x1x1x1024.size inb_S1x1x1x1024_S1x1x1x1024_0_0_0_0
abbrev rO : Rect S512x1024 := Rect.unit (s := S512x1024) ![0, 0] S512x1024.size inb_S512x1024_S512x1024_0_0

/-- What the body stores, from the blocks of the rows, the weights and the bias. -/
def outB (x0 : Vec F S512x2048 .bf16) (x1 : Vec F S1x1x2048x1024 .f32) (x2 : Vec F S1x1x1x1024 .f32) : Vec F S512x1024 .f32 :=
  View.canon [⟨rO, k0_pay1 (View.ld x0 rX) (View.ld x1 rW) (View.ld x2 rB)⟩]

/-- The store covers the block. -/
theorem cover (p : Vec F S512x1024 .f32) (y : S512x1024.Idx) :
    ∃ pc ∈ ([⟨rO, p⟩] : List (View.Piece (Elt F) S512x1024 .f32)), y ∈ pc.1.set :=
  View.cover_of_tiled [⟨rO, p⟩] S512x1024.size (by rfl) y

set_option maxHeartbeats 1000000 in
/-- At a block that holds rows, by the word of the third table. -/
theorem body_stores (c : Dev nD) (E : Set ℕ) (i : grid0.Coords) (arg5 : Memref sig .tc .vmem S512x2048 .bf16) (harg5 : arg5.IsWhole) (arg6 : Memref sig .tc .vmem S1x1x2048x1024 .f32) (harg6 : arg6.IsWhole) (arg7 : Memref sig .tc .vmem S1x1x1x1024 .f32) (harg7 : arg7.IsWhole) (arg8 : Memref sig .tc .vmem S512x1024 .f32) (harg8 : arg8.IsWhole)
    (x0 : Vec F S512x2048 .bf16) (x1 : Vec F S1x1x2048x1024 .f32) (x2 : Vec F S1x1x1x1024 .f32)
    (xt0 : TbBuf (F := F) c tb0) (xt1 : TbBuf (F := F) c tb1) (xt2 : TbBuf (F := F) c tb2)
    (y0 : Vec F S512x1024 .f32) (word : BitVec 32) (hw : ∀ x : S1.Idx, xt2 x = word) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare y0 ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare (if k0_cond1 i word = 1#1 then outB x0 x1 x2 else y0) ∗ tbPt c tb0 xt0 ∗ tbPt c tb1 xt1 ∗ tbPt c tb2 xt2) -∗ K ⟨⟩))
      ⊢ wp frame (wpE (defs₀ (F := F)) Variants.none c none) E (cc0_moe_down i tb0 (Memref.isWhole_whole _) tb1 (Memref.isWhole_whole _) tb2 (Memref.isWhole_whole _) arg5 harg5 arg6 harg6 arg7 harg7 arg8 harg8) K := by
  simp only [cc0_moe_down_eq_skeleton]; unfold cc0_moe_down_skel
  unfold owns
  iintro ⟨⟨%f0, %hf0, H0⟩, ⟨%f1, %hf1, H1⟩, ⟨%f2, %hf2, H2⟩, ⟨%f3, %hf3, H3⟩, HT0, HT1, HT2, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    have e : body_stores.sl.r c xt2 = word := by
      unfold body_stores.sl.r
      exact hw _
    rw [e]
    by_cases hc : k0_cond1 i word = 1#1
    · rw [dif_pos hc, if_pos hc]
      exact View.read_writes_eq_canon _ _ _ (cover _)
    · rw [dif_neg hc, if_neg hc]
  isplitl [HT0]; · iexact HT0
  isplitl [HT1]; · iexact HT1
  iexact HT2

end Cert.MoeDown.Run

end
-- ==== Proof.MoeDownSchedule.lean ====
/- When the experts' second products are written back: what the precondition says of the tables, where the grid's points
   lie, at which of them a block holds rows, and which of them write a block back. -/
module

public import proofs.«01_k».proof.Proof.MoeDownSetup
public import proofs.«01_k».proof.Proof.MoeUpSchedule
public import Idealize.ShloMosaic.Lib.Affine
public import Idealize.ShloMosaic.Lib.Pointwise.Index

@[expose] public section

set_option maxRecDepth 16384

noncomputable section

namespace Cert.MoeDown.Run

open Cert.MoeDown Cert.MoeDown.Gen
open Cert.MoeUp.Run (ofNat_toNat fresh_of)
open Idealize.ShloMosaic Idealize.ShloMosaic.TcCoe

variable {F : FTy → Type} [FloatOps F]

variable (m : (ℓ : Loc nD τ sig) → Buf (Elt F) ℓ)

/-- The expert of block `r`, the block that block `r` stands for, and the number of blocks that hold rows. -/
def expertW (r : Fin 168) : BitVec 32 := tbl m 0 (ix1 r : S168.Idx)
def rowW (r : Fin 168) : BitVec 32 := tbl m 1 (ix1 r : S168.Idx)
def usedW : BitVec 32 := tbl m 2 (ix1 (0 : Fin 1) : S1.Idx)
def used : ℕ := (usedW m).toNat

/-- What the precondition says of the tables: an expert of the table for every block, at least one block that holds
    rows, and every block past the last of those standing for that last one. -/
structure Tables : Prop where
  expert : ∀ r, (expertW m r).toNat < 32
  some : 1 ≤ used m
  small : used m < 2 ^ 31
  row : ∀ r, (rowW m r).toNat = min r.val (used m - 1)

/-- The column step and the block of a grid point. -/
def col (t : Fin grid0.N) : Fin 2 := grid0.coords t 0
def blk (t : Fin grid0.N) : Fin 168 := grid0.coords t 1

theorem col_val (t : Fin grid0.N) : (col t).val = t.val / 168 := by
  have h := Pipeline.Grid.coords_val t 0 (S := 168) (B := 2) (by decide) rfl
  have := t.isLt
  have e : grid0.N = 336 := N_0
  unfold col; omega

theorem blk_val (t : Fin grid0.N) : (blk t).val = t.val % 168 := by
  have h := Pipeline.Grid.coords_val t 1 (S := 1) (B := 168) (by decide) rfl
  unfold blk; omega

/-- The word a table holds at a grid point's block. -/
theorem expert_at (i : grid0.Coords) : (tbl m).at 0 (Rect.unit (s := S168) ![(Scalar.indexCast (BitVec.ofNat 32 (i 1).val)).toNat] S1.size (k0_off1_inb i)) numel1_S1
    = expertW m (i 1) := by
  unfold expertW
  refine congrArg (tbl m 0) (funext fun a => Fin.ext ?_)
  match a with
  | ⟨0, _⟩ => exact (Nat.add_zero _).trans (ofNat_toNat (k := 168) (i 1).isLt (by decide))

theorem row_at (i : grid0.Coords) : (tbl m).at 1 (Rect.unit (s := S168) ![(Scalar.indexCast (BitVec.ofNat 32 (i 1).val)).toNat] S1.size (k0_off1_inb i)) numel1_S1
    = rowW m (i 1) := by
  unfold rowW
  refine congrArg (tbl m 1) (funext fun a => Fin.ext ?_)
  match a with
  | ⟨0, _⟩ => exact (Nat.add_zero _).trans (ofNat_toNat (k := 168) (i 1).isLt (by decide))

theorem col_word (i : grid0.Coords) : (BitVec.ofNat 32 (i 0).val).toNat = (i 0).val := ofNat_toNat (k := 2) (i 0).isLt (by decide)

/-- Each window's block, in those names. -/
theorem ix_0 (i : grid0.Coords) : ix0 (tbl m) 0 i = (![(rowW m (i 1)).toNat, 0] : Fin 2 → ℕ) := by
  show ![((tbl m).at 1 _ _ : BitVec 32).toNat, 0] = _
  rw [row_at m i]
theorem ix_1 (i : grid0.Coords) : ix0 (tbl m) 1 i = (![0, (expertW m (i 1)).toNat, 0, (i 0).val] : Fin 4 → ℕ) := by
  show ![0, ((tbl m).at 0 _ _ : BitVec 32).toNat, 0, (BitVec.ofNat 32 (i 0).val).toNat] = _
  rw [expert_at m i, col_word]
theorem ix_2 (i : grid0.Coords) : ix0 (tbl m) 2 i = (![0, (expertW m (i 1)).toNat, 0, (i 0).val] : Fin 4 → ℕ) := by
  show ![0, ((tbl m).at 0 _ _ : BitVec 32).toNat, 0, (BitVec.ofNat 32 (i 0).val).toNat] = _
  rw [expert_at m i, col_word]
theorem ix_3 (i : grid0.Coords) : ix0 (tbl m) 3 i = (![(rowW m (i 1)).toNat, (i 0).val] : Fin 2 → ℕ) := by
  show ![((tbl m).at 1 _ _ : BitVec 32).toNat, (BitVec.ofNat 32 (i 0).val).toNat] = _
  rw [row_at m i, col_word]

variable {m}

/-- Tables the precondition admits name blocks inside their arrays only. -/
theorem Tables.ok (T : Tables m) : Ok m := by
  have hx : ∀ i : grid0.Coords, (expertW m (i 1)).toNat < 32 := fun i => T.expert _
  have hr : ∀ i : grid0.Coords, (rowW m (i 1)).toNat < 168 := fun i => by
    have h := T.row (i 1); have h2 : (i 1).val < 168 := (i 1).isLt
    have h3 : (rowW m (i 1)).toNat = min (i 1).val _ := h
    omega
  have hj : ∀ i : grid0.Coords, (i 0).val < 2 := fun i => (i 0).isLt
  refine ⟨fun i => ?_, fun i => ?_, fun i => ?_, fun i => ?_⟩
  · refine ⟨fun a => ?_, .inr (Affine.block_words_dvd (by decide) (by decide))⟩
    rw [show cc0_transform_0 k0_off1_inb numel1_S1 (tbl m) i = _ from ix_0 m i]
    have := hr i
    match a with
    | 0 => show (_ + 1) * 512 ≤ 86016; simp; omega
    | 1 => exact Nat.le_of_ble_eq_true rfl
  · refine ⟨fun a => ?_, .inl rfl⟩
    rw [show cc0_transform_1 k0_off1_inb numel1_S1 (tbl m) i = _ from ix_1 m i]
    have := hx i; have := hj i
    match a with
    | 0 => exact Nat.le_of_ble_eq_true rfl
    | 1 => show (_ + 1) * 1 ≤ 32; simp; omega
    | 2 => exact Nat.le_of_ble_eq_true rfl
    | 3 => show (_ + 1) * 1024 ≤ 2048; simp; omega
  · refine ⟨fun a => ?_, .inl rfl⟩
    rw [show cc0_transform_2 k0_off1_inb numel1_S1 (tbl m) i = _ from ix_2 m i]
    have := hx i; have := hj i
    match a with
    | 0 => exact Nat.le_of_ble_eq_true rfl
    | 1 => show (_ + 1) * 1 ≤ 32; simp; omega
    | 2 => exact Nat.le_of_ble_eq_true rfl
    | 3 => show (_ + 1) * 1024 ≤ 2048; simp; omega
  · refine ⟨fun a => ?_, .inr (Affine.block_words_dvd (by decide) (by decide))⟩
    rw [show cc0_transform_3 k0_off1_inb numel1_S1 (tbl m) i = _ from ix_3 m i]
    have := hr i; have := hj i
    match a with
    | 0 => show (_ + 1) * 512 ≤ 86016; simp; omega
    | 1 => show (_ + 1) * 1024 ≤ 2048; simp; omega

/-- A block holds rows when its number is below the count the third table holds. -/
theorem cond_iff (T : Tables m) (i : grid0.Coords) : (k0_cond1 i (usedW m) = 1#1) ↔ (i 1).val < used m := by
  have h1 : (usedW m).toNat < 2 ^ 31 := T.small
  have h2 : (i 1).val < 168 := (i 1).isLt
  have e : (BitVec.ofNat 32 (i 1).val).toInt = (i 1).val := by
    rw [BitVec.toInt_eq_toNat_of_lt (by rw [ofNat_toNat h2 (by decide)]; omega), ofNat_toNat h2 (by decide)]
  have e' : (usedW m).toInt = ((usedW m).toNat : ℤ) := BitVec.toInt_eq_toNat_of_lt (by omega)
  have h : k0_cond1 i (usedW m) = BitVec.ofBool (decide ((i 1).val < (usedW m).toNat)) := by
    show Scalar.cmpi .ne (Scalar.extui (BitVec.ofBool (decide ((BitVec.ofNat 32 (i 1).val).toInt < (usedW m).toInt)))) 0#32 = _
    rw [e, e']
    simp only [Nat.cast_lt]
    cases decide ((i 1).val < (usedW m).toNat) <;> decide
  rw [h, WordCmp.ofBool_decide_eq_one_iff]; rfl

/-- At a point whose block holds no rows the body stores nothing, and only there. -/
theorem idle_iff (T : Tables m) (t : Fin grid0.N) :
    idle0 (tbl m) 3 (grid0.coords t) = true ↔ used m ≤ t.val % 168 := by
  have e : (tbl m).atD 2 ![0] = usedW m := by
    unfold usedW Pipeline.Prefetch.Contents.atD
    rw [dif_pos (fun a => by match a with | ⟨0, _⟩ => exact Nat.le_of_ble_eq_true rfl)]
    exact congrArg (tbl m 2) (funext fun a => Fin.ext (by match a with | ⟨0, _⟩ => rfl))
  have h := cond_iff T (grid0.coords t)
  have hb : (grid0.coords t 1).val = t.val % 168 := blk_val t
  rw [hb] at h
  show (!(k0_cond1 (grid0.coords t) ((tbl m).atD 2 ![0]) == 1#1)) = true ↔ _
  rw [e, Bool.not_eq_true', beq_eq_false_iff_ne, ne_eq, h]; omega

/-- The output's block at a point. -/
theorem index_out (T : Tables m) (hO : Ok m) (t : Fin grid0.N) :
    ((cfgM m hO).win 3).index t = (![min (t.val % 168) (used m - 1), t.val / 168] : Fin 2 → ℕ) := by
  have h : ((cfgM m hO).win 3).index t = _ := ix_3 m (grid0.coords t)
  have e : (rowW m (grid0.coords t 1)).toNat = min (t.val % 168) (used m - 1) := (T.row _).trans (by rw [show (grid0.coords t 1).val = _ from blk_val t])
  rw [h, e, show (grid0.coords t 0).val = _ from col_val t]

/-- The output's block stays from a point to the next where the next point's block holds no rows. -/
theorem flush_false (T : Tables m) (hO : Ok m) (n : ℕ) (h : n + 1 < grid0.N) (hn : used m ≤ (n + 1) % 168) :
    ((cfgM m hO).win 3).flush ⟨n, Nat.lt_of_succ_lt h⟩ = false := by
  have hs := T.some
  have e1 := index_out T hO ⟨n, Nat.lt_of_succ_lt h⟩
  have e2 := index_out T hO ⟨n + 1, h⟩
  have e : ((cfgM m hO).win 3).index ⟨n + 1, h⟩ = ((cfgM m hO).win 3).index ⟨n, Nat.lt_of_succ_lt h⟩ := by
    rw [e1, e2]
    have a1 : (n + 1) / 168 = n / 168 := by omega
    have a2 : min ((n + 1) % 168) (used m - 1) = min (n % 168) (used m - 1) := by omega
    show ![min ((n + 1) % 168) _, (n + 1) / 168] = ![min (n % 168) _, n / 168]
    rw [a1, a2]
  have hN : ¬ (n + 1 = (cfgM m hO).grid.N) := by exact Nat.ne_of_lt h
  unfold Pipeline.Window.flush
  rw [decide_eq_false hN, Bool.false_or, decide_eq_false, Bool.and_false]
  rintro ⟨h', hne⟩
  exact hne e

/-- The output's block is written back from the last point of each block that holds rows. -/
theorem flush_true (T : Tables m) (hO : Ok m) (t : Fin grid0.N) (ht : t.val % 168 + 1 < used m ∨ t.val % 168 = 167) :
    ((cfgM m hO).win 3).flush t = true := by
  have hN : grid0.N = 336 := N_0
  have hs := T.some
  have hlt := t.isLt
  unfold Pipeline.Window.flush
  rw [Bool.and_eq_true]
  refine ⟨rfl, ?_⟩
  by_cases hl : t.val + 1 = grid0.N
  · rw [decide_eq_true (show t.val + 1 = (cfgM m hO).grid.N from hl), Bool.true_or]
  · rw [Bool.or_eq_true]
    refine .inr (decide_eq_true ⟨(by show t.val + 1 < grid0.N; omega), fun e => ?_⟩)
    have e1 := index_out T hO t
    have e2 := index_out T hO ⟨t.val + 1, by omega⟩
    have e3 : (![min ((t.val + 1) % 168) (used m - 1), (t.val + 1) / 168] : Fin 2 → ℕ) = ![min (t.val % 168) (used m - 1), t.val / 168] :=
      e2.symm.trans (e.trans e1)
    have f0 : min ((t.val + 1) % 168) (used m - 1) = min (t.val % 168) (used m - 1) := congrFun e3 0
    have f1 : (t.val + 1) / 168 = t.val / 168 := congrFun e3 1
    omega

/-- The pipeline's idle points are the body's. -/
theorem idle_cfg (hO : Ok m) : (cfgM m hO).idle = idle0 (tbl m) := rfl

theorem idle_at (hO : Ok m) (i : (cfgM m hO).grid.Coords) : (cfgM m hO).idle 3 i = idle0 (tbl m) 3 i := by
  rw [idle_cfg hO]; rfl

theorem idle_false (T : Tables m) (hO : Ok m) (t : Fin grid0.N) (h : ¬ used m ≤ t.val % 168) :
    (cfgM m hO).idle 3 ((cfgM m hO).grid.coords t) = false := by
  have h' : idle0 (tbl m) 3 (grid0.coords t) = false := Bool.eq_false_iff.mpr fun e => h ((idle_iff T t).mp e)
  rw [idle_at hO]; exact h'

theorem idle_true (T : Tables m) (hO : Ok m) (t : Fin grid0.N) (h : used m ≤ t.val % 168) :
    (cfgM m hO).idle 3 ((cfgM m hO).grid.coords t) = true := by
  have h' : idle0 (tbl m) 3 (grid0.coords t) = true := (idle_iff T t).mpr h
  rw [idle_at hO]; exact h'

/-- At a point whose block holds no rows the output's buffer holds what an earlier point stored. -/
theorem fresh_false (T : Tables m) (hO : Ok m) (n : ℕ) (h : n < grid0.N) (hn : used m ≤ n % 168) :
    (cfgM m hO).fresh 3 n = false := by
  refine fresh_of (cfgM m hO) 3 (fun n => used m ≤ n % 168) (by have := T.some; show ¬ (used m ≤ 0 % 168); omega) ?_ ?_ n h hn
  · exact fun n h hn => flush_false T hO n h hn
  · exact fun n h hn => idle_false T hO ⟨n, h⟩ hn

/-- The point whose products the output's buffer holds at point `t`: `t` itself where its block holds rows, and the last
    such point of the column step otherwise. -/
def live (m : (ℓ : Loc nD τ sig) → Buf (Elt F) ℓ) (t : Fin grid0.N) : Fin grid0.N :=
  ⟨t.val / 168 * 168 + min (t.val % 168) (used m - 1),
    Nat.lt_of_le_of_lt (by have h1 := Nat.div_add_mod t.val 168; have h2 := Nat.min_le_left (t.val % 168) (used m - 1); omega) t.isLt⟩

theorem live_val (t : Fin grid0.N) : (live m t).val = t.val / 168 * 168 + min (t.val % 168) (used m - 1) := rfl

theorem live_self (t : Fin grid0.N) (h : t.val % 168 < used m) : live m t = t := Fin.ext (by
  rw [live_val]
  have e : min (t.val % 168) (used m - 1) = t.val % 168 := Nat.min_eq_left (by omega)
  rw [e]; omega)

theorem live_pred (T : Tables m) (t : Fin grid0.N) (h : used m ≤ t.val % 168) :
    live m t = live m ⟨t.val - 1, Nat.lt_of_le_of_lt (Nat.sub_le _ _) t.isLt⟩ := Fin.ext (by
  have hs := T.some
  rw [live_val, live_val]
  have e1 : min (t.val % 168) (used m - 1) = used m - 1 := Nat.min_eq_right (by omega)
  have e2 : min ((t.val - 1) % 168) (used m - 1) = used m - 1 := Nat.min_eq_right (by omega)
  have e3 : (t.val - 1) / 168 = t.val / 168 := by omega
  show _ = (t.val - 1) / 168 * 168 + min ((t.val - 1) % 168) (used m - 1)
  rw [e1, e2, e3])

end Cert.MoeDown.Run
end
-- ==== Proof.MoeDownRun.lean ====
/- The run of the experts' second products: what every staging buffer holds point by point, the body's obligation at every
   point, the run it gives, and the frame. -/
module

public import proofs.«01_k».proof.Proof.MoeDownBody
public import proofs.«01_k».proof.Proof.MoeDownSchedule

@[expose] public section

set_option maxRecDepth 16384

noncomputable section

namespace Cert.MoeDown.Run

open Cert.MoeDown Cert.MoeDown.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body's product at point `t` is. -/
def outAt (hO : Ok m) (c : Dev nD) (t : Fin grid0.N) : Vec F S512x1024 .f32 :=
  outB (iblk m hO c 0 t) (iblk m hO c 1 t) (iblk m hO c 2 t)

/-- The pipeline's data: the arrays as found; after the body each input's buffer at its block, and the output's at the
    products of the last point at which it was stored. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c (live m t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outAt m hO c (live m t) := by dsimp only [dats]; try rfl

/-- Each input's buffer holds its block when the body is called. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

variable {m}

/-- Where a block holds no rows the output's buffer holds the products of the last block that does. -/
theorem before_3 (T : Tables m) (hO : Ok m) (c : Dev nD) (t : Fin grid0.N) (h : used m ≤ t.val % 168) (d) :
    (dats m hO 0 c).before 3 t d = outAt m hO c (live m t) := by
  have ht : (t : ℕ) ≠ 0 := fun e => by have := T.some; rw [e] at h; omega
  have hc : ∀ (t : Fin (cfgM m hO).N) (_ : t.val ≠ 0), (cfgM m hO).idle 3 ((cfgM m hO).grid.coords t) = true → (cfgM m hO).fresh 3 t.val = false →
      (dats m hO 0 c).after 3 t = (dats m hO 0 c).after 3 ⟨t.val - 1, Nat.lt_of_le_of_lt (Nat.sub_le _ _) t.isLt⟩ := fun t _ hi _ => by
    rw [after_3, after_3]
    have hu : used m ≤ t.val % 168 := by
      by_contra hne
      have := idle_false T hO t hne
      rw [this] at hi; exact Bool.false_ne_true hi
    exact congrArg (outAt m hO c) (live_pred T t hu)
  have hb := (dats m hO 0 c).before_out_traj 3 rfl (fun _ _ => rfl) hc t.val t rfl d
  have hf : (cfgM m hO).fresh 3 t.val = false := fresh_false T hO t.val t.isLt h
  rw [hf] at hb
  refine hb.trans ?_
  rw [if_neg Bool.false_ne_true, after_3]
  exact (congrArg (outAt m hO c) (live_pred T t h)).symm

variable (m)

/-- What the body is called with at point `t`, and what it leaves. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare (outAt m hO c (live m t)))

/-- The word of the third table, at its one index. -/
theorem used_word (x : S1.Idx) : (tbl m 2 : S1.Idx → BitVec 32) x = usedW m := by
  unfold usedW
  exact congrArg (tbl m 2 : S1.Idx → BitVec 32) (funext fun a => by
    match a with | ⟨0, _⟩ => exact Subsingleton.elim (α := Fin 1) _ _)

/-- What the output's buffer holds after the body, whether it stored or not. -/
theorem stored_eq (T : Tables m) (hO : Ok m) (c : Dev nD) (t : Fin grid0.N) (d) :
    (if k0_cond1 (grid0.coords t) (usedW m) = 1#1 then outAt m hO c t else (dats m hO 0 c).before 3 t d)
      = outAt m hO c (live m t) := by
  have hc := cond_iff T (grid0.coords t)
  have hb : (grid0.coords t 1).val = t.val % 168 := blk_val t
  rw [hb] at hc
  by_cases h : t.val % 168 < used m
  · exact (if_pos (hc.mpr h)).trans (congrArg (outAt m hO c) (live_self t h).symm)
  · exact (if_neg (fun e => h (hc.mp e))).trans (before_3 T hO c t (Nat.le_of_not_lt h) d)

set_option maxHeartbeats 1000000 in
/-- The body at any point. -/
theorem sound_body (T : Tables m) (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2]
  rw [show (dats m hO 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩⟩
  rw [← stored_eq m T hO c t d3]
  iapply (body_stores c Set.univ (grid0.coords t) _ _ _ _ _ _ _ _ (iblk m hO c 0 t) (iblk m hO c 1 t) (iblk m hO c 2 t) (tbl m 0) (tbl m 1) (tbl m 2) ((dats m hO 0 c).before 3 t d3) (usedW m) (used_word m))
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  iintro ⟨H0, H1, H2, H3, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  iexact H3

/-- The body table's row at point `t`'s buffers. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output's buffer at those contents is what the obligation asks of it, whether the point stores, carries or
    writes back. -/
theorem post_out (T : Tables m) (hO : Ok m) (c : Dev nD) (t : Fin (cfgM m hO).N) :
    owns (c : Thread nD τ) (ms3 m hO t) fullShare (outAt m hO c (live m t))
      ⊢ (match (cfgM m hO).idle 3 ((cfgM m hO).grid.coords t) with
        | true => match ((cfgM m hO).win 3).flush t with
          | false => iprop(∃ d, owns (c : Thread nD τ) (ms3 m hO t) fullShare ((dats m hO 0 c).before 3 t d))
          | true => owns (c : Thread nD τ) (ms3 m hO t) fullShare ((dats m hO 0 c).after 3 t)
        | false => owns (c : Thread nD τ) (ms3 m hO t) fullShare ((dats m hO 0 c).after 3 t) : sProp 𝕄) := by
  rw [after_3]
  have hX : ∀ X : Vec F S512x1024 .f32, X = outAt m hO c (live m t) →
      ((owns (c : Thread nD τ) (ms3 m hO t) fullShare (outAt m hO c (live m t)) : sProp 𝕄) ⊢ owns (c : Thread nD τ) (ms3 m hO t) fullShare X) := by
    rintro _ rfl; exact .rfl
  by_cases h : used m ≤ t.val % 168
  · rw [idle_true T hO t h]
    cases ((cfgM m hO).win 3).flush t
    · iintro H
      iexists (outAt m hO c (live m t))
      iapply (hX _ (before_3 T hO c t h _)) $$ H
    · iintro H; iexact H
  · rw [idle_false T hO t h]

set_option maxHeartbeats 1000000 in
/-- The obligation of the body, at every point. -/
theorem body_obligation (T : Tables m) (hO : Ok m) (c : Dev nD) :
    BodyObligation (dats (F := F) m hO 0 c) (defs₀ (F := F)) Variants.none () Set.univ := fun t => by
  rw [bigSep_W0, bigSep_W0, defs₀_row m hO]
  refine triple_restated (sound_body m T hO c t) rfl .rfl fun _ => ?_
  unfold bodyPost
  exact sep_mono .rfl (sep_mono .rfl (sep_mono .rfl (sep_mono .rfl (sep_mono .rfl
    (post_out m T hO c t)))))

/-! ## The run -/

/-- A buffer the pipeline does not stage and the host does not write ends as launched. -/
theorem rest_kept (hO : Ok m) {r : PUnit × MemSt nD τ sig (Elt F)}
    (h : Pipeline.FramePost (Pipeline.pin pcfgs fun _ => adm m hO) (dats m hO) 0 (V m) r) (c : Dev nD) (b : Ref sig .tc)
    (hb : b ∈ Pipeline.restRefs sig spec0) (hv : b ≠ main_v0) :
    r.2.mem ((c.tc : Thread nD τ).loc b) = m ((c.tc : Thread nD τ).loc b) :=
  ((h c).2 b hb).trans (V_of_ne m c b hv)

set_option backward.isDefEq.respectTransparency.types false in
/-- Every run of the program ends with each array of the pipeline at the contents its write-backs leave, every other
    buffer as the pipeline found it, and every semaphore at zero. -/
theorem run_main (T : Tables m) (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m T hO c).loose) (hshare := fun c w => by unfold Dat.share; split <;> rfl)
    (howed := fun _ _ => rfl) (V := V m) (hmain := hmain m Variants.none) (hA := A_eq m hO) (hpf := V_pre m) (hΦ := fun _ _ => rfl)

/-- What the final states hold: the arguments as launched, every semaphore at zero, and the result at the contents the
    write-backs leave. -/
theorem run_results (T : Tables m) (hO : Ok m) : θ_run defs (onTc (τ := τ) (main (F := F))) ⟨m, fun _ => 0, ρ⟩ (fun r =>
    (∀ c : Dev nD, r.2.mem ((c.tc : Thread nD τ).loc main_v1) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 3,
      (((h.1 c).1 0).trans ((dats m hO 0 c).arrAt_in 0 rfl _)).trans ((A_eq m hO c 0).trans (V_of_ne m c main_arg0 (by decide))),
      rest_kept m hO h.1 c main_arg1 (by decide) (by decide),
      rest_kept m hO h.1 c main_arg2 (by decide) (by decide),
      rest_kept m hO h.1 c main_arg3 (by decide) (by decide),
      (((h.1 c).1 1).trans ((dats m hO 0 c).arrAt_in 1 rfl _)).trans ((A_eq m hO c 1).trans (V_of_ne m c main_arg4 (by decide))),
      rest_kept m hO h.1 c main_arg5 (by decide) (by decide)⟩, h.2⟩) (run_main m ρ T hO)

end Cert.MoeDown.Run
end
-- ==== Proof.MoeDownRefValue.lean ====
/- The reference of the experts' second products, index by index: each row through its block's expert. -/
module

public import proofs.«01_k».proof.Proof.Gen.MoeDownRefIdeal.Run
public import proofs.«01_k».proof.Proof.GatherRows
public import Idealize.ShloMosaic.Lib.Pipeline.ValueKit
public import Idealize.ShloMosaic.Lib.Claim
public import proofs.«01_k».proof.Proof.MoeUpRefValue

@[expose] public section

set_option maxRecDepth 16384

noncomputable section

namespace Cert.MoeDownRefIdeal.Stages

open Cert.MoeDownRefIdeal Cert.MoeDownRefIdeal.Gen Idealize.ShloMosaic Idealize.ShloMosaic.TcCoe Idealize.SL.Sem

/-- The experts of the blocks, a negative number counted from the end of the table. -/
def IX (E : IVec S168 32) : IVec S168x1 32 :=
  broadcastInDim S168x1 ![0] bcast_S168_S168x1_0 (select (cmpi .slt E (broadcastInDim S168 ![] bcast_S_S168 (constantI S_ 32 0#32))) (addi E (broadcastInDim S168 ![] bcast_S_S168 (constantI S_ 32 32#32))) E)

/-- Every block's weights and biases. -/
def WT (E : IVec S168 32) (W : FVec Ideal S2x32x2048x2048 .f32) : FVec Ideal S168x2048x2048 .f32 :=
  Host.gather gather_S32x2048x2048_S168x1_S168x2048x2048_12_0_n_n_0_1_120482048 (shapeCast _ (extractStridedSlice S1x32x2048x2048 ![0, 0, 0, 0] W slices_S2x32x2048x2048_S1x32x2048x2048_0_0_0_0) shapeCasts_S1x32x2048x2048_S32x2048x2048) (IX E)

def BT (E : IVec S168 32) (B : FVec Ideal S2x32x2048 .f32) : FVec Ideal S168x2048 .f32 :=
  Host.gather gather_S32x2048_S168x1_S168x2048_1_0_n_n_0_1_12048 (shapeCast _ (extractStridedSlice S1x32x2048 ![0, 0, 0] B slices_S2x32x2048_S1x32x2048_0_0_0) shapeCasts_S1x32x2048_S32x2048) (IX E)

/-- The products of the rows with their blocks' weights, plus the biases. -/
def Z (X : FVec Ideal S86016x2048 .bf16) (U : FVec Ideal S168x2048x2048 .f32) (B : FVec Ideal S168x2048 .f32) : FVec Ideal S168x512x2048 .f32 :=
  addf (Host.dotGeneral dot_S168x512x2048_S168x2048x2048_S168x512x2048_2_1_1_2_0_0 none (extf .f32 (shapeCast _ X shapeCasts_S86016x2048_S168x512x2048 : FVec Ideal S168x512x2048 .bf16) bitsLt_bf16_f32) U) (broadcastInDim S168x512x2048 ![0, 1, 2] bcast_S168x1x2048_S168x512x2048_0_1_2 (broadcastInDim S168x1x2048 ![0, 2] bcast_S168x2048_S168x1x2048_0_2 B))

/-- The reference's array, as a function of the rows, the blocks' experts, the weights and the biases. -/
def REF (X : FVec Ideal S86016x2048 .bf16) (E : IVec S168 32) (W : FVec Ideal S2x32x2048x2048 .f32) (B : FVec Ideal S2x32x2048 .f32) : FVec Ideal S86016x2048 .f32 :=
  shapeCast _ (Z X (WT E W) (BT E B)) shapeCasts_S168x512x2048_S86016x2048

/-- An expert of the table is taken as it is. -/
theorem IX_apply (E : IVec S168 32) (hE : ∀ r : Fin 168, (E (ix1 r)).toNat < 32) (r : Fin 168) : IX E (ix2 r 0) = E (ix1 r) := by
  have h := hE r
  pointwise [IX]
  have hc : IntOp.cmpi CmpIPredicate.slt (E (ix1 r)) 0#32 = 0#1 := by
    have hn : ¬ IntOp.cmpi CmpIPredicate.slt (E (ix1 r)) 0#32 = 1#1 := by
      rw [Idealize.ShloMosaic.WordCmp.cmpi_slt_eq, Cert.MoeUpRefIdeal.Stages.toInt_small _ h, decide_eq_false (by simp)]
      decide
    exact (BitVec.eq_zero_or_eq_one _).resolve_right hn
  rw [hc]
  rfl

/-- The weight rows a block multiplies are its expert's. -/
theorem WT_apply (E : IVec S168 32) (hE : ∀ r : Fin 168, (E (ix1 r)).toNat < 32) (W : FVec Ideal S2x32x2048x2048 .f32) (r : Fin 168) (k : Fin 2048) (n : Fin 2048) :
    WT E W (ix3 r k n) = W (ix4 0 ⟨(E (ix1 r)).toNat, hE r⟩ k n) := by
  have h := hE r
  unfold WT
  refine (Gather.gather3 (by decide) gather_S32x2048x2048_S168x1_S168x2048x2048_12_0_n_n_0_1_120482048_wf _ _ r k n).trans ?_
  pointwise []
  refine congrArg (fun e => W (ix4 0 e k n)) (Fin.ext ?_)
  show min (IX E (ix2 r 0)).toInt.toNat 31 = (E (ix1 r)).toNat
  rw [IX_apply E hE r, Cert.MoeUpRefIdeal.Stages.toInt_small _ h, Int.toNat_natCast]
  omega

/-- And so are the biases. -/
theorem BT_apply (E : IVec S168 32) (hE : ∀ r : Fin 168, (E (ix1 r)).toNat < 32) (B : FVec Ideal S2x32x2048 .f32) (r : Fin 168) (n : Fin 2048) :
    BT E B (ix2 r n) = B (ix3 0 ⟨(E (ix1 r)).toNat, hE r⟩ n) := by
  have h := hE r
  unfold BT
  refine (Gather.gather2 (by decide) gather_S32x2048_S168x1_S168x2048_1_0_n_n_0_1_12048_wf _ _ r n).trans ?_
  pointwise []
  refine congrArg (fun e => B (ix3 0 e n)) (Fin.ext ?_)
  show min (IX E (ix2 r 0)).toInt.toNat 31 = (E (ix1 r)).toNat
  rw [IX_apply E hE r, Cert.MoeUpRefIdeal.Stages.toInt_small _ h, Int.toNat_natCast]
  omega

/-- One product: a row of a block against a column of its weights, plus the bias. -/
theorem Z_apply (X : FVec Ideal S86016x2048 .bf16) (U : FVec Ideal S168x2048x2048 .f32) (B : FVec Ideal S168x2048 .f32) (r : Fin 168) (i : Fin 512) (n : Fin 2048) :
    Z X U B (ix3 r i n) = ∑ x : Fin 2048, X (ix2 ⟨r.val * 512 + i.val, by omega⟩ x) * U (ix3 r x n) + B (ix2 r n) := by
  pointwise [Z]

/-- One product of the reference through the expert of the row's block. -/
def prod (X : FVec Ideal S86016x2048 .bf16) (W : FVec Ideal S2x32x2048x2048 .f32) (B : FVec Ideal S2x32x2048 .f32) (r : Fin 86016) (e : Fin 32) (n : Fin 2048) : EReal :=
  ∑ x : Fin 2048, X (ix2 r x) * W (ix4 0 e x n) + B (ix3 0 e n)

/-- One element of the reference's array. -/
theorem REF_apply (X : FVec Ideal S86016x2048 .bf16) (E : IVec S168 32) (hE : ∀ r : Fin 168, (E (ix1 r)).toNat < 32) (W : FVec Ideal S2x32x2048x2048 .f32) (B : FVec Ideal S2x32x2048 .f32)
    (r : Fin 86016) (n : Fin 2048) :
    REF X E W B (ix2 r n) = prod X W B r ⟨(E (ix1 ⟨r.val / 512, by omega⟩)).toNat, hE _⟩ n := by
  have hz : REF X E W B (ix2 r n) = Z X (WT E W) (BT E B) (ix3 ⟨r.val / 512, by omega⟩ ⟨r.val % 512, by omega⟩ n) := by
    pointwise [REF]
  rw [hz, Z_apply, BT_apply E hE]
  unfold prod
  refine congrArg (· + _) (Finset.sum_congr rfl fun x _ => ?_)
  rw [WT_apply E hE]
  refine congrArg (fun q => X (ix2 q x) * _) (Fin.ext ?_)
  show r.val / 512 * 512 + r.val % 512 = r.val
  omega

end Cert.MoeDownRefIdeal.Stages
end
-- ==== Proof.MoeDownValue.lean ====
/- What the experts' second products leave, index by index: on the rows of the blocks in use the array is the reference's. -/
module

public import proofs.«01_k».proof.Proof.MoeDownRun
public import proofs.«01_k».proof.Proof.MoeDownRefValue
public import Idealize.ShloMosaic.Lib.Pipeline.ValueKit
public import Idealize.ShloMosaic.Lib.Claim

@[expose] public section

set_option maxRecDepth 16384

noncomputable section

namespace Cert.MoeDown.Run

open Cert.MoeDown Cert.MoeDown.Gen
open Idealize.ShloMosaic Idealize.ShloMosaic.TcCoe Idealize.SL.Sem
open Idealize.ShloMosaic.Pipeline (Dat)
open Cert.MoeDownRefIdeal.Stages (REF prod REF_apply)

variable (m : (ℓ : Loc nD τ sig) → Buf (Elt Ideal) ℓ)

/-- The rows, the weights, the biases and the blocks' experts, as launched. -/
abbrev rows (c : Dev nD) : FVec Ideal S86016x2048 .bf16 := m ((c : Thread nD τ).loc main_arg0)
abbrev wts (c : Dev nD) : FVec Ideal S2x32x2048x2048 .f32 := m ((c : Thread nD τ).loc main_arg4)
abbrev biases (c : Dev nD) : FVec Ideal S2x32x2048 .f32 := m ((c : Thread nD τ).loc main_arg5)
abbrev experts (c : Dev nD) : IVec S168 32 := m ((c : Thread nD τ).loc main_arg1)

/-- The biases as the pipeline finds them: the same numbers with an axis of one added. -/
theorem V_biases (c : Dev nD) (e : Fin 32) (n : Fin 2048) :
    (V m c main_v0 : FVec Ideal S2x32x1x2048 .f32) (ix4 0 e 0 n) = biases m c (ix3 0 e n) := by
  have h : V m c main_v0 = (shapeCast _ (biases m c) shapeCasts_S2x32x2048_S2x32x1x2048 : FVec Ideal S2x32x1x2048 .f32) := by
    show StableHlo.after hostOps0 _ _ = _
    after_results_simp <;> rfl
  rw [h]
  pointwise []

/-- The table of experts is the argument. -/
theorem expertW_eq (c : Dev nD) (r : Fin 168) : expertW m r = experts m c (ix1 r) := by
  obtain rfl : c = 0 := Subsingleton.elim _ _
  exact congrFun (V_of_ne m 0 main_arg1 (by decide)) _

variable (hO : Ok m) (c : Dev nD) (t : Fin grid0.N)

/-- The block of rows at a point. -/
theorem blk_rows (p : Fin 512) (x : Fin 2048) (q : Fin 86016) (hq : q.val = (rowW m (blk t)).toNat * 512 + p.val) :
    iblk m hO c 0 t (ix2 p x : S512x2048.Idx) = rows m c (ix2 q x) := by
  have hi : ((cfgM m hO).win 0).index t = (![(rowW m (blk t)).toNat, 0] : Fin 2 → ℕ) := ix_0 m (grid0.coords t)
  have e : (((cfgM m hO).win 0).blk t).view.emb (ix2 p x : S512x2048.Idx) = (ix2 q x : S86016x2048.Idx) := by
    funext a; refine Fin.ext ?_
    refine (Pipeline.Window.rect_emb_val ((cfgM m hO).win 0) t (ix2 p x : S512x2048.Idx) a rfl).trans ?_
    rw [hi]
    match a with
    | ⟨0, _⟩ => exact hq.symm
    | ⟨1, _⟩ => exact Nat.zero_add x.val
  have v : (V m c main_arg0 : FVec Ideal S86016x2048 .bf16) = rows m c := V_of_ne m c main_arg0 (by decide)
  exact (congrArg (V m c main_arg0 : FVec Ideal S86016x2048 .bf16) e).trans (congrFun v _)

/-- The blocks of the weights at a point. -/
theorem blk_weights (x : Fin 2048) (k : Fin 1024) (q : Fin 2048) (e : Fin 32) (he : e.val = (expertW m (blk t)).toNat) (hq : q.val = (col t).val * 1024 + k.val) :
    iblk m hO c 1 t (ix4 0 0 x k : S1x1x2048x1024.Idx) = wts m c (ix4 0 e x q) := by
  have hi : ((cfgM m hO).win 1).index t = (![0, (expertW m (blk t)).toNat, 0, (col t).val] : Fin 4 → ℕ) := ix_1 m (grid0.coords t)
  have h : (((cfgM m hO).win 1).blk t).view.emb (ix4 0 0 x k : S1x1x2048x1024.Idx) = (ix4 0 e x q : S2x32x2048x2048.Idx) := by
    funext a; refine Fin.ext ?_
    refine (Pipeline.Window.rect_emb_val ((cfgM m hO).win 1) t (ix4 0 0 x k : S1x1x2048x1024.Idx) a rfl).trans ?_
    rw [hi]
    match a with
    | ⟨0, _⟩ => rfl
    | ⟨1, _⟩ => exact (Nat.mul_one _).trans he.symm
    | ⟨2, _⟩ => exact Nat.zero_add x.val
    | ⟨3, _⟩ => exact hq.symm
  have v : (V m c main_arg4 : FVec Ideal S2x32x2048x2048 .f32) = wts m c := V_of_ne m c main_arg4 (by decide)
  exact (congrArg (V m c main_arg4 : FVec Ideal S2x32x2048x2048 .f32) h).trans (congrFun v _)

/-- The blocks of the biases at a point. -/
theorem blk_bias (k : Fin 1024) (q : Fin 2048) (e : Fin 32) (he : e.val = (expertW m (blk t)).toNat) (hq : q.val = (col t).val * 1024 + k.val) :
    iblk m hO c 2 t (ix4 0 0 0 k : S1x1x1x1024.Idx) = biases m c (ix3 0 e q) := by
  have hi : ((cfgM m hO).win 2).index t = (![0, (expertW m (blk t)).toNat, 0, (col t).val] : Fin 4 → ℕ) := ix_2 m (grid0.coords t)
  have h : (((cfgM m hO).win 2).blk t).view.emb (ix4 0 0 0 k : S1x1x1x1024.Idx) = (ix4 0 e 0 q : S2x32x1x2048.Idx) := by
    funext a; refine Fin.ext ?_
    refine (Pipeline.Window.rect_emb_val ((cfgM m hO).win 2) t (ix4 0 0 0 k : S1x1x1x1024.Idx) a rfl).trans ?_
    rw [hi]
    match a with
    | ⟨0, _⟩ => rfl
    | ⟨1, _⟩ => exact (Nat.mul_one _).trans he.symm
    | ⟨2, _⟩ => rfl
    | ⟨3, _⟩ => exact hq.symm
  exact (congrArg (V m c main_v0 : FVec Ideal S2x32x1x2048 .f32) h).trans (V_biases m c e q)

/-- What the body stores, at an index: the block's product plus its bias. -/
theorem outB_apply (x0 : Vec Ideal S512x2048 .bf16) (x1 : Vec Ideal S1x1x2048x1024 .f32) (x2 : Vec Ideal S1x1x1x1024 .f32) (p : Fin 512) (k : Fin 1024) :
    outB x0 x1 x2 (ix2 p k) = ∑ x : Fin 2048, x0 (ix2 p x) * x1 (ix4 0 0 x k) + x2 (ix4 0 0 0 k) := by
  unfold outB
  frame_out
  pointwise [k0_pay1]

/-- What the body's product at a point is: the reference's product at the rows of its block, through its expert. -/
theorem outAt_apply (p : Fin 512) (k : Fin 1024) (q : Fin 86016) (e : Fin 32) (n : Fin 2048)
    (hq : q.val = (rowW m (blk t)).toNat * 512 + p.val) (he : e.val = (expertW m (blk t)).toNat) (hn : n.val = (col t).val * 1024 + k.val) :
    outAt m hO c t (ix2 p k) = prod (rows m c) (wts m c) (biases m c) q e n := by
  unfold outAt prod
  refine (outB_apply _ _ _ p k).trans ?_
  exact congrArg₂ (· + ·) (Finset.sum_congr rfl fun x _ => congrArg₂ (· * ·) (blk_rows m hO c t p x q hq) (blk_weights m hO c t x k n e he hn)) (blk_bias m hO c t k n e he hn)

/-- The reference's array of the launched arguments. -/
abbrev result : FVec Ideal S86016x2048 .f32 := REF (rows m c) (experts m c) (wts m c) (biases m c)

/-- What the output's buffer holds at a point is the reference at the rows of its block. -/
theorem stored (T : Tables m) (p : Fin 512) (k : Fin 1024) (i : Fin 86016) (n : Fin 2048)
    (hi : i.val = min (t.val % 168) (used m - 1) * 512 + p.val) (hn : n.val = t.val / 168 * 1024 + k.val) :
    outAt m hO c (live m t) (ix2 p k) = result m c (ix2 i n) := by
  have hs := T.some
  have hE : ∀ r : Fin 168, (experts m c (ix1 r)).toNat < 32 := fun r => by rw [← expertW_eq]; exact T.expert r
  have h1 := Nat.min_le_left (t.val % 168) (used m - 1)
  have h2 := Nat.mod_lt t.val (show 0 < 168 by decide)
  have hb : (blk (live m t)).val = min (t.val % 168) (used m - 1) := by rw [blk_val, live_val]; omega
  have hc : (col (live m t)).val = t.val / 168 := by rw [col_val, live_val]; omega
  have hr : (rowW m (blk (live m t))).toNat = min (t.val % 168) (used m - 1) := by
    rw [T.row, hb]; exact Nat.min_eq_left (Nat.min_le_right _ _)
  have hbi : blk (live m t) = ⟨i.val / 512, by omega⟩ := Fin.ext (by rw [hb]; show _ = i.val / 512; omega)
  rw [outAt_apply m hO c (live m t) p k i ⟨(experts m c (ix1 ⟨i.val / 512, by omega⟩)).toNat, hE _⟩ n
    (by rw [hr]; exact hi) (by rw [expertW_eq m c, hbi]) (by rw [hc]; exact hn)]
  exact (REF_apply _ _ hE _ _ i n).symm

/-- A block index of the output, placed in the array. -/
theorem out_place (T : Tables m) (p : Fin 512) (k : Fin 1024) (i : Fin 86016) (n : Fin 2048)
    (hi : i.val = min (t.val % 168) (used m - 1) * 512 + p.val) (hn : n.val = t.val / 168 * 1024 + k.val) :
    (((cfgM m hO).win 3).blk t).view.emb (ix2 p k : S512x1024.Idx) = (ix2 i n : S86016x2048.Idx) := by
  funext a; refine Fin.ext ?_
  refine (Pipeline.Window.rect_emb_val ((cfgM m hO).win 3) t (ix2 p k : S512x1024.Idx) a rfl).trans ?_
  rw [index_out T hO t]
  match a with
  | ⟨0, _⟩ => exact hi.symm
  | ⟨1, _⟩ => exact hn.symm

/-- An index of a block of the output is its two coordinates. -/
theorem block_index (y : S512x1024.Idx) : ∃ (p : Fin 512) (k : Fin 1024), y = ix2 p k :=
  ⟨y 0, y 1, by funext a; match a with | ⟨0, _⟩ => rfl | ⟨1, _⟩ => rfl⟩

/-- What every write-back writes is its block of the reference. -/
theorem flushed_eq (T : Tables m) : (dats m hO 0 c).flushed 3 t = (((cfgM m hO).win 3).blk t).view.read (Elt Ideal) (result m c) := by
  have hN : t.val < 336 := Nat.lt_of_lt_of_eq t.isLt N_0
  have h1 := Nat.min_le_left (t.val % 168) (used m - 1)
  have h2 := Nat.mod_lt t.val (show 0 < 168 by decide)
  funext y
  obtain ⟨p, k, rfl⟩ := block_index y
  have hp : min (t.val % 168) (used m - 1) * 512 + p.val < 86016 := by omega
  have hk : t.val / 168 * 1024 + k.val < 2048 := by omega
  refine (congrFun (after_3 m hO c t) _).trans ?_
  refine (stored m hO c t T p k ⟨_, hp⟩ ⟨_, hk⟩ rfl rfl).trans ?_
  exact congrArg (result m c) (out_place m hO t T p k ⟨_, hp⟩ ⟨_, hk⟩ rfl rfl).symm

/-- After the run, a row of a block in use holds the reference's row. -/
theorem kept (T : Tables m) (i : Fin 86016) (n : Fin 2048) (hu : i.val / 512 < used m) :
    (dats m hO 0 c).arrAt 3 (cfgM m hO).N (ix2 i n : S86016x2048.Idx) = result m c (ix2 i n) := by
  have hs := T.some
  have hN : grid0.N = 336 := N_0
  obtain ⟨t, hf, ht⟩ : ∃ t : Fin grid0.N, ((cfgM m hO).win 3).flush t = true ∧ min (t.val % 168) (used m - 1) = i.val / 512 ∧ t.val / 168 = n.val / 1024 := by
    by_cases h : i.val / 512 + 1 < used m
    · refine ⟨⟨n.val / 1024 * 168 + i.val / 512, by omega⟩, flush_true T hO _ (Or.inl ?_), ?_, ?_⟩
      · show (n.val / 1024 * 168 + i.val / 512) % 168 + 1 < used m; omega
      · show min ((n.val / 1024 * 168 + i.val / 512) % 168) (used m - 1) = _; omega
      · show (n.val / 1024 * 168 + i.val / 512) / 168 = _; omega
    · refine ⟨⟨n.val / 1024 * 168 + 167, by omega⟩, flush_true T hO _ (Or.inr ?_), ?_, ?_⟩
      · show (n.val / 1024 * 168 + 167) % 168 = 167; omega
      · show min ((n.val / 1024 * 168 + 167) % 168) (used m - 1) = _; omega
      · show (n.val / 1024 * 168 + 167) / 168 = _; omega
  refine (dats m hO 0 c).arrAt_apply_of_mem (w := 3) (result m c) (fun t _ => flushed_eq m hO c t T) _ t _ t.isLt hf ?_
  have e := out_place m hO t T ⟨i.val % 512, by omega⟩ ⟨n.val % 1024, by omega⟩ i n (by rw [ht.1]; show _ = i.val / 512 * 512 + i.val % 512; omega) (by rw [ht.2]; show _ = n.val / 1024 * 1024 + n.val % 1024; omega)
  rw [← e]
  exact View.emb_mem_set _ _

end Cert.MoeDown.Run

end
-- ==== Proof.MoeDownTables.lean ====
/- The precondition on the block tables as the schedule uses it, and the mask as the value claim uses it. -/
module

public import proofs.«01_k».proof.Pre_down_tables
public import proofs.«01_k».proof.On_down_kept
public import proofs.«01_k».proof.Proof.MoeWords
public import proofs.«01_k».proof.Proof.MoeDownSchedule
public import Idealize.ShloMosaic.Lib.ReduceAll

@[expose] public section

set_option maxRecDepth 16384

noncomputable section

namespace Cert.MoeDown.Run

open Cert.MoeDown Cert.MoeDown.Gen
open Idealize.ShloMosaic Idealize.ShloMosaic.TcCoe

/-- The side conditions of the precondition and of the mask. -/
theorem preFacts : Cert.Pre_down_tables.Facts := by constructor <;> decide
theorem onFacts : Cert.On_down_kept.Facts := by constructor <;> decide

variable {F : FTy → Type} [FloatOps F]

instance : Subsingleton (Cert.Pre_down_tables.S_).Idx := ⟨fun a b => funext fun k => k.elim0⟩

instance : Subsingleton S1.Idx := ⟨fun a b => funext fun k => by match k with | ⟨0, _⟩ => exact Subsingleton.elim (α := Fin 1) (a 0) (b 0)⟩

/-- A table of one word, taken as a scalar, is that word. -/
theorem word_cast (n : IVec S1 32) (h : S1.ShapeCasts Cert.Pre_down_tables.S_) (k : Cert.Pre_down_tables.S_.Idx) : shapeCast Cert.Pre_down_tables.S_ n h k = n (ix1 0) :=
  congrArg n (Subsingleton.elim _ _)

/-- The precondition, element by element. -/
theorem pre_words [Cert.Pre_down_tables.Facts] (X : FVec F S86016x2048 .bf16) (E R : IVec S168 32) (n : IVec S1 32) (W : FVec F S2x32x2048x2048 .f32) (B : FVec F S2x32x2048 .f32)
    (h : Cert.Pre_down_tables.fn X E R n W B = fun _ => 1#1) :
    (∀ r : Fin 168, (E (ix1 r)).toNat < 32) ∧ (1 ≤ (n (ix1 0)).toNat ∧ (n (ix1 0)).toNat < 2 ^ 31)
      ∧ ∀ r : Fin 168, (R (ix1 r)).toNat = min r.val ((n (ix1 0)).toNat - 1) := by
  have h0 := congrFun h (fun k => k.elim0)
  unfold Cert.Pre_down_tables.fn at h0
  obtain ⟨h1, h2⟩ := IntOp.andi_eq_one.1 h0
  obtain ⟨h3, h4⟩ := IntOp.andi_eq_one.1 h1
  have hn := MoeWords.used_of (n (ix1 0)) (by
    have e : IntOp.cmpi .sge (shapeCast Cert.Pre_down_tables.S_ n Cert.Pre_down_tables.Facts.shapeCasts_S1_S_ (fun k => k.elim0)) 1#32 = 1#1 := h4
    rwa [word_cast] at e)
  refine ⟨fun r => ?_, hn, fun r => ?_⟩
  · have h5 := Host.reduce_andi_all _ _ _ _ _ h3 (ix1 r)
    obtain ⟨a, b⟩ := IntOp.andi_eq_one.1 h5
    exact MoeWords.expert_of _ a b
  · have h5 := Host.reduce_andi_all _ _ _ _ _ h2 (ix1 r)
    refine MoeWords.row_of (n (ix1 0)) _ r.val r.isLt hn ?_
    have e : IntOp.cmpi .eq (R (ix1 r)) (IntOp.minsi (BitVec.ofNat 32 r.val) (IntOp.subi (shapeCast Cert.Pre_down_tables.S_ n Cert.Pre_down_tables.Facts.shapeCasts_S1_S_ _) 1#32)) = 1#1 := h5
    rwa [word_cast] at e

/-- A row the mask keeps, element by element. -/
theorem on_words [Cert.On_down_kept.Facts] (X : FVec F S86016x2048 .bf16) (E R : IVec S168 32) (n : IVec S1 32) (W : FVec F S2x32x2048x2048 .f32) (B : FVec F S2x32x2048 .f32)
    (hn : 1 ≤ (n (ix1 0)).toNat ∧ (n (ix1 0)).toNat < 2 ^ 31) (i : Fin 86016) (j : Fin 2048)
    (h : Cert.On_down_kept.fn X E R n W B (ix2 i j) = 1#1) : i.val / 512 < (n (ix1 0)).toNat := by
  unfold Cert.On_down_kept.fn at h
  refine MoeWords.kept_of (n (ix1 0)) i.val i.isLt hn ?_
  have e : IntOp.cmpi .slt (BitVec.ofNat 32 i.val) (IntOp.muli (shapeCast Cert.On_down_kept.S_ n Cert.On_down_kept.Facts.shapeCasts_S1_S_ _) 512#32) = 1#1 := h
  rwa [word_cast] at e

variable (m : (ℓ : Loc nD τ sig) → Buf (Elt F) ℓ)

/-- The tables of a launch that meets the precondition. -/
theorem tables_of [Cert.Pre_down_tables.Facts] (h : ∀ c : Dev nD, Cert.Pre_down_tables.fn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    Tables m := by
  obtain ⟨h1, h2, h3⟩ := pre_words _ _ _ _ _ _ (h 0)
  have e0 : ∀ r, expertW m r = (m (((0 : Dev nD).tc : Thread nD τ).loc main_arg1) : IVec S168 32) (ix1 r) := fun r => congrFun (V_of_ne m 0 main_arg1 (by decide)) _
  have e1 : ∀ r, rowW m r = (m (((0 : Dev nD).tc : Thread nD τ).loc main_arg2) : IVec S168 32) (ix1 r) := fun r => congrFun (V_of_ne m 0 main_arg2 (by decide)) _
  have e2 : usedW m = (m (((0 : Dev nD).tc : Thread nD τ).loc main_arg3) : IVec S1 32) (ix1 0) := congrFun (V_of_ne m 0 main_arg3 (by decide)) _
  exact ⟨fun r => by rw [e0]; exact h1 r, by unfold used; rw [e2]; exact h2.1, by unfold used; rw [e2]; exact h2.2, fun r => by unfold used; rw [e1, e2]; exact h3 r⟩

/-- A row the mask keeps lies in a block in use. -/
theorem used_of_on [Cert.On_down_kept.Facts] (T : Tables m) (c : Dev nD) (i : Fin 86016) (j : Fin 2048)
    (h : Cert.On_down_kept.fn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 i j) = 1#1) :
    i.val / 512 < used m := by
  obtain rfl : c = 0 := Subsingleton.elim _ _
  have e2 : usedW m = (m (((0 : Dev nD).tc : Thread nD τ).loc main_arg3) : IVec S1 32) (ix1 0) := congrFun (V_of_ne m 0 main_arg3 (by decide)) _
  have hn : 1 ≤ (usedW m).toNat ∧ (usedW m).toNat < 2 ^ 31 := ⟨T.some, T.small⟩
  unfold used
  rw [e2] at hn ⊢
  exact on_words _ _ _ _ _ _ hn i j h

end Cert.MoeDown.Run

end
-- ==== Proof.MoeDownSame.lean ====
/- The experts' second products read over the extended reals: the program is textually the one its frame and its run are
   proved of at any arithmetic, so a run of the one is a run of the other. -/
module

public import proofs.«01_k».proof.Proof.Gen.MoeDown.Launch
public import proofs.«01_k».proof.Proof.Gen.MoeDownIdeal.Launch
public import Idealize.ShloMosaic.PureOps.Ideal

@[expose] public section

set_option maxRecDepth 16384

noncomputable section

namespace Cert.MoeDown.Same

open Idealize.ShloMosaic Idealize.ShloMosaic.TcCoe Idealize.SL.Sem

theorem main_eq : Cert.MoeDown.main (F := Ideal) = Cert.MoeDownIdeal.main (F := Ideal) := rfl
theorem pcfgs_eq : Cert.MoeDown.pcfgs (F := Ideal) = Cert.MoeDownIdeal.pcfgs (F := Ideal) := rfl

set_option maxHeartbeats 1000000 in
theorem defs₀_eq : Cert.MoeDown.defs₀ (F := Ideal) = Cert.MoeDownIdeal.defs₀ (F := Ideal) := by
  unfold Cert.MoeDown.defs₀ Cert.MoeDownIdeal.defs₀
  refine congrArg (Defs.onTc) ?_
  funext x
  match x with
  | 0 => rfl

theorem defs_eq : Cert.MoeDown.defs (F := Ideal) = Cert.MoeDownIdeal.defs (F := Ideal) :=
  congrArg (Pipeline.defs (Cert.MoeDownIdeal.pcfgs (F := Ideal))) defs₀_eq

/-- A run of the one is a run of the other. -/
theorem run_eq (s : MemSt Cert.MoeDownIdeal.nD Cert.MoeDownIdeal.τ Cert.MoeDownIdeal.sig (Elt Ideal)) (P : PUnit × MemSt Cert.MoeDownIdeal.nD Cert.MoeDownIdeal.τ Cert.MoeDownIdeal.sig (Elt Ideal) → Prop)
    (h : θ_run (Cert.MoeDown.defs (F := Ideal)) (onTc (τ := Cert.MoeDown.τ) (Cert.MoeDown.main (F := Ideal))) s P) :
    θ_run (Cert.MoeDownIdeal.defs (F := Ideal)) (onTc (τ := Cert.MoeDownIdeal.τ) (Cert.MoeDownIdeal.main (F := Ideal))) s P :=
  (congrArg (fun d => θ_run d (onTc (τ := Cert.MoeDownIdeal.τ) (Cert.MoeDownIdeal.main (F := Ideal))) s P) defs_eq).mp h

end Cert.MoeDown.Same
end
-- ==== Proof.MoeDownClaim.lean ====
/- The claims about the experts' second products: their frames, and the equality with the reference on the rows in use. -/
module

public import proofs.«01_k».proof.Defs
public import proofs.«01_k».proof.Proof.MoeDownValue
public import proofs.«01_k».proof.Proof.MoeDownTables
public import proofs.«01_k».proof.Proof.MoeDownSame
public import Idealize.ShloMosaic.Lib.Quiescent

@[expose] public section

set_option maxRecDepth 16384

noncomputable section

namespace Cert.MoeDown.Claims

open Idealize.ShloMosaic Idealize.ShloMosaic.TcCoe Idealize.SL.Sem
open Cert.MoeDown.Run (preFacts onFacts Tables tables_of used_of_on run_results kept result)
open Cert.MoeDownRefIdeal.Stages (REF)

/-- The frame, at the machine's arithmetic. -/
theorem frame : Cert.quiescent_MoeDown (hMoeDown := Cert.MoeDown.Gen.facts) (hPre_down_tables := preFacts) := by
  intro m g hp
  haveI := preFacts
  have T : Tables m := tables_of m hp
  exact (θ_run Cert.MoeDown.defs _ _).mono (fun r h => ⟨fun c => (h.1 c).2, h.2⟩) (run_results m g T T.ok)

/-- The frame, over the extended reals. -/
theorem frame_ideal : Cert.quiescent_MoeDownIdeal (hMoeDownIdeal := Cert.MoeDownIdeal.Gen.facts) (hPre_down_tables := preFacts) := by
  intro m g hp
  haveI := preFacts
  have T : Tables (F := Ideal) m := tables_of (F := Ideal) m hp
  exact Cert.MoeDown.Same.run_eq _ _ ((θ_run Cert.MoeDown.defs _ _).mono (fun r h => ⟨fun c => (h.1 c).2, h.2⟩) (run_results m g T T.ok))

/-- The frame of the reference. -/
theorem frame_ref : Cert.quiescent_MoeDownRefIdeal (hMoeDownRefIdeal := Cert.MoeDownRefIdeal.Gen.facts) (hPre_down_tables := preFacts) := by
  intro m g _
  exact (θ_run Cert.MoeDownRefIdeal.defs _ _).mono (fun r h => ⟨fun c => (h c).2, sem_eq_zero_of_no_sems (by decide) r.2⟩) (Cert.MoeDownRefIdeal.Value.run m g)

/-- On the rows in use the kernel's array is the reference's. -/
theorem value : Cert.algebraic_MoeDownIdeal_MoeDownRefIdeal_on_down_kept (hMoeDownIdeal := Cert.MoeDownIdeal.Gen.facts) (hMoeDownRefIdeal := Cert.MoeDownRefIdeal.Gen.facts)
    (hPre_down_tables := preFacts) (hOn_down_kept := onFacts) := by
  intro m g m' g' hp hagree
  haveI := preFacts
  haveI := onFacts
  have T : Tables (F := Ideal) m := tables_of (F := Ideal) m hp
  refine ⟨fun c => result m c, ?_, ?_⟩
  · refine Cert.MoeDown.Same.run_eq _ _ ((θ_run Cert.MoeDown.defs _ _).mono (fun r h c => ⟨fun i hi => ?_, (h.1 c).2⟩) (run_results m g T T.ok))
    obtain ⟨a, b, rfl⟩ : ∃ (a : Fin 86016) (b : Fin 2048), i = ix2 a b := ⟨i 0, i 1, by funext k; match k with | ⟨0, _⟩ => rfl | ⟨1, _⟩ => rfl⟩
    exact (congrFun (h.1 c).1 _).trans (kept m T.ok c T a b (used_of_on m T c a b hi))
  · refine (θ_run Cert.MoeDownRefIdeal.defs _ _).mono (fun r h c => ⟨fun i _ => ?_, (h c).2⟩) (Cert.MoeDownRefIdeal.Value.run m' g')
    have e : r.2.mem ((c.tc : Thread Cert.MoeDownRefIdeal.nD Cert.MoeDownRefIdeal.τ).loc Cert.MoeDownRefIdeal.main_v24)
        = REF (m' ((c.tc : Thread Cert.MoeDownRefIdeal.nD Cert.MoeDownRefIdeal.τ).loc Cert.MoeDownRefIdeal.main_arg0)) (m' ((c.tc : Thread Cert.MoeDownRefIdeal.nD Cert.MoeDownRefIdeal.τ).loc Cert.MoeDownRefIdeal.main_arg1))
          (m' ((c.tc : Thread Cert.MoeDownRefIdeal.nD Cert.MoeDownRefIdeal.τ).loc Cert.MoeDownRefIdeal.main_arg4)) (m' ((c.tc : Thread Cert.MoeDownRefIdeal.nD Cert.MoeDownRefIdeal.τ).loc Cert.MoeDownRefIdeal.main_arg5)) := (h c).1
    obtain ⟨h0, h1, h2, h3, h4, h5⟩ := hagree c
    refine (congrFun e i).trans (congrFun ?_ i)
    rw [h0, h1, h4, h5]

end Cert.MoeDown.Claims

end
-- ==== Proof.FoxPRun.lean ====
/- The forgetting attention's projections of the prompt: what the pipeline finds when it starts, what its body stores, what
   every staging buffer holds point by point, the run this gives, and the frame. The log-forget columns are stored at
   the first column block of each row block only; the other three points of that row block leave them in place. -/
module

public import proofs.«01_k».proof.Proof.Gen.FoxP.Launch
public import proofs.«01_k».proof.Proof.Gen.FoxP.Skeleton
public import proofs.«01_k».proof.Proof.MoeUpSchedule
public import Idealize.ShloMosaic.Lib.Pipeline.FrameBody
public import Idealize.ShloMosaic.Lib.Pipeline.FrameSuffix
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.FoxP.Run

open Cert.FoxP Cert.FoxP.Gen
open Cert.MoeUp.Run (fresh_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the pipeline -/

/-- The host lines before the pipeline: the weights reshaped, padded and cast, the forget bias reshaped and padded. -/
abbrev before : List (List (HloOp τ sig (Elt F))) := [hostOps0, hostOps0_1, hostOps0_2, hostOps0_3, hostOps0_4]

/-- What the core's buffers hold when the pipeline starts. -/
abbrev V0 (c : Dev nD) : Valuation τ sig (Elt F) := StableHlo.after (List.flatten before) (fun b => m (c, b))
abbrev V (c : Dev nD) (b : Ref sig .tc) : Buf (Elt F) ((c : Thread nD τ).loc b) := V0 m c (Proc.devRef .tc b)

theorem fresh_before : (before : List (List (HloOp τ sig (Elt F)))).Forall fun ops => ops.Forall fun op => op.fresh = ∅ := by
  simp only [List.Forall]; repeat' constructor

theorem fresh_tail : (hostOps1 : List (HloOp τ sig (Elt F))).Forall fun op => op.fresh = ∅ := by
  simp only [List.Forall]; repeat' constructor

set_option maxHeartbeats 800000 in
/-- The program is its host lines, the pipeline, and the slice of the log-forget columns after it. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main before [hostOps1]
    (by simp only [List.Forall]; exact ⟨hostOps0_sub, hostOps0_1_sub, hostOps0_2_sub, hostOps0_3_sub, hostOps0_4_sub⟩)
    fresh_before main_chain

/-- The slice touches unscoped buffers only, allocates none, and writes none of the pipeline's arrays. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  obtain rfl := List.mem_singleton.mp hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp fresh_tail) op hop

theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  simp only [StableHlo.unary_writes, Finset.mem_singleton]
  exact StableHlo.devRef_ne_of_ne ((by decide : ∀ w, Pipeline.arrRef spec0 w ≠ main_v9) w)

/-- The host lines before the pipeline write none of the arguments. -/
theorem V_arg (c : Dev nD) (b : Ref sig .tc)
    (hb : b = main_arg0 ∨ b = main_arg1 ∨ b = main_arg2 ∨ b = main_arg3) : V m c b = m ((c : Thread nD τ).loc b) :=
  StableHlo.after_of_forall_not_mem (b := Proc.devRef .tc b) _ _ (List.forall_iff_forall_mem.mp (by
    simp only [before, hostOps0, hostOps0_1, hostOps0_2, hostOps0_3, hostOps0_4, List.flatten_cons, List.flatten_nil,
      List.append_nil, List.cons_append, List.nil_append, List.Forall, StableHlo.TRef.unary, StableHlo.TRef.binary,
      StableHlo.nullary_writes, StableHlo.unary_writes, StableHlo.binary_writes, StableHlo.reshape_writes, Finset.mem_singleton]
    rcases hb with rfl | rfl | rfl | rfl <;> (repeat' apply And.intro) <;> exact StableHlo.devRef_ne_of_ne (by decide)))

/-! ## The body -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffers at point `t`. -/
abbrev ms0 (t : Fin cfg0.N) : Memref sig .tc .vmem S1024x2048 .f32 := win0_0.stage (cfg0.slots t 0)
abbrev ms1 (t : Fin cfg0.N) : Memref sig .tc .vmem S2048x512 .bf16 := win0_1.stage (cfg0.slots t 1)
abbrev ms2 (t : Fin cfg0.N) : Memref sig .tc .vmem S2048x512 .bf16 := win0_2.stage (cfg0.slots t 2)
abbrev ms3 (t : Fin cfg0.N) : Memref sig .tc .vmem S2048x512 .bf16 := win0_3.stage (cfg0.slots t 3)
abbrev ms4 (t : Fin cfg0.N) : Memref sig .tc .vmem S2048x128 .bf16 := win0_4.stage (cfg0.slots t 4)
abbrev ms5 (t : Fin cfg0.N) : Memref sig .tc .vmem S1x128 .f32 := win0_5.stage (cfg0.slots t 5)
abbrev ms6 (t : Fin cfg0.N) : Memref sig .tc .vmem S1024x512 .bf16 := win0_6.stage (cfg0.slots t 6)
abbrev ms7 (t : Fin cfg0.N) : Memref sig .tc .vmem S1024x512 .f32 := win0_7.stage (cfg0.slots t 7)
abbrev ms8 (t : Fin cfg0.N) : Memref sig .tc .vmem S1024x512 .f32 := win0_8.stage (cfg0.slots t 8)
abbrev ms9 (t : Fin cfg0.N) : Memref sig .tc .vmem S1024x128 .f32 := win0_9.stage (cfg0.slots t 9)

/-- The kernel's body at point `t`, on the buffers the pipeline hands it. -/
abbrev bodyAt (t : Fin cfg0.N) : Prog (TpuEff nD τ sig (Elt F) Λ₀ .tc) PUnit :=
  cc0_fox_project (grid0.coords t)
    (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    (ms4 t) (hstage0_4 ((cfg0.slots t 4).cast nbuf0_4)) (ms5 t) (hstage0_5 ((cfg0.slots t 5).cast nbuf0_5))
    (ms6 t) (hstage0_6 ((cfg0.slots t 6).cast nbuf0_6)) (ms7 t) (hstage0_7 ((cfg0.slots t 7).cast nbuf0_7))
    (ms8 t) (hstage0_8 ((cfg0.slots t 8).cast nbuf0_8)) (ms9 t) (hstage0_9 ((cfg0.slots t 9).cast nbuf0_9))

/-- The rectangles the body loads and stores: each a whole block. -/
abbrev rX : Rect S1024x2048 := Rect.unit (s := S1024x2048) ![0, 0] S1024x2048.size inb_S1024x2048_S1024x2048_0_0
abbrev rW : Rect S2048x512 := Rect.unit (s := S2048x512) ![0, 0] S2048x512.size inb_S2048x512_S2048x512_0_0
abbrev rF : Rect S2048x128 := Rect.unit (s := S2048x128) ![0, 0] S2048x128.size inb_S2048x128_S2048x128_0_0
abbrev rB : Rect S1x128 := Rect.unit (s := S1x128) ![0, 0] S1x128.size inb_S1x128_S1x128_0_0
abbrev rO : Rect S1024x512 := Rect.unit (s := S1024x512) ![0, 0] S1024x512.size inb_S1024x512_S1024x512_0_0
abbrev rL : Rect S1024x128 := Rect.unit (s := S1024x128) ![0, 0] S1024x128.size inb_S1024x128_S1024x128_0_0

/-- What the body stores: a block of queries, of keys, of values, and the rows' log-forget columns. -/
def outQ (x : Vec F S1024x2048 .f32) (w : Vec F S2048x512 .bf16) : Vec F S1024x512 .bf16 :=
  View.canon [⟨rO, k0_pay2 (View.ld x rX) (View.ld w rW)⟩]
def outK (x : Vec F S1024x2048 .f32) (w : Vec F S2048x512 .bf16) : Vec F S1024x512 .f32 :=
  View.canon [⟨rO, k0_pay3 (View.ld x rX) (View.ld w rW)⟩]
def outV (x : Vec F S1024x2048 .f32) (w : Vec F S2048x512 .bf16) : Vec F S1024x512 .f32 :=
  View.canon [⟨rO, k0_pay4 (View.ld x rX) (View.ld w rW)⟩]
def outL (x : Vec F S1024x2048 .f32) (w : Vec F S2048x128 .bf16) (b : Vec F S1x128 .f32) : Vec F S1024x128 .f32 :=
  View.canon [⟨rL, k0_pay5 (View.ld x rX) (View.ld w rF) (View.ld b rB)⟩]

/-- Each store covers its block. -/
theorem cover {e : EltTy} (p : Vec F S1024x512 e) (y : S1024x512.Idx) :
    ∃ pc ∈ ([⟨rO, p⟩] : List (View.Piece (Elt F) S1024x512 e)), y ∈ pc.1.set :=
  View.cover_of_tiled [⟨rO, p⟩] S1024x512.size (by rfl) y
theorem coverL (p : Vec F S1024x128 .f32) (y : S1024x128.Idx) :
    ∃ pc ∈ ([⟨rL, p⟩] : List (View.Piece (Elt F) S1024x128 .f32)), y ∈ pc.1.set :=
  View.cover_of_tiled [⟨rL, p⟩] S1024x128.size (by rfl) y

set_option maxHeartbeats 2000000 in
/-- The body on whole buffers stores the three products, and the log-forget columns where the column block is the
    first; at any other point it leaves those columns as they were. -/
theorem body_stores (c : Dev nD) (E : Set ℕ) (i : grid0.Coords)
    (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S2048x128 .bf16) (harg6 : arg6.IsWhole) (arg7 : Memref sig .tc .vmem S1x128 .f32) (harg7 : arg7.IsWhole)
    (arg8 : Memref sig .tc .vmem S1024x512 .bf16) (harg8 : arg8.IsWhole) (arg9 : Memref sig .tc .vmem S1024x512 .f32) (harg9 : arg9.IsWhole)
    (arg10 : Memref sig .tc .vmem S1024x512 .f32) (harg10 : arg10.IsWhole) (arg11 : Memref sig .tc .vmem S1024x128 .f32) (harg11 : arg11.IsWhole)
    (x : Vec F S1024x2048 .f32) (wq wk wv : Vec F S2048x512 .bf16) (wf : Vec F S2048x128 .bf16) (b : Vec F S1x128 .f32)
    (y : Vec F S1024x128 .f32) (K : PUnit → sProp 𝕄) :
    iprop(owns (c : Thread nD τ) arg2 fullShare x ∗ owns (c : Thread nD τ) arg3 fullShare wq ∗ owns (c : Thread nD τ) arg4 fullShare wk
        ∗ owns (c : Thread nD τ) arg5 fullShare wv ∗ owns (c : Thread nD τ) arg6 fullShare wf ∗ owns (c : Thread nD τ) arg7 fullShare b
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare y
        ∗ (iprop(owns (c : Thread nD τ) arg2 fullShare x ∗ owns (c : Thread nD τ) arg3 fullShare wq ∗ owns (c : Thread nD τ) arg4 fullShare wk
            ∗ owns (c : Thread nD τ) arg5 fullShare wv ∗ owns (c : Thread nD τ) arg6 fullShare wf ∗ owns (c : Thread nD τ) arg7 fullShare b
            ∗ owns (c : Thread nD τ) arg8 fullShare (outQ x wq) ∗ owns (c : Thread nD τ) arg9 fullShare (outK x wk) ∗ owns (c : Thread nD τ) arg10 fullShare (outV x wv)
            ∗ owns (c : Thread nD τ) arg11 fullShare (if k0_cond1 i = 1#1 then outL x wf b else y)) -∗ K ⟨⟩))
      ⊢ wp frame (wpE (defs₀ (F := F)) Variants.none c none) E (cc0_fox_project i arg2 harg2 arg3 harg3 arg4 harg4 arg5 harg5 arg6 harg6 arg7 harg7 arg8 harg8 arg9 harg9 arg10 harg10 arg11 harg11) K := by
  simp only [cc0_fox_project_eq_skeleton]; unfold cc0_fox_project_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%f9, %hf9, H9⟩, Hk⟩
  subst hf0 hf1 hf2 hf3 hf4 hf5 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover _)
  isplitl [H7]
  · iexists _; isplitr
    swap; · iexact H7
    ipureintro
    exact View.read_writes_eq_canon _ _ _ (cover _)
  isplitl [H8]
  · iexists _; isplitr
    swap; · iexact H8
    ipureintro
    exact View.read_writes_eq_canon _ _ _ (cover _)
  iexists _; isplitr
  swap; · iexact H9
  ipureintro
  by_cases hc : k0_cond1 i = 1#1
  · rw [dif_pos hc, if_pos hc]
    exact View.read_writes_eq_canon _ _ _ (coverL _)
  · rw [dif_neg hc, if_neg hc]

/-! ## When the log-forget columns are stored -/

/-- The point at which the row block of point `t` had its log-forget columns stored. -/
def live (t : Fin grid0.N) : Fin grid0.N := ⟨t.val / 4 * 4, Nat.lt_of_le_of_lt (Nat.div_mul_le_self _ _) t.isLt⟩

theorem live_self (t : Fin grid0.N) (h : t.val % 4 = 0) : live t = t :=
  Fin.ext (by show t.val / 4 * 4 = t.val; omega)

theorem live_pred (t : Fin grid0.N) (h : t.val % 4 ≠ 0) : live t = live ⟨t.val - 1, Nat.lt_of_le_of_lt (Nat.sub_le _ _) t.isLt⟩ :=
  Fin.ext (by show t.val / 4 * 4 = (t.val - 1) / 4 * 4; omega)

/-- The body stores them exactly at the first column block. -/
theorem cond_iff : ∀ t : Fin grid0.N, k0_cond1 (grid0.coords t) = 1#1 ↔ t.val % 4 = 0 := by decide +kernel

theorem idle_eq (t : Fin cfg0.N) : cfg0.idle 9 (cfg0.grid.coords t) = !(k0_cond1 (grid0.coords t) == 1#1) := rfl

theorem idle_false (t : Fin cfg0.N) (h : t.val % 4 = 0) : cfg0.idle 9 (cfg0.grid.coords t) = false := by
  rw [idle_eq, (cond_iff t).mpr h]; rfl

theorem idle_true (t : Fin cfg0.N) (h : t.val % 4 ≠ 0) : cfg0.idle 9 (cfg0.grid.coords t) = true := by
  rw [idle_eq, Bool.not_eq_true', beq_eq_false_iff_ne]
  exact fun e => h ((cond_iff t).mp e)

/-- They are written back at the last column block only. -/
theorem flush_false : ∀ t : Fin grid0.N, t.val % 4 ≠ 3 → win0_9.flush t = false := by decide +kernel

theorem fresh_false (n : ℕ) (h : n < cfg0.N) (hn : n % 4 ≠ 0) : cfg0.fresh 9 n = false :=
  fresh_of cfg0 9 (fun n => n % 4 ≠ 0) (fun e => e rfl)
    (fun n h hn => flush_false ⟨n, Nat.lt_of_succ_lt h⟩ (show n % 4 ≠ 3 by omega))
    (fun n h hn => idle_false ⟨n, h⟩ (not_not.mp hn)) n h hn

/-! ## The pipeline's data -/

/-- The pipeline's data: the arrays as found, each input's buffer at its block, each output's at what the body stores; the
    three windows on the one weight array hold a share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t)
    | ⟨7, _⟩ => outK (iblk m c 0 t) (iblk m c 2 t)
    | ⟨8, _⟩ => outV (iblk m c 0 t) (iblk m c 3 t)
    | ⟨9, _⟩ => outL (iblk m c 0 (live t)) (iblk m c 4 (live t)) (iblk m c 5 (live t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outQ (iblk m c 0 t) (iblk m c 1 t) := by dsimp only [dats]
theorem after_7 (c : Dev nD) (t : Fin cfg0.N) : (dats m 0 c).after 7 t = outK (iblk m c 0 t) (iblk m c 2 t) := by dsimp only [dats]
theorem after_8 (c : Dev nD) (t : Fin cfg0.N) : (dats m 0 c).after 8 t = outV (iblk m c 0 t) (iblk m c 3 t) := by dsimp only [dats]
/-- The log-forget columns of point `t`'s row block. -/
def lfAt (c : Dev nD) (t : Fin grid0.N) : Vec F S1024x128 .f32 := outL (iblk m c 0 t) (iblk m c 4 t) (iblk m c 5 t)
theorem after_9 (c : Dev nD) (t : Fin cfg0.N) : (dats m 0 c).after 9 t = lfAt m c (live t) := by dsimp only [dats]; rfl

/-- Each input's buffer holds its block when the body is called. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- Where the body does not store them, the log-forget buffer holds what the first column block stored. -/
theorem before_9 (c : Dev nD) (t : Fin cfg0.N) (h : t.val % 4 ≠ 0) (d) : (dats m 0 c).before 9 t d = lfAt m c (live t) := by
  have hc : ∀ (t : Fin cfg0.N) (_ : t.val ≠ 0), cfg0.idle 9 (cfg0.grid.coords t) = true → cfg0.fresh 9 t.val = false →
      (dats m 0 c).after 9 t = (dats m 0 c).after 9 ⟨t.val - 1, Nat.lt_of_le_of_lt (Nat.sub_le _ _) t.isLt⟩ := fun t _ hi _ => by
    rw [after_9, after_9]
    have hu : t.val % 4 ≠ 0 := fun e => by rw [idle_false t e] at hi; exact Bool.false_ne_true hi
    exact congrArg (lfAt m c) (live_pred t hu)
  have hb := (dats m 0 c).before_out_traj 9 rfl (fun _ _ => rfl) hc t.val t rfl d
  rw [fresh_false t.val t.isLt h] at hb
  refine hb.trans ?_
  rw [if_neg Bool.false_ne_true, after_9]
  exact (congrArg (lfAt m c) (live_pred t h)).symm

/-- What the log-forget buffer holds after the body, whether it stored or not. -/
theorem stored_eq (c : Dev nD) (t : Fin cfg0.N) (d) :
    (if k0_cond1 (grid0.coords t) = 1#1 then lfAt m c t else (dats m 0 c).before 9 t d) = lfAt m c (live t) := by
  by_cases h : t.val % 4 = 0
  · exact (if_pos ((cond_iff t).mpr h)).trans (congrArg (lfAt m c) (live_self t h).symm)
  · exact (if_neg (fun e => h ((cond_iff t).mp e))).trans (before_9 m c t h d)

/-! ## The body's obligation -/

/-- What the body is called with at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare (lfAt m c (live t)))

set_option maxHeartbeats 1000000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← stored_eq m c t d9]
  iapply (body_stores c Set.univ (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 9 t d9))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s buffers. -/
theorem defs₀_row (t : Fin cfg0.N) :
    defs₀ (F := F) .tc cfg0.body (cfg0.bodyArgs t (cfg0.slots t)) = bodyAt t := by
  unfold defs₀; rw [Defs.onTc_tc]

/-- The log-forget buffer at those contents is what the obligation asks of it, whether the point stores, carries or
    writes back. -/
theorem post_out (c : Dev nD) (t : Fin cfg0.N) :
    owns (c : Thread nD τ) (ms9 t) fullShare (lfAt m c (live t))
      ⊢ (match cfg0.idle 9 (cfg0.grid.coords t) with
        | true => match (cfg0.win 9).flush t with
          | false => iprop(∃ d, owns (c : Thread nD τ) (ms9 t) fullShare ((dats m 0 c).before 9 t d))
          | true => owns (c : Thread nD τ) (ms9 t) fullShare ((dats m 0 c).after 9 t)
        | false => owns (c : Thread nD τ) (ms9 t) fullShare ((dats m 0 c).after 9 t) : sProp 𝕄) := by
  rw [after_9]
  have hX : ∀ X : Vec F S1024x128 .f32, X = lfAt m c (live t) →
      ((owns (c : Thread nD τ) (ms9 t) fullShare (lfAt m c (live t)) : sProp 𝕄) ⊢ owns (c : Thread nD τ) (ms9 t) fullShare X) := by
    rintro _ rfl; exact .rfl
  by_cases h : t.val % 4 = 0
  · rw [idle_false t h]
  · rw [idle_true t h]
    cases (cfg0.win 9).flush t
    · iintro H
      iexists (lfAt m c (live t))
      iapply (hX _ (before_9 m c t h _)) $$ H
    · iintro H; iexact H

set_option maxHeartbeats 1000000 in
/-- The obligation of the body, at every point. -/
theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl
    (sep_mono .rfl (sep_mono .rfl (sep_mono .rfl (sep_mono .rfl (post_out m c t)))))))))))

/-! ## The run -/

set_option backward.isDefEq.respectTransparency.types false in
set_option maxHeartbeats 800000 in
/-- Every run of the program ends with each array of the pipeline at the contents its write-backs leave, every other
    buffer at what the slice makes of it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The slice leaves an argument that no window stages as launched. -/
theorem tail_arg (c : Dev nD) (b : Ref sig .tc) (hb : b = main_arg1 ∨ b = main_arg2 ∨ b = main_arg3) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      rcases hb with rfl | rfl | rfl <;> exact StableHlo.devRef_ne_of_ne (by decide))),
    Pipeline.withArrays_of_ne _ c (V0 m c) _ b (by rcases hb with rfl | rfl | rfl <;> exact (by decide))]
  exact V_arg m c b (Or.inr hb)

/-- The sliced result holds the first sixteen columns of the log-forget array as the write-backs leave it. -/
theorem tail_lf (c : Dev nD) :
    Pipeline.afterTail₀ cfgs (dats m) 0 (V0 m) [hostOps1] c main_v9
      = extractStridedSlice S16384x16 ![0, 0] ((dats m 0 c).arrAt 9 cfg0.N : FVec F S16384x128 .f32) slices_S16384x128_S16384x16_0_0 := by
  unfold Pipeline.afterTail₀
  show StableHlo.after hostOps1 _ (Proc.devRef .tc main_v9) = _
  after_results_simp
  congr 1
  exact Pipeline.withArrays_arr_shared spec0 c (V0 m c) _ ((dats m 0 c).arrAt_sharedIn sharedIn0 (V0 m c) (A_eq m c) cfg0.N) 9

/-- What the final states hold: the four results at what the write-backs leave, the arguments as launched, and every
    semaphore at zero. -/
theorem run_results : θ_run defs (onTc (τ := τ) (main (F := F))) ⟨m, fun _ => 0, ρ⟩ (fun r =>
    (∀ c : Dev nD, r.2.mem ((c.tc : Thread nD τ).loc main_v8_0) = (dats m 0 c).arrAt 6 cfg0.N
      ∧ r.2.mem ((c.tc : Thread nD τ).loc main_v8_1) = (dats m 0 c).arrAt 7 cfg0.N
      ∧ r.2.mem ((c.tc : Thread nD τ).loc main_v8_2) = (dats m 0 c).arrAt 8 cfg0.N
      ∧ r.2.mem ((c.tc : Thread nD τ).loc main_v9)
          = extractStridedSlice S16384x16 ![0, 0] ((dats m 0 c).arrAt 9 cfg0.N : FVec F S16384x128 .f32) slices_S16384x128_S16384x16_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 6, (h.1 c).1 7, (h.1 c).1 8,
      ((h.1 c).2 main_v9 (by decide)).trans (tail_lf m c),
      (((h.1 c).1 0).trans ((dats m 0 c).arrAt_in 0 rfl _)).trans ((A_eq m c 0).trans (V_arg m c main_arg0 (Or.inl rfl))),
      ((h.1 c).2 main_arg1 (by decide)).trans (tail_arg m c main_arg1 (Or.inl rfl)),
      ((h.1 c).2 main_arg2 (by decide)).trans (tail_arg m c main_arg2 (Or.inr (Or.inl rfl))),
      ((h.1 c).2 main_arg3 (by decide)).trans (tail_arg m c main_arg3 (Or.inr (Or.inr rfl)))⟩, h.2⟩) (run_main m ρ)

end Cert.FoxP.Run

end
-- ==== Proof.LogSig.lean ====
/- The log-sigmoid over the extended reals: the kernel's `min(z, 0) − log(1 + e^(−|z|))` is the reference's
   `−(max(−z, 0) + log1p(e^(−|−z|)))`, at infinite `z` too. -/
module

public import Idealize.ShloMosaic.PureOps.Ideal
public import Mathlib.Data.EReal.Operations

@[expose] public section

noncomputable section

namespace Cert.LogSig

open Idealize.ShloMosaic

/-- The log-sigmoid as the kernel computes it. -/
def logsig (z : EReal) : EReal := min z 0 - Ideal.log (1 + Ideal.exp (0 - max z (-z)))

/-- An exponential is not negative. -/
theorem exp_nonneg (x : EReal) : 0 ≤ Ideal.exp x := by
  induction x with
  | bot => rw [Ideal.exp_bot]
  | top => rw [Ideal.exp_top]; exact le_top
  | coe r => rw [Ideal.exp_coe]; exact EReal.coe_nonneg.mpr (Real.exp_pos r).le

/-- The logarithm of one plus something not negative is not negative. -/
theorem log_nonneg (x : EReal) (h : 0 ≤ x) : 0 ≤ Ideal.log (1 + x) := by
  induction x with
  | bot => exact absurd h (by simp)
  | top => rw [EReal.add_top_of_ne_bot (show (1 : EReal) ≠ ⊥ from EReal.coe_ne_bot 1), Ideal.log_top]; exact le_top
  | coe r =>
    have hr : (0 : ℝ) ≤ r := EReal.coe_nonneg.mp h
    rw [← EReal.coe_one, ← EReal.coe_add, Ideal.log_coe, if_neg (by linarith)]
    exact EReal.coe_nonneg.mpr (Real.log_nonneg (by linarith))

/-- The reference's log-sigmoid, its test for a number that is no number included, is the kernel's. -/
theorem ref_eq (z : EReal) :
    (-if -z ≠ -z then -z else max (-z) 0 + Ideal.log1p (Ideal.exp (-(max (-z) (- -z))))) = logsig z := by
  rw [if_neg (fun h => h rfl)]
  unfold logsig Ideal.log1p
  have hL := log_nonneg _ (exp_nonneg (-(max (-z) (- -z))))
  have hm : (0 : EReal) ≤ max (-z) 0 := le_max_right _ _
  rw [EReal.neg_add (Or.inl (ne_of_gt (lt_of_lt_of_le EReal.bot_lt_zero hm))) (Or.inr (ne_of_gt (lt_of_lt_of_le EReal.bot_lt_zero hL))),
    neg_neg, max_comm (-z) z, zero_sub]
  congr 1
  rcases le_total z 0 with h | h
  · rw [max_eq_left (by rw [← neg_zero]; exact EReal.neg_le_neg_iff.mpr h), neg_neg, min_eq_left h]
  · rw [max_eq_right (by rw [← neg_zero]; exact EReal.neg_le_neg_iff.mpr h), neg_zero, min_eq_right h]

end Cert.LogSig

end
-- ==== Proof.FoxPRefValue.lean ====
/- The reference of the forgetting attention's projections of the prompt, index by index: queries, keys and values are rows
   of tokens times columns of the weights, the log-forget gates the log-sigmoid of a product plus a bias. -/
module

public import proofs.«01_k».proof.Proof.Gen.FoxPRefIdeal.Run
public import proofs.«01_k».proof.Proof.LogSig
public import Idealize.ShloMosaic.Lib.Pipeline.ValueKit
public import Idealize.ShloMosaic.Lib.Claim

@[expose] public section

set_option maxRecDepth 16384

noncomputable section

namespace Cert.FoxPRefIdeal.Stages

open Cert.FoxPRefIdeal Cert.FoxPRefIdeal.Gen Idealize.ShloMosaic Idealize.ShloMosaic.TcCoe Idealize.SL.Sem
open Cert.LogSig (logsig ref_eq)

/-- The prompt's tokens, one sequence each. -/
abbrev TOK (X : FVec Ideal S17408x2048 .f32) : FVec Ideal S8x2048x2048 .f32 :=
  shapeCast _ (extractStridedSlice S16384x2048 ![0, 0] X slices_S17408x2048_S16384x2048_0_0 : FVec Ideal S16384x2048 .f32) shapeCasts_S16384x2048_S8x2048x2048

/-- Queries, keys and values side by side, one row for each token. -/
abbrev QKV (X : FVec Ideal S17408x2048 .f32) (W : FVec Ideal S1x2048x6144 .f32) : FVec Ideal S16384x6144 .f32 :=
  shapeCast _ (Host.dotGeneral dot_S8x2048x2048_S2048x6144_S8x2048x6144_2_0_01_1_n_n none (TOK X)
    (shapeCast _ W shapeCasts_S1x2048x6144_S2048x6144 : FVec Ideal S2048x6144 .f32) : FVec Ideal S8x2048x6144 .f32) shapeCasts_S8x2048x6144_S16384x6144

/-- The gates before the log-sigmoid. -/
abbrev GATE (X : FVec Ideal S17408x2048 .f32) (W : FVec Ideal S1x2048x16 .f32) (B : FVec Ideal S1x16 .f32) : FVec Ideal S8x2048x16 .f32 :=
  addf (Host.dotGeneral dot_S8x2048x2048_S2048x16_S8x2048x16_2_0_01_1_n_n none (TOK X)
      (shapeCast _ W shapeCasts_S1x2048x16_S2048x16 : FVec Ideal S2048x16 .f32) : FVec Ideal S8x2048x16 .f32)
    (broadcastInDim S8x2048x16 ![0, 1, 2] bcast_S1x1x16_S8x2048x16_0_1_2
      (broadcastInDim S1x1x16 ![2] bcast_S16_S1x1x16_2 (shapeCast _ B shapeCasts_S1x16_S16 : FVec Ideal S16 .f32) : FVec Ideal S1x1x16 .f32))

/-- Row `r` of the tokens times column `c` of the weights. -/
theorem QKV_apply (X : FVec Ideal S17408x2048 .f32) (W : FVec Ideal S1x2048x6144 .f32) (r : Fin 16384) (c : Fin 6144) :
    QKV X W (ix2 r c) = ∑ x : Fin 2048, X (ix2 ⟨r.val, by omega⟩ x) * W (ix3 0 x c) := by
  pointwise [QKV, TOK]

theorem GATE_apply (X : FVec Ideal S17408x2048 .f32) (W : FVec Ideal S1x2048x16 .f32) (B : FVec Ideal S1x16 .f32) (r : Fin 8) (p : Fin 2048) (c : Fin 16) :
    GATE X W B (ix3 r p c) = (∑ x : Fin 2048, X (ix2 ⟨r.val * 2048 + p.val, by omega⟩ x) * W (ix3 0 x c)) + B (ix2 0 c) := by
  pointwise [GATE, TOK]

/-- Zero at every index. -/
abbrev ZERO : FVec Ideal S8x2048x16 .f32 := broadcastInDim S8x2048x16 ![] bcast_S_S8x2048x16 (constant S_ .f32 0x00000000#32 : FVec Ideal S_ .f32)

/-- The log-sigmoid as the reference spells it. -/
abbrev LOGSIG (Z : FVec Ideal S8x2048x16 .f32) : FVec Ideal S8x2048x16 .f32 :=
  Host.negf (select (cmpf .une (subf (Host.negf Z) ZERO) (subf (Host.negf Z) ZERO)) (addf (Host.negf Z) ZERO)
    (addf (maximumf (Host.negf Z) ZERO) (Host.log1p (Host.exp (Host.negf (Host.absf (subf (Host.negf Z) ZERO)))))))

/-- It is the log-sigmoid of each number. -/
theorem LOGSIG_apply (Z : FVec Ideal S8x2048x16 .f32) (r : Fin 8) (p : Fin 2048) (c : Fin 16) :
    LOGSIG Z (ix3 r p c) = logsig (Z (ix3 r p c)) := by
  rw [← ref_eq]
  pointwise [LOGSIG, ZERO]
  rfl

/-- The reference's four results. -/
def Q (X : FVec Ideal S17408x2048 .f32) (W : FVec Ideal S1x2048x6144 .f32) : FVec Ideal S16384x2048 .bf16 :=
  truncf .bf16 (extractStridedSlice S16384x2048 ![0, 0] (QKV X W) slices_S16384x6144_S16384x2048_0_0 : FVec Ideal S16384x2048 .f32) bitsLt_bf16_f32
def K (X : FVec Ideal S17408x2048 .f32) (W : FVec Ideal S1x2048x6144 .f32) : FVec Ideal S16384x2048 .f32 :=
  extractStridedSlice S16384x2048 ![0, 2048] (QKV X W) slices_S16384x6144_S16384x2048_0_2048
def V (X : FVec Ideal S17408x2048 .f32) (W : FVec Ideal S1x2048x6144 .f32) : FVec Ideal S16384x2048 .f32 :=
  extractStridedSlice S16384x2048 ![0, 4096] (QKV X W) slices_S16384x6144_S16384x2048_0_4096
def LF (X : FVec Ideal S17408x2048 .f32) (W : FVec Ideal S1x2048x16 .f32) (B : FVec Ideal S1x16 .f32) : FVec Ideal S16384x16 .f32 :=
  shapeCast _ (LOGSIG (GATE X W B)) shapeCasts_S8x2048x16_S16384x16

/-- Each of them at an index. -/
theorem Q_apply (X : FVec Ideal S17408x2048 .f32) (W : FVec Ideal S1x2048x6144 .f32) (r : Fin 16384) (c : Fin 2048) :
    Q X W (ix2 r c) = ∑ x : Fin 2048, X (ix2 ⟨r.val, by omega⟩ x) * W (ix3 0 x ⟨c.val, by omega⟩) := by
  pointwise [Q, QKV, TOK]
theorem K_apply (X : FVec Ideal S17408x2048 .f32) (W : FVec Ideal S1x2048x6144 .f32) (r : Fin 16384) (c : Fin 2048) :
    K X W (ix2 r c) = ∑ x : Fin 2048, X (ix2 ⟨r.val, by omega⟩ x) * W (ix3 0 x ⟨2048 + c.val, by omega⟩) := by
  pointwise [K, QKV, TOK]
theorem V_apply (X : FVec Ideal S17408x2048 .f32) (W : FVec Ideal S1x2048x6144 .f32) (r : Fin 16384) (c : Fin 2048) :
    V X W (ix2 r c) = ∑ x : Fin 2048, X (ix2 ⟨r.val, by omega⟩ x) * W (ix3 0 x ⟨4096 + c.val, by omega⟩) := by
  pointwise [V, QKV, TOK]
theorem LF_apply (X : FVec Ideal S17408x2048 .f32) (W : FVec Ideal S1x2048x16 .f32) (B : FVec Ideal S1x16 .f32) (r : Fin 16384) (c : Fin 16) :
    LF X W B (ix2 r c) = logsig ((∑ x : Fin 2048, X (ix2 ⟨r.val, by omega⟩ x) * W (ix3 0 x c)) + B (ix2 0 c)) := by
  have e : LF X W B (ix2 r c) = LOGSIG (GATE X W B) (ix3 ⟨r.val / 2048, by omega⟩ ⟨r.val % 2048, by omega⟩ c) := by
    unfold LF
    generalize LOGSIG (GATE X W B) = A
    pointwise []
  rw [e, LOGSIG_apply, GATE_apply]
  have hr : (⟨r.val / 2048 * 2048 + r.val % 2048, by omega⟩ : Fin 17408) = ⟨r.val, by omega⟩ := Fin.ext (Nat.div_add_mod' _ _)
  rw [hr]

end Cert.FoxPRefIdeal.Stages

end
-- ==== Proof.FoxPValue.lean ====
/- What the forgetting attention's projections of the prompt leave, index by index: each of the four results is the
   reference's. -/
module

public import proofs.«01_k».proof.Proof.FoxPRun
public import proofs.«01_k».proof.Proof.FoxPRefValue
public import Idealize.ShloMosaic.Lib.Pipeline.ValueKit
public import Idealize.ShloMosaic.Lib.Claim

@[expose] public section

set_option maxRecDepth 16384

noncomputable section

namespace Cert.FoxP.Run

open Cert.FoxP Cert.FoxP.Gen
open Cert.LogSig (logsig)
open Idealize.ShloMosaic Idealize.ShloMosaic.TcCoe Idealize.SL.Sem
open Idealize.ShloMosaic.Pipeline (Dat)

variable (m : (ℓ : Loc nD τ sig) → Buf (Elt Ideal) ℓ)

/-- The tokens, the weights of queries, keys and values, the weights and the bias of the gates, as launched. -/
abbrev rows (c : Dev nD) : FVec Ideal S17408x2048 .f32 := m ((c : Thread nD τ).loc main_arg0)
abbrev wts (c : Dev nD) : FVec Ideal S1x2048x6144 .f32 := m ((c : Thread nD τ).loc main_arg1)
abbrev gates (c : Dev nD) : FVec Ideal S1x2048x16 .f32 := m ((c : Thread nD τ).loc main_arg2)
abbrev biases (c : Dev nD) : FVec Ideal S1x16 .f32 := m ((c : Thread nD τ).loc main_arg3)

/-- The zero the host pads with. -/
abbrev PADZ : FVec Ideal S_ .f32 := sitofp .f32 (constantI S_ 32 0#32)

/-- The weights as the pipeline finds them. -/
theorem V_w (c : Dev nD) (x : Fin 2048) (j : Fin 6144) : (V m c main_v1 : FVec Ideal S2048x6144 .bf16) (ix2 x j) = wts m c (ix3 0 x j) := by
  have h : V m c main_v1 = (truncf .bf16 (shapeCast _ (wts m c) shapeCasts_S1x2048x6144_S2048x6144 : FVec Ideal S2048x6144 .f32) bitsLt_bf16_f32 : FVec Ideal S2048x6144 .bf16) := by
    show StableHlo.after (List.flatten before) _ _ = _
    simp only [before, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise []

/-- The gates' weights as the pipeline finds them: in the first sixteen columns of the padded array. -/
theorem V_f (c : Dev nD) (x : Fin 2048) (j : Fin 16) : (V m c main_v4 : FVec Ideal S2048x128 .bf16) (ix2 x ⟨j.val, by omega⟩) = gates m c (ix3 0 x j) := by
  have h : V m c main_v4 = (truncf .bf16 (pad S2048x128 ![0, 0] ![0, 112] ![0, 0] (shapeCast _ (gates m c) shapeCasts_S1x2048x16_S2048x16 : FVec Ideal S2048x16 .f32) PADZ pads_S2048x16_S2048x128_000_01120 h_S_ : FVec Ideal S2048x128 .f32) bitsLt_bf16_f32 : FVec Ideal S2048x128 .bf16) := by
    show StableHlo.after (List.flatten before) _ _ = _
    simp only [before, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise []

/-- Their bias likewise. -/
theorem V_b (c : Dev nD) (j : Fin 16) : (V m c main_v7 : FVec Ideal S1x128 .f32) (ix2 0 ⟨j.val, by omega⟩) = biases m c (ix2 0 j) := by
  have h : V m c main_v7 = (shapeCast _ (pad S128 ![0] ![112] ![0] (shapeCast _ (biases m c) shapeCasts_S1x16_S16 : FVec Ideal S16 .f32) PADZ pads_S16_S128_01120 h_S_ : FVec Ideal S128 .f32) shapeCasts_S128_S1x128 : FVec Ideal S1x128 .f32) := by
    show StableHlo.after (List.flatten before) _ _ = _
    simp only [before, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise []

/-- Which block each window is on. -/
theorem idx : ∀ t : Fin cfg0.N, win0_0.index t = ![t.val / 4, 0] ∧ win0_1.index t = ![0, t.val % 4] ∧ win0_2.index t = ![0, 4 + t.val % 4]
    ∧ win0_3.index t = ![0, 8 + t.val % 4] ∧ win0_4.index t = ![0, 0] ∧ win0_5.index t = ![0, 0] ∧ win0_6.index t = ![t.val / 4, t.val % 4]
    ∧ win0_7.index t = ![t.val / 4, t.val % 4] ∧ win0_8.index t = ![t.val / 4, t.val % 4] ∧ win0_9.index t = ![t.val / 4, 0] ∧ t.val / 4 < 16 :=
  (by decide +kernel : ∀ t : Fin grid0.N, _)

theorem row_lt (t : Fin cfg0.N) : t.val / 4 < 16 := (idx t).2.2.2.2.2.2.2.2.2.2

/-- What the body stores, at an index. -/
theorem payQ (x : Vec Ideal S1024x2048 .f32) (w : Vec Ideal S2048x512 .bf16) (i : Fin 1024) (j : Fin 512) :
    k0_pay2 x w (ix2 i j) = ∑ k : Fin 2048, x (ix2 i k) * w (ix2 k j) := by
  pointwise [k0_pay2, k0_pay1]
theorem payK (x : Vec Ideal S1024x2048 .f32) (w : Vec Ideal S2048x512 .bf16) (i : Fin 1024) (j : Fin 512) :
    k0_pay3 x w (ix2 i j) = ∑ k : Fin 2048, x (ix2 i k) * w (ix2 k j) := by
  pointwise [k0_pay3, k0_pay1]
theorem payV (x : Vec Ideal S1024x2048 .f32) (w : Vec Ideal S2048x512 .bf16) (i : Fin 1024) (j : Fin 512) :
    k0_pay4 x w (ix2 i j) = ∑ k : Fin 2048, x (ix2 i k) * w (ix2 k j) := by
  pointwise [k0_pay4, k0_pay1]
theorem payL (x : Vec Ideal S1024x2048 .f32) (w : Vec Ideal S2048x128 .bf16) (b : Vec Ideal S1x128 .f32) (i : Fin 1024) (j : Fin 128) :
    k0_pay5 x w b (ix2 i j) = logsig ((∑ k : Fin 2048, x (ix2 i k) * w (ix2 k j)) + b (ix2 0 j)) := by
  unfold logsig
  pointwise [k0_pay5, k0_pay1]
  rfl

/-- The blocks at a point: a block of rows of the tokens, and a block of columns of each of the three parts of the weights. -/
theorem blk_x (c : Dev nD) (t : Fin cfg0.N) (i : Fin 1024) (k : Fin 2048) :
    iblk m c 0 t (ix2 i k) = rows m c (ix2 ⟨t.val / 4 * 1024 + i.val, by have := row_lt t; omega⟩ k) := by
  rw [show rows m c = V m c main_arg0 from (V_arg m c main_arg0 (Or.inl rfl)).symm]
  blk_simp [iblk]
  congr 1; blk_ext [idx t]
theorem blk_q (c : Dev nD) (t : Fin cfg0.N) (k : Fin 2048) (j : Fin 512) :
    iblk m c 1 t (ix2 k j) = wts m c (ix3 0 k ⟨t.val % 4 * 512 + j.val, by omega⟩) := by
  refine Eq.trans ?_ (V_w m c k _)
  blk_simp [iblk]
  congr 1; blk_ext [idx t]
theorem blk_k (c : Dev nD) (t : Fin cfg0.N) (k : Fin 2048) (j : Fin 512) :
    iblk m c 2 t (ix2 k j) = wts m c (ix3 0 k ⟨2048 + (t.val % 4 * 512 + j.val), by omega⟩) := by
  refine Eq.trans ?_ (V_w m c k _)
  blk_simp [iblk]
  congr 1; blk_ext [idx t]
theorem blk_v (c : Dev nD) (t : Fin cfg0.N) (k : Fin 2048) (j : Fin 512) :
    iblk m c 3 t (ix2 k j) = wts m c (ix3 0 k ⟨4096 + (t.val % 4 * 512 + j.val), by omega⟩) := by
  refine Eq.trans ?_ (V_w m c k _)
  blk_simp [iblk]
  congr 1; blk_ext [idx t]

/-- The padded weights and bias of the gates, whole at every point. -/
theorem blk_f (c : Dev nD) (t : Fin cfg0.N) (k : Fin 2048) (j : Fin 128) :
    iblk m c 4 t (ix2 k j) = (V m c main_v4 : FVec Ideal S2048x128 .bf16) (ix2 k j) := by
  blk_simp [iblk]
  congr 1; blk_ext [idx t]
theorem blk_b (c : Dev nD) (t : Fin cfg0.N) (j : Fin 128) :
    iblk m c 5 t (ix2 0 j) = (V m c main_v7 : FVec Ideal S1x128 .f32) (ix2 0 j) := by
  blk_simp [iblk]
  congr 1; blk_ext [idx t]

/-- The gates over all the columns the kernel computes, the padded ones included. -/
def WIDE (c : Dev nD) : FVec Ideal S16384x128 .f32 := fun y =>
  logsig ((∑ k : Fin 2048, rows m c (ix2 ⟨(y 0).val, Nat.lt_trans (y 0).isLt (by decide)⟩ k) * (V m c main_v4 : FVec Ideal S2048x128 .bf16) (ix2 k (y 1)))
    + (V m c main_v7 : FVec Ideal S1x128 .f32) (ix2 0 (y 1)))

/-- What a point stores at its blocks' index is the reference at the arrays' index. -/
theorem pointQ (c : Dev nD) (t : Fin cfg0.N) (i : Fin 1024) (j : Fin 512) : k0_pay2 (iblk m c 0 t) (iblk m c 1 t) (ix2 i j)
    = Cert.FoxPRefIdeal.Stages.Q (rows m c) (wts m c) (ix2 ⟨t.val / 4 * 1024 + i.val, by have := row_lt t; omega⟩ ⟨t.val % 4 * 512 + j.val, by omega⟩) := by
  refine (payQ _ _ i j).trans (Eq.trans ?_ (Cert.FoxPRefIdeal.Stages.Q_apply _ _ _ _).symm)
  exact Finset.sum_congr rfl fun k _ => congrArg₂ (fun a b : EReal => a * b) (blk_x m c t i k) (blk_q m c t k j)
theorem pointK (c : Dev nD) (t : Fin cfg0.N) (i : Fin 1024) (j : Fin 512) : k0_pay3 (iblk m c 0 t) (iblk m c 2 t) (ix2 i j)
    = Cert.FoxPRefIdeal.Stages.K (rows m c) (wts m c) (ix2 ⟨t.val / 4 * 1024 + i.val, by have := row_lt t; omega⟩ ⟨t.val % 4 * 512 + j.val, by omega⟩) := by
  refine (payK _ _ i j).trans (Eq.trans ?_ (Cert.FoxPRefIdeal.Stages.K_apply _ _ _ _).symm)
  exact Finset.sum_congr rfl fun k _ => congrArg₂ (fun a b : EReal => a * b) (blk_x m c t i k) (blk_k m c t k j)
theorem pointV (c : Dev nD) (t : Fin cfg0.N) (i : Fin 1024) (j : Fin 512) : k0_pay4 (iblk m c 0 t) (iblk m c 3 t) (ix2 i j)
    = Cert.FoxPRefIdeal.Stages.V (rows m c) (wts m c) (ix2 ⟨t.val / 4 * 1024 + i.val, by have := row_lt t; omega⟩ ⟨t.val % 4 * 512 + j.val, by omega⟩) := by
  refine (payV _ _ i j).trans (Eq.trans ?_ (Cert.FoxPRefIdeal.Stages.V_apply _ _ _ _).symm)
  exact Finset.sum_congr rfl fun k _ => congrArg₂ (fun a b : EReal => a * b) (blk_x m c t i k) (blk_v m c t k j)
theorem pointL (c : Dev nD) (t : Fin cfg0.N) (i : Fin 1024) (j : Fin 128) : k0_pay5 (iblk m c 0 t) (iblk m c 4 t) (iblk m c 5 t) (ix2 i j)
    = WIDE m c (ix2 ⟨t.val / 4 * 1024 + i.val, by have := row_lt t; omega⟩ j) :=
  (payL _ _ _ i j).trans (congrArg logsig (congrArg₂ (fun a b : EReal => a + b)
    (Finset.sum_congr rfl fun k _ => congrArg₂ (fun a b : EReal => a * b) (blk_x m c t i k) (blk_f m c t k j)) (blk_b m c t j)))

/-- The arrays after the run are the reference's. -/
theorem final_q (c : Dev nD) : (dats m 0 c).arrAt 6 cfg0.N = Cert.FoxPRefIdeal.Stages.Q (rows m c) (wts m c) := by
  refine (dats m 0 c).arrAt_eq_of_covers 6 _ (by decide +kernel) fun t _ y => ?_
  blk_simp
  rw [after_6]; unfold outQ
  obtain ⟨i, j, rfl⟩ : ∃ (i : Fin 1024) (j : Fin 512), y = ix2 i j := ⟨y 0, y 1, by funext a; match a with | ⟨0, _⟩ => rfl | ⟨1, _⟩ => rfl⟩
  frame_out
  refine (pointQ m c t i j).trans ?_
  congr 1; blk_ext [idx t]
theorem final_k (c : Dev nD) : (dats m 0 c).arrAt 7 cfg0.N = Cert.FoxPRefIdeal.Stages.K (rows m c) (wts m c) := by
  refine (dats m 0 c).arrAt_eq_of_covers 7 _ (by decide +kernel) fun t _ y => ?_
  blk_simp
  rw [after_7]; unfold outK
  obtain ⟨i, j, rfl⟩ : ∃ (i : Fin 1024) (j : Fin 512), y = ix2 i j := ⟨y 0, y 1, by funext a; match a with | ⟨0, _⟩ => rfl | ⟨1, _⟩ => rfl⟩
  frame_out
  refine (pointK m c t i j).trans ?_
  congr 1; blk_ext [idx t]
theorem final_v (c : Dev nD) : (dats m 0 c).arrAt 8 cfg0.N = Cert.FoxPRefIdeal.Stages.V (rows m c) (wts m c) := by
  refine (dats m 0 c).arrAt_eq_of_covers 8 _ (by decide +kernel) fun t _ y => ?_
  blk_simp
  rw [after_8]; unfold outV
  obtain ⟨i, j, rfl⟩ : ∃ (i : Fin 1024) (j : Fin 512), y = ix2 i j := ⟨y 0, y 1, by funext a; match a with | ⟨0, _⟩ => rfl | ⟨1, _⟩ => rfl⟩
  frame_out
  refine (pointV m c t i j).trans ?_
  congr 1; blk_ext [idx t]
theorem final_wide (c : Dev nD) : (dats m 0 c).arrAt 9 cfg0.N = WIDE m c := by
  refine (dats m 0 c).arrAt_eq_of_covers 9 _ (by decide +kernel) fun t _ y => ?_
  blk_simp
  rw [after_9]; unfold lfAt outL
  obtain ⟨i, j, rfl⟩ : ∃ (i : Fin 1024) (j : Fin 128), y = ix2 i j := ⟨y 0, y 1, by funext a; match a with | ⟨0, _⟩ => rfl | ⟨1, _⟩ => rfl⟩
  frame_out
  refine (pointL m c (live t) i j).trans ?_
  have hl : (live t).val / 4 = t.val / 4 := by show t.val / 4 * 4 / 4 = _; omega
  congr 1; blk_ext [idx t, hl]

/-- The first sixteen columns of the gates are the reference's. -/
theorem final_lf (c : Dev nD) : extractStridedSlice S16384x16 ![0, 0] ((dats m 0 c).arrAt 9 cfg0.N : FVec Ideal S16384x128 .f32) slices_S16384x128_S16384x16_0_0
    = Cert.FoxPRefIdeal.Stages.LF (rows m c) (gates m c) (biases m c) := by
  rw [final_wide]
  funext y
  obtain ⟨i, j, rfl⟩ : ∃ (i : Fin 16384) (j : Fin 16), y = ix2 i j := ⟨y 0, y 1, by funext a; match a with | ⟨0, _⟩ => rfl | ⟨1, _⟩ => rfl⟩
  refine Eq.trans ?_ (Cert.FoxPRefIdeal.Stages.LF_apply _ _ _ i j).symm
  have e : extractStridedSlice S16384x16 ![0, 0] (WIDE m c) slices_S16384x128_S16384x16_0_0 (ix2 i j) = WIDE m c (ix2 i ⟨j.val, by omega⟩) := by
    generalize WIDE m c = A
    pointwise []
  rw [e]
  exact congrArg logsig (congrArg₂ (fun a b : EReal => a + b)
    (Finset.sum_congr rfl fun k _ => congrArg₂ (fun a b : EReal => a * b) rfl (V_f m c k j)) (V_b m c j))

end Cert.FoxP.Run

end
-- ==== Proof.FoxPClaim.lean ====
/- The claims of the forgetting attention's projections of the prompt. The program read over the extended reals is textually
   the one its run is proved of at any arithmetic, so a run of the one is a run of the other. -/
module

public import proofs.«01_k».proof.Proof.FoxPValue
public import proofs.«01_k».proof.Proof.Gen.FoxPIdeal.Launch
public import proofs.«01_k».proof.Defs
public import Idealize.ShloMosaic.Lib.Quiescent

@[expose] public section

set_option maxRecDepth 16384

noncomputable section

namespace Cert.FoxP.Claims

open Idealize.ShloMosaic Idealize.ShloMosaic.TcCoe Idealize.SL.Sem
open Cert.FoxP.Run (run_results final_q final_k final_v final_lf)

theorem main_eq : Cert.FoxP.main (F := Ideal) = Cert.FoxPIdeal.main (F := Ideal) := rfl

set_option maxHeartbeats 1000000 in
theorem defs₀_eq : Cert.FoxP.defs₀ (F := Ideal) = Cert.FoxPIdeal.defs₀ (F := Ideal) := by
  unfold Cert.FoxP.defs₀ Cert.FoxPIdeal.defs₀
  refine congrArg (Defs.onTc) ?_
  funext x
  match x with
  | 0 => rfl

theorem defs_eq : Cert.FoxP.defs (F := Ideal) = Cert.FoxPIdeal.defs (F := Ideal) :=
  congrArg (Pipeline.defs (Cert.FoxPIdeal.pcfgs (F := Ideal))) defs₀_eq

/-- A run of the one is a run of the other. -/
theorem run_eq (s : MemSt Cert.FoxPIdeal.nD Cert.FoxPIdeal.τ Cert.FoxPIdeal.sig (Elt Ideal)) (P : PUnit × MemSt Cert.FoxPIdeal.nD Cert.FoxPIdeal.τ Cert.FoxPIdeal.sig (Elt Ideal) → Prop)
    (h : θ_run (Cert.FoxP.defs (F := Ideal)) (onTc (τ := Cert.FoxP.τ) (Cert.FoxP.main (F := Ideal))) s P) :
    θ_run (Cert.FoxPIdeal.defs (F := Ideal)) (onTc (τ := Cert.FoxPIdeal.τ) (Cert.FoxPIdeal.main (F := Ideal))) s P :=
  (congrArg (fun d => θ_run d (onTc (τ := Cert.FoxPIdeal.τ) (Cert.FoxPIdeal.main (F := Ideal))) s P) defs_eq).mp h

/-- The frame, at the machine's arithmetic. -/
theorem frame : Cert.quiescent_FoxP (hFoxP := Cert.FoxP.Gen.facts) := by
  intro m g _
  exact (θ_run Cert.FoxP.defs _ _).mono (fun r h => ⟨fun c => (h.1 c).2.2.2.2, h.2⟩) (run_results m g)

/-- The frame, over the extended reals. -/
theorem frame_ideal : Cert.quiescent_FoxPIdeal (hFoxPIdeal := Cert.FoxPIdeal.Gen.facts) := by
  intro m g _
  exact run_eq _ _ ((θ_run Cert.FoxP.defs _ _).mono (fun r h => ⟨fun c => (h.1 c).2.2.2.2, h.2⟩) (run_results m g))

/-- The frame of the reference. -/
theorem frame_ref : Cert.quiescent_FoxPRefIdeal (hFoxPRefIdeal := Cert.FoxPRefIdeal.Gen.facts) := by
  intro m g _
  exact (θ_run Cert.FoxPRefIdeal.defs _ _).mono (fun r h => ⟨fun c => (h c).2.2.2.2, sem_eq_zero_of_no_sems (by decide) r.2⟩) (Cert.FoxPRefIdeal.Value.run m g)

open Cert.FoxPRefIdeal.Stages (Q K V LF) in
/-- Queries, keys, values and log-forget gates of the kernel are the reference's. -/
theorem value : Cert.algebraic_FoxPIdeal_FoxPRefIdeal (hFoxPIdeal := Cert.FoxPIdeal.Gen.facts) (hFoxPRefIdeal := Cert.FoxPRefIdeal.Gen.facts) := by
  intro m g m' g' _ hagree
  refine ⟨fun c => Q (Run.rows m c) (Run.wts m c), fun c => K (Run.rows m c) (Run.wts m c), fun c => V (Run.rows m c) (Run.wts m c),
    fun c => LF (Run.rows m c) (Run.gates m c) (Run.biases m c), ?_, ?_⟩
  · refine run_eq _ _ ((θ_run Cert.FoxP.defs _ _).mono (fun r h c => ?_) (run_results m g))
    obtain ⟨hq, hk, hv, hl, hargs⟩ := h.1 c
    exact ⟨hq.trans (final_q m c), hk.trans (final_k m c), hv.trans (final_v m c), hl.trans (final_lf m c), hargs⟩
  · refine (θ_run Cert.FoxPRefIdeal.defs _ _).mono (fun r h c => ?_) (Cert.FoxPRefIdeal.Value.run m' g')
    obtain ⟨hq, hk, hv, hl, hargs⟩ := h c
    obtain ⟨h0, h1, h2, h3⟩ := hagree c
    refine ⟨?_, ?_, ?_, ?_, hargs⟩
    · rw [hq, h0, h1]; rfl
    · rw [hk, h0, h1]; rfl
    · rw [hv, h0, h1]; rfl
    · rw [hl, h0, h2, h3]; rfl

end Cert.FoxP.Claims

end
-- ==== Proof.FoxSRun.lean ====
/- The forgetting attention's projections of the sample: what the pipeline finds when it starts, what its body stores, what
   every staging buffer holds point by point, the run this gives, and the frame. The log-forget columns are stored at
   the first column block of each row block only; the other three points of that row block leave them in place. -/
module

public import proofs.«01_k».proof.Proof.Gen.FoxS.Launch
public import proofs.«01_k».proof.Proof.Gen.FoxS.Skeleton
public import proofs.«01_k».proof.Proof.MoeUpSchedule
public import Idealize.ShloMosaic.Lib.Pipeline.FrameBody
public import Idealize.ShloMosaic.Lib.Pipeline.FrameSuffix
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.FoxS.Run

open Cert.FoxS Cert.FoxS.Gen
open Cert.MoeUp.Run (fresh_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the pipeline -/

/-- The host lines before the pipeline: the weights reshaped, padded and cast, the forget bias reshaped and padded. -/
abbrev before : List (List (HloOp τ sig (Elt F))) := [hostOps0, hostOps0_1, hostOps0_2, hostOps0_3, hostOps0_4]

/-- What the core's buffers hold when the pipeline starts. -/
abbrev V0 (c : Dev nD) : Valuation τ sig (Elt F) := StableHlo.after (List.flatten before) (fun b => m (c, b))
abbrev V (c : Dev nD) (b : Ref sig .tc) : Buf (Elt F) ((c : Thread nD τ).loc b) := V0 m c (Proc.devRef .tc b)

theorem fresh_before : (before : List (List (HloOp τ sig (Elt F)))).Forall fun ops => ops.Forall fun op => op.fresh = ∅ := by
  simp only [List.Forall]; repeat' constructor

theorem fresh_tail : (hostOps1 : List (HloOp τ sig (Elt F))).Forall fun op => op.fresh = ∅ := by
  simp only [List.Forall]; repeat' constructor

set_option maxHeartbeats 800000 in
/-- The program is its host lines, the pipeline, and the slice of the log-forget columns after it. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main before [hostOps1]
    (by simp only [List.Forall]; exact ⟨hostOps0_sub, hostOps0_1_sub, hostOps0_2_sub, hostOps0_3_sub, hostOps0_4_sub⟩)
    fresh_before main_chain

/-- The slice touches unscoped buffers only, allocates none, and writes none of the pipeline's arrays. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  obtain rfl := List.mem_singleton.mp hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp fresh_tail) op hop

theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  simp only [StableHlo.unary_writes, Finset.mem_singleton]
  exact StableHlo.devRef_ne_of_ne ((by decide : ∀ w, Pipeline.arrRef spec0 w ≠ main_v9) w)

/-- The host lines before the pipeline write none of the arguments. -/
theorem V_arg (c : Dev nD) (b : Ref sig .tc)
    (hb : b = main_arg0 ∨ b = main_arg1 ∨ b = main_arg2 ∨ b = main_arg3) : V m c b = m ((c : Thread nD τ).loc b) :=
  StableHlo.after_of_forall_not_mem (b := Proc.devRef .tc b) _ _ (List.forall_iff_forall_mem.mp (by
    simp only [before, hostOps0, hostOps0_1, hostOps0_2, hostOps0_3, hostOps0_4, List.flatten_cons, List.flatten_nil,
      List.append_nil, List.cons_append, List.nil_append, List.Forall, StableHlo.TRef.unary, StableHlo.TRef.binary,
      StableHlo.nullary_writes, StableHlo.unary_writes, StableHlo.binary_writes, StableHlo.reshape_writes, Finset.mem_singleton]
    rcases hb with rfl | rfl | rfl | rfl <;> (repeat' apply And.intro) <;> exact StableHlo.devRef_ne_of_ne (by decide)))

/-! ## The body -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffers at point `t`. -/
abbrev ms0 (t : Fin cfg0.N) : Memref sig .tc .vmem S1024x2048 .f32 := win0_0.stage (cfg0.slots t 0)
abbrev ms1 (t : Fin cfg0.N) : Memref sig .tc .vmem S2048x512 .bf16 := win0_1.stage (cfg0.slots t 1)
abbrev ms2 (t : Fin cfg0.N) : Memref sig .tc .vmem S2048x512 .bf16 := win0_2.stage (cfg0.slots t 2)
abbrev ms3 (t : Fin cfg0.N) : Memref sig .tc .vmem S2048x512 .bf16 := win0_3.stage (cfg0.slots t 3)
abbrev ms4 (t : Fin cfg0.N) : Memref sig .tc .vmem S2048x128 .bf16 := win0_4.stage (cfg0.slots t 4)
abbrev ms5 (t : Fin cfg0.N) : Memref sig .tc .vmem S1x128 .f32 := win0_5.stage (cfg0.slots t 5)
abbrev ms6 (t : Fin cfg0.N) : Memref sig .tc .vmem S1024x512 .bf16 := win0_6.stage (cfg0.slots t 6)
abbrev ms7 (t : Fin cfg0.N) : Memref sig .tc .vmem S1024x512 .f32 := win0_7.stage (cfg0.slots t 7)
abbrev ms8 (t : Fin cfg0.N) : Memref sig .tc .vmem S1024x512 .f32 := win0_8.stage (cfg0.slots t 8)
abbrev ms9 (t : Fin cfg0.N) : Memref sig .tc .vmem S1024x128 .f32 := win0_9.stage (cfg0.slots t 9)

/-- The kernel's body at point `t`, on the buffers the pipeline hands it. -/
abbrev bodyAt (t : Fin cfg0.N) : Prog (TpuEff nD τ sig (Elt F) Λ₀ .tc) PUnit :=
  cc0_fox_project (grid0.coords t)
    (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    (ms4 t) (hstage0_4 ((cfg0.slots t 4).cast nbuf0_4)) (ms5 t) (hstage0_5 ((cfg0.slots t 5).cast nbuf0_5))
    (ms6 t) (hstage0_6 ((cfg0.slots t 6).cast nbuf0_6)) (ms7 t) (hstage0_7 ((cfg0.slots t 7).cast nbuf0_7))
    (ms8 t) (hstage0_8 ((cfg0.slots t 8).cast nbuf0_8)) (ms9 t) (hstage0_9 ((cfg0.slots t 9).cast nbuf0_9))

/-- The rectangles the body loads and stores: each a whole block. -/
abbrev rX : Rect S1024x2048 := Rect.unit (s := S1024x2048) ![0, 0] S1024x2048.size inb_S1024x2048_S1024x2048_0_0
abbrev rW : Rect S2048x512 := Rect.unit (s := S2048x512) ![0, 0] S2048x512.size inb_S2048x512_S2048x512_0_0
abbrev rF : Rect S2048x128 := Rect.unit (s := S2048x128) ![0, 0] S2048x128.size inb_S2048x128_S2048x128_0_0
abbrev rB : Rect S1x128 := Rect.unit (s := S1x128) ![0, 0] S1x128.size inb_S1x128_S1x128_0_0
abbrev rO : Rect S1024x512 := Rect.unit (s := S1024x512) ![0, 0] S1024x512.size inb_S1024x512_S1024x512_0_0
abbrev rL : Rect S1024x128 := Rect.unit (s := S1024x128) ![0, 0] S1024x128.size inb_S1024x128_S1024x128_0_0

/-- What the body stores: a block of queries, of keys, of values, and the rows' log-forget columns. -/
def outQ (x : Vec F S1024x2048 .f32) (w : Vec F S2048x512 .bf16) : Vec F S1024x512 .bf16 :=
  View.canon [⟨rO, k0_pay2 (View.ld x rX) (View.ld w rW)⟩]
def outK (x : Vec F S1024x2048 .f32) (w : Vec F S2048x512 .bf16) : Vec F S1024x512 .f32 :=
  View.canon [⟨rO, k0_pay3 (View.ld x rX) (View.ld w rW)⟩]
def outV (x : Vec F S1024x2048 .f32) (w : Vec F S2048x512 .bf16) : Vec F S1024x512 .f32 :=
  View.canon [⟨rO, k0_pay4 (View.ld x rX) (View.ld w rW)⟩]
def outL (x : Vec F S1024x2048 .f32) (w : Vec F S2048x128 .bf16) (b : Vec F S1x128 .f32) : Vec F S1024x128 .f32 :=
  View.canon [⟨rL, k0_pay5 (View.ld x rX) (View.ld w rF) (View.ld b rB)⟩]

/-- Each store covers its block. -/
theorem cover {e : EltTy} (p : Vec F S1024x512 e) (y : S1024x512.Idx) :
    ∃ pc ∈ ([⟨rO, p⟩] : List (View.Piece (Elt F) S1024x512 e)), y ∈ pc.1.set :=
  View.cover_of_tiled [⟨rO, p⟩] S1024x512.size (by rfl) y
theorem coverL (p : Vec F S1024x128 .f32) (y : S1024x128.Idx) :
    ∃ pc ∈ ([⟨rL, p⟩] : List (View.Piece (Elt F) S1024x128 .f32)), y ∈ pc.1.set :=
  View.cover_of_tiled [⟨rL, p⟩] S1024x128.size (by rfl) y

set_option maxHeartbeats 2000000 in
/-- The body on whole buffers stores the three products, and the log-forget columns where the column block is the
    first; at any other point it leaves those columns as they were. -/
theorem body_stores (c : Dev nD) (E : Set ℕ) (i : grid0.Coords)
    (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S2048x128 .bf16) (harg6 : arg6.IsWhole) (arg7 : Memref sig .tc .vmem S1x128 .f32) (harg7 : arg7.IsWhole)
    (arg8 : Memref sig .tc .vmem S1024x512 .bf16) (harg8 : arg8.IsWhole) (arg9 : Memref sig .tc .vmem S1024x512 .f32) (harg9 : arg9.IsWhole)
    (arg10 : Memref sig .tc .vmem S1024x512 .f32) (harg10 : arg10.IsWhole) (arg11 : Memref sig .tc .vmem S1024x128 .f32) (harg11 : arg11.IsWhole)
    (x : Vec F S1024x2048 .f32) (wq wk wv : Vec F S2048x512 .bf16) (wf : Vec F S2048x128 .bf16) (b : Vec F S1x128 .f32)
    (y : Vec F S1024x128 .f32) (K : PUnit → sProp 𝕄) :
    iprop(owns (c : Thread nD τ) arg2 fullShare x ∗ owns (c : Thread nD τ) arg3 fullShare wq ∗ owns (c : Thread nD τ) arg4 fullShare wk
        ∗ owns (c : Thread nD τ) arg5 fullShare wv ∗ owns (c : Thread nD τ) arg6 fullShare wf ∗ owns (c : Thread nD τ) arg7 fullShare b
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare y
        ∗ (iprop(owns (c : Thread nD τ) arg2 fullShare x ∗ owns (c : Thread nD τ) arg3 fullShare wq ∗ owns (c : Thread nD τ) arg4 fullShare wk
            ∗ owns (c : Thread nD τ) arg5 fullShare wv ∗ owns (c : Thread nD τ) arg6 fullShare wf ∗ owns (c : Thread nD τ) arg7 fullShare b
            ∗ owns (c : Thread nD τ) arg8 fullShare (outQ x wq) ∗ owns (c : Thread nD τ) arg9 fullShare (outK x wk) ∗ owns (c : Thread nD τ) arg10 fullShare (outV x wv)
            ∗ owns (c : Thread nD τ) arg11 fullShare (if k0_cond1 i = 1#1 then outL x wf b else y)) -∗ K ⟨⟩))
      ⊢ wp frame (wpE (defs₀ (F := F)) Variants.none c none) E (cc0_fox_project i arg2 harg2 arg3 harg3 arg4 harg4 arg5 harg5 arg6 harg6 arg7 harg7 arg8 harg8 arg9 harg9 arg10 harg10 arg11 harg11) K := by
  simp only [cc0_fox_project_eq_skeleton]; unfold cc0_fox_project_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%f9, %hf9, H9⟩, Hk⟩
  subst hf0 hf1 hf2 hf3 hf4 hf5 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover _)
  isplitl [H7]
  · iexists _; isplitr
    swap; · iexact H7
    ipureintro
    exact View.read_writes_eq_canon _ _ _ (cover _)
  isplitl [H8]
  · iexists _; isplitr
    swap; · iexact H8
    ipureintro
    exact View.read_writes_eq_canon _ _ _ (cover _)
  iexists _; isplitr
  swap; · iexact H9
  ipureintro
  by_cases hc : k0_cond1 i = 1#1
  · rw [dif_pos hc, if_pos hc]
    exact View.read_writes_eq_canon _ _ _ (coverL _)
  · rw [dif_neg hc, if_neg hc]

/-! ## When the log-forget columns are stored -/

/-- The point at which the row block of point `t` had its log-forget columns stored. -/
def live (t : Fin grid0.N) : Fin grid0.N := ⟨t.val / 4 * 4, Nat.lt_of_le_of_lt (Nat.div_mul_le_self _ _) t.isLt⟩

theorem live_self (t : Fin grid0.N) (h : t.val % 4 = 0) : live t = t :=
  Fin.ext (by show t.val / 4 * 4 = t.val; omega)

theorem live_pred (t : Fin grid0.N) (h : t.val % 4 ≠ 0) : live t = live ⟨t.val - 1, Nat.lt_of_le_of_lt (Nat.sub_le _ _) t.isLt⟩ :=
  Fin.ext (by show t.val / 4 * 4 = (t.val - 1) / 4 * 4; omega)

/-- The body stores them exactly at the first column block. -/
theorem cond_iff : ∀ t : Fin grid0.N, k0_cond1 (grid0.coords t) = 1#1 ↔ t.val % 4 = 0 := by decide +kernel

theorem idle_eq (t : Fin cfg0.N) : cfg0.idle 9 (cfg0.grid.coords t) = !(k0_cond1 (grid0.coords t) == 1#1) := rfl

theorem idle_false (t : Fin cfg0.N) (h : t.val % 4 = 0) : cfg0.idle 9 (cfg0.grid.coords t) = false := by
  rw [idle_eq, (cond_iff t).mpr h]; rfl

theorem idle_true (t : Fin cfg0.N) (h : t.val % 4 ≠ 0) : cfg0.idle 9 (cfg0.grid.coords t) = true := by
  rw [idle_eq, Bool.not_eq_true', beq_eq_false_iff_ne]
  exact fun e => h ((cond_iff t).mp e)

/-- They are written back at the last column block only. -/
theorem flush_false : ∀ t : Fin grid0.N, t.val % 4 ≠ 3 → win0_9.flush t = false := by decide +kernel

theorem fresh_false (n : ℕ) (h : n < cfg0.N) (hn : n % 4 ≠ 0) : cfg0.fresh 9 n = false :=
  fresh_of cfg0 9 (fun n => n % 4 ≠ 0) (fun e => e rfl)
    (fun n h hn => flush_false ⟨n, Nat.lt_of_succ_lt h⟩ (show n % 4 ≠ 3 by omega))
    (fun n h hn => idle_false ⟨n, h⟩ (not_not.mp hn)) n h hn

/-! ## The pipeline's data -/

/-- The pipeline's data: the arrays as found, each input's buffer at its block, each output's at what the body stores; the
    three windows on the one weight array hold a share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t)
    | ⟨7, _⟩ => outK (iblk m c 0 t) (iblk m c 2 t)
    | ⟨8, _⟩ => outV (iblk m c 0 t) (iblk m c 3 t)
    | ⟨9, _⟩ => outL (iblk m c 0 (live t)) (iblk m c 4 (live t)) (iblk m c 5 (live t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outQ (iblk m c 0 t) (iblk m c 1 t) := by dsimp only [dats]
theorem after_7 (c : Dev nD) (t : Fin cfg0.N) : (dats m 0 c).after 7 t = outK (iblk m c 0 t) (iblk m c 2 t) := by dsimp only [dats]
theorem after_8 (c : Dev nD) (t : Fin cfg0.N) : (dats m 0 c).after 8 t = outV (iblk m c 0 t) (iblk m c 3 t) := by dsimp only [dats]
/-- The log-forget columns of point `t`'s row block. -/
def lfAt (c : Dev nD) (t : Fin grid0.N) : Vec F S1024x128 .f32 := outL (iblk m c 0 t) (iblk m c 4 t) (iblk m c 5 t)
theorem after_9 (c : Dev nD) (t : Fin cfg0.N) : (dats m 0 c).after 9 t = lfAt m c (live t) := by dsimp only [dats]; rfl

/-- Each input's buffer holds its block when the body is called. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- Where the body does not store them, the log-forget buffer holds what the first column block stored. -/
theorem before_9 (c : Dev nD) (t : Fin cfg0.N) (h : t.val % 4 ≠ 0) (d) : (dats m 0 c).before 9 t d = lfAt m c (live t) := by
  have hc : ∀ (t : Fin cfg0.N) (_ : t.val ≠ 0), cfg0.idle 9 (cfg0.grid.coords t) = true → cfg0.fresh 9 t.val = false →
      (dats m 0 c).after 9 t = (dats m 0 c).after 9 ⟨t.val - 1, Nat.lt_of_le_of_lt (Nat.sub_le _ _) t.isLt⟩ := fun t _ hi _ => by
    rw [after_9, after_9]
    have hu : t.val % 4 ≠ 0 := fun e => by rw [idle_false t e] at hi; exact Bool.false_ne_true hi
    exact congrArg (lfAt m c) (live_pred t hu)
  have hb := (dats m 0 c).before_out_traj 9 rfl (fun _ _ => rfl) hc t.val t rfl d
  rw [fresh_false t.val t.isLt h] at hb
  refine hb.trans ?_
  rw [if_neg Bool.false_ne_true, after_9]
  exact (congrArg (lfAt m c) (live_pred t h)).symm

/-- What the log-forget buffer holds after the body, whether it stored or not. -/
theorem stored_eq (c : Dev nD) (t : Fin cfg0.N) (d) :
    (if k0_cond1 (grid0.coords t) = 1#1 then lfAt m c t else (dats m 0 c).before 9 t d) = lfAt m c (live t) := by
  by_cases h : t.val % 4 = 0
  · exact (if_pos ((cond_iff t).mpr h)).trans (congrArg (lfAt m c) (live_self t h).symm)
  · exact (if_neg (fun e => h ((cond_iff t).mp e))).trans (before_9 m c t h d)

/-! ## The body's obligation -/

/-- What the body is called with at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare (lfAt m c (live t)))

set_option maxHeartbeats 1000000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← stored_eq m c t d9]
  iapply (body_stores c Set.univ (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 9 t d9))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s buffers. -/
theorem defs₀_row (t : Fin cfg0.N) :
    defs₀ (F := F) .tc cfg0.body (cfg0.bodyArgs t (cfg0.slots t)) = bodyAt t := by
  unfold defs₀; rw [Defs.onTc_tc]

/-- The log-forget buffer at those contents is what the obligation asks of it, whether the point stores, carries or
    writes back. -/
theorem post_out (c : Dev nD) (t : Fin cfg0.N) :
    owns (c : Thread nD τ) (ms9 t) fullShare (lfAt m c (live t))
      ⊢ (match cfg0.idle 9 (cfg0.grid.coords t) with
        | true => match (cfg0.win 9).flush t with
          | false => iprop(∃ d, owns (c : Thread nD τ) (ms9 t) fullShare ((dats m 0 c).before 9 t d))
          | true => owns (c : Thread nD τ) (ms9 t) fullShare ((dats m 0 c).after 9 t)
        | false => owns (c : Thread nD τ) (ms9 t) fullShare ((dats m 0 c).after 9 t) : sProp 𝕄) := by
  rw [after_9]
  have hX : ∀ X : Vec F S1024x128 .f32, X = lfAt m c (live t) →
      ((owns (c : Thread nD τ) (ms9 t) fullShare (lfAt m c (live t)) : sProp 𝕄) ⊢ owns (c : Thread nD τ) (ms9 t) fullShare X) := by
    rintro _ rfl; exact .rfl
  by_cases h : t.val % 4 = 0
  · rw [idle_false t h]
  · rw [idle_true t h]
    cases (cfg0.win 9).flush t
    · iintro H
      iexists (lfAt m c (live t))
      iapply (hX _ (before_9 m c t h _)) $$ H
    · iintro H; iexact H

set_option maxHeartbeats 1000000 in
/-- The obligation of the body, at every point. -/
theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl
    (sep_mono .rfl (sep_mono .rfl (sep_mono .rfl (sep_mono .rfl (post_out m c t)))))))))))

/-! ## The run -/

set_option backward.isDefEq.respectTransparency.types false in
set_option maxHeartbeats 800000 in
/-- Every run of the program ends with each array of the pipeline at the contents its write-backs leave, every other
    buffer at what the slice makes of it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The slice leaves an argument that no window stages as launched. -/
theorem tail_arg (c : Dev nD) (b : Ref sig .tc) (hb : b = main_arg1 ∨ b = main_arg2 ∨ b = main_arg3) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      rcases hb with rfl | rfl | rfl <;> exact StableHlo.devRef_ne_of_ne (by decide))),
    Pipeline.withArrays_of_ne _ c (V0 m c) _ b (by rcases hb with rfl | rfl | rfl <;> exact (by decide))]
  exact V_arg m c b (Or.inr hb)

/-- The sliced result holds the first sixteen columns of the log-forget array as the write-backs leave it. -/
theorem tail_lf (c : Dev nD) :
    Pipeline.afterTail₀ cfgs (dats m) 0 (V0 m) [hostOps1] c main_v9
      = extractStridedSlice S1024x16 ![0, 0] ((dats m 0 c).arrAt 9 cfg0.N : FVec F S1024x128 .f32) slices_S1024x128_S1024x16_0_0 := by
  unfold Pipeline.afterTail₀
  show StableHlo.after hostOps1 _ (Proc.devRef .tc main_v9) = _
  after_results_simp
  congr 1
  exact Pipeline.withArrays_arr_shared spec0 c (V0 m c) _ ((dats m 0 c).arrAt_sharedIn sharedIn0 (V0 m c) (A_eq m c) cfg0.N) 9

/-- What the final states hold: the four results at what the write-backs leave, the arguments as launched, and every
    semaphore at zero. -/
theorem run_results : θ_run defs (onTc (τ := τ) (main (F := F))) ⟨m, fun _ => 0, ρ⟩ (fun r =>
    (∀ c : Dev nD, r.2.mem ((c.tc : Thread nD τ).loc main_v8_0) = (dats m 0 c).arrAt 6 cfg0.N
      ∧ r.2.mem ((c.tc : Thread nD τ).loc main_v8_1) = (dats m 0 c).arrAt 7 cfg0.N
      ∧ r.2.mem ((c.tc : Thread nD τ).loc main_v8_2) = (dats m 0 c).arrAt 8 cfg0.N
      ∧ r.2.mem ((c.tc : Thread nD τ).loc main_v9)
          = extractStridedSlice S1024x16 ![0, 0] ((dats m 0 c).arrAt 9 cfg0.N : FVec F S1024x128 .f32) slices_S1024x128_S1024x16_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 6, (h.1 c).1 7, (h.1 c).1 8,
      ((h.1 c).2 main_v9 (by decide)).trans (tail_lf m c),
      (((h.1 c).1 0).trans ((dats m 0 c).arrAt_in 0 rfl _)).trans ((A_eq m c 0).trans (V_arg m c main_arg0 (Or.inl rfl))),
      ((h.1 c).2 main_arg1 (by decide)).trans (tail_arg m c main_arg1 (Or.inl rfl)),
      ((h.1 c).2 main_arg2 (by decide)).trans (tail_arg m c main_arg2 (Or.inr (Or.inl rfl))),
      ((h.1 c).2 main_arg3 (by decide)).trans (tail_arg m c main_arg3 (Or.inr (Or.inr rfl)))⟩, h.2⟩) (run_main m ρ)

end Cert.FoxS.Run

end
-- ==== Proof.FoxSRefValue.lean ====
/- The reference of the forgetting attention's projections of the sample, index by index: queries, keys and values are rows
   of tokens times columns of the weights, the log-forget gates the log-sigmoid of a product plus a bias. -/
module

public import proofs.«01_k».proof.Proof.Gen.FoxSRefIdeal.Run
public import proofs.«01_k».proof.Proof.LogSig
public import Idealize.ShloMosaic.Lib.Pipeline.ValueKit
public import Idealize.ShloMosaic.Lib.Claim

@[expose] public section

set_option maxRecDepth 16384

noncomputable section

namespace Cert.FoxSRefIdeal.Stages

open Cert.FoxSRefIdeal Cert.FoxSRefIdeal.Gen Idealize.ShloMosaic Idealize.ShloMosaic.TcCoe Idealize.SL.Sem
open Cert.LogSig (logsig ref_eq)

/-- The sample's tokens, one sequence each. -/
abbrev TOK (X : FVec Ideal S17408x2048 .f32) : FVec Ideal S32x32x2048 .f32 :=
  shapeCast _ (extractStridedSlice S1024x2048 ![16384, 0] X slices_S17408x2048_S1024x2048_16384_0 : FVec Ideal S1024x2048 .f32) shapeCasts_S1024x2048_S32x32x2048

/-- Queries, keys and values side by side, one row for each token. -/
abbrev QKV (X : FVec Ideal S17408x2048 .f32) (W : FVec Ideal S1x2048x6144 .f32) : FVec Ideal S1024x6144 .f32 :=
  shapeCast _ (Host.dotGeneral dot_S32x32x2048_S2048x6144_S32x32x6144_2_0_01_1_n_n none (TOK X)
    (shapeCast _ W shapeCasts_S1x2048x6144_S2048x6144 : FVec Ideal S2048x6144 .f32) : FVec Ideal S32x32x6144 .f32) shapeCasts_S32x32x6144_S1024x6144

/-- The gates before the log-sigmoid. -/
abbrev GATE (X : FVec Ideal S17408x2048 .f32) (W : FVec Ideal S1x2048x16 .f32) (B : FVec Ideal S1x16 .f32) : FVec Ideal S32x32x16 .f32 :=
  addf (Host.dotGeneral dot_S32x32x2048_S2048x16_S32x32x16_2_0_01_1_n_n none (TOK X)
      (shapeCast _ W shapeCasts_S1x2048x16_S2048x16 : FVec Ideal S2048x16 .f32) : FVec Ideal S32x32x16 .f32)
    (broadcastInDim S32x32x16 ![0, 1, 2] bcast_S1x1x16_S32x32x16_0_1_2
      (broadcastInDim S1x1x16 ![2] bcast_S16_S1x1x16_2 (shapeCast _ B shapeCasts_S1x16_S16 : FVec Ideal S16 .f32) : FVec Ideal S1x1x16 .f32))

/-- Row `r` of the tokens times column `c` of the weights. -/
theorem QKV_apply (X : FVec Ideal S17408x2048 .f32) (W : FVec Ideal S1x2048x6144 .f32) (r : Fin 1024) (c : Fin 6144) :
    QKV X W (ix2 r c) = ∑ x : Fin 2048, X (ix2 ⟨16384 + r.val, by omega⟩ x) * W (ix3 0 x c) := by
  pointwise [QKV, TOK]

theorem GATE_apply (X : FVec Ideal S17408x2048 .f32) (W : FVec Ideal S1x2048x16 .f32) (B : FVec Ideal S1x16 .f32) (r : Fin 32) (p : Fin 32) (c : Fin 16) :
    GATE X W B (ix3 r p c) = (∑ x : Fin 2048, X (ix2 ⟨16384 + (r.val * 32 + p.val), by omega⟩ x) * W (ix3 0 x c)) + B (ix2 0 c) := by
  pointwise [GATE, TOK]

/-- Zero at every index. -/
abbrev ZERO : FVec Ideal S32x32x16 .f32 := broadcastInDim S32x32x16 ![] bcast_S_S32x32x16 (constant S_ .f32 0x00000000#32 : FVec Ideal S_ .f32)

/-- The log-sigmoid as the reference spells it. -/
abbrev LOGSIG (Z : FVec Ideal S32x32x16 .f32) : FVec Ideal S32x32x16 .f32 :=
  Host.negf (select (cmpf .une (subf (Host.negf Z) ZERO) (subf (Host.negf Z) ZERO)) (addf (Host.negf Z) ZERO)
    (addf (maximumf (Host.negf Z) ZERO) (Host.log1p (Host.exp (Host.negf (Host.absf (subf (Host.negf Z) ZERO)))))))

/-- It is the log-sigmoid of each number. -/
theorem LOGSIG_apply (Z : FVec Ideal S32x32x16 .f32) (r : Fin 32) (p : Fin 32) (c : Fin 16) :
    LOGSIG Z (ix3 r p c) = logsig (Z (ix3 r p c)) := by
  rw [← ref_eq]
  pointwise [LOGSIG, ZERO]
  rfl

/-- The reference's four results. -/
def Q (X : FVec Ideal S17408x2048 .f32) (W : FVec Ideal S1x2048x6144 .f32) : FVec Ideal S1024x2048 .bf16 :=
  truncf .bf16 (extractStridedSlice S1024x2048 ![0, 0] (QKV X W) slices_S1024x6144_S1024x2048_0_0 : FVec Ideal S1024x2048 .f32) bitsLt_bf16_f32
def K (X : FVec Ideal S17408x2048 .f32) (W : FVec Ideal S1x2048x6144 .f32) : FVec Ideal S1024x2048 .f32 :=
  extractStridedSlice S1024x2048 ![0, 2048] (QKV X W) slices_S1024x6144_S1024x2048_0_2048
def V (X : FVec Ideal S17408x2048 .f32) (W : FVec Ideal S1x2048x6144 .f32) : FVec Ideal S1024x2048 .f32 :=
  extractStridedSlice S1024x2048 ![0, 4096] (QKV X W) slices_S1024x6144_S1024x2048_0_4096
def LF (X : FVec Ideal S17408x2048 .f32) (W : FVec Ideal S1x2048x16 .f32) (B : FVec Ideal S1x16 .f32) : FVec Ideal S1024x16 .f32 :=
  shapeCast _ (LOGSIG (GATE X W B)) shapeCasts_S32x32x16_S1024x16

/-- Each of them at an index. -/
theorem Q_apply (X : FVec Ideal S17408x2048 .f32) (W : FVec Ideal S1x2048x6144 .f32) (r : Fin 1024) (c : Fin 2048) :
    Q X W (ix2 r c) = ∑ x : Fin 2048, X (ix2 ⟨16384 + r.val, by omega⟩ x) * W (ix3 0 x ⟨c.val, by omega⟩) := by
  pointwise [Q, QKV, TOK]
theorem K_apply (X : FVec Ideal S17408x2048 .f32) (W : FVec Ideal S1x2048x6144 .f32) (r : Fin 1024) (c : Fin 2048) :
    K X W (ix2 r c) = ∑ x : Fin 2048, X (ix2 ⟨16384 + r.val, by omega⟩ x) * W (ix3 0 x ⟨2048 + c.val, by omega⟩) := by
  pointwise [K, QKV, TOK]
theorem V_apply (X : FVec Ideal S17408x2048 .f32) (W : FVec Ideal S1x2048x6144 .f32) (r : Fin 1024) (c : Fin 2048) :
    V X W (ix2 r c) = ∑ x : Fin 2048, X (ix2 ⟨16384 + r.val, by omega⟩ x) * W (ix3 0 x ⟨4096 + c.val, by omega⟩) := by
  pointwise [V, QKV, TOK]
theorem LF_apply (X : FVec Ideal S17408x2048 .f32) (W : FVec Ideal S1x2048x16 .f32) (B : FVec Ideal S1x16 .f32) (r : Fin 1024) (c : Fin 16) :
    LF X W B (ix2 r c) = logsig ((∑ x : Fin 2048, X (ix2 ⟨16384 + r.val, by omega⟩ x) * W (ix3 0 x c)) + B (ix2 0 c)) := by
  have e : LF X W B (ix2 r c) = LOGSIG (GATE X W B) (ix3 ⟨r.val / 32, by omega⟩ ⟨r.val % 32, by omega⟩ c) := by
    unfold LF
    generalize LOGSIG (GATE X W B) = A
    pointwise []
  rw [e, LOGSIG_apply, GATE_apply]
  have hr : (⟨16384 + (r.val / 32 * 32 + r.val % 32), by omega⟩ : Fin 17408) = ⟨16384 + r.val, by omega⟩ :=
    Fin.ext (congrArg (16384 + ·) (Nat.div_add_mod' _ _))
  rw [hr]

end Cert.FoxSRefIdeal.Stages

end
-- ==== Proof.FoxSValue.lean ====
/- What the forgetting attention's projections of the sample leave, index by index: each of the four results is the
   reference's. -/
module

public import proofs.«01_k».proof.Proof.FoxSRun
public import proofs.«01_k».proof.Proof.FoxSRefValue
public import Idealize.ShloMosaic.Lib.Pipeline.ValueKit
public import Idealize.ShloMosaic.Lib.Claim

@[expose] public section

set_option maxRecDepth 16384

noncomputable section

namespace Cert.FoxS.Run

open Cert.FoxS Cert.FoxS.Gen
open Cert.LogSig (logsig)
open Idealize.ShloMosaic Idealize.ShloMosaic.TcCoe Idealize.SL.Sem
open Idealize.ShloMosaic.Pipeline (Dat)

variable (m : (ℓ : Loc nD τ sig) → Buf (Elt Ideal) ℓ)

/-- The tokens, the weights of queries, keys and values, the weights and the bias of the gates, as launched. -/
abbrev rows (c : Dev nD) : FVec Ideal S17408x2048 .f32 := m ((c : Thread nD τ).loc main_arg0)
abbrev wts (c : Dev nD) : FVec Ideal S1x2048x6144 .f32 := m ((c : Thread nD τ).loc main_arg1)
abbrev gates (c : Dev nD) : FVec Ideal S1x2048x16 .f32 := m ((c : Thread nD τ).loc main_arg2)
abbrev biases (c : Dev nD) : FVec Ideal S1x16 .f32 := m ((c : Thread nD τ).loc main_arg3)

/-- The zero the host pads with. -/
abbrev PADZ : FVec Ideal S_ .f32 := sitofp .f32 (constantI S_ 32 0#32)

/-- The weights as the pipeline finds them. -/
theorem V_w (c : Dev nD) (x : Fin 2048) (j : Fin 6144) : (V m c main_v1 : FVec Ideal S2048x6144 .bf16) (ix2 x j) = wts m c (ix3 0 x j) := by
  have h : V m c main_v1 = (truncf .bf16 (shapeCast _ (wts m c) shapeCasts_S1x2048x6144_S2048x6144 : FVec Ideal S2048x6144 .f32) bitsLt_bf16_f32 : FVec Ideal S2048x6144 .bf16) := by
    show StableHlo.after (List.flatten before) _ _ = _
    simp only [before, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise []

/-- The gates' weights as the pipeline finds them: in the first sixteen columns of the padded array. -/
theorem V_f (c : Dev nD) (x : Fin 2048) (j : Fin 16) : (V m c main_v4 : FVec Ideal S2048x128 .bf16) (ix2 x ⟨j.val, by omega⟩) = gates m c (ix3 0 x j) := by
  have h : V m c main_v4 = (truncf .bf16 (pad S2048x128 ![0, 0] ![0, 112] ![0, 0] (shapeCast _ (gates m c) shapeCasts_S1x2048x16_S2048x16 : FVec Ideal S2048x16 .f32) PADZ pads_S2048x16_S2048x128_000_01120 h_S_ : FVec Ideal S2048x128 .f32) bitsLt_bf16_f32 : FVec Ideal S2048x128 .bf16) := by
    show StableHlo.after (List.flatten before) _ _ = _
    simp only [before, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise []

/-- Their bias likewise. -/
theorem V_b (c : Dev nD) (j : Fin 16) : (V m c main_v7 : FVec Ideal S1x128 .f32) (ix2 0 ⟨j.val, by omega⟩) = biases m c (ix2 0 j) := by
  have h : V m c main_v7 = (shapeCast _ (pad S128 ![0] ![112] ![0] (shapeCast _ (biases m c) shapeCasts_S1x16_S16 : FVec Ideal S16 .f32) PADZ pads_S16_S128_01120 h_S_ : FVec Ideal S128 .f32) shapeCasts_S128_S1x128 : FVec Ideal S1x128 .f32) := by
    show StableHlo.after (List.flatten before) _ _ = _
    simp only [before, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise []

/-- Which block each window is on. -/
theorem idx : ∀ t : Fin cfg0.N, win0_0.index t = ![16 + t.val / 4, 0] ∧ win0_1.index t = ![0, t.val % 4] ∧ win0_2.index t = ![0, 4 + t.val % 4]
    ∧ win0_3.index t = ![0, 8 + t.val % 4] ∧ win0_4.index t = ![0, 0] ∧ win0_5.index t = ![0, 0] ∧ win0_6.index t = ![t.val / 4, t.val % 4]
    ∧ win0_7.index t = ![t.val / 4, t.val % 4] ∧ win0_8.index t = ![t.val / 4, t.val % 4] ∧ win0_9.index t = ![t.val / 4, 0] ∧ t.val / 4 < 1 :=
  (by decide +kernel : ∀ t : Fin grid0.N, _)

theorem row_lt (t : Fin cfg0.N) : t.val / 4 < 1 := (idx t).2.2.2.2.2.2.2.2.2.2

/-- What the body stores, at an index. -/
theorem payQ (x : Vec Ideal S1024x2048 .f32) (w : Vec Ideal S2048x512 .bf16) (i : Fin 1024) (j : Fin 512) :
    k0_pay2 x w (ix2 i j) = ∑ k : Fin 2048, x (ix2 i k) * w (ix2 k j) := by
  pointwise [k0_pay2, k0_pay1]
theorem payK (x : Vec Ideal S1024x2048 .f32) (w : Vec Ideal S2048x512 .bf16) (i : Fin 1024) (j : Fin 512) :
    k0_pay3 x w (ix2 i j) = ∑ k : Fin 2048, x (ix2 i k) * w (ix2 k j) := by
  pointwise [k0_pay3, k0_pay1]
theorem payV (x : Vec Ideal S1024x2048 .f32) (w : Vec Ideal S2048x512 .bf16) (i : Fin 1024) (j : Fin 512) :
    k0_pay4 x w (ix2 i j) = ∑ k : Fin 2048, x (ix2 i k) * w (ix2 k j) := by
  pointwise [k0_pay4, k0_pay1]
theorem payL (x : Vec Ideal S1024x2048 .f32) (w : Vec Ideal S2048x128 .bf16) (b : Vec Ideal S1x128 .f32) (i : Fin 1024) (j : Fin 128) :
    k0_pay5 x w b (ix2 i j) = logsig ((∑ k : Fin 2048, x (ix2 i k) * w (ix2 k j)) + b (ix2 0 j)) := by
  unfold logsig
  pointwise [k0_pay5, k0_pay1]
  rfl

/-- The blocks at a point: a block of rows of the tokens, and a block of columns of each of the three parts of the weights. -/
theorem blk_x (c : Dev nD) (t : Fin cfg0.N) (i : Fin 1024) (k : Fin 2048) :
    iblk m c 0 t (ix2 i k) = rows m c (ix2 ⟨16384 + (t.val / 4 * 1024 + i.val), by have := row_lt t; omega⟩ k) := by
  rw [show rows m c = V m c main_arg0 from (V_arg m c main_arg0 (Or.inl rfl)).symm]
  blk_simp [iblk]
  congr 1; blk_ext [idx t]
theorem blk_q (c : Dev nD) (t : Fin cfg0.N) (k : Fin 2048) (j : Fin 512) :
    iblk m c 1 t (ix2 k j) = wts m c (ix3 0 k ⟨t.val % 4 * 512 + j.val, by omega⟩) := by
  refine Eq.trans ?_ (V_w m c k _)
  blk_simp [iblk]
  congr 1; blk_ext [idx t]
theorem blk_k (c : Dev nD) (t : Fin cfg0.N) (k : Fin 2048) (j : Fin 512) :
    iblk m c 2 t (ix2 k j) = wts m c (ix3 0 k ⟨2048 + (t.val % 4 * 512 + j.val), by omega⟩) := by
  refine Eq.trans ?_ (V_w m c k _)
  blk_simp [iblk]
  congr 1; blk_ext [idx t]
theorem blk_v (c : Dev nD) (t : Fin cfg0.N) (k : Fin 2048) (j : Fin 512) :
    iblk m c 3 t (ix2 k j) = wts m c (ix3 0 k ⟨4096 + (t.val % 4 * 512 + j.val), by omega⟩) := by
  refine Eq.trans ?_ (V_w m c k _)
  blk_simp [iblk]
  congr 1; blk_ext [idx t]

/-- The padded weights and bias of the gates, whole at every point. -/
theorem blk_f (c : Dev nD) (t : Fin cfg0.N) (k : Fin 2048) (j : Fin 128) :
    iblk m c 4 t (ix2 k j) = (V m c main_v4 : FVec Ideal S2048x128 .bf16) (ix2 k j) := by
  blk_simp [iblk]
  congr 1; blk_ext [idx t]
theorem blk_b (c : Dev nD) (t : Fin cfg0.N) (j : Fin 128) :
    iblk m c 5 t (ix2 0 j) = (V m c main_v7 : FVec Ideal S1x128 .f32) (ix2 0 j) := by
  blk_simp [iblk]
  congr 1; blk_ext [idx t]

/-- The gates over all the columns the kernel computes, the padded ones included. -/
def WIDE (c : Dev nD) : FVec Ideal S1024x128 .f32 := fun y =>
  logsig ((∑ k : Fin 2048, rows m c (ix2 ⟨16384 + (y 0).val, Nat.add_lt_add_left (y 0).isLt 16384⟩ k) * (V m c main_v4 : FVec Ideal S2048x128 .bf16) (ix2 k (y 1)))
    + (V m c main_v7 : FVec Ideal S1x128 .f32) (ix2 0 (y 1)))

/-- What a point stores at its blocks' index is the reference at the arrays' index. -/
theorem pointQ (c : Dev nD) (t : Fin cfg0.N) (i : Fin 1024) (j : Fin 512) : k0_pay2 (iblk m c 0 t) (iblk m c 1 t) (ix2 i j)
    = Cert.FoxSRefIdeal.Stages.Q (rows m c) (wts m c) (ix2 ⟨t.val / 4 * 1024 + i.val, by have := row_lt t; omega⟩ ⟨t.val % 4 * 512 + j.val, by omega⟩) := by
  refine (payQ _ _ i j).trans (Eq.trans ?_ (Cert.FoxSRefIdeal.Stages.Q_apply _ _ _ _).symm)
  exact Finset.sum_congr rfl fun k _ => congrArg₂ (fun a b : EReal => a * b) (blk_x m c t i k) (blk_q m c t k j)
theorem pointK (c : Dev nD) (t : Fin cfg0.N) (i : Fin 1024) (j : Fin 512) : k0_pay3 (iblk m c 0 t) (iblk m c 2 t) (ix2 i j)
    = Cert.FoxSRefIdeal.Stages.K (rows m c) (wts m c) (ix2 ⟨t.val / 4 * 1024 + i.val, by have := row_lt t; omega⟩ ⟨t.val % 4 * 512 + j.val, by omega⟩) := by
  refine (payK _ _ i j).trans (Eq.trans ?_ (Cert.FoxSRefIdeal.Stages.K_apply _ _ _ _).symm)
  exact Finset.sum_congr rfl fun k _ => congrArg₂ (fun a b : EReal => a * b) (blk_x m c t i k) (blk_k m c t k j)
theorem pointV (c : Dev nD) (t : Fin cfg0.N) (i : Fin 1024) (j : Fin 512) : k0_pay4 (iblk m c 0 t) (iblk m c 3 t) (ix2 i j)
    = Cert.FoxSRefIdeal.Stages.V (rows m c) (wts m c) (ix2 ⟨t.val / 4 * 1024 + i.val, by have := row_lt t; omega⟩ ⟨t.val % 4 * 512 + j.val, by omega⟩) := by
  refine (payV _ _ i j).trans (Eq.trans ?_ (Cert.FoxSRefIdeal.Stages.V_apply _ _ _ _).symm)
  exact Finset.sum_congr rfl fun k _ => congrArg₂ (fun a b : EReal => a * b) (blk_x m c t i k) (blk_v m c t k j)
theorem pointL (c : Dev nD) (t : Fin cfg0.N) (i : Fin 1024) (j : Fin 128) : k0_pay5 (iblk m c 0 t) (iblk m c 4 t) (iblk m c 5 t) (ix2 i j)
    = WIDE m c (ix2 ⟨t.val / 4 * 1024 + i.val, by have := row_lt t; omega⟩ j) :=
  (payL _ _ _ i j).trans (congrArg logsig (congrArg₂ (fun a b : EReal => a + b)
    (Finset.sum_congr rfl fun k _ => congrArg₂ (fun a b : EReal => a * b) (blk_x m c t i k) (blk_f m c t k j)) (blk_b m c t j)))

/-- The arrays after the run are the reference's. -/
theorem final_q (c : Dev nD) : (dats m 0 c).arrAt 6 cfg0.N = Cert.FoxSRefIdeal.Stages.Q (rows m c) (wts m c) := by
  refine (dats m 0 c).arrAt_eq_of_covers 6 _ (by decide +kernel) fun t _ y => ?_
  blk_simp
  rw [after_6]; unfold outQ
  obtain ⟨i, j, rfl⟩ : ∃ (i : Fin 1024) (j : Fin 512), y = ix2 i j := ⟨y 0, y 1, by funext a; match a with | ⟨0, _⟩ => rfl | ⟨1, _⟩ => rfl⟩
  frame_out
  refine (pointQ m c t i j).trans ?_
  congr 1; blk_ext [idx t]
theorem final_k (c : Dev nD) : (dats m 0 c).arrAt 7 cfg0.N = Cert.FoxSRefIdeal.Stages.K (rows m c) (wts m c) := by
  refine (dats m 0 c).arrAt_eq_of_covers 7 _ (by decide +kernel) fun t _ y => ?_
  blk_simp
  rw [after_7]; unfold outK
  obtain ⟨i, j, rfl⟩ : ∃ (i : Fin 1024) (j : Fin 512), y = ix2 i j := ⟨y 0, y 1, by funext a; match a with | ⟨0, _⟩ => rfl | ⟨1, _⟩ => rfl⟩
  frame_out
  refine (pointK m c t i j).trans ?_
  congr 1; blk_ext [idx t]
theorem final_v (c : Dev nD) : (dats m 0 c).arrAt 8 cfg0.N = Cert.FoxSRefIdeal.Stages.V (rows m c) (wts m c) := by
  refine (dats m 0 c).arrAt_eq_of_covers 8 _ (by decide +kernel) fun t _ y => ?_
  blk_simp
  rw [after_8]; unfold outV
  obtain ⟨i, j, rfl⟩ : ∃ (i : Fin 1024) (j : Fin 512), y = ix2 i j := ⟨y 0, y 1, by funext a; match a with | ⟨0, _⟩ => rfl | ⟨1, _⟩ => rfl⟩
  frame_out
  refine (pointV m c t i j).trans ?_
  congr 1; blk_ext [idx t]
theorem final_wide (c : Dev nD) : (dats m 0 c).arrAt 9 cfg0.N = WIDE m c := by
  refine (dats m 0 c).arrAt_eq_of_covers 9 _ (by decide +kernel) fun t _ y => ?_
  blk_simp
  rw [after_9]; unfold lfAt outL
  obtain ⟨i, j, rfl⟩ : ∃ (i : Fin 1024) (j : Fin 128), y = ix2 i j := ⟨y 0, y 1, by funext a; match a with | ⟨0, _⟩ => rfl | ⟨1, _⟩ => rfl⟩
  frame_out
  refine (pointL m c (live t) i j).trans ?_
  have hl : (live t).val / 4 = t.val / 4 := by show t.val / 4 * 4 / 4 = _; omega
  congr 1; blk_ext [idx t, hl]

/-- The first sixteen columns of the gates are the reference's. -/
theorem final_lf (c : Dev nD) : extractStridedSlice S1024x16 ![0, 0] ((dats m 0 c).arrAt 9 cfg0.N : FVec Ideal S1024x128 .f32) slices_S1024x128_S1024x16_0_0
    = Cert.FoxSRefIdeal.Stages.LF (rows m c) (gates m c) (biases m c) := by
  rw [final_wide]
  funext y
  obtain ⟨i, j, rfl⟩ : ∃ (i : Fin 1024) (j : Fin 16), y = ix2 i j := ⟨y 0, y 1, by funext a; match a with | ⟨0, _⟩ => rfl | ⟨1, _⟩ => rfl⟩
  refine Eq.trans ?_ (Cert.FoxSRefIdeal.Stages.LF_apply _ _ _ i j).symm
  have e : extractStridedSlice S1024x16 ![0, 0] (WIDE m c) slices_S1024x128_S1024x16_0_0 (ix2 i j) = WIDE m c (ix2 i ⟨j.val, by omega⟩) := by
    generalize WIDE m c = A
    pointwise []
  rw [e]
  exact congrArg logsig (congrArg₂ (fun a b : EReal => a + b)
    (Finset.sum_congr rfl fun k _ => congrArg₂ (fun a b : EReal => a * b) rfl (V_f m c k j)) (V_b m c j))

end Cert.FoxS.Run

end
-- ==== Proof.FoxSClaim.lean ====
/- The claims of the forgetting attention's projections of the sample. The program read over the extended reals is textually
   the one its run is proved of at any arithmetic, so a run of the one is a run of the other. -/
module

public import proofs.«01_k».proof.Proof.FoxSValue
public import proofs.«01_k».proof.Proof.Gen.FoxSIdeal.Launch
public import proofs.«01_k».proof.Defs
public import Idealize.ShloMosaic.Lib.Quiescent

@[expose] public section

set_option maxRecDepth 16384

noncomputable section

namespace Cert.FoxS.Claims

open Idealize.ShloMosaic Idealize.ShloMosaic.TcCoe Idealize.SL.Sem
open Cert.FoxS.Run (run_results final_q final_k final_v final_lf)

theorem main_eq : Cert.FoxS.main (F := Ideal) = Cert.FoxSIdeal.main (F := Ideal) := rfl

set_option maxHeartbeats 1000000 in
theorem defs₀_eq : Cert.FoxS.defs₀ (F := Ideal) = Cert.FoxSIdeal.defs₀ (F := Ideal) := by
  unfold Cert.FoxS.defs₀ Cert.FoxSIdeal.defs₀
  refine congrArg (Defs.onTc) ?_
  funext x
  match x with
  | 0 => rfl

theorem defs_eq : Cert.FoxS.defs (F := Ideal) = Cert.FoxSIdeal.defs (F := Ideal) :=
  congrArg (Pipeline.defs (Cert.FoxSIdeal.pcfgs (F := Ideal))) defs₀_eq

/-- A run of the one is a run of the other. -/
theorem run_eq (s : MemSt Cert.FoxSIdeal.nD Cert.FoxSIdeal.τ Cert.FoxSIdeal.sig (Elt Ideal)) (P : PUnit × MemSt Cert.FoxSIdeal.nD Cert.FoxSIdeal.τ Cert.FoxSIdeal.sig (Elt Ideal) → Prop)
    (h : θ_run (Cert.FoxS.defs (F := Ideal)) (onTc (τ := Cert.FoxS.τ) (Cert.FoxS.main (F := Ideal))) s P) :
    θ_run (Cert.FoxSIdeal.defs (F := Ideal)) (onTc (τ := Cert.FoxSIdeal.τ) (Cert.FoxSIdeal.main (F := Ideal))) s P :=
  (congrArg (fun d => θ_run d (onTc (τ := Cert.FoxSIdeal.τ) (Cert.FoxSIdeal.main (F := Ideal))) s P) defs_eq).mp h

/-- The frame, at the machine's arithmetic. -/
theorem frame : Cert.quiescent_FoxS (hFoxS := Cert.FoxS.Gen.facts) := by
  intro m g _
  exact (θ_run Cert.FoxS.defs _ _).mono (fun r h => ⟨fun c => (h.1 c).2.2.2.2, h.2⟩) (run_results m g)

/-- The frame, over the extended reals. -/
theorem frame_ideal : Cert.quiescent_FoxSIdeal (hFoxSIdeal := Cert.FoxSIdeal.Gen.facts) := by
  intro m g _
  exact run_eq _ _ ((θ_run Cert.FoxS.defs _ _).mono (fun r h => ⟨fun c => (h.1 c).2.2.2.2, h.2⟩) (run_results m g))

/-- The frame of the reference. -/
theorem frame_ref : Cert.quiescent_FoxSRefIdeal (hFoxSRefIdeal := Cert.FoxSRefIdeal.Gen.facts) := by
  intro m g _
  exact (θ_run Cert.FoxSRefIdeal.defs _ _).mono (fun r h => ⟨fun c => (h c).2.2.2.2, sem_eq_zero_of_no_sems (by decide) r.2⟩) (Cert.FoxSRefIdeal.Value.run m g)

open Cert.FoxSRefIdeal.Stages (Q K V LF) in
/-- Queries, keys, values and log-forget gates of the kernel are the reference's. -/
theorem value : Cert.algebraic_FoxSIdeal_FoxSRefIdeal (hFoxSIdeal := Cert.FoxSIdeal.Gen.facts) (hFoxSRefIdeal := Cert.FoxSRefIdeal.Gen.facts) := by
  intro m g m' g' _ hagree
  refine ⟨fun c => Q (Run.rows m c) (Run.wts m c), fun c => K (Run.rows m c) (Run.wts m c), fun c => V (Run.rows m c) (Run.wts m c),
    fun c => LF (Run.rows m c) (Run.gates m c) (Run.biases m c), ?_, ?_⟩
  · refine run_eq _ _ ((θ_run Cert.FoxS.defs _ _).mono (fun r h c => ?_) (run_results m g))
    obtain ⟨hq, hk, hv, hl, hargs⟩ := h.1 c
    exact ⟨hq.trans (final_q m c), hk.trans (final_k m c), hv.trans (final_v m c), hl.trans (final_lf m c), hargs⟩
  · refine (θ_run Cert.FoxSRefIdeal.defs _ _).mono (fun r h c => ?_) (Cert.FoxSRefIdeal.Value.run m' g')
    obtain ⟨hq, hk, hv, hl, hargs⟩ := h c
    obtain ⟨h0, h1, h2, h3⟩ := hagree c
    refine ⟨?_, ?_, ?_, ?_, hargs⟩
    · rw [hq, h0, h1]; rfl
    · rw [hk, h0, h1]; rfl
    · rw [hv, h0, h1]; rfl
    · rw [hl, h0, h2, h3]; rfl

end Cert.FoxS.Claims

end
-- ==== Proof.Masks.lean ====
/- Words of infinity, the greatest of a family, the causal mask, and a greatest along the last of four axes. -/
module

public import Idealize.ShloMosaic.Lib.Pipeline.ValueKit
public import Idealize.ShloMosaic.Lib.WordCmp
public import Idealize.ShloMosaic.Lib.Claim

@[expose] public section

noncomputable section

namespace Cert.Softmax

open Idealize.ShloMosaic

/-- The word of −∞, and the greatest of a family as the fold that starts at it. -/
theorem neg_inf : Ideal.ofBits .f32 0xFF800000#32 = ⊥ := by
  simp [Ideal.ofBits, Ideal.ieee]
theorem fold_sup {n : Nat} (f : Fin n → EReal) : Finset.fold max (Ideal.ofBits .f32 0xFF800000#32) f Finset.univ = Finset.univ.sup f := by
  rw [neg_inf]; rfl

/-- The causal mask: row not before column. -/
theorem sge_select {n : Nat} (hn : n ≤ 2048) (r x : Fin n) (a b : EReal) :
    Scalar.select (IntOp.cmpi .sge (BitVec.ofNat 32 r.val) (BitVec.ofNat 32 x.val)) a b = if x.val ≤ r.val then a else b := by
  have e (y : Fin n) : (BitVec.ofNat 32 y.val).toInt = y.val := by
    have h : (BitVec.ofNat 32 y.val).toNat = y.val := by rw [BitVec.toNat_ofNat]; exact Nat.mod_eq_of_lt (by have := y.isLt; omega)
    rw [BitVec.toInt_eq_toNat_of_lt (by have := y.isLt; omega), h]
  rw [WordCmp.cmpi_sge_eq, e, e]
  by_cases h : x.val ≤ r.val
  · rw [if_pos h, decide_eq_true (by exact_mod_cast h)]; rfl
  · rw [if_neg h, decide_eq_false (by exact_mod_cast h)]; rfl

/-- The word of +∞, and the scale of the scores, which is finite. -/
theorem pos_inf : Ideal.ofBits .f32 0x7F800000#32 = ⊤ := by
  simp [Ideal.ofBits, Ideal.ieee]
theorem scale_real : ∃ r : ℝ, Ideal.ofBits .f32 0x3DB504F3#32 = (r : EReal) := by
  simp only [Ideal.ofBits, Ideal.ieee]
  rw [if_neg (by decide), if_neg (by decide)]
  exact ⟨_, rfl⟩

/-- The host's greatest along the last of four axes, at any sizes. -/
theorem reduce_max {n0 n1 n2 n3 : Nat} {u : Shape} (X : FVec Ideal (⟨4, ![n0, n1, n2, n3]⟩ : Shape) .f32) (c : FVec Ideal u .f32)
    (h : (⟨4, ![n0, n1, n2, n3]⟩ : Shape).ReducesTo [3] ⟨3, ![n0, n1, n2]⟩) (hu : 0 < u.numel) (b : Fin n0) (i : Fin n1) (t : Fin n2) :
    Host.reduce FloatOps.maximumf X c h hu (ix3 b i t) = Finset.fold max (c (Shape.Idx.first hu)) (fun x : Fin n3 => X (ix4 b i t x)) Finset.univ := by
  pointwise []

end Cert.Softmax
-- ==== Proof.FoxAPay.lean ====
/- What the attention kernel's body computes of its blocks, index by index: the scores of a block of keys, and one step of the
   running softmax over them. -/
module

public import proofs.«01_k».proof.Proof.Gen.FoxAIdeal.Value
public import Idealize.ShloMosaic.Lib.Pipeline.ValueKit
public import Idealize.ShloMosaic.Lib.Claim
public import proofs.«01_k».proof.Proof.Masks

@[expose] public section

set_option maxRecDepth 16384

noncomputable section

namespace Cert.FoxAIdeal.Out

open Cert.FoxAIdeal Cert.FoxAIdeal.Gen
open Cert.Softmax (fold_sup sge_select)
open Idealize.ShloMosaic Idealize.ShloMosaic.TcCoe Idealize.SL.Sem

/-- The scale of the scores. -/
abbrev SCALE : EReal := Ideal.ofBits .f32 0x3DB504F3#32

/-- The head a grid point is on. -/
abbrev head (i : grid0.Coords) : Fin 16 := ⟨(i 1).val, (i 1).isLt⟩

variable (i : grid0.Coords) (v0 : Vec Ideal S512x128 .bf16) (v4 : Vec Ideal S512x16 .f32)

/-- The head's column of the gates, taken by a sum over the lanes. -/
theorem pay2 (r : Fin 512) : k0_pay2 i v4 (ix2 r 0) = v4 (ix2 r (head i)) := by
  pointwise [k0_pay2]
  rw [Finset.sum_eq_single (head i) (fun x _ hx => ?_) (fun h => absurd (Finset.mem_univ _) h)]
  · rw [WordCmp.cmpi_eq_eq, decide_eq_true rfl]; rfl
  · rw [WordCmp.cmpi_eq_eq, decide_eq_false fun h => hx (Fin.ext ?_)]
    · rfl
    · have h2 := congrArg BitVec.toNat h
      rwa [BitVec.toNat_ofNat, BitVec.toNat_ofNat, Nat.mod_eq_of_lt (by omega), Nat.mod_eq_of_lt (lt_trans (head i).isLt (by decide))] at h2

/-- The score of a row against a key of the block. -/
def sc (v67 : Vec Ideal S512x128 .f32) (v71 : Vec Ideal S1x1x1x512 .f32) (r x : Fin 512) : EReal :=
  ((∑ k : Fin 128, v0 (ix2 r k) * v67 (ix2 x k)) * SCALE + v4 (ix2 r (head i))) - v71 (ix4 0 0 0 x)

theorem pay6 (v67 : Vec Ideal S512x128 .f32) (v71 : Vec Ideal S1x1x1x512 .f32) (r x : Fin 512) :
    k0_pay6 i v0 v4 v67 v71 (ix2 r x) = sc i v0 v4 v67 v71 r x := by
  unfold sc
  pointwise [k0_pay6]
  rw [pay2]

theorem pay1819 (v67 : Vec Ideal S512x128 .f32) (v71 : Vec Ideal S1x1x1x512 .f32) (r x : Fin 512) :
    k0_pay18 i v0 v4 v67 (ix2 r x) - k0_pay19 v71 (ix2 r x) = sc i v0 v4 v67 v71 r x := by
  unfold sc
  pointwise [k0_pay18, k0_pay19]
  rw [pay2]

/-- The named mask is −∞. -/
theorem mask : (Named.named κ "mask" 0xF149F2CA#32 : Ideal .f32) = (⊥ : EReal) := IdealRules.named_const.ideal_named_scalar _ _ _ _ rfl

/-- The start: nothing seen yet. -/
theorem pay3 (r : Fin 512) : (k0_pay3 : FVec Ideal S512x1 .f32) (ix2 r 0) = ⊥ :=
  IdealRules.named_const.ideal_named_scalar _ _ _ _ rfl
theorem pay4 (r : Fin 512) : (k0_pay4 : FVec Ideal S512x1 .f32) (ix2 r 0) = 0 := by
  pointwise [k0_pay4]
theorem pay5 (r : Fin 512) (e : Fin 128) : (k0_pay5 : FVec Ideal S512x128 .f32) (ix2 r e) = 0 := by
  pointwise [k0_pay5]

/-- The new maximum. -/
theorem pay7 (a : FVec Ideal S512x1 .f32) (v67 : Vec Ideal S512x128 .f32) (v71 : Vec Ideal S1x1x1x512 .f32) (r : Fin 512) :
    k0_pay7 i v0 v4 a v67 v71 (ix2 r 0) = max (a (ix2 r 0)) ((Finset.univ : Finset (Fin 512)).sup fun x => sc i v0 v4 v67 v71 r x) := by
  pointwise [k0_pay7]
  simp only [fold_sup, pay6]

/-- The new sum of exponentials. -/
theorem pay10 (a l : FVec Ideal S512x1 .f32) (v67 : Vec Ideal S512x128 .f32) (v71 : Vec Ideal S1x1x1x512 .f32) (r : Fin 512) :
    k0_pay10 i v0 v4 a l v67 v71 (ix2 r 0) = Ideal.exp (a (ix2 r 0) - k0_pay7 i v0 v4 a v67 v71 (ix2 r 0)) * l (ix2 r 0)
      + ∑ x : Fin 512, Ideal.exp (sc i v0 v4 v67 v71 r x - k0_pay7 i v0 v4 a v67 v71 (ix2 r 0)) := by
  pointwise [k0_pay10, k0_pay8, k0_pay9]
  simp only [pay6]

/-- The new weighted sum of values. -/
theorem pay11 (a : FVec Ideal S512x1 .f32) (o : FVec Ideal S512x128 .f32) (v67 v69 : Vec Ideal S512x128 .f32) (v71 : Vec Ideal S1x1x1x512 .f32) (r : Fin 512) (e : Fin 128) :
    k0_pay11 i v0 v4 a o v67 v69 v71 (ix2 r e) = Ideal.exp (a (ix2 r 0) - k0_pay7 i v0 v4 a v67 v71 (ix2 r 0)) * o (ix2 r e)
      + ∑ x : Fin 512, Ideal.exp (sc i v0 v4 v67 v71 r x - k0_pay7 i v0 v4 a v67 v71 (ix2 r 0)) * v69 (ix2 x e) := by
  pointwise [k0_pay11, k0_pay8, k0_pay9]
  simp only [pay6]

/-- The scores of the diagonal block: a key after the row is masked. -/
def msc (s : Fin 512 → Fin 512 → EReal) (r x : Fin 512) : EReal := if x.val ≤ r.val then s r x else ⊥

/-- What is stored: one step more over the masked block, then the weighted sum divided by the sum of exponentials. -/
theorem pay1 (a l : FVec Ideal S512x1 .f32) (o : FVec Ideal S512x128 .f32) (v67 v69 : Vec Ideal S512x128 .f32) (v71 : Vec Ideal S1x1x1x512 .f32) (r : Fin 512) (e : Fin 128) :
    k0_pay1 a l o v69 (k0_pay18 i v0 v4 v67) (k0_pay19 v71) (ix2 r e)
      = (let M := max (a (ix2 r 0)) ((Finset.univ : Finset (Fin 512)).sup fun x => msc (sc i v0 v4 v67 v71) r x)
         Ideal.div (Ideal.exp (a (ix2 r 0) - M) * o (ix2 r e) + ∑ x : Fin 512, Ideal.exp (msc (sc i v0 v4 v67 v71) r x - M) * v69 (ix2 x e))
           (Ideal.exp (a (ix2 r 0) - M) * l (ix2 r 0) + ∑ x : Fin 512, Ideal.exp (msc (sc i v0 v4 v67 v71) r x - M))) := by
  pointwise [k0_pay1]
  simp only [fold_sup, pay1819, sge_select (by decide : 512 ≤ 2048), mask]
  rfl

end Cert.FoxAIdeal.Out
end
-- ==== Proof.OnlineSoftmax.lean ====
/- The softmax taken block by block, over the extended reals: a running maximum, a running sum of exponentials and a running
   weighted sum, rescaled whenever the maximum grows, are the maximum and the two sums over everything seen so far. -/
module

public import Idealize.ShloMosaic.PureOps.Ideal
public import Idealize.ShloMosaic.Lib.Pipeline.ValueKit

@[expose] public section

noncomputable section

namespace Cert.Softmax

open Idealize.ShloMosaic

/-- Nothing brings `-∞` back, and everything is infinitely far below `+∞`. -/
theorem bot_sub (x : EReal) : (⊥ : EReal) - x = ⊥ := by rw [sub_eq_add_neg]; exact EReal.bot_add _
theorem sub_top (x : EReal) : x - ⊤ = ⊥ := by rw [sub_eq_add_neg, EReal.neg_top, EReal.add_bot]

/-- An exponential is not negative. -/
theorem exp_nonneg (x : EReal) : 0 ≤ Ideal.exp x := by
  induction x using EReal.rec with
  | bot => simp
  | top => simp
  | coe r => rw [Ideal.exp_coe]; exact_mod_cast (Real.exp_pos r).le

/-- The exponential of a difference that is not positive is finite. -/
theorem exp_ne_top {a b : EReal} (h : a ≤ b) : Ideal.exp (a - b) ≠ ⊤ := by
  induction a using EReal.rec with
  | bot => rw [bot_sub]; simp
  | top => rw [top_le_iff.mp h, sub_top]; simp
  | coe r =>
    induction b using EReal.rec with
    | bot => exact absurd h (by simp)
    | top => rw [sub_top]; simp
    | coe t => rw [← EReal.coe_sub, Ideal.exp_coe]; exact EReal.coe_ne_top _

/-- Rescaling from one maximum to a greater one. -/
theorem rescale {s a b : EReal} (h : s ≤ a) (h' : a ≤ b) : Ideal.exp (a - b) * Ideal.exp (s - a) = Ideal.exp (s - b) := by
  induction s using EReal.rec with
  | bot => rw [bot_sub, bot_sub]; simp
  | top =>
    obtain rfl := top_le_iff.mp h
    obtain rfl := top_le_iff.mp h'
    rw [sub_top]; simp
  | coe r =>
    induction b using EReal.rec with
    | bot => exact absurd (h.trans h') (by simp)
    | top => rw [sub_top, sub_top]; simp
    | coe t =>
      induction a using EReal.rec with
      | bot => exact absurd h (by simp)
      | top => exact absurd h' (by simp)
      | coe q =>
        rw [← EReal.coe_sub, ← EReal.coe_sub, ← EReal.coe_sub, Ideal.exp_coe, Ideal.exp_coe, Ideal.exp_coe, ← EReal.coe_mul, ← Real.exp_add]
        congr 2; ring

/-- A finite factor that is not negative goes into a sum. -/
theorem mul_sum {ι : Type} (A : Finset ι) (f : ι → EReal) {x : EReal} (h : 0 ≤ x) (h' : x ≠ ⊤) : x * ∑ u ∈ A, f u = ∑ u ∈ A, x * f u := by
  classical
  induction A using Finset.induction_on with
  | empty => simp
  | insert a A ha ih => rw [Finset.sum_insert ha, Finset.sum_insert ha, EReal.left_distrib_of_nonneg_of_ne_top h h', ih]

variable (s : ℕ → EReal) (w : ℕ → EReal)

/-- The greatest of the first `n` scores, and the sum of their exponentials with weights. -/
def M (n : ℕ) : EReal := (Finset.range n).sup s
def L (n : ℕ) : EReal := ∑ u ∈ Finset.range n, Ideal.exp (s u - M s n) * w u

theorem M_zero : M s 0 = ⊥ := rfl
theorem L_zero : L s w 0 = 0 := rfl

/-- The greatest of the first `n + k` scores. -/
theorem M_add (n k : ℕ) : M s (n + k) = max (M s n) ((Finset.univ : Finset (Fin k)).sup fun x => s (n + x.val)) := by
  refine le_antisymm (Finset.sup_le fun u hu => ?_) (max_le (Finset.sup_mono (Finset.range_mono (Nat.le_add_right n k))) (Finset.sup_le fun x _ => ?_))
  · by_cases h : u < n
    · exact (Finset.le_sup (f := s) (Finset.mem_range.mpr h)).trans (le_max_left _ _)
    · have hu' := Finset.mem_range.mp hu
      have e : s u = (fun x : Fin k => s (n + x.val)) ⟨u - n, by omega⟩ := congrArg s (by show u = n + (u - n); omega)
      rw [e]
      exact (Finset.le_sup (f := fun x : Fin k => s (n + x.val)) (Finset.mem_univ _)).trans (le_max_right _ _)
  · exact Finset.le_sup (f := s) (Finset.mem_range.mpr (by omega))

theorem M_le (n k : ℕ) : M s n ≤ M s (n + k) := Finset.sup_mono (Finset.range_mono (Nat.le_add_right n k))

/-- One block more: the sum so far rescaled to the new maximum, plus the block's. -/
theorem L_add (n k : ℕ) : Ideal.exp (M s n - M s (n + k)) * L s w n + ∑ x : Fin k, Ideal.exp (s (n + x.val) - M s (n + k)) * w (n + x.val) = L s w (n + k) := by
  unfold L
  rw [mul_sum _ _ (exp_nonneg _) (exp_ne_top (M_le s n k)), Finset.sum_range_add, ← Fin.sum_univ_eq_sum_range (fun x => Ideal.exp (s (n + x) - M s (n + k)) * w (n + x))]
  refine congrArg₂ (fun a b : EReal => a + b) (Finset.sum_congr rfl fun u hu => ?_) rfl
  rw [← mul_assoc]
  exact congrArg (fun z : EReal => z * w u) (rescale (Finset.le_sup (f := s) hu) (M_le s n k))

/-- Scores of `-∞` change nothing. -/
theorem M_tail {n k : ℕ} (h : ∀ x < k, s (n + x) = ⊥) : M s (n + k) = M s n := by
  rw [M_add]
  exact max_eq_left (Finset.sup_le fun x _ => (h x.val x.isLt).le.trans bot_le)
theorem sum_tail {n k : ℕ} (h : ∀ x < k, s (n + x) = ⊥) (m : EReal) (f : EReal → ℕ → EReal) (hf : ∀ u, f 0 u = 0) :
    ∑ u ∈ Finset.range (n + k), f (Ideal.exp (s u - m)) u = ∑ u ∈ Finset.range n, f (Ideal.exp (s u - m)) u := by
  rw [Finset.sum_range_add]
  refine (congrArg (fun z : EReal => _ + z) (Finset.sum_eq_zero fun x hx => ?_)).trans (add_zero _)
  rw [h x (Finset.mem_range.mp hx), bot_sub, Ideal.exp_bot, hf]

/-- The exponential of a finite number minus itself. -/
theorem exp_self {a : EReal} (h : a ≠ ⊥) (h' : a ≠ ⊤) : Ideal.exp (a - a) = 1 := by
  induction a using EReal.rec with
  | bot => exact absurd rfl h
  | top => exact absurd rfl h'
  | coe r => rw [← EReal.coe_sub, sub_self, Ideal.exp_coe, Real.exp_zero]; rfl

/-- The sum of the exponentials is at least one where the maximum is finite. -/
theorem one_le_L {n : ℕ} (h : M s n ≠ ⊥) (h' : M s n ≠ ⊤) : 1 ≤ ∑ u ∈ Finset.range n, Ideal.exp (s u - M s n) := by
  have hn : (Finset.range n).Nonempty := by
    rcases Nat.eq_zero_or_pos n with rfl | hn
    · exact absurd (M_zero s) h
    · exact ⟨0, Finset.mem_range.mpr hn⟩
  obtain ⟨u, hu, e⟩ := Finset.exists_mem_eq_sup _ hn s
  have e1 : Ideal.exp (s u - M s n) = 1 := by
    rw [← e]
    exact exp_self h h'
  rw [← e1]
  exact Finset.single_le_sum (f := fun u => Ideal.exp (s u - M s n)) (fun u _ => exp_nonneg _) hu

/-- Dividing the weighted sum is weighting the divided exponentials. -/
theorem div_sum {n : ℕ} (h : M s n ≠ ⊥) (h' : M s n ≠ ⊤) :
    Ideal.div (L s w n) (L s (fun _ => 1) n) = ∑ u ∈ Finset.range n, w u * Ideal.div (Ideal.exp (s u - M s n)) (∑ u ∈ Finset.range n, Ideal.exp (s u - M s n)) := by
  have e : L s (fun _ => 1) n = ∑ u ∈ Finset.range n, Ideal.exp (s u - M s n) := Finset.sum_congr rfl fun u _ => mul_one _
  rw [e]
  have h1 := one_le_L s h h'
  generalize ∑ u ∈ Finset.range n, Ideal.exp (s u - M s n) = l at h1 ⊢
  have hl : l ≠ 0 := fun e => absurd (e ▸ h1) (by simp)
  have hd : ∀ x, Ideal.div x l = l⁻¹ * x := fun x => (if_neg hl).trans (mul_comm _ _)
  rw [hd]; unfold L
  have h0 : (0 : EReal) ≤ l⁻¹ := EReal.inv_nonneg_of_nonneg (zero_le_one.trans h1)
  have ht : l⁻¹ ≠ ⊤ := by
    induction l using EReal.rec with
    | bot => simp
    | top => simp
    | coe r => rw [← EReal.coe_inv]; exact EReal.coe_ne_top _
  rw [mul_sum _ _ h0 ht]
  refine Finset.sum_congr rfl fun u _ => ?_
  rw [hd, mul_left_comm (w u), mul_comm (w u)]

end Cert.Softmax

end
-- ==== Proof.FoxAOut.lean ====
/- What a grid point of the attention kernel leaves at an index of its block: the running softmax over the blocks of keys before
   the diagonal, one masked step on the diagonal, and the quotient. -/
module

public import proofs.«01_k».proof.Proof.FoxAPay
public import proofs.«01_k».proof.Proof.OnlineSoftmax
public import Idealize.ShloMosaic.Lib.LoopRemainder
public import Idealize.ShloMosaic.Lib.WholeRead

@[expose] public section

set_option maxRecDepth 16384

noncomputable section

namespace Cert.FoxAIdeal.Out

open Cert.FoxAIdeal Cert.FoxAIdeal.Gen
open Cert.Softmax (M L)
open Idealize.ShloMosaic Idealize.ShloMosaic.TcCoe Idealize.SL.Sem

variable (i : grid0.Coords) (x0 : Vec Ideal S512x128 .bf16) (x1 x2 : Vec Ideal S2048x128 .f32) (x3 : Vec Ideal S512x16 .f32) (x4 : Vec Ideal S1x1x4x512 .f32)

/-- The block of rows a grid point is on. -/
abbrev iq : Fin 4 := ⟨(i 2).val, (i 2).isLt⟩

/-- The score of a row of the block against any key of the head. -/
def fs (r : Fin 512) (u : Fin 2048) : EReal :=
  ((∑ k : Fin 128, x0 (ix2 r k) * x1 (ix2 u k)) * SCALE + x3 (ix2 r (head i))) - x4 (ix4 0 0 ⟨u.val / 512, by omega⟩ ⟨u.val % 512, by omega⟩)

/-- The masked scores and the values, over the numbers. -/
def S (r : Fin 512) (u : ℕ) : EReal := if h : u < 2048 then (if u ≤ 512 * (iq i).val + r.val then fs i x0 x1 x3 x4 r ⟨u, h⟩ else ⊥) else ⊥
def W (e : Fin 128) (u : ℕ) : EReal := if h : u < 2048 then x2 (ix2 ⟨u, h⟩ e) else 0

/-- The first loop makes as many trips as there are blocks before the diagonal, and the second none. -/
theorem trips1 : (k0_t1_loop i).trips = (iq i).val :=
  (by decide : ∀ n : Fin 4, Scf.trips (0#32) (Scalar.addi (0#32) (Scalar.muli (Scalar.divsi (Scalar.subi (BitVec.ofNat 32 n.val) 0#32) 1#32) 1#32)) 1#32 = n.val) (iq i)
theorem trips2 : Scf.trips (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32 = 0 :=
  (by decide : ∀ n : Fin 4, Scf.trips (Scalar.addi (0#32) (Scalar.muli (Scalar.divsi (Scalar.subi (BitVec.ofNat 32 n.val) 0#32) 1#32) 1#32))
    (Scalar.addi (0#32) (Scalar.subi (BitVec.ofNat 32 n.val) 0#32)) 1#32 = 0) (iq i)

/-- Where the loads begin. -/
theorem off1 (k : Fin (k0_t1_loop i).trips) : k0_off1 i k = ![512 * k.val, 0] := by
  have hk : k.val < 4 := lt_trans (trips1 i ▸ k.isLt) (iq i).isLt
  have h := (by decide : ∀ n : Fin 4, (Scalar.indexCast (Scalar.muli (Scf.iv 0#32 1#32 n.val) 512#32)).toNat = 512 * n.val) ⟨k.val, hk⟩
  show ![_, 0] = _
  exact congrArg (fun n => ![n, 0]) h
theorem off2 (k : Fin (k0_t1_loop i).trips) : k0_off2 i k = ![0, 0, k.val, 0] := by
  have hk : k.val < 4 := lt_trans (trips1 i ▸ k.isLt) (iq i).isLt
  have h := (by decide : ∀ n : Fin 4, (Scalar.indexCast (Scf.iv 0#32 1#32 n.val)).toNat = n.val) ⟨k.val, hk⟩
  exact congrArg (fun n => ![0, 0, n, 0]) h
theorem off5 : k0_off5 i = ![512 * (iq i).val, 0] :=
  congrArg (fun n => ![n, 0]) ((by decide : ∀ n : Fin 4, (Scalar.indexCast (Scalar.muli (BitVec.ofNat 32 n.val) 512#32)).toNat = 512 * n.val) (iq i))
theorem off6 : k0_off6 i = ![0, 0, (iq i).val, 0] :=
  congrArg (fun n => ![0, 0, n, 0]) ((by decide : ∀ n : Fin 4, (Scalar.indexCast (BitVec.ofNat 32 n.val)).toNat = n.val) (iq i))

/-- A load of a block of keys or values, and of the keys' gates. -/
theorem ld_rows (x : Vec Ideal S2048x128 .f32) (o : Fin 2 → Nat) (n : Fin 4) (ho : o = ![512 * n.val, 0]) (hb) (r : Fin 512) (k : Fin 128) :
    View.ld x (Rect.unit (s := S2048x128) o ![512, 128] hb) (ix2 r k) = x (ix2 ⟨512 * n.val + r.val, by omega⟩ k) := by
  subst ho
  refine View.ld_unit_apply_of x _ _ hb (ix2 r k) _ fun a => ?_
  match a with
  | ⟨0, _⟩ => rfl
  | ⟨1, _⟩ => exact (Nat.zero_add _).symm
theorem ld_gate (x : Vec Ideal S1x1x4x512 .f32) (o : Fin 4 → Nat) (n : Fin 4) (ho : o = ![0, 0, n.val, 0]) (hb) (r : Fin 512) :
    View.ld x (Rect.unit (s := S1x1x4x512) o ![1, 1, 1, 512] hb) (ix4 0 0 0 r) = x (ix4 0 0 n r) := by
  subst ho
  refine View.ld_unit_apply_of x _ _ hb (ix4 0 0 0 r) _ fun a => ?_
  match a with
  | ⟨0, _⟩ => rfl
  | ⟨1, _⟩ => rfl
  | ⟨2, _⟩ => rfl
  | ⟨3, _⟩ => exact (Nat.zero_add _).symm

/-- The score of the block's key `x` is the head's key `512·n + x`'s. -/
theorem sc_fs (n : Fin 4) (v67 : Vec Ideal S512x128 .f32) (v71 : Vec Ideal S1x1x1x512 .f32)
    (h67 : ∀ (r : Fin 512) (k : Fin 128), v67 (ix2 r k) = x1 (ix2 ⟨512 * n.val + r.val, by omega⟩ k)) (h71 : ∀ r : Fin 512, v71 (ix4 0 0 0 r) = x4 (ix4 0 0 n r)) (r x : Fin 512) :
    sc i x0 x3 v67 v71 r x = fs i x0 x1 x3 x4 r ⟨512 * n.val + x.val, by omega⟩ := by
  unfold sc fs
  rw [h71]
  have e1 : (⟨(512 * n.val + x.val) / 512, by omega⟩ : Fin 4) = n := Fin.ext (by show (512 * n.val + x.val) / 512 = n.val; omega)
  have e2 : (⟨(512 * n.val + x.val) % 512, by omega⟩ : Fin 512) = x := Fin.ext (by show (512 * n.val + x.val) % 512 = x.val; omega)
  simp only [h67, e1, e2]
/-- Before the diagonal nothing is masked. -/
theorem sc_S (n : Fin 4) (hn : n.val < (iq i).val) (v67 : Vec Ideal S512x128 .f32) (v71 : Vec Ideal S1x1x1x512 .f32)
    (h67 : ∀ (r : Fin 512) (k : Fin 128), v67 (ix2 r k) = x1 (ix2 ⟨512 * n.val + r.val, by omega⟩ k)) (h71 : ∀ r : Fin 512, v71 (ix4 0 0 0 r) = x4 (ix4 0 0 n r)) (r x : Fin 512) :
    sc i x0 x3 v67 v71 r x = S i x0 x1 x3 x4 r (512 * n.val + x.val) := by
  rw [sc_fs i x0 x1 x3 x4 n v67 v71 h67 h71]
  unfold S
  rw [dif_pos (by omega), if_pos (by omega)]
theorem msc_S (v67 : Vec Ideal S512x128 .f32) (v71 : Vec Ideal S1x1x1x512 .f32)
    (h67 : ∀ (r : Fin 512) (k : Fin 128), v67 (ix2 r k) = x1 (ix2 ⟨512 * (iq i).val + r.val, by omega⟩ k)) (h71 : ∀ r : Fin 512, v71 (ix4 0 0 0 r) = x4 (ix4 0 0 (iq i) r)) (r x : Fin 512) :
    msc (sc i x0 x3 v67 v71) r x = S i x0 x1 x3 x4 r (512 * (iq i).val + x.val) := by
  unfold msc S
  rw [sc_fs i x0 x1 x3 x4 (iq i) v67 v71 h67 h71, dif_pos (by omega)]
  by_cases h : x.val ≤ r.val
  · rw [if_pos h, if_pos (by omega)]
  · rw [if_neg h, if_neg (by omega)]

theorem W_eq (n : Fin 4) (v69 : Vec Ideal S512x128 .f32)
    (h69 : ∀ (r : Fin 512) (k : Fin 128), v69 (ix2 r k) = x2 (ix2 ⟨512 * n.val + r.val, by omega⟩ k)) (x : Fin 512) (e : Fin 128) :
    v69 (ix2 x e) = W x2 e (512 * n.val + x.val) := by
  unfold W; rw [h69, dif_pos (by omega)]

/-- What the loop carries before trip `k`: the maximum, the sum of exponentials and the weighted sum of the first `512·k` keys. -/
def Holds (k : ℕ) (a : FVec Ideal S512x1 .f32 × FVec Ideal S512x1 .f32 × FVec Ideal S512x128 .f32) : Prop :=
  ∀ r : Fin 512, a.1 (ix2 r 0) = M (S i x0 x1 x3 x4 r) (512 * k) ∧ a.2.1 (ix2 r 0) = L (S i x0 x1 x3 x4 r) (fun _ => 1) (512 * k)
    ∧ ∀ e : Fin 128, a.2.2 (ix2 r e) = L (S i x0 x1 x3 x4 r) (W x2 e) (512 * k)

theorem holds_zero : Holds i x0 x1 x2 x3 x4 0 (k0_pay3, k0_pay4, k0_pay5) := fun r => ⟨pay3 r, pay4 r, pay5 r⟩

theorem holds_succ (n : Fin 4) (hn : n.val < (iq i).val) (v67 v69 : Vec Ideal S512x128 .f32) (v71 : Vec Ideal S1x1x1x512 .f32)
    (h67 : ∀ (r : Fin 512) (k : Fin 128), v67 (ix2 r k) = x1 (ix2 ⟨512 * n.val + r.val, by omega⟩ k))
    (h69 : ∀ (r : Fin 512) (k : Fin 128), v69 (ix2 r k) = x2 (ix2 ⟨512 * n.val + r.val, by omega⟩ k))
    (h71 : ∀ r : Fin 512, v71 (ix4 0 0 0 r) = x4 (ix4 0 0 n r))
    (a : FVec Ideal S512x1 .f32 × FVec Ideal S512x1 .f32 × FVec Ideal S512x128 .f32) (h : Holds i x0 x1 x2 x3 x4 n.val a) :
    Holds i x0 x1 x2 x3 x4 (n.val + 1) (k0_pay7 i x0 x3 a.1 v67 v71, k0_pay10 i x0 x3 a.1 a.2.1 v67 v71, k0_pay11 i x0 x3 a.1 a.2.2 v67 v69 v71) := by
  intro r
  have e7 : k0_pay7 i x0 x3 a.1 v67 v71 (ix2 r 0) = M (S i x0 x1 x3 x4 r) (512 * n.val + 512) := by
    rw [pay7, (h r).1, Cert.Softmax.M_add]
    simp only [sc_S i x0 x1 x3 x4 n hn v67 v71 h67 h71]
  refine ⟨e7, ?_, fun e => ?_⟩
  · refine (pay10 i x0 x3 a.1 a.2.1 v67 v71 r).trans ?_
    rw [e7, (h r).1, (h r).2.1, show 512 * (n.val + 1) = 512 * n.val + 512 by ring, ← Cert.Softmax.L_add]
    simp only [sc_S i x0 x1 x3 x4 n hn v67 v71 h67 h71, mul_one]
  · refine (pay11 i x0 x3 a.1 a.2.2 v67 v69 v71 r e).trans ?_
    rw [e7, (h r).1, (h r).2.2 e, show 512 * (n.val + 1) = 512 * n.val + 512 by ring, ← Cert.Softmax.L_add]
    simp only [sc_S i x0 x1 x3 x4 n hn v67 v71 h67 h71, W_eq x2 n v69 h69]

/-- What is stored: the quotient over the keys up to the diagonal block's end. -/
theorem store (v67 v69 : Vec Ideal S512x128 .f32) (v71 : Vec Ideal S1x1x1x512 .f32)
    (h67 : ∀ (r : Fin 512) (k : Fin 128), v67 (ix2 r k) = x1 (ix2 ⟨512 * (iq i).val + r.val, by omega⟩ k))
    (h69 : ∀ (r : Fin 512) (k : Fin 128), v69 (ix2 r k) = x2 (ix2 ⟨512 * (iq i).val + r.val, by omega⟩ k))
    (h71 : ∀ r : Fin 512, v71 (ix4 0 0 0 r) = x4 (ix4 0 0 (iq i) r))
    (a : FVec Ideal S512x1 .f32 × FVec Ideal S512x1 .f32 × FVec Ideal S512x128 .f32) (h : Holds i x0 x1 x2 x3 x4 (iq i).val a) (r : Fin 512) (e : Fin 128) :
    k0_pay1 a.1 a.2.1 a.2.2 v69 (k0_pay18 i x0 x3 v67) (k0_pay19 v71) (ix2 r e)
      = Ideal.div (L (S i x0 x1 x3 x4 r) (W x2 e) (512 * (iq i).val + 512)) (L (S i x0 x1 x3 x4 r) (fun _ => 1) (512 * (iq i).val + 512)) := by
  rw [pay1]
  simp only [msc_S i x0 x1 x3 x4 v67 v71 h67 h71, W_eq x2 (iq i) v69 h69, (h r).1, (h r).2.1, (h r).2.2 e]
  rw [← Cert.Softmax.M_add, ← Cert.Softmax.L_add, ← Cert.Softmax.L_add]
  simp only [mul_one]

/-- The scores being finite, that is the softmax over all the keys. -/
theorem soft (hf : ∀ (r : Fin 512) (u : Fin 2048), ∃ z : ℝ, fs i x0 x1 x3 x4 r u = (z : EReal)) (r : Fin 512) (e : Fin 128) :
    Ideal.div (L (S i x0 x1 x3 x4 r) (W x2 e) (512 * (iq i).val + 512)) (L (S i x0 x1 x3 x4 r) (fun _ => 1) (512 * (iq i).val + 512))
      = ∑ u : Fin 2048, x2 (ix2 u e) * Ideal.div (Ideal.exp (S i x0 x1 x3 x4 r u.val - Finset.univ.sup fun u : Fin 2048 => S i x0 x1 x3 x4 r u.val))
          (∑ u : Fin 2048, Ideal.exp (S i x0 x1 x3 x4 r u.val - Finset.univ.sup fun u : Fin 2048 => S i x0 x1 x3 x4 r u.val)) := by
  have hq := (iq i).isLt
  have hb : M (S i x0 x1 x3 x4 r) (512 * (iq i).val + 512) ≠ ⊥ := by
    have h : S i x0 x1 x3 x4 r (512 * (iq i).val + r.val) ≤ M (S i x0 x1 x3 x4 r) (512 * (iq i).val + 512) :=
      Finset.le_sup (f := S i x0 x1 x3 x4 r) (Finset.mem_range.mpr (by omega))
    obtain ⟨z, hz⟩ := hf r ⟨512 * (iq i).val + r.val, by omega⟩
    rw [show S i x0 x1 x3 x4 r (512 * (iq i).val + r.val) = (z : EReal) by unfold S; rw [dif_pos (by omega), if_pos le_rfl, hz]] at h
    exact ne_of_gt (lt_of_lt_of_le (EReal.bot_lt_coe z) h)
  have ht : M (S i x0 x1 x3 x4 r) (512 * (iq i).val + 512) ≠ ⊤ := by
    refine ne_of_lt ((Finset.sup_lt_iff bot_lt_top).mpr fun u _ => ?_)
    unfold S
    split_ifs with h1 h2
    · obtain ⟨z, hz⟩ := hf r ⟨u, h1⟩
      rw [hz]; exact EReal.coe_lt_top z
    · exact bot_lt_top
    · exact bot_lt_top
  obtain ⟨k, hk⟩ : ∃ k, 512 * (iq i).val + 512 + k = 2048 := ⟨2048 - (512 * (iq i).val + 512), by omega⟩
  have tail : ∀ x < k, S i x0 x1 x3 x4 r (512 * (iq i).val + 512 + x) = ⊥ := fun x hx => by
    unfold S; rw [dif_pos (by omega), if_neg (by omega)]
  have hM : M (S i x0 x1 x3 x4 r) (512 * (iq i).val + 512) = Finset.univ.sup fun u : Fin 2048 => S i x0 x1 x3 x4 r u.val := by
    rw [← Cert.Softmax.M_tail (S i x0 x1 x3 x4 r) tail, hk, show 2048 = 0 + 2048 from rfl, Cert.Softmax.M_add, Cert.Softmax.M_zero]
    simp only [zero_add]
    exact max_eq_right bot_le
  rw [Cert.Softmax.div_sum (S i x0 x1 x3 x4 r) (W x2 e) hb ht, ← hM]
  have hS : (∑ u ∈ Finset.range (512 * (iq i).val + 512), Ideal.exp (S i x0 x1 x3 x4 r u - M (S i x0 x1 x3 x4 r) (512 * (iq i).val + 512)))
      = ∑ u : Fin 2048, Ideal.exp (S i x0 x1 x3 x4 r u.val - M (S i x0 x1 x3 x4 r) (512 * (iq i).val + 512)) := by
    rw [← Cert.Softmax.sum_tail (S i x0 x1 x3 x4 r) tail _ (fun z _ => z) (fun _ => rfl), hk, Finset.sum_range]
  have hz (d : EReal) : ∀ u : ℕ, W x2 e u * Ideal.div 0 (∑ u : Fin 2048, Ideal.exp (S i x0 x1 x3 x4 r u.val - M (S i x0 x1 x3 x4 r) (512 * (iq i).val + 512))) = 0 := by
    intro u
    have hpos : (∑ u : Fin 2048, Ideal.exp (S i x0 x1 x3 x4 r u.val - M (S i x0 x1 x3 x4 r) (512 * (iq i).val + 512))) ≠ 0 := by
      rw [← hS]; exact ne_of_gt (lt_of_lt_of_le zero_lt_one (Cert.Softmax.one_le_L (S i x0 x1 x3 x4 r) hb ht))
    unfold Ideal.div
    rw [if_neg hpos, zero_mul, mul_zero]
  rw [hS, ← Cert.Softmax.sum_tail (S i x0 x1 x3 x4 r) tail _ (fun z u => W x2 e u * Ideal.div z (∑ u : Fin 2048, Ideal.exp (S i x0 x1 x3 x4 r u.val - M (S i x0 x1 x3 x4 r) (512 * (iq i).val + 512)))) (hz 0), hk, Finset.sum_range]
  refine Finset.sum_congr rfl fun u _ => ?_
  unfold W
  rw [dif_pos u.isLt]

/-- A trip of the loop keeps what it carries. -/
theorem holds_loop (c : Dev nD) (arg3 : Memref sig .tc .vmem S512x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x16 .f32) (harg6 : arg6.IsWhole) (arg7 : Memref sig .tc .vmem S1x1x4x512 .f32) (harg7 : arg7.IsWhole) (arg8 : Memref sig .tc .vmem S512x128 .bf16) (harg8 : arg8.IsWhole) :
    ∀ k ≤ (iq i).val, Holds i x0 x1 x2 x3 x4 k (st_k0_t1 (F := Ideal) Variants.none c none i arg3 harg3 arg4 harg4 arg5 harg5 arg6 harg6 arg7 harg7 arg8 harg8 x0 x3
      (harg4.unread x1) (harg5.unread x2) (harg7.unread x4) (k0_pay3, k0_pay4, k0_pay5) k)
  | 0, _ => holds_zero i x0 x1 x2 x3 x4
  | k + 1, hk => by
    have ih := holds_loop c arg3 harg3 arg4 harg4 arg5 harg5 arg6 harg6 arg7 harg7 arg8 harg8 k (by omega)
    have hk' : k < (k0_t1_loop i).trips := by rw [trips1]; omega
    have hq := (iq i).isLt
    have e := st_k0_t1_succ (F := Ideal) Variants.none c none i arg3 harg3 arg4 harg4 arg5 harg5 arg6 harg6 arg7 harg7 arg8 harg8 x0 x3 (harg4.unread x1) (harg5.unread x2) (harg7.unread x4) (k0_pay3, k0_pay4, k0_pay5) ⟨k, hk'⟩
    rw [e]
    unfold tripR_k0_t1
    unfold trip_k0_t1
    refine holds_succ i x0 x1 x2 x3 x4 ⟨k, by omega⟩ hk _ _ _ (fun r y => ?_) (fun r y => ?_) (fun r => ?_) _ ih
    · exact (harg4.readAt_unread x1 _ _).trans (ld_rows x1 _ ⟨k, by omega⟩ (off1 i ⟨k, hk'⟩) (k0_off1_inb i ⟨k, hk'⟩) r y)
    · exact (harg5.readAt_unread x2 _ _).trans (ld_rows x2 _ ⟨k, by omega⟩ (off1 i ⟨k, hk'⟩) (k0_off1_inb i ⟨k, hk'⟩) r y)
    · exact (harg7.readAt_unread x4 _ _).trans (ld_gate x4 _ ⟨k, by omega⟩ (off2 i ⟨k, hk'⟩) (k0_off2_inb i ⟨k, hk'⟩) r)

/-- What the point leaves in its block. -/
theorem out_apply (c : Dev nD) (arg3 : Memref sig .tc .vmem S512x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x16 .f32) (harg6 : arg6.IsWhole) (arg7 : Memref sig .tc .vmem S1x1x4x512 .f32) (harg7 : arg7.IsWhole) (arg8 : Memref sig .tc .vmem S512x128 .bf16) (harg8 : arg8.IsWhole)
    (hf : ∀ (r : Fin 512) (u : Fin 2048), ∃ z : ℝ, fs i x0 x1 x3 x4 r u = (z : EReal)) (r : Fin 512) (e : Fin 128) :
    out0_A_5 c i arg3 harg3 arg4 harg4 arg5 harg5 arg6 harg6 arg7 harg7 arg8 harg8 x0 x1 x2 x3 x4 (ix2 r e)
      = ∑ u : Fin 2048, x2 (ix2 u e) * Ideal.div (Ideal.exp (S i x0 x1 x3 x4 r u.val - Finset.univ.sup fun u : Fin 2048 => S i x0 x1 x3 x4 r u.val))
          (∑ u : Fin 2048, Ideal.exp (S i x0 x1 x3 x4 r u.val - Finset.univ.sup fun u : Fin 2048 => S i x0 x1 x3 x4 r u.val)) := by
  refine Eq.trans ?_ (soft i x0 x1 x2 x3 x4 hf r e)
  have h := holds_loop i x0 x1 x2 x3 x4 c arg3 harg3 arg4 harg4 arg5 harg5 arg6 harg6 arg7 harg7 arg8 harg8 (iq i).val le_rfl
  have t1 : Scf.trips (0#32) (Scalar.addi (0#32) (Scalar.muli (Scalar.divsi (Scalar.subi (BitVec.ofNat 32 (i 2).val) 0#32) 1#32) 1#32)) 1#32 = (iq i).val := trips1 i
  unfold out0_A_5
  unfold kernelRun0_A
  frame_out
  rw [trips2 i, st_k0_t2_zero, t1]
  exact store i x0 x1 x2 x3 x4 _ _ _ (fun r k => ld_rows x1 _ (iq i) (off5 i) (k0_off5_inb i) r k) (fun r k => ld_rows x2 _ (iq i) (off5 i) (k0_off5_inb i) r k)
    (fun r => ld_gate x4 _ (iq i) (off6 i) (k0_off6_inb i) r) _ h r e

end Cert.FoxAIdeal.Out
-- ==== Proof.FoxARefValue.lean ====
/- The reference's attention of the prompt at an index. -/
module

public import proofs.«01_k».proof.Proof.Gen.FoxARefIdeal.Run
public import Idealize.ShloMosaic.Lib.Pipeline.ValueKit
public import Idealize.ShloMosaic.Lib.Claim
public import proofs.«01_k».proof.Proof.Masks

@[expose] public section

set_option maxRecDepth 16384

noncomputable section

namespace Cert.FoxARefIdeal.Stages

open Cert.FoxARefIdeal Cert.FoxARefIdeal.Gen
open Cert.Softmax (neg_inf fold_sup sge_select reduce_max)
open Idealize.ShloMosaic Idealize.ShloMosaic.TcCoe

variable (q : FVec Ideal S16384x2048 .bf16) (k v : FVec Ideal S16384x2048 .f32) (g : FVec Ideal S8x2048x16 .f32)

/-- A token of the prompt's rows, and a column of a head. -/
abbrev tok (b : Fin 8) (t : Fin 2048) : Fin 16384 := ⟨b.val * 2048 + t.val, by omega⟩
abbrev col (h : Fin 16) (e : Fin 128) : Fin 2048 := ⟨h.val * 128 + e.val, by omega⟩

/-- The scale of the scores. -/
abbrev SCALE : EReal := Ideal.ofBits .f32 0x3DB504F3#32

/-- The score of token `t` against token `u`, unmasked. -/
def score (b : Fin 8) (h : Fin 16) (t u : Fin 2048) : EReal :=
  ((∑ e : Fin 128, q (ix2 (tok b t) (col h e)) * k (ix2 (tok b u) (col h e))) * SCALE + g (ix3 b t h)) - g (ix3 b u h)

/-- A token after `t` is masked. -/
def masked (b : Fin 8) (h : Fin 16) (t u : Fin 2048) : EReal := if u.val ≤ t.val then score q k g b h t u else ⊥

/-- A stage of the reference: masked scores, their maxima, exponentials, the result. -/
def SEL : FVec Ideal S8x16x2048x2048 .f32 :=
  (select (broadcastInDim S8x16x2048x2048 ![2, 3] bcast_S2048x2048_S8x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (mulf (Host.dotGeneral dot_S8x2048x16x128_S8x2048x16x128_S8x16x2048x2048_3_3_1_1_02_02 none (shapeCast _ (extf .f32 q bitsLt_bf16_f32) shapeCasts_S16384x2048_S8x2048x16x128) (shapeCast _ k shapeCasts_S16384x2048_S8x2048x16x128)) (broadcastInDim S8x16x2048x2048 ![] bcast_S_S8x16x2048x2048 (constant S_ .f32 0x3DB504F3#32))) (broadcastInDim S8x16x2048x2048 ![0, 1, 2, 3] bcast_S8x16x2048x1_S8x16x2048x2048_0_1_2_3 (broadcastInDim S8x16x2048x1 ![0, 1, 2] bcast_S8x16x2048_S8x16x2048x1_0_1_2 (transpose S8x16x2048 [0, 2, 1] g transposes_S8x2048x16_S8x16x2048_0_2_1)))) (broadcastInDim S8x16x2048x2048 ![0, 1, 2, 3] bcast_S8x16x1x2048_S8x16x2048x2048_0_1_2_3 (broadcastInDim S8x16x1x2048 ![0, 1, 3] bcast_S8x16x2048_S8x16x1x2048_0_1_3 (transpose S8x16x2048 [0, 2, 1] g transposes_S8x2048x16_S8x16x2048_0_2_1)))) (broadcastInDim S8x16x2048x2048 ![] bcast_S_S8x16x2048x2048 (id (constant S_ .f32 0xFF800000#32))))

/-- The greatest score of a row. -/
def RED : FVec Ideal S8x16x2048 .f32 :=
  (Host.reduce FloatOps.maximumf (SEL q k g) (constant S_ .f32 0xFF800000#32) reducesTo_S8x16x2048x2048_S8x16x2048_d3 h_S_)

/-- The same, started at −∞ once more. -/
def TOP : FVec Ideal S8x16x2048 .f32 :=
  (maximumf (broadcastInDim S8x16x2048 ![] bcast_S_S8x16x2048 (constant S_ .f32 0xFF800000#32)) (RED q k g))

/-- A stage of the reference: masked scores, their maxima, exponentials, the result. -/
def MX : FVec Ideal S8x16x2048x2048 .f32 :=
  (broadcastInDim S8x16x2048x2048 ![0, 1, 2, 3] bcast_S8x16x2048x1_S8x16x2048x2048_0_1_2_3 (broadcastInDim S8x16x2048x1 ![0, 1, 2] bcast_S8x16x2048_S8x16x2048x1_0_1_2 (TOP q k g)))

/-- A stage of the reference: masked scores, their maxima, exponentials, the result. -/
def EX : FVec Ideal S8x16x2048x2048 .f32 :=
  (Host.exp (subf (SEL q k g) (MX q k g)))

/-- A stage of the reference: masked scores, their maxima, exponentials, the result. -/
def OUT : FVec Ideal S16384x2048 .bf16 :=
  truncf .bf16 (shapeCast _ (transpose S8x2048x16x128 [0, 3, 1, 2] (Host.dotGeneral dot_S8x2048x16x128_S8x16x2048x2048_S8x16x128x2048_1_3_3_2_02_01 none (shapeCast _ v shapeCasts_S16384x2048_S8x2048x16x128) (Host.divf (EX q k g) (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd (EX q k g) (constant S_ .f32 0x00000000#32) reducesTo_S8x16x2048x2048_S8x16x2048_d3 h_S_))))) transposes_S8x16x128x2048_S8x2048x16x128_0_3_1_2) shapeCasts_S8x2048x16x128_S16384x2048) bitsLt_bf16_f32

variable (b : Fin 8) (h : Fin 16) (t u : Fin 2048)

theorem SEL_apply : SEL q k g (ix4 b h t u) = masked q k g b h t u := by
  unfold masked score
  pointwise [SEL]
  refine (sge_select (by decide : 2048 ≤ 2048) t u _ _).trans ?_
  rw [show (id (constant S_ .f32 0xFF800000#32 : FVec Ideal S_ .f32) ix0 : EReal) = ⊥ from neg_inf]

theorem RED_apply : RED q k g (ix3 b h t) = Finset.univ.sup fun x => masked q k g b h t x := by
  unfold RED
  refine (reduce_max (SEL q k g) _ reducesTo_S8x16x2048x2048_S8x16x2048_d3 h_S_ b h t).trans ?_
  refine (fold_sup _).trans ?_
  exact congrArg (fun f => Finset.univ.sup f) (funext fun x => SEL_apply q k g b h t x)

/-- The greatest of −∞ everywhere and an array is the array. -/
theorem top_gen {t : Shape} (c : FVec Ideal S_ .f32) (hb : S_.BroadcastsInDim t (![] : Fin 0 → Fin t.rank)) (X : FVec Ideal t .f32) (y : t.Idx) (hc : ∀ z, c z = (⊥ : EReal)) :
    maximumf (broadcastInDim t ![] hb c) X y = X y := by
  show max (c _) (X y) = X y
  rw [hc]; exact max_eq_right bot_le

theorem TOP_apply : TOP q k g (ix3 b h t) = Finset.univ.sup fun x => masked q k g b h t x := by
  refine Eq.trans ?_ (RED_apply q k g b h t)
  unfold TOP
  exact top_gen _ _ _ _ fun _ => neg_inf

theorem MX_apply : MX q k g (ix4 b h t u) = Finset.univ.sup fun x => masked q k g b h t x := by
  refine Eq.trans ?_ (TOP_apply q k g b h t)
  generalize hT : TOP q k g = X
  unfold MX
  rw [hT]
  pointwise []

theorem EX_apply : EX q k g (ix4 b h t u) = Ideal.exp (masked q k g b h t u - Finset.univ.sup fun x => masked q k g b h t x) := by
  rw [← SEL_apply, ← MX_apply q k g b h t u]
  rfl

theorem OUT_apply (e : Fin 128) : OUT q k v g (ix2 (tok b t) (col h e))
    = ∑ x : Fin 2048, v (ix2 (tok b x) (col h e)) * Ideal.div (Ideal.exp (masked q k g b h t x - Finset.univ.sup fun x => masked q k g b h t x))
        (∑ x : Fin 2048, Ideal.exp (masked q k g b h t x - Finset.univ.sup fun x => masked q k g b h t x)) := by
  have hb : (⟨(b.val * 2048 + t.val) / 2048, by omega⟩ : Fin 8) = b := Fin.ext (by show (b.val * 2048 + t.val) / 2048 = b.val; omega)
  have ht : (⟨(b.val * 2048 + t.val) % 2048, by omega⟩ : Fin 2048) = t := Fin.ext (by show (b.val * 2048 + t.val) % 2048 = t.val; omega)
  have hh : (⟨(h.val * 128 + e.val) / 128, by omega⟩ : Fin 16) = h := Fin.ext (by show (h.val * 128 + e.val) / 128 = h.val; omega)
  have hx (x : Fin 2048) : (⟨(b.val * 2048 + t.val) / 2048 * 2048 + x.val, by omega⟩ : Fin 16384) = tok b x := Fin.ext (by show (b.val * 2048 + t.val) / 2048 * 2048 + x.val = b.val * 2048 + x.val; omega)
  have he : (⟨(h.val * 128 + e.val) / 128 * 128 + (h.val * 128 + e.val) % 128, by omega⟩ : Fin 2048) = col h e := Fin.ext (by show (h.val * 128 + e.val) / 128 * 128 + (h.val * 128 + e.val) % 128 = h.val * 128 + e.val; omega)
  pointwise [OUT]
  simp only [hb, ht, hh, hx, he, EX_apply]

end Cert.FoxARefIdeal.Stages
-- ==== Proof.FoxAValue.lean ====
/- What the attention of the prompt leaves, index by index: where the queries, keys and gates are finite, it is the reference's. -/
module

public import proofs.«01_k».proof.Proof.FoxAOut
public import proofs.«01_k».proof.Proof.FoxARefValue
public import Idealize.ShloMosaic.Lib.Pipeline.ValueKit
public import Idealize.ShloMosaic.Lib.Claim

@[expose] public section

set_option maxRecDepth 16384

noncomputable section

namespace Cert.FoxAIdeal.Value

open Cert.FoxAIdeal Cert.FoxAIdeal.Gen Cert.FoxAIdeal.Out
open Cert.FoxARefIdeal.Stages (tok col score masked OUT OUT_apply)
open Idealize.ShloMosaic Idealize.ShloMosaic.TcCoe Idealize.SL.Sem
open Idealize.ShloMosaic.Pipeline (Dat)

variable (m : (ℓ : Loc nD τ sig) → Buf (Elt Ideal) ℓ)

/-- Queries, keys, values and summed gates, as launched. -/
abbrev queries (c : Dev nD) : FVec Ideal S16384x2048 .bf16 := m ((c : Thread nD τ).loc main_arg0)
abbrev keys (c : Dev nD) : FVec Ideal S16384x2048 .f32 := m ((c : Thread nD τ).loc main_arg1)
abbrev vals (c : Dev nD) : FVec Ideal S16384x2048 .f32 := m ((c : Thread nD τ).loc main_arg2)
abbrev gates (c : Dev nD) : FVec Ideal S8x2048x16 .f32 := m ((c : Thread nD τ).loc main_arg3)

/-- The gates as the pipeline finds them: by token, and by head. -/
theorem V_tok (c : Dev nD) (r : Fin 16384) (j : Fin 16) :
    (V m c main_v0 : FVec Ideal S16384x16 .f32) (ix2 r j) = gates m c (ix3 ⟨r.val / 2048, by omega⟩ ⟨r.val % 2048, by omega⟩ j) := by
  have h : V m c main_v0 = (shapeCast _ (gates m c) shapeCasts_S8x2048x16_S16384x16 : FVec Ideal S16384x16 .f32) := by
    show StableHlo.after hostOps0 _ _ = _
    after_results_simp <;> rfl
  rw [h]
  pointwise []
theorem V_head (c : Dev nD) (b : Fin 8) (h : Fin 16) (n : Fin 4) (x : Fin 512) :
    (V m c main_v2 : FVec Ideal S8x16x4x512 .f32) (ix4 b h n x) = gates m c (ix3 b ⟨n.val * 512 + x.val, by omega⟩ h) := by
  have e : V m c main_v2 = (shapeCast _ (transpose S8x16x2048 [0, 2, 1] (gates m c) transposes_S8x2048x16_S8x16x2048_0_2_1 : FVec Ideal S8x16x2048 .f32) shapeCasts_S8x16x2048_S8x16x4x512 : FVec Ideal S8x16x4x512 .f32) := by
    show StableHlo.after hostOps0 _ _ = _
    after_results_simp <;> rfl
  rw [e]
  pointwise []

/-- The other arrays as launched. -/
theorem V_queries (c : Dev nD) : (V m c main_arg0 : FVec Ideal S16384x2048 .bf16) = queries m c := by
  show StableHlo.after hostOps0 _ _ = _
  after_results_simp <;> rfl
theorem V_keys (c : Dev nD) : (V m c main_arg1 : FVec Ideal S16384x2048 .f32) = keys m c := by
  show StableHlo.after hostOps0 _ _ = _
  after_results_simp <;> rfl
theorem V_vals (c : Dev nD) : (V m c main_arg2 : FVec Ideal S16384x2048 .f32) = vals m c := by
  show StableHlo.after hostOps0 _ _ = _
  after_results_simp <;> rfl

/-- Which block each window is on, and the head and the block of rows of a point. -/
theorem idx : ∀ t : Fin cfg0.N, win0_0.index t = ![t.val / 64 * 4 + t.val % 4, t.val / 4 % 16] ∧ win0_1.index t = ![t.val / 64, t.val / 4 % 16] ∧ win0_2.index t = ![t.val / 64, t.val / 4 % 16]
    ∧ win0_3.index t = ![t.val / 64 * 4 + t.val % 4, 0] ∧ win0_4.index t = ![t.val / 64, t.val / 4 % 16, 0, 0] ∧ win0_5.index t = ![t.val / 64 * 4 + t.val % 4, t.val / 4 % 16]
    ∧ (grid0.coords t 1).val = t.val / 4 % 16 ∧ (grid0.coords t 2).val = t.val % 4 ∧ t.val / 64 < 8 :=
  (by decide +kernel : ∀ t : Fin grid0.N, _)

/-- The sequence, the head and the tokens of a point. -/
abbrev B (t : Fin cfg0.N) : Fin 8 := ⟨t.val / 64, (idx t).2.2.2.2.2.2.2.2⟩
abbrev H (t : Fin cfg0.N) : Fin 16 := ⟨t.val / 4 % 16, by omega⟩
abbrev T (t : Fin cfg0.N) (r : Fin 512) : Fin 2048 := ⟨t.val % 4 * 512 + r.val, by omega⟩

/-- The blocks at a point. -/
theorem blk_q (c : Dev nD) (t : Fin cfg0.N) (r : Fin 512) (k : Fin 128) :
    iblk m c 0 t (ix2 r k) = queries m c (ix2 (tok (B t) (T t r)) (col (H t) k)) := by
  rw [← V_queries m c]
  blk_simp [iblk]
  congr 1; blk_ext [idx t]
theorem blk_k (c : Dev nD) (t : Fin cfg0.N) (u : Fin 2048) (k : Fin 128) :
    iblk m c 1 t (ix2 u k) = keys m c (ix2 (tok (B t) u) (col (H t) k)) := by
  rw [← V_keys m c]
  blk_simp [iblk]
  congr 1; blk_ext [idx t]
theorem blk_v (c : Dev nD) (t : Fin cfg0.N) (u : Fin 2048) (k : Fin 128) :
    iblk m c 2 t (ix2 u k) = vals m c (ix2 (tok (B t) u) (col (H t) k)) := by
  rw [← V_vals m c]
  blk_simp [iblk]
  congr 1; blk_ext [idx t]
theorem blk_gt (c : Dev nD) (t : Fin cfg0.N) (r : Fin 512) (j : Fin 16) :
    iblk m c 3 t (ix2 r j) = gates m c (ix3 (B t) (T t r) j) := by
  have e1 : (⟨(tok (B t) (T t r)).val / 2048, by omega⟩ : Fin 8) = B t := Fin.ext (by show (t.val / 64 * 2048 + (t.val % 4 * 512 + r.val)) / 2048 = t.val / 64; omega)
  have e2 : (⟨(tok (B t) (T t r)).val % 2048, by omega⟩ : Fin 2048) = T t r := Fin.ext (by show (t.val / 64 * 2048 + (t.val % 4 * 512 + r.val)) % 2048 = t.val % 4 * 512 + r.val; omega)
  have h := V_tok m c (tok (B t) (T t r)) j
  rw [e1, e2] at h
  refine Eq.trans ?_ h
  blk_simp [iblk]
  congr 1; blk_ext [idx t]
theorem blk_gh (c : Dev nD) (t : Fin cfg0.N) (n : Fin 4) (x : Fin 512) :
    iblk m c 4 t (ix4 0 0 n x) = gates m c (ix3 (B t) ⟨n.val * 512 + x.val, by omega⟩ (H t)) := by
  refine Eq.trans ?_ (V_head m c (B t) (H t) n x)
  blk_simp [iblk]
  congr 1; blk_ext [idx t]

/-- A point's scores are the reference's. -/
theorem fs_eq (c : Dev nD) (t : Fin cfg0.N) (r : Fin 512) (u : Fin 2048) :
    fs (grid0.coords t) (iblk m c 0 t) (iblk m c 1 t) (iblk m c 3 t) (iblk m c 4 t) r u = score (queries m c) (keys m c) (gates m c) (B t) (H t) (T t r) u := by
  unfold fs score
  have eh : head (grid0.coords t) = H t := Fin.ext (idx t).2.2.2.2.2.2.1
  have eu : (⟨u.val / 512 * 512 + u.val % 512, by omega⟩ : Fin 2048) = u := Fin.ext (by show u.val / 512 * 512 + u.val % 512 = u.val; omega)
  rw [eh, blk_gt, blk_gh]
  simp only [blk_q, blk_k, eu]
theorem S_eq (c : Dev nD) (t : Fin cfg0.N) (r : Fin 512) (u : Fin 2048) :
    S (grid0.coords t) (iblk m c 0 t) (iblk m c 1 t) (iblk m c 3 t) (iblk m c 4 t) r u.val = masked (queries m c) (keys m c) (gates m c) (B t) (H t) (T t r) u := by
  unfold S masked
  rw [dif_pos u.isLt, fs_eq]
  have e : 512 * (iq (grid0.coords t)).val + r.val = (T t r).val := by
    show 512 * (grid0.coords t 2).val + r.val = t.val % 4 * 512 + r.val
    rw [(idx t).2.2.2.2.2.2.2.1]; ring
  rw [e]

/-- A sum of products of finite numbers is finite. -/
theorem real_sum {n : Nat} (f g : Fin n → EReal) (hf : ∀ k, ∃ z : ℝ, f k = (z : EReal)) (hg : ∀ k, ∃ z : ℝ, g k = (z : EReal)) :
    ∃ z : ℝ, ∑ k, f k * g k = (z : EReal) := by
  choose a ha using hf
  choose b hb using hg
  refine ⟨∑ k, a k * b k, ?_⟩
  simp only [ha, hb, ← EReal.coe_mul]
  induction (Finset.univ : Finset (Fin n)) using Finset.induction_on with
  | empty => simp
  | insert x A hx ih => rw [Finset.sum_insert hx, Finset.sum_insert hx, EReal.coe_add, ih]

/-- Queries, keys and gates that are finite. -/
structure Finite (c : Dev nD) : Prop where
  q : ∀ y, ∃ z : ℝ, (queries m c y : EReal) = (z : EReal)
  k : ∀ y, ∃ z : ℝ, (keys m c y : EReal) = (z : EReal)
  g : ∀ y, ∃ z : ℝ, (gates m c y : EReal) = (z : EReal)

theorem score_real (c : Dev nD) (hf : Finite m c) (b : Fin 8) (h : Fin 16) (t u : Fin 2048) :
    ∃ z : ℝ, score (queries m c) (keys m c) (gates m c) b h t u = (z : EReal) := by
  unfold score
  obtain ⟨x, hx⟩ := real_sum (fun e : Fin 128 => queries m c (ix2 (tok b t) (col h e))) (fun e : Fin 128 => keys m c (ix2 (tok b u) (col h e))) (fun _ => hf.q _) (fun _ => hf.k _)
  obtain ⟨y, hy⟩ := Cert.Softmax.scale_real
  obtain ⟨z, hz⟩ := hf.g (ix3 b t h)
  obtain ⟨w, hw⟩ := hf.g (ix3 b u h)
  refine ⟨x * y + z - w, ?_⟩
  rw [hz, hw, EReal.coe_sub, EReal.coe_add, EReal.coe_mul, ← hx, ← hy]

/-- The array after the run is the reference's. -/
theorem final (c : Dev nD) (hf : Finite m c) : (dats m 0 c).arrAt 5 cfg0.N = OUT (queries m c) (keys m c) (vals m c) (gates m c) := by
  refine (dats m 0 c).arrAt_eq_of_covers 5 _ (by decide +kernel) fun t _ y => ?_
  obtain ⟨r, e, rfl⟩ : ∃ (r : Fin 512) (e : Fin 128), y = ix2 r e := ⟨y 0, y 1, by funext a; match a with | ⟨0, _⟩ => rfl | ⟨1, _⟩ => rfl⟩
  have p := out_apply (grid0.coords t) (iblk m c 0 t) (iblk m c 1 t) (iblk m c 2 t) (iblk m c 3 t) (iblk m c 4 t) c (ms0_0 t) (hs0_0 t) (ms0_1 t) (hs0_1 t) (ms0_2 t) (hs0_2 t) (ms0_3 t) (hs0_3 t) (ms0_4 t) (hs0_4 t) (ms0_5 t) (hs0_5 t)
    (fun r u => by rw [fs_eq]; exact score_real m c hf _ _ _ _) r e
  simp only [S_eq, blk_v] at p
  have p2 := p.trans (OUT_apply (queries m c) (keys m c) (vals m c) (gates m c) (B t) (H t) (T t r) e).symm
  blk_simp
  rw [after0_5]
  refine p2.trans ?_
  congr 1; blk_ext [idx t]

end Cert.FoxAIdeal.Value

end
-- ==== Proof.FoxAClaim.lean ====
/- The claims about the attention of the prompt: the frame of the reference, and the equality with the
   reference where the queries, keys and gates are finite. -/
module

public import proofs.«01_k».proof.Defs
public import proofs.«01_k».proof.Proof.FoxAValue
public import proofs.«01_k».proof.Proof.Gen.FoxA.Frame
public import Idealize.ShloMosaic.Lib.Claim
public import Idealize.ShloMosaic.Lib.Quiescent

@[expose] public section

set_option maxRecDepth 16384

noncomputable section

namespace Cert.FoxA.Claims

open Idealize.ShloMosaic Idealize.ShloMosaic.TcCoe Idealize.SL.Sem
open Cert.FoxAIdeal.Value (Finite queries keys vals gates)

/-- What the precondition's function assumes of its shapes. -/
theorem preFacts : Cert.Pre_finite_scores.Facts := by constructor <;> decide

/-- A number below +∞ in absolute value is finite. -/
theorem real_of_lt (x : EReal) (h : (FloatOps.cmpf .olt (FloatOps.absf (x : Ideal .f32)) (Ideal.ofBits .f32 0x7F800000#32 : Ideal .f32) : BitVec 1) = 1#1) : ∃ z : ℝ, x = (z : EReal) := by
  rw [Cert.Softmax.pos_inf] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

/-- The precondition in words of numbers. -/
theorem finite (m) (h : Cert.Pre_FoxAIdeal_finite_scores (hPre_finite_scores := preFacts) m) (c : Dev Cert.FoxAIdeal.nD) : Finite m c := by
  obtain ⟨h0, h1, h2⟩ := h c
  exact ⟨fun y => real_of_lt _ (congrFun h0 y), fun y => real_of_lt _ (congrFun h1 y), fun y => real_of_lt _ (congrFun h2 y)⟩

/-- The frame of the reference. -/
theorem frame_ref : Cert.quiescent_FoxARefIdeal (hFoxARefIdeal := Cert.FoxARefIdeal.Gen.facts) := by
  intro m g _
  exact (θ_run Cert.FoxARefIdeal.defs _ _).mono (fun r h => ⟨fun c => (h c).2, sem_eq_zero_of_no_sems (by decide) r.2⟩) (Cert.FoxARefIdeal.Value.run m g)

/-- Where queries, keys and gates are finite the kernel's array is the reference's. -/
theorem value : Cert.algebraic_FoxAIdeal_FoxARefIdeal_pre_finite_scores (hFoxAIdeal := Cert.FoxAIdeal.Gen.facts) (hFoxARefIdeal := Cert.FoxARefIdeal.Gen.facts)
    (hPre_finite_scores := preFacts) := by
  intro m g m' g' hp hagree
  refine ⟨fun c => Cert.FoxARefIdeal.Stages.OUT (queries m c) (keys m c) (vals m c) (gates m c), ?_, ?_⟩
  · exact (θ_run Cert.FoxAIdeal.defs _ _).mono (fun r h c => ⟨(h c).1.trans (Cert.FoxAIdeal.Value.final m c (finite m hp c)), (h c).2⟩) (Cert.FoxAIdeal.Value.run_blocks m g)
  · refine (θ_run Cert.FoxARefIdeal.defs _ _).mono (fun r h c => ⟨?_, (h c).2⟩) (Cert.FoxARefIdeal.Value.run m' g')
    have e := (h c).1
    obtain ⟨h0, h1, h2, h3⟩ := hagree c
    rw [e]
    unfold Cert.FoxARefIdeal.Value.res_main_v36
    rw [h0, h1, h2, h3]
    rfl

end Cert.FoxA.Claims

end
-- ==== Proof.RowNorm.lean ====
/- The norm of a row of 2048 numbers with its gain and offset, and the host's norm of all rows, index by index. -/
module

public import Idealize.ShloMosaic.PureOps.Ideal
public import Idealize.ShloMosaic.Lib.Pipeline.ValueKit
public import Idealize.ShloMosaic.Lib.Claim

@[expose] public section

set_option maxRecDepth 16384

noncomputable section

namespace RowNorm

open Idealize.ShloMosaic Idealize.ShloMosaic.TcCoe

/-- The mean of a row. -/
def mean (z : Fin 2048 → EReal) : EReal := Ideal.div (∑ k, z k) (Ideal.ofBits .f32 1157627904#32)

/-- A row less its mean, over its deviation, times the gain and plus the offset. -/
def lnorm (z g b : Fin 2048 → EReal) (j : Fin 2048) : EReal :=
  (z j - mean z) * Ideal.rsqrt (mean (fun k => (z k - mean z) * (z k - mean z)) + Ideal.ofBits .f32 925353388#32) * g j + b j

/-- Rows, gains and offsets that agree number by number have one norm. -/
theorem norm_congr {z z' g g' b b' : Fin 2048 → EReal} (hz : ∀ k, z k = z' k) (hg : ∀ k, g k = g' k) (hb : ∀ k, b k = b' k) (j : Fin 2048) :
    lnorm z g b j = lnorm z' g' b' j := by
  rw [funext hz, funext hg, funext hb]

/-- The residual of a row: the row times the residual's weight, plus what is added to it. -/
def resid (x y : EReal) : EReal := Ideal.ofBits .f32 1068827891#32 * x + y

variable {R : ℕ} (hR : R ≠ 1) (c1 : (⟨1, ![R]⟩ : Shape).BroadcastsInDim ⟨2, ![R, 1]⟩ (![0] : Fin 1 → Fin 2))
  (cs : (⟨0, ![]⟩ : Shape).BroadcastsInDim ⟨2, ![R, 1]⟩ (![] : Fin 0 → Fin 2))
  (r : (⟨2, ![R, 2048]⟩ : Shape).ReducesTo [1] ⟨1, ![R]⟩) (h : 0 < (⟨0, ![]⟩ : Shape).numel)
  (cc : (⟨2, ![R, 1]⟩ : Shape).BroadcastsInDim ⟨2, ![R, 2048]⟩ (![0, 1] : Fin 2 → Fin 2))
  (cg : (⟨2, ![1, 2048]⟩ : Shape).BroadcastsInDim ⟨2, ![R, 2048]⟩ (![0, 1] : Fin 2 → Fin 2))

/-- The means of all rows, as the host takes them. -/
def MEAN (Z : FVec Ideal ⟨2, ![R, 2048]⟩ .f32) : FVec Ideal ⟨2, ![R, 1]⟩ .f32 :=
  Host.divf (broadcastInDim ⟨2, ![R, 1]⟩ ![0] c1 (Host.reduceAdd Z (constant ⟨0, ![]⟩ .f32 0x00000000#32) r h)) (broadcastInDim ⟨2, ![R, 1]⟩ ![] cs (constant ⟨0, ![]⟩ .f32 0x45000000#32))

/-- All rows less their means. -/
def LESS (Z : FVec Ideal ⟨2, ![R, 2048]⟩ .f32) : FVec Ideal ⟨2, ![R, 2048]⟩ .f32 :=
  subf Z (broadcastInDim ⟨2, ![R, 2048]⟩ ![0, 1] cc (MEAN c1 cs r h Z))

/-- The norm of all rows, as the host takes it. -/
def NORM (Z : FVec Ideal ⟨2, ![R, 2048]⟩ .f32) (G B : FVec Ideal ⟨2, ![1, 2048]⟩ .f32) : FVec Ideal ⟨2, ![R, 2048]⟩ .f32 :=
  addf (mulf (mulf (LESS c1 cs r h cc Z) (broadcastInDim ⟨2, ![R, 2048]⟩ ![0, 1] cc
      (Host.rsqrt (addf (MEAN c1 cs r h (mulf (LESS c1 cs r h cc Z) (LESS c1 cs r h cc Z))) (broadcastInDim ⟨2, ![R, 1]⟩ ![] cs (constant ⟨0, ![]⟩ .f32 0x3727C5AC#32))))))
    (broadcastInDim ⟨2, ![R, 2048]⟩ ![0, 1] cg G)) (broadcastInDim ⟨2, ![R, 2048]⟩ ![0, 1] cg B)

include hR

theorem MEAN_apply (Z : FVec Ideal ⟨2, ![R, 2048]⟩ .f32) (i : Fin R) : MEAN c1 cs r h Z (ix2 i 0) = mean fun k => Z (ix2 i k) := by
  unfold mean
  pointwise [MEAN]
  simp only [hR, dite_false]
  rfl

/-- A column copied along the rows, at an index. -/
theorem column (X : FVec Ideal ⟨2, ![R, 1]⟩ .f32) (i : Fin R) (j : Fin 2048) : broadcastInDim ⟨2, ![R, 2048]⟩ ![0, 1] cc X (ix2 i j) = X (ix2 i 0) := by
  pointwise []
  refine congrArg X (funext fun a => ?_)
  match a with
  | ⟨0, _⟩ => exact dif_neg (c := R = 1) hR
  | ⟨1, _⟩ => rfl

theorem LESS_apply (Z : FVec Ideal ⟨2, ![R, 2048]⟩ .f32) (i : Fin R) (j : Fin 2048) :
    LESS c1 cs r h cc Z (ix2 i j) = Z (ix2 i j) - mean fun k => Z (ix2 i k) := by
  show Z (ix2 i j) - broadcastInDim ⟨2, ![R, 2048]⟩ ![0, 1] cc (MEAN c1 cs r h Z) (ix2 i j) = _
  rw [column hR, MEAN_apply hR]

/-- The host's norm of all rows, at an index. -/
theorem NORM_apply (Z : FVec Ideal ⟨2, ![R, 2048]⟩ .f32) (G B : FVec Ideal ⟨2, ![1, 2048]⟩ .f32) (i : Fin R) (j : Fin 2048) :
    NORM c1 cs r h cc cg Z G B (ix2 i j) = lnorm (fun k => Z (ix2 i k)) (fun k => G (ix2 0 k)) (fun k => B (ix2 0 k)) j := by
  have hv : MEAN c1 cs r h (mulf (LESS c1 cs r h cc Z) (LESS c1 cs r h cc Z)) (ix2 i 0)
      = mean fun k => (Z (ix2 i k) - mean fun k => Z (ix2 i k)) * (Z (ix2 i k) - mean fun k => Z (ix2 i k)) := by
    rw [MEAN_apply hR]
    refine congrArg mean (funext fun k => ?_)
    show LESS c1 cs r h cc Z (ix2 i k) * LESS c1 cs r h cc Z (ix2 i k) = _
    rw [LESS_apply hR]
  have hg : ∀ X : FVec Ideal ⟨2, ![1, 2048]⟩ .f32, broadcastInDim ⟨2, ![R, 2048]⟩ ![0, 1] cg X (ix2 i j) = X (ix2 0 j) := fun X => by pointwise []
  show LESS c1 cs r h cc Z (ix2 i j) * broadcastInDim ⟨2, ![R, 2048]⟩ ![0, 1] cc
      (Host.rsqrt (addf (MEAN c1 cs r h (mulf (LESS c1 cs r h cc Z) (LESS c1 cs r h cc Z))) (broadcastInDim ⟨2, ![R, 1]⟩ ![] cs (constant ⟨0, ![]⟩ .f32 0x3727C5AC#32)))) (ix2 i j)
    * broadcastInDim ⟨2, ![R, 2048]⟩ ![0, 1] cg G (ix2 i j)
    + broadcastInDim ⟨2, ![R, 2048]⟩ ![0, 1] cg B (ix2 i j) = _
  rw [LESS_apply hR, column hR, hg, hg]
  unfold lnorm
  rw [← hv]
  pointwise []

end RowNorm

end
-- ==== Proof.OutMixValue.lean ====
/- The output product of the recurrence with the residual and its norm: the array the call leaves is the reference's, row by row. -/
module

public import proofs.«01_k».proof.Proof.Gen.OutMixIdeal.Value
public import proofs.«01_k».proof.Proof.Gen.OutMixRefIdeal.Run
public import proofs.«01_k».proof.Proof.RowNorm

@[expose] public section

set_option maxRecDepth 16384

noncomputable section

namespace Cert.OutMixRefIdeal.Array

open Cert.OutMixRefIdeal Cert.OutMixRefIdeal.Gen Idealize.ShloMosaic Idealize.ShloMosaic.TcCoe
open RowNorm (lnorm norm_congr resid NORM LESS MEAN NORM_apply)

/-- The residuals of the reference: its rows and the product of the read-out with the weights. -/
def Z (O : FVec Ideal S17408x2048 .bf16) (W : FVec Ideal S1x2048x2048 .f32) (X : FVec Ideal S17408x2048 .f32) : FVec Ideal S17408x2048 .f32 :=
  addf (mulf (broadcastInDim S17408x2048 ![] bcast_S_S17408x2048 (constant S_ .f32 0x3FB504F3#32)) X)
    (Host.dotGeneral dot_S17408x2048_S2048x2048_S17408x2048_1_0_0_1_n_n none (extf .f32 O bitsLt_bf16_f32) (shapeCast _ W shapeCasts_S1x2048x2048_S2048x2048 : FVec Ideal S2048x2048 .f32))

/-- The reference's gain or offset. -/
def GR (G : FVec Ideal S2x3x2048 .f32) : FVec Ideal S1x2048 .f32 :=
  broadcastInDim S1x2048 ![1] bcast_S2048_S1x2048_1 (shapeCast _ (extractStridedSlice S1x1x2048 ![0, 0, 0] G slices_S2x3x2048_S1x1x2048_0_0_0 : FVec Ideal S1x1x2048 .f32) shapeCasts_S1x1x2048_S2048 : FVec Ideal S2048 .f32)

/-- The reference's array. -/
def REF (O : FVec Ideal S17408x2048 .bf16) (W : FVec Ideal S1x2048x2048 .f32) (X : FVec Ideal S17408x2048 .f32) (G B : FVec Ideal S2x3x2048 .f32) : FVec Ideal S17408x2048 .f32 :=
  NORM bcast_S17408_S17408x1_0 bcast_S_S17408x1 reducesTo_S17408x2048_S17408_d1 h_S_ bcast_S17408x1_S17408x2048_0_1 bcast_S1x2048_S17408x2048_0_1 (Z O W X) (GR G) (GR B)

/-- The reference at an index: the norm of the row's residuals. -/
theorem REF_apply (O : FVec Ideal S17408x2048 .bf16) (W : FVec Ideal S1x2048x2048 .f32) (X : FVec Ideal S17408x2048 .f32) (G B : FVec Ideal S2x3x2048 .f32) (i : Fin 17408) (j : Fin 2048) :
    REF O W X G B (ix2 i j) = lnorm (fun k => resid (X (ix2 i k)) (∑ l : Fin 2048, O (ix2 i l) * W (ix3 0 l k))) (fun k => G (ix3 0 0 k)) (fun k => B (ix3 0 0 k)) j := by
  unfold REF
  refine (NORM_apply (by decide) _ _ _ _ _ _ _ _ _ i j).trans ?_
  have hz : ∀ k, Z O W X (ix2 i k) = resid (X (ix2 i k)) (∑ l : Fin 2048, O (ix2 i l) * W (ix3 0 l k)) := fun k => by
    unfold resid
    pointwise [Z]
  have hg : ∀ (G : FVec Ideal S2x3x2048 .f32) k, GR G (ix2 0 k) = G (ix3 0 0 k) := fun G k => by
    pointwise [GR]
  exact norm_congr hz (hg G) (hg B) j

/-- The reference's run leaves this array. -/
theorem out_eq (m : (ℓ : Loc nD τ sig) → Buf (Elt Ideal) ℓ) (c : Dev nD) : Cert.OutMixRefIdeal.Value.res_main_v33 m c =
    REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.OutMixRefIdeal.Value.res_main_v33 REF NORM LESS MEAN Z GR
  rfl

end Cert.OutMixRefIdeal.Array

namespace Cert.OutMixIdeal.Value

open Cert.OutMixIdeal Cert.OutMixIdeal.Gen Idealize.ShloMosaic Idealize.ShloMosaic.TcCoe Idealize.SL.Sem
open Idealize.ShloMosaic.Pipeline (Dat)
open RowNorm (lnorm norm_congr resid)
open Cert.OutMixRefIdeal.Array (REF REF_apply)

variable (m : (ℓ : Loc nD τ sig) → Buf (Elt Ideal) ℓ)

/-- The read-outs, the weights, the rows, the gains and the offsets, as launched. -/
abbrev reads (c : Dev nD) : FVec Ideal S17408x2048 .bf16 := m ((c : Thread nD τ).loc main_arg0)
abbrev weights (c : Dev nD) : FVec Ideal S1x2048x2048 .f32 := m ((c : Thread nD τ).loc main_arg1)
abbrev rows (c : Dev nD) : FVec Ideal S17408x2048 .f32 := m ((c : Thread nD τ).loc main_arg2)
abbrev gains (c : Dev nD) : FVec Ideal S2x3x2048 .f32 := m ((c : Thread nD τ).loc main_arg3)
abbrev offsets (c : Dev nD) : FVec Ideal S2x3x2048 .f32 := m ((c : Thread nD τ).loc main_arg4)

/-- The weights as the region finds them, rounded. -/
def WTS (W : FVec Ideal S1x2048x2048 .f32) : FVec Ideal S2048x2048 .bf16 :=
  truncf .bf16 (shapeCast _ W shapeCasts_S1x2048x2048_S2048x2048 : FVec Ideal S2048x2048 .f32) bitsLt_bf16_f32

/-- The gain or the offset of the norm, as the region finds it. -/
def ROW (G : FVec Ideal S2x3x2048 .f32) : FVec Ideal S1x2048 .f32 :=
  shapeCast _ (shapeCast _ (extractStridedSlice S1x1x2048 ![0, 0, 0] G slices_S2x3x2048_S1x1x2048_0_0_0 : FVec Ideal S1x1x2048 .f32) shapeCasts_S1x1x2048_S2048 : FVec Ideal S2048 .f32) shapeCasts_S2048_S1x2048

theorem V_w (c : Dev nD) : V m c main_v1 = WTS (weights m c) := by
  show StableHlo.after hostOps0 _ _ = _
  after_results_simp <;> rfl

theorem V_g (c : Dev nD) : V m c main_v6 = ROW (gains m c) := by
  show StableHlo.after hostOps0 _ _ = _
  after_results_simp <;> rfl

theorem V_b (c : Dev nD) : V m c main_v7 = ROW (offsets m c) := by
  show StableHlo.after hostOps0 _ _ = _
  after_results_simp <;> rfl

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ t.val < 34 :=
  (by decide +kernel : ∀ t : Fin grid0.N, _)

/-- What the body stores, at an index. -/
theorem pay_apply (o : Vec Ideal S512x2048 .bf16) (w : Vec Ideal S2048x2048 .bf16) (x : Vec Ideal S512x2048 .f32) (g b : Vec Ideal S1x2048 .f32) (i : Fin 512) (j : Fin 2048) :
    k0_pay1 o w x g b (ix2 i j) = lnorm (fun k => resid (x (ix2 i k)) (∑ l : Fin 2048, o (ix2 i l) * w (ix2 l k))) (fun k => g (ix2 0 k)) (fun k => b (ix2 0 k)) j := by
  unfold lnorm RowNorm.mean resid
  pointwise [k0_pay1]

/-- What a grid point stores at its block's index is the reference at the array's index. -/
theorem point (c : Dev nD) (t : Fin cfg0.N) (i : Fin 512) (j : Fin 2048) : k0_pay1 (iblk m c 0 t) (iblk m c 1 t) (iblk m c 2 t) (iblk m c 3 t) (iblk m c 4 t) (ix2 i j) =
    REF (reads m c) (weights m c) (rows m c) (gains m c) (offsets m c) (ix2 ⟨t.val * 512 + i.val, by have := (idx t).2.2.2.2.2.2; omega⟩ j) := by
  refine (pay_apply _ _ _ _ _ i j).trans (Eq.trans ?_ (REF_apply _ _ _ _ _ _ j).symm)
  have hr : ∀ G : FVec Ideal S2x3x2048 .f32, ∀ k, ROW G (ix2 0 k) = G (ix3 0 0 k) := fun G k => by pointwise [ROW]
  have hw : ∀ (W : FVec Ideal S1x2048x2048 .f32) l k, WTS W (ix2 l k) = W (ix3 0 l k) := fun W l k => by pointwise [WTS]
  have h0 : ∀ l, iblk m c 0 t (ix2 i l) = reads m c (ix2 ⟨t.val * 512 + i.val, by have := (idx t).2.2.2.2.2.2; omega⟩ l) := fun l => by
    blk_simp [iblk]
    congr 1; blk_ext [idx t]
  have h1 : ∀ (l : Fin 2048) (k : Fin 2048), iblk m c 1 t (ix2 l k) = weights m c (ix3 0 l k) := fun l k => by
    rw [← hw (weights m c)]
    blk_simp [iblk]
    rw [V_w]
    congr 1; blk_ext [idx t]
  have h2 : ∀ k, iblk m c 2 t (ix2 i k) = rows m c (ix2 ⟨t.val * 512 + i.val, by have := (idx t).2.2.2.2.2.2; omega⟩ k) := fun k => by
    blk_simp [iblk]
    congr 1; blk_ext [idx t]
  have h3 : ∀ k : Fin 2048, iblk m c 3 t (ix2 0 k) = gains m c (ix3 0 0 k) := fun k => by
    rw [← hr (gains m c)]
    blk_simp [iblk]
    rw [V_g]
    congr 1; blk_ext [idx t]
  have h4 : ∀ k : Fin 2048, iblk m c 4 t (ix2 0 k) = offsets m c (ix3 0 0 k) := fun k => by
    rw [← hr (offsets m c)]
    blk_simp [iblk]
    rw [V_b]
    congr 1; blk_ext [idx t]
  exact norm_congr (fun k => congrArg₂ resid (h2 k) (Finset.sum_congr rfl fun l _ => congrArg₂ (fun a b : EReal => a * b) (h0 l) (h1 l k))) h3 h4 j

/-- The array after the run is the reference. -/
theorem final (c : Dev nD) : (dats m 0 c).arrAt 5 (cfgs 0).N
    = REF (reads m c) (weights m c) (rows m c) (gains m c) (offsets m c) := by
  refine (dats m 0 c).arrAt_eq_of_covers 5 _ (by decide +kernel) fun t _ y => ?_
  blk_simp
  rw [after0_5]; frame_out
  obtain ⟨i, j, rfl⟩ : ∃ (i : Fin 512) (j : Fin 2048), y = ix2 i j := ⟨y 0, y 1, by funext a; match a with | ⟨0, _⟩ => rfl | ⟨1, _⟩ => rfl⟩
  refine (point m c t i j).trans ?_
  congr 1; blk_ext [idx t]

end Cert.OutMixIdeal.Value

end
-- ==== Proof.OutMemValue.lean ====
/- The output product of the cross attention with the residual and its norm: the array the call leaves is the reference's, row by row. -/
module

public import proofs.«01_k».proof.Proof.Gen.OutMemIdeal.Value
public import proofs.«01_k».proof.Proof.Gen.OutMemRefIdeal.Run
public import proofs.«01_k».proof.Proof.RowNorm

@[expose] public section

set_option maxRecDepth 16384

noncomputable section

namespace Cert.OutMemRefIdeal.Array

open Cert.OutMemRefIdeal Cert.OutMemRefIdeal.Gen Idealize.ShloMosaic Idealize.ShloMosaic.TcCoe
open RowNorm (lnorm norm_congr resid NORM LESS MEAN NORM_apply)

/-- The residuals of the reference: its rows and the product of the read-out with the weights. -/
def Z (O : FVec Ideal S17408x512 .bf16) (W : FVec Ideal S2x512x2048 .f32) (X : FVec Ideal S17408x2048 .f32) : FVec Ideal S17408x2048 .f32 :=
  addf (mulf (broadcastInDim S17408x2048 ![] bcast_S_S17408x2048 (constant S_ .f32 0x3FB504F3#32)) X)
    (Host.dotGeneral dot_S17408x512_S512x2048_S17408x2048_1_0_0_1_n_n none (extf .f32 O bitsLt_bf16_f32) (shapeCast _ (extractStridedSlice S1x512x2048 ![0, 0, 0] W slices_S2x512x2048_S1x512x2048_0_0_0 : FVec Ideal S1x512x2048 .f32) shapeCasts_S1x512x2048_S512x2048 : FVec Ideal S512x2048 .f32))

/-- The reference's gain or offset. -/
def GR (G : FVec Ideal S2x3x2048 .f32) : FVec Ideal S1x2048 .f32 :=
  broadcastInDim S1x2048 ![1] bcast_S2048_S1x2048_1 (shapeCast _ (extractStridedSlice S1x1x2048 ![0, 1, 0] G slices_S2x3x2048_S1x1x2048_0_1_0 : FVec Ideal S1x1x2048 .f32) shapeCasts_S1x1x2048_S2048 : FVec Ideal S2048 .f32)

/-- The reference's array. -/
def REF (O : FVec Ideal S17408x512 .bf16) (W : FVec Ideal S2x512x2048 .f32) (X : FVec Ideal S17408x2048 .f32) (G B : FVec Ideal S2x3x2048 .f32) : FVec Ideal S17408x2048 .f32 :=
  NORM bcast_S17408_S17408x1_0 bcast_S_S17408x1 reducesTo_S17408x2048_S17408_d1 h_S_ bcast_S17408x1_S17408x2048_0_1 bcast_S1x2048_S17408x2048_0_1 (Z O W X) (GR G) (GR B)

/-- The reference at an index: the norm of the row's residuals. -/
theorem REF_apply (O : FVec Ideal S17408x512 .bf16) (W : FVec Ideal S2x512x2048 .f32) (X : FVec Ideal S17408x2048 .f32) (G B : FVec Ideal S2x3x2048 .f32) (i : Fin 17408) (j : Fin 2048) :
    REF O W X G B (ix2 i j) = lnorm (fun k => resid (X (ix2 i k)) (∑ l : Fin 512, O (ix2 i l) * W (ix3 0 l k))) (fun k => G (ix3 0 1 k)) (fun k => B (ix3 0 1 k)) j := by
  unfold REF
  refine (NORM_apply (by decide) _ _ _ _ _ _ _ _ _ i j).trans ?_
  have hz : ∀ k, Z O W X (ix2 i k) = resid (X (ix2 i k)) (∑ l : Fin 512, O (ix2 i l) * W (ix3 0 l k)) := fun k => by
    unfold resid
    pointwise [Z]
  have hg : ∀ (G : FVec Ideal S2x3x2048 .f32) k, GR G (ix2 0 k) = G (ix3 0 1 k) := fun G k => by
    pointwise [GR]
  exact norm_congr hz (hg G) (hg B) j

/-- The reference's run leaves this array. -/
theorem out_eq (m : (ℓ : Loc nD τ sig) → Buf (Elt Ideal) ℓ) (c : Dev nD) : Cert.OutMemRefIdeal.Value.res_main_v34 m c =
    REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.OutMemRefIdeal.Value.res_main_v34 REF NORM LESS MEAN Z GR
  rfl

end Cert.OutMemRefIdeal.Array

namespace Cert.OutMemIdeal.Value

open Cert.OutMemIdeal Cert.OutMemIdeal.Gen Idealize.ShloMosaic Idealize.ShloMosaic.TcCoe Idealize.SL.Sem
open Idealize.ShloMosaic.Pipeline (Dat)
open RowNorm (lnorm norm_congr resid)
open Cert.OutMemRefIdeal.Array (REF REF_apply)

variable (m : (ℓ : Loc nD τ sig) → Buf (Elt Ideal) ℓ)

/-- The read-outs, the weights, the rows, the gains and the offsets, as launched. -/
abbrev reads (c : Dev nD) : FVec Ideal S17408x512 .bf16 := m ((c : Thread nD τ).loc main_arg0)
abbrev weights (c : Dev nD) : FVec Ideal S2x512x2048 .f32 := m ((c : Thread nD τ).loc main_arg1)
abbrev rows (c : Dev nD) : FVec Ideal S17408x2048 .f32 := m ((c : Thread nD τ).loc main_arg2)
abbrev gains (c : Dev nD) : FVec Ideal S2x3x2048 .f32 := m ((c : Thread nD τ).loc main_arg3)
abbrev offsets (c : Dev nD) : FVec Ideal S2x3x2048 .f32 := m ((c : Thread nD τ).loc main_arg4)

/-- The weights as the region finds them, rounded. -/
def WTS (W : FVec Ideal S2x512x2048 .f32) : FVec Ideal S512x2048 .bf16 :=
  truncf .bf16 (shapeCast _ (extractStridedSlice S1x512x2048 ![0, 0, 0] W slices_S2x512x2048_S1x512x2048_0_0_0 : FVec Ideal S1x512x2048 .f32) shapeCasts_S1x512x2048_S512x2048 : FVec Ideal S512x2048 .f32) bitsLt_bf16_f32

/-- The gain or the offset of the norm, as the region finds it. -/
def ROW (G : FVec Ideal S2x3x2048 .f32) : FVec Ideal S1x2048 .f32 :=
  shapeCast _ (shapeCast _ (extractStridedSlice S1x1x2048 ![0, 1, 0] G slices_S2x3x2048_S1x1x2048_0_1_0 : FVec Ideal S1x1x2048 .f32) shapeCasts_S1x1x2048_S2048 : FVec Ideal S2048 .f32) shapeCasts_S2048_S1x2048

theorem V_w (c : Dev nD) : V m c main_v2 = WTS (weights m c) := by
  show StableHlo.after hostOps0 _ _ = _
  after_results_simp <;> rfl

theorem V_g (c : Dev nD) : V m c main_v7 = ROW (gains m c) := by
  show StableHlo.after hostOps0 _ _ = _
  after_results_simp <;> rfl

theorem V_b (c : Dev nD) : V m c main_v8 = ROW (offsets m c) := by
  show StableHlo.after hostOps0 _ _ = _
  after_results_simp <;> rfl

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ t.val < 34 :=
  (by decide +kernel : ∀ t : Fin grid0.N, _)

/-- What the body stores, at an index. -/
theorem pay_apply (o : Vec Ideal S512x512 .bf16) (w : Vec Ideal S512x2048 .bf16) (x : Vec Ideal S512x2048 .f32) (g b : Vec Ideal S1x2048 .f32) (i : Fin 512) (j : Fin 2048) :
    k0_pay1 o w x g b (ix2 i j) = lnorm (fun k => resid (x (ix2 i k)) (∑ l : Fin 512, o (ix2 i l) * w (ix2 l k))) (fun k => g (ix2 0 k)) (fun k => b (ix2 0 k)) j := by
  unfold lnorm RowNorm.mean resid
  pointwise [k0_pay1]

/-- What a grid point stores at its block's index is the reference at the array's index. -/
theorem point (c : Dev nD) (t : Fin cfg0.N) (i : Fin 512) (j : Fin 2048) : k0_pay1 (iblk m c 0 t) (iblk m c 1 t) (iblk m c 2 t) (iblk m c 3 t) (iblk m c 4 t) (ix2 i j) =
    REF (reads m c) (weights m c) (rows m c) (gains m c) (offsets m c) (ix2 ⟨t.val * 512 + i.val, by have := (idx t).2.2.2.2.2.2; omega⟩ j) := by
  refine (pay_apply _ _ _ _ _ i j).trans (Eq.trans ?_ (REF_apply _ _ _ _ _ _ j).symm)
  have hr : ∀ G : FVec Ideal S2x3x2048 .f32, ∀ k, ROW G (ix2 0 k) = G (ix3 0 1 k) := fun G k => by pointwise [ROW]
  have hw : ∀ (W : FVec Ideal S2x512x2048 .f32) l k, WTS W (ix2 l k) = W (ix3 0 l k) := fun W l k => by pointwise [WTS]
  have h0 : ∀ l, iblk m c 0 t (ix2 i l) = reads m c (ix2 ⟨t.val * 512 + i.val, by have := (idx t).2.2.2.2.2.2; omega⟩ l) := fun l => by
    blk_simp [iblk]
    congr 1; blk_ext [idx t]
  have h1 : ∀ (l : Fin 512) (k : Fin 2048), iblk m c 1 t (ix2 l k) = weights m c (ix3 0 l k) := fun l k => by
    rw [← hw (weights m c)]
    blk_simp [iblk]
    rw [V_w]
    congr 1; blk_ext [idx t]
  have h2 : ∀ k, iblk m c 2 t (ix2 i k) = rows m c (ix2 ⟨t.val * 512 + i.val, by have := (idx t).2.2.2.2.2.2; omega⟩ k) := fun k => by
    blk_simp [iblk]
    congr 1; blk_ext [idx t]
  have h3 : ∀ k : Fin 2048, iblk m c 3 t (ix2 0 k) = gains m c (ix3 0 1 k) := fun k => by
    rw [← hr (gains m c)]
    blk_simp [iblk]
    rw [V_g]
    congr 1; blk_ext [idx t]
  have h4 : ∀ k : Fin 2048, iblk m c 4 t (ix2 0 k) = offsets m c (ix3 0 1 k) := fun k => by
    rw [← hr (offsets m c)]
    blk_simp [iblk]
    rw [V_b]
    congr 1; blk_ext [idx t]
  exact norm_congr (fun k => congrArg₂ resid (h2 k) (Finset.sum_congr rfl fun l _ => congrArg₂ (fun a b : EReal => a * b) (h0 l) (h1 l k))) h3 h4 j

/-- The array after the run is the reference. -/
theorem final (c : Dev nD) : (dats m 0 c).arrAt 5 (cfgs 0).N
    = REF (reads m c) (weights m c) (rows m c) (gains m c) (offsets m c) := by
  refine (dats m 0 c).arrAt_eq_of_covers 5 _ (by decide +kernel) fun t _ y => ?_
  blk_simp
  rw [after0_5]; frame_out
  obtain ⟨i, j, rfl⟩ : ∃ (i : Fin 512) (j : Fin 2048), y = ix2 i j := ⟨y 0, y 1, by funext a; match a with | ⟨0, _⟩ => rfl | ⟨1, _⟩ => rfl⟩
  refine (point m c t i j).trans ?_
  congr 1; blk_ext [idx t]

end Cert.OutMemIdeal.Value

end
-- ==== Proof.MemQValue.lean ====
/- The queries of the cross attention: the array the call leaves is the reference's product, rounded. -/
module

public import proofs.«01_k».proof.Proof.Gen.MemQIdeal.Value
public import proofs.«01_k».proof.Proof.Gen.MemQRefIdeal.Run
public import Idealize.ShloMosaic.Lib.Pipeline.ValueKit
public import Idealize.ShloMosaic.Lib.Claim

@[expose] public section

set_option maxRecDepth 16384

noncomputable section

namespace Cert.MemQIdeal.Value

open Cert.MemQIdeal Cert.MemQIdeal.Gen Idealize.ShloMosaic Idealize.ShloMosaic.TcCoe Idealize.SL.Sem
open Idealize.ShloMosaic.Pipeline (Dat)

variable (m : (ℓ : Loc nD τ sig) → Buf (Elt Ideal) ℓ)

/-- The weights the region finds: the first layer's, rounded. -/
def WREF (W : FVec Ideal S2x2048x512 .f32) : FVec Ideal S2048x512 .bf16 :=
  truncf .bf16 (shapeCast _ (extractStridedSlice S1x2048x512 ![0, 0, 0] W slices_S2x2048x512_S1x2048x512_0_0_0 : FVec Ideal S1x2048x512 .f32) shapeCasts_S1x2048x512_S2048x512 : FVec Ideal S2048x512 .f32) bitsLt_bf16_f32

theorem V_w (c : Dev nD) : V m c main_v2 = WREF (m ((c : Thread nD τ).loc main_arg1)) := by
  show StableHlo.after hostOps0 _ _ = _
  after_results_simp <;> rfl

/-- The reference's array, as a function of the rows and the layers' weights. -/
abbrev REF (X : FVec Ideal S17408x2048 .f32) (W : FVec Ideal S2x2048x512 .f32) : FVec Ideal Cert.MemQRefIdeal.S17408x512 .bf16 :=
  truncf .bf16 (Host.dotGeneral Cert.MemQRefIdeal.dot_S17408x2048_S2048x512_S17408x512_1_0_0_1_n_n none X
    (shapeCast _ (extractStridedSlice Cert.MemQRefIdeal.S1x2048x512 ![0, 0, 0] W Cert.MemQRefIdeal.Gen.slices_S2x2048x512_S1x2048x512_0_0_0 : FVec Ideal Cert.MemQRefIdeal.S1x2048x512 .f32) Cert.MemQRefIdeal.Gen.shapeCasts_S1x2048x512_S2048x512 : FVec Ideal Cert.MemQRefIdeal.S2048x512 .f32) : FVec Ideal Cert.MemQRefIdeal.S17408x512 .f32) Cert.MemQRefIdeal.Gen.bitsLt_bf16_f32

theorem idx : ∀ t : Fin cfg0.N, win0_0.index t = ![t.val, 0] ∧ win0_1.index t = ![0, 0] ∧ win0_2.index t = ![t.val, 0] ∧ t.val < 17 :=
  (by decide +kernel : ∀ t : Fin grid0.N, _)

/-- Index by index, the product of the rows with the weights is the reference. -/
theorem core (X : FVec Ideal S17408x2048 .f32) (W : FVec Ideal S2x2048x512 .f32) (j : S17408x512.Idx) :
    ∑ x : Fin 2048, X (ix2 (j 0) x) * WREF W (ix2 x (j 1)) = REF X W j := by
  pointwise [REF, WREF]

/-- What a grid point stores at its block's index is the reference at the array's index. -/
theorem point (c : Dev nD) (t : Fin cfg0.N) (y) : k0_pay1 (iblk m c 0 t) (iblk m c 1 t) y =
    REF (m ((c : Thread nD τ).loc main_arg0)) (m ((c : Thread nD τ).loc main_arg1)) (((cfg0.win 2).blk t).view.emb y) := by
  refine Eq.trans ?_ (core _ _ _)
  pointwise [k0_pay1]
  blk_simp [iblk]
  rw [V_w]
  refine Fin.sum_fin_congr fun x => ?_
  congr 2 <;> blk_ext [idx t]

/-- The array after the run is the reference. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MemQIdeal.Value

end
-- ==== Proof.LastPValue.lean ====
/- The last norm of the prompt's rows: the array the call leaves is the reference's, row by row. -/
module

public import proofs.«01_k».proof.Proof.Gen.LastPIdeal.Value
public import proofs.«01_k».proof.Proof.Gen.LastPRefIdeal.Run
public import proofs.«01_k».proof.Proof.RowNorm

@[expose] public section

set_option maxRecDepth 16384

noncomputable section

namespace Cert.LastPRefIdeal.Array

open Cert.LastPRefIdeal Cert.LastPRefIdeal.Gen Idealize.ShloMosaic Idealize.ShloMosaic.TcCoe
open RowNorm (lnorm norm_congr resid NORM NORM_apply)

/-- The residuals of the reference, and its gain or offset. -/
def Z (X Y : FVec Ideal S17408x2048 .f32) : FVec Ideal S16384x2048 .f32 :=
  addf (mulf (broadcastInDim S16384x2048 ![] bcast_S_S16384x2048 (constant S_ .f32 0x3FB504F3#32)) (extractStridedSlice S16384x2048 ![0, 0] X slices_S17408x2048_S16384x2048_0_0)) (extractStridedSlice S16384x2048 ![0, 0] Y slices_S17408x2048_S16384x2048_0_0)

def GR (G : FVec Ideal S2x3x2048 .f32) : FVec Ideal S1x2048 .f32 :=
  broadcastInDim S1x2048 ![1] bcast_S2048_S1x2048_1 (shapeCast _ (extractStridedSlice S1x1x2048 ![1, 2, 0] G slices_S2x3x2048_S1x1x2048_1_2_0 : FVec Ideal S1x1x2048 .f32) shapeCasts_S1x1x2048_S2048 : FVec Ideal S2048 .f32)

/-- The reference's array. -/
def REF (X Y : FVec Ideal S17408x2048 .f32) (G B : FVec Ideal S2x3x2048 .f32) : FVec Ideal S16384x2048 .f32 :=
  NORM bcast_S16384_S16384x1_0 bcast_S_S16384x1 reducesTo_S16384x2048_S16384_d1 h_S_ bcast_S16384x1_S16384x2048_0_1 bcast_S1x2048_S16384x2048_0_1 (Z X Y) (GR G) (GR B)

theorem REF_apply (X Y : FVec Ideal S17408x2048 .f32) (G B : FVec Ideal S2x3x2048 .f32) (i : Fin 16384) (j : Fin 2048) :
    REF X Y G B (ix2 i j) = lnorm (fun k => resid (X (ix2 ⟨i.val, by omega⟩ k)) (Y (ix2 ⟨i.val, by omega⟩ k))) (fun k => G (ix3 1 2 k)) (fun k => B (ix3 1 2 k)) j := by
  unfold REF
  refine (NORM_apply (by decide) _ _ _ _ _ _ _ _ _ i j).trans ?_
  have hz : ∀ k, Z X Y (ix2 i k) = resid (X (ix2 ⟨i.val, by omega⟩ k)) (Y (ix2 ⟨i.val, by omega⟩ k)) := fun k => by
    unfold resid
    pointwise [Z]
  have hg : ∀ (G : FVec Ideal S2x3x2048 .f32) k, GR G (ix2 0 k) = G (ix3 1 2 k) := fun G k => by
    pointwise [GR]
  exact norm_congr hz (hg G) (hg B) j

end Cert.LastPRefIdeal.Array

namespace Cert.LastPIdeal.Value

open Cert.LastPIdeal Cert.LastPIdeal.Gen Idealize.ShloMosaic Idealize.ShloMosaic.TcCoe Idealize.SL.Sem
open Idealize.ShloMosaic.Pipeline (Dat)
open RowNorm (lnorm norm_congr resid)
open Cert.LastPRefIdeal.Array (REF REF_apply)

variable (m : (ℓ : Loc nD τ sig) → Buf (Elt Ideal) ℓ)

/-- The rows and what is added to them, the gains and the offsets, as launched. -/
abbrev rows (c : Dev nD) : FVec Ideal S17408x2048 .f32 := m ((c : Thread nD τ).loc main_arg0)
abbrev added (c : Dev nD) : FVec Ideal S17408x2048 .f32 := m ((c : Thread nD τ).loc main_arg1)
abbrev gains (c : Dev nD) : FVec Ideal S2x3x2048 .f32 := m ((c : Thread nD τ).loc main_arg2)
abbrev offsets (c : Dev nD) : FVec Ideal S2x3x2048 .f32 := m ((c : Thread nD τ).loc main_arg3)

/-- The gain or the offset of the norm, as the region finds it. -/
def ROW (G : FVec Ideal S2x3x2048 .f32) : FVec Ideal S1x2048 .f32 :=
  shapeCast _ (shapeCast _ (extractStridedSlice S1x1x2048 ![1, 2, 0] G slices_S2x3x2048_S1x1x2048_1_2_0 : FVec Ideal S1x1x2048 .f32) shapeCasts_S1x1x2048_S2048 : FVec Ideal S2048 .f32) shapeCasts_S2048_S1x2048

theorem V_g (c : Dev nD) : V m c main_v4 = ROW (m ((c : Thread nD τ).loc main_arg2)) := by
  show StableHlo.after hostOps0 _ _ = _
  after_results_simp <;> rfl

theorem V_b (c : Dev nD) : V m c main_v5 = ROW (m ((c : Thread nD τ).loc main_arg3)) := by
  show StableHlo.after hostOps0 _ _ = _
  after_results_simp <;> rfl

theorem idx : ∀ t : Fin cfg0.N, win0_0.index t = ![t.val, 0] ∧ win0_1.index t = ![t.val, 0] ∧ win0_2.index t = ![0, 0] ∧ win0_3.index t = ![0, 0] ∧ win0_4.index t = ![t.val, 0] ∧ t.val < 32 :=
  (by decide +kernel : ∀ t : Fin grid0.N, _)

/-- What the body stores, at an index. -/
theorem pay_apply (x y : Vec Ideal S512x2048 .f32) (g b : Vec Ideal S1x2048 .f32) (i : Fin 512) (j : Fin 2048) :
    k0_pay1 x y g b (ix2 i j) = lnorm (fun k => resid (x (ix2 i k)) (y (ix2 i k))) (fun k => g (ix2 0 k)) (fun k => b (ix2 0 k)) j := by
  unfold lnorm RowNorm.mean resid
  pointwise [k0_pay1]

/-- What a grid point stores at its block's index is the reference at the array's index. -/
theorem point (c : Dev nD) (t : Fin cfg0.N) (i : Fin 512) (j : Fin 2048) : k0_pay1 (iblk m c 0 t) (iblk m c 1 t) (iblk m c 2 t) (iblk m c 3 t) (ix2 i j) =
    REF (rows m c) (added m c) (gains m c) (offsets m c) (ix2 ⟨t.val * 512 + i.val, by have := (idx t).2.2.2.2.2; omega⟩ j) := by
  refine (pay_apply _ _ _ _ i j).trans (Eq.trans ?_ (REF_apply _ _ _ _ _ j).symm)
  have hr : ∀ G : FVec Ideal S2x3x2048 .f32, ∀ k, ROW G (ix2 0 k) = G (ix3 1 2 k) := fun G k => by pointwise [ROW]
  have h0 : ∀ k, iblk m c 0 t (ix2 i k) = rows m c (ix2 ⟨t.val * 512 + i.val, by have := (idx t).2.2.2.2.2; omega⟩ k) := fun k => by
    blk_simp [iblk]
    congr 1; blk_ext [idx t]
  have h1 : ∀ k, iblk m c 1 t (ix2 i k) = added m c (ix2 ⟨t.val * 512 + i.val, by have := (idx t).2.2.2.2.2; omega⟩ k) := fun k => by
    blk_simp [iblk]
    congr 1; blk_ext [idx t]
  have h2 : ∀ k : Fin 2048, iblk m c 2 t (ix2 0 k) = gains m c (ix3 1 2 k) := fun k => by
    rw [← hr (gains m c)]
    blk_simp [iblk]
    rw [V_g]
    congr 1; blk_ext [idx t]
  have h3 : ∀ k : Fin 2048, iblk m c 3 t (ix2 0 k) = offsets m c (ix3 1 2 k) := fun k => by
    rw [← hr (offsets m c)]
    blk_simp [iblk]
    rw [V_b]
    congr 1; blk_ext [idx t]
  exact norm_congr (fun k => congrArg₂ resid (h0 k) (h1 k)) h2 h3 j

/-- The array after the run is the reference. -/
theorem final (c : Dev nD) : (dats m 0 c).arrAt 4 (cfgs 0).N
    = REF (rows m c) (added m c) (gains m c) (offsets m c) := by
  refine (dats m 0 c).arrAt_eq_of_covers 4 _ (by decide +kernel) fun t _ y => ?_
  blk_simp
  rw [after0_4]; frame_out
  obtain ⟨i, j, rfl⟩ : ∃ (i : Fin 512) (j : Fin 2048), y = ix2 i j := ⟨y 0, y 1, by funext a; match a with | ⟨0, _⟩ => rfl | ⟨1, _⟩ => rfl⟩
  refine (point m c t i j).trans ?_
  congr 1; blk_ext [idx t]

end Cert.LastPIdeal.Value

end
-- ==== Proof.LastSValue.lean ====
/- The last norm of the samples' rows: the array the call leaves is the reference's, row by row. -/
module

public import proofs.«01_k».proof.Proof.Gen.LastSIdeal.Value
public import proofs.«01_k».proof.Proof.Gen.LastSRefIdeal.Run
public import proofs.«01_k».proof.Proof.RowNorm

@[expose] public section

set_option maxRecDepth 16384

noncomputable section

namespace Cert.LastSRefIdeal.Array

open Cert.LastSRefIdeal Cert.LastSRefIdeal.Gen Idealize.ShloMosaic Idealize.ShloMosaic.TcCoe
open RowNorm (lnorm norm_congr resid NORM NORM_apply)

/-- The residuals of the reference, and its gain or offset. -/
def Z (X Y : FVec Ideal S17408x2048 .f32) : FVec Ideal S1024x2048 .f32 :=
  addf (mulf (broadcastInDim S1024x2048 ![] bcast_S_S1024x2048 (constant S_ .f32 0x3FB504F3#32)) (extractStridedSlice S1024x2048 ![16384, 0] X slices_S17408x2048_S1024x2048_16384_0)) (extractStridedSlice S1024x2048 ![16384, 0] Y slices_S17408x2048_S1024x2048_16384_0)

def GR (G : FVec Ideal S2x3x2048 .f32) : FVec Ideal S1x2048 .f32 :=
  broadcastInDim S1x2048 ![1] bcast_S2048_S1x2048_1 (shapeCast _ (extractStridedSlice S1x1x2048 ![1, 2, 0] G slices_S2x3x2048_S1x1x2048_1_2_0 : FVec Ideal S1x1x2048 .f32) shapeCasts_S1x1x2048_S2048 : FVec Ideal S2048 .f32)

/-- The reference's array. -/
def REF (X Y : FVec Ideal S17408x2048 .f32) (G B : FVec Ideal S2x3x2048 .f32) : FVec Ideal S1024x2048 .f32 :=
  NORM bcast_S1024_S1024x1_0 bcast_S_S1024x1 reducesTo_S1024x2048_S1024_d1 h_S_ bcast_S1024x1_S1024x2048_0_1 bcast_S1x2048_S1024x2048_0_1 (Z X Y) (GR G) (GR B)

theorem REF_apply (X Y : FVec Ideal S17408x2048 .f32) (G B : FVec Ideal S2x3x2048 .f32) (i : Fin 1024) (j : Fin 2048) :
    REF X Y G B (ix2 i j) = lnorm (fun k => resid (X (ix2 ⟨16384 + i.val, by omega⟩ k)) (Y (ix2 ⟨16384 + i.val, by omega⟩ k))) (fun k => G (ix3 1 2 k)) (fun k => B (ix3 1 2 k)) j := by
  unfold REF
  refine (NORM_apply (by decide) _ _ _ _ _ _ _ _ _ i j).trans ?_
  have hz : ∀ k, Z X Y (ix2 i k) = resid (X (ix2 ⟨16384 + i.val, by omega⟩ k)) (Y (ix2 ⟨16384 + i.val, by omega⟩ k)) := fun k => by
    unfold resid
    pointwise [Z]
  have hg : ∀ (G : FVec Ideal S2x3x2048 .f32) k, GR G (ix2 0 k) = G (ix3 1 2 k) := fun G k => by
    pointwise [GR]
  exact norm_congr hz (hg G) (hg B) j

end Cert.LastSRefIdeal.Array

namespace Cert.LastSIdeal.Value

open Cert.LastSIdeal Cert.LastSIdeal.Gen Idealize.ShloMosaic Idealize.ShloMosaic.TcCoe Idealize.SL.Sem
open Idealize.ShloMosaic.Pipeline (Dat)
open RowNorm (lnorm norm_congr resid)
open Cert.LastSRefIdeal.Array (REF REF_apply)

variable (m : (ℓ : Loc nD τ sig) → Buf (Elt Ideal) ℓ)

/-- The rows and what is added to them, the gains and the offsets, as launched. -/
abbrev rows (c : Dev nD) : FVec Ideal S17408x2048 .f32 := m ((c : Thread nD τ).loc main_arg0)
abbrev added (c : Dev nD) : FVec Ideal S17408x2048 .f32 := m ((c : Thread nD τ).loc main_arg1)
abbrev gains (c : Dev nD) : FVec Ideal S2x3x2048 .f32 := m ((c : Thread nD τ).loc main_arg2)
abbrev offsets (c : Dev nD) : FVec Ideal S2x3x2048 .f32 := m ((c : Thread nD τ).loc main_arg3)

/-- The gain or the offset of the norm, as the region finds it. -/
def ROW (G : FVec Ideal S2x3x2048 .f32) : FVec Ideal S1x2048 .f32 :=
  shapeCast _ (shapeCast _ (extractStridedSlice S1x1x2048 ![1, 2, 0] G slices_S2x3x2048_S1x1x2048_1_2_0 : FVec Ideal S1x1x2048 .f32) shapeCasts_S1x1x2048_S2048 : FVec Ideal S2048 .f32) shapeCasts_S2048_S1x2048

theorem V_g (c : Dev nD) : V m c main_v4 = ROW (m ((c : Thread nD τ).loc main_arg2)) := by
  show StableHlo.after hostOps0 _ _ = _
  after_results_simp <;> rfl

theorem V_b (c : Dev nD) : V m c main_v5 = ROW (m ((c : Thread nD τ).loc main_arg3)) := by
  show StableHlo.after hostOps0 _ _ = _
  after_results_simp <;> rfl

theorem idx : ∀ t : Fin cfg0.N, win0_0.index t = ![t.val + 32, 0] ∧ win0_1.index t = ![t.val + 32, 0] ∧ win0_2.index t = ![0, 0] ∧ win0_3.index t = ![0, 0] ∧ win0_4.index t = ![t.val, 0] ∧ t.val < 2 :=
  (by decide +kernel : ∀ t : Fin grid0.N, _)

/-- What the body stores, at an index. -/
theorem pay_apply (x y : Vec Ideal S512x2048 .f32) (g b : Vec Ideal S1x2048 .f32) (i : Fin 512) (j : Fin 2048) :
    k0_pay1 x y g b (ix2 i j) = lnorm (fun k => resid (x (ix2 i k)) (y (ix2 i k))) (fun k => g (ix2 0 k)) (fun k => b (ix2 0 k)) j := by
  unfold lnorm RowNorm.mean resid
  pointwise [k0_pay1]

/-- What a grid point stores at its block's index is the reference at the array's index. -/
theorem point (c : Dev nD) (t : Fin cfg0.N) (i : Fin 512) (j : Fin 2048) : k0_pay1 (iblk m c 0 t) (iblk m c 1 t) (iblk m c 2 t) (iblk m c 3 t) (ix2 i j) =
    REF (rows m c) (added m c) (gains m c) (offsets m c) (ix2 ⟨t.val * 512 + i.val, by have := (idx t).2.2.2.2.2; omega⟩ j) := by
  refine (pay_apply _ _ _ _ i j).trans (Eq.trans ?_ (REF_apply _ _ _ _ _ j).symm)
  have hr : ∀ G : FVec Ideal S2x3x2048 .f32, ∀ k, ROW G (ix2 0 k) = G (ix3 1 2 k) := fun G k => by pointwise [ROW]
  have h0 : ∀ k, iblk m c 0 t (ix2 i k) = rows m c (ix2 ⟨16384 + (t.val * 512 + i.val), by have := (idx t).2.2.2.2.2; omega⟩ k) := fun k => by
    blk_simp [iblk]
    congr 1; blk_ext [idx t]
  have h1 : ∀ k, iblk m c 1 t (ix2 i k) = added m c (ix2 ⟨16384 + (t.val * 512 + i.val), by have := (idx t).2.2.2.2.2; omega⟩ k) := fun k => by
    blk_simp [iblk]
    congr 1; blk_ext [idx t]
  have h2 : ∀ k : Fin 2048, iblk m c 2 t (ix2 0 k) = gains m c (ix3 1 2 k) := fun k => by
    rw [← hr (gains m c)]
    blk_simp [iblk]
    rw [V_g]
    congr 1; blk_ext [idx t]
  have h3 : ∀ k : Fin 2048, iblk m c 3 t (ix2 0 k) = offsets m c (ix3 1 2 k) := fun k => by
    rw [← hr (offsets m c)]
    blk_simp [iblk]
    rw [V_b]
    congr 1; blk_ext [idx t]
  exact norm_congr (fun k => congrArg₂ resid (h0 k) (h1 k)) h2 h3 j

/-- The array after the run is the reference. -/
theorem final (c : Dev nD) : (dats m 0 c).arrAt 4 (cfgs 0).N
    = REF (rows m c) (added m c) (gains m c) (offsets m c) := by
  refine (dats m 0 c).arrAt_eq_of_covers 4 _ (by decide +kernel) fun t _ y => ?_
  blk_simp
  rw [after0_4]; frame_out
  obtain ⟨i, j, rfl⟩ : ∃ (i : Fin 512) (j : Fin 2048), y = ix2 i j := ⟨y 0, y 1, by funext a; match a with | ⟨0, _⟩ => rfl | ⟨1, _⟩ => rfl⟩
  refine (point m c t i j).trans ?_
  congr 1; blk_ext [idx t]

end Cert.LastSIdeal.Value

end
-- ==== Proof.lean ====
module

public import proofs.«01_k».proof.Proof.Gen.MoeUp.Launch
public import proofs.«01_k».proof.Proof.Gen.MoeUp.Skeleton
public import proofs.«01_k».proof.Proof.Gen.MoeUpIdeal.Launch
public import proofs.«01_k».proof.Proof.Gen.MoeUpIdeal.Skeleton
public import proofs.«01_k».proof.Proof.Gen.MoeUpRefIdeal.Run
public import proofs.«01_k».proof.Proof.Gen.MoeDown.Launch
public import proofs.«01_k».proof.Proof.Gen.MoeDown.Skeleton
public import proofs.«01_k».proof.Proof.Gen.MoeDownIdeal.Launch
public import proofs.«01_k».proof.Proof.Gen.MoeDownIdeal.Skeleton
public import proofs.«01_k».proof.Proof.Gen.MoeDownRefIdeal.Run
public import proofs.«01_k».proof.Defs
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.MemKvIdeal.Value
public import proofs.«01_k».proof.Proof.Gen.MemKvRefIdeal.Run
public import proofs.«01_k».proof.Proof.Gen.ProjIdeal.Value
public import proofs.«01_k».proof.Proof.Gen.ProjRefIdeal.Run
public import proofs.«01_k».proof.Proof.KvValue
public import proofs.«01_k».proof.Proof.ProjValue
public import proofs.«01_k».proof.Proof.Gen.Hgs.Frame
public import proofs.«01_k».proof.Proof.Gen.HgsIdeal.Value
public import proofs.«01_k».proof.Proof.Gen.HgsRefIdeal.Run
public import proofs.«01_k».proof.Proof.HgsFinal
public import proofs.«01_k».proof.Proof.MoeUpClaim
public import proofs.«01_k».proof.Proof.MoeDownClaim
public import proofs.«01_k».proof.Proof.FoxPClaim
public import proofs.«01_k».proof.Proof.FoxSClaim
public import proofs.«01_k».proof.Proof.FoxAClaim
public import proofs.«01_k».proof.Proof.Gen.OutMix.Frame
public import proofs.«01_k».proof.Proof.Gen.OutMixIdeal.Value
public import proofs.«01_k».proof.Proof.Gen.OutMixRefIdeal.Run
public import proofs.«01_k».proof.Proof.Gen.OutMem.Frame
public import proofs.«01_k».proof.Proof.Gen.OutMemIdeal.Value
public import proofs.«01_k».proof.Proof.Gen.OutMemRefIdeal.Run
public import proofs.«01_k».proof.Proof.Gen.MemQ.Frame
public import proofs.«01_k».proof.Proof.Gen.MemQIdeal.Value
public import proofs.«01_k».proof.Proof.Gen.MemQRefIdeal.Run
public import proofs.«01_k».proof.Proof.Gen.LastP.Frame
public import proofs.«01_k».proof.Proof.Gen.LastPIdeal.Value
public import proofs.«01_k».proof.Proof.Gen.LastPRefIdeal.Run
public import proofs.«01_k».proof.Proof.Gen.LastS.Frame
public import proofs.«01_k».proof.Proof.Gen.LastSIdeal.Value
public import proofs.«01_k».proof.Proof.Gen.LastSRefIdeal.Run
public import proofs.«01_k».proof.Proof.OutMixValue
public import proofs.«01_k».proof.Proof.OutMemValue
public import proofs.«01_k».proof.Proof.MemQValue
public import proofs.«01_k».proof.Proof.LastPValue
public import proofs.«01_k».proof.Proof.LastSValue
public import proofs.«01_k».proof.Proof.Gen.FoxP.Launch
public import proofs.«01_k».proof.Proof.Gen.FoxP.Skeleton
public import proofs.«01_k».proof.Proof.Gen.FoxPIdeal.Launch
public import proofs.«01_k».proof.Proof.Gen.FoxPIdeal.Skeleton
public import proofs.«01_k».proof.Proof.Gen.FoxPRefIdeal.Run
public import proofs.«01_k».proof.Proof.Gen.FoxS.Launch
public import proofs.«01_k».proof.Proof.Gen.FoxS.Skeleton
public import proofs.«01_k».proof.Proof.Gen.FoxSIdeal.Launch
public import proofs.«01_k».proof.Proof.Gen.FoxSIdeal.Skeleton
public import proofs.«01_k».proof.Proof.Gen.FoxSRefIdeal.Run
public import proofs.«01_k».proof.Proof.Gen.FoxA.Frame
public import proofs.«01_k».proof.Proof.Gen.FoxAIdeal.Value
public import proofs.«01_k».proof.Proof.Gen.FoxARefIdeal.Run
public import Idealize.ShloMosaic.Adequacy
public import Idealize.ShloMosaic.Lib.Quiescent
public import Idealize.ShloMosaic.Init

@[expose] public section

set_option maxRecDepth 16384

noncomputable section

namespace Cert.Proof

open Idealize.ShloMosaic Idealize.SL.Sem Cert.MemKv

set_option maxHeartbeats 2000000 in
theorem claim : Cert.Claim := ⟨Cert.MemKv.Gen.facts, Cert.MemKvIdeal.Gen.facts, Cert.MemKvRefIdeal.Gen.facts, Cert.Proj.Gen.facts, Cert.ProjIdeal.Gen.facts, Cert.ProjRefIdeal.Gen.facts, Cert.Hgs.Gen.facts, Cert.HgsIdeal.Gen.facts, Cert.HgsRefIdeal.Gen.facts, Cert.MoeUp.Gen.facts, Cert.MoeUpIdeal.Gen.facts, Cert.MoeUpRefIdeal.Gen.facts, Cert.MoeDown.Gen.facts, Cert.MoeDownIdeal.Gen.facts, Cert.MoeDownRefIdeal.Gen.facts, Cert.OutMix.Gen.facts, Cert.OutMixIdeal.Gen.facts, Cert.OutMixRefIdeal.Gen.facts, Cert.OutMem.Gen.facts, Cert.OutMemIdeal.Gen.facts, Cert.OutMemRefIdeal.Gen.facts, Cert.MemQ.Gen.facts, Cert.MemQIdeal.Gen.facts, Cert.MemQRefIdeal.Gen.facts, Cert.LastP.Gen.facts, Cert.LastPIdeal.Gen.facts, Cert.LastPRefIdeal.Gen.facts, Cert.LastS.Gen.facts, Cert.LastSIdeal.Gen.facts, Cert.LastSRefIdeal.Gen.facts, Cert.FoxP.Gen.facts, Cert.FoxPIdeal.Gen.facts, Cert.FoxPRefIdeal.Gen.facts, Cert.FoxS.Gen.facts, Cert.FoxSIdeal.Gen.facts, Cert.FoxSRefIdeal.Gen.facts, Cert.FoxA.Gen.facts, Cert.FoxAIdeal.Gen.facts, Cert.FoxARefIdeal.Gen.facts, Cert.MoeUp.Run.preFacts, Cert.MoeDown.Run.preFacts, Cert.FoxA.Claims.preFacts, Cert.MoeUp.Run.onFacts, Cert.MoeDown.Run.onFacts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.MemKv.Gen.frame m ρ
  · exact fun m ρ _ => Cert.MemKvIdeal.Gen.frame m ρ
  · intro m g _
    exact (θ_run Cert.MemKvRefIdeal.defs _ _).mono (fun r h => ⟨fun c => (h c).2, sem_eq_zero_of_no_sems (by decide) r.2⟩) (Cert.MemKvRefIdeal.Value.run m g)
  · exact fun m ρ _ => Cert.Proj.Gen.frame m ρ
  · exact fun m ρ _ => Cert.ProjIdeal.Gen.frame m ρ
  · intro m g _
    exact (θ_run Cert.ProjRefIdeal.defs _ _).mono (fun r h => ⟨fun c => (h c).2, sem_eq_zero_of_no_sems (by decide) r.2⟩) (Cert.ProjRefIdeal.Value.run m g)
  · exact fun m ρ _ => Cert.Hgs.Gen.frame m ρ
  · exact fun m ρ _ => Cert.HgsIdeal.Gen.frame m ρ
  · intro m g _
    exact (θ_run Cert.HgsRefIdeal.defs _ _).mono (fun r h => ⟨fun c => (h c).2.2, sem_eq_zero_of_no_sems (by decide) r.2⟩) (Cert.HgsRefIdeal.Value.run m g)
  · exact Cert.MoeUp.Claims.frame
  · exact Cert.MoeUp.Claims.frame_ideal
  · exact Cert.MoeUp.Claims.frame_ref
  · exact Cert.MoeDown.Claims.frame
  · exact Cert.MoeDown.Claims.frame_ideal
  · exact Cert.MoeDown.Claims.frame_ref
  · exact fun m ρ _ => Cert.OutMix.Gen.frame m ρ
  · exact fun m ρ _ => Cert.OutMixIdeal.Gen.frame m ρ
  · intro m g _
    exact (θ_run Cert.OutMixRefIdeal.defs _ _).mono (fun r h => ⟨fun c => (h c).2, sem_eq_zero_of_no_sems (by decide) r.2⟩) (Cert.OutMixRefIdeal.Value.run m g)
  · exact fun m ρ _ => Cert.OutMem.Gen.frame m ρ
  · exact fun m ρ _ => Cert.OutMemIdeal.Gen.frame m ρ
  · intro m g _
    exact (θ_run Cert.OutMemRefIdeal.defs _ _).mono (fun r h => ⟨fun c => (h c).2, sem_eq_zero_of_no_sems (by decide) r.2⟩) (Cert.OutMemRefIdeal.Value.run m g)
  · exact fun m ρ _ => Cert.MemQ.Gen.frame m ρ
  · exact fun m ρ _ => Cert.MemQIdeal.Gen.frame m ρ
  · intro m g _
    exact (θ_run Cert.MemQRefIdeal.defs _ _).mono (fun r h => ⟨fun c => (h c).2, sem_eq_zero_of_no_sems (by decide) r.2⟩) (Cert.MemQRefIdeal.Value.run m g)
  · exact fun m ρ _ => Cert.LastP.Gen.frame m ρ
  · exact fun m ρ _ => Cert.LastPIdeal.Gen.frame m ρ
  · intro m g _
    exact (θ_run Cert.LastPRefIdeal.defs _ _).mono (fun r h => ⟨fun c => (h c).2, sem_eq_zero_of_no_sems (by decide) r.2⟩) (Cert.LastPRefIdeal.Value.run m g)
  · exact fun m ρ _ => Cert.LastS.Gen.frame m ρ
  · exact fun m ρ _ => Cert.LastSIdeal.Gen.frame m ρ
  · intro m g _
    exact (θ_run Cert.LastSRefIdeal.defs _ _).mono (fun r h => ⟨fun c => (h c).2, sem_eq_zero_of_no_sems (by decide) r.2⟩) (Cert.LastSRefIdeal.Value.run m g)
  · exact Cert.FoxP.Claims.frame
  · exact Cert.FoxP.Claims.frame_ideal
  · exact Cert.FoxP.Claims.frame_ref
  · exact Cert.FoxS.Claims.frame
  · exact Cert.FoxS.Claims.frame_ideal
  · exact Cert.FoxS.Claims.frame_ref
  · exact fun m ρ _ => Cert.FoxA.Gen.frame m ρ
  · exact fun m ρ _ => Cert.FoxAIdeal.Gen.frame m ρ
  · exact fun m ρ _ => Cert.FoxAIdeal.Gen.frame m ρ
  · exact Cert.FoxA.Claims.frame_ref
  · exact fun m g _ => Cert.FoxA.Claims.frame_ref m g trivial
  · trivial
  · pair_intro
    · run_from Cert.MemKvIdeal.Gen.run_main m g
    · run_from Cert.MemKvRefIdeal.Value.run m' g'
      exact (Cert.MemKvIdeal.Value.final m c).symm
  · trivial
  · pair_intro
    · run_from Cert.ProjIdeal.Gen.run_main m g
    · run_from Cert.ProjRefIdeal.Value.run m' g'
      rw [(hagree c).2.2]
      exact (Cert.ProjIdeal.Value.final m c).symm
  · trivial
  · pair_intro
    · run_from Cert.HgsIdeal.Gen.run_main m g
      · exact Cert.HgsIdeal.Gen.V_main_arg1 m c
      · exact Cert.HgsIdeal.Gen.V_main_arg2 m c
      · exact Cert.HgsIdeal.Gen.V_main_arg3 m c
    · run_from Cert.HgsRefIdeal.Value.run m' g'
      · rw [Cert.HgsRefIdeal.Value.out_eq, (hagree c).1, (hagree c).2.1, (hagree c).2.2.1, (hagree c).2.2.2]
        exact (Cert.HgsIdeal.Value.finalO m c).symm
      · rw [Cert.HgsRefIdeal.Value.state_eq, (hagree c).1, (hagree c).2.1, (hagree c).2.2.2]
        exact (Cert.HgsIdeal.Value.finalS m c).symm
  · trivial
  · exact Cert.MoeUp.Claims.value
  · trivial
  · exact Cert.MoeDown.Claims.value
  · trivial
  · pair_intro
    · run_from Cert.OutMixIdeal.Gen.run_main m g
    · run_from Cert.OutMixRefIdeal.Value.run m' g'
      rw [Cert.OutMixRefIdeal.Array.out_eq, (hagree c).1, (hagree c).2.1, (hagree c).2.2.1, (hagree c).2.2.2.1, (hagree c).2.2.2.2]
      exact (Cert.OutMixIdeal.Value.final m c).symm
  · trivial
  · pair_intro
    · run_from Cert.OutMemIdeal.Gen.run_main m g
    · run_from Cert.OutMemRefIdeal.Value.run m' g'
      rw [Cert.OutMemRefIdeal.Array.out_eq, (hagree c).1, (hagree c).2.1, (hagree c).2.2.1, (hagree c).2.2.2.1, (hagree c).2.2.2.2]
      exact (Cert.OutMemIdeal.Value.final m c).symm
  · trivial
  · pair_intro
    · run_from Cert.MemQIdeal.Gen.run_main m g
    · run_from Cert.MemQRefIdeal.Value.run m' g'
      exact (Cert.MemQIdeal.Value.final m c).symm
  · trivial
  · pair_intro
    · run_from Cert.LastPIdeal.Gen.run_main m g
    · run_from Cert.LastPRefIdeal.Value.run m' g'
      exact (Cert.LastPIdeal.Value.final m c).symm
  · trivial
  · pair_intro
    · run_from Cert.LastSIdeal.Gen.run_main m g
    · run_from Cert.LastSRefIdeal.Value.run m' g'
      exact (Cert.LastSIdeal.Value.final m c).symm
  · trivial
  · exact Cert.FoxP.Claims.value
  · trivial
  · exact Cert.FoxS.Claims.value
  · exact IdealRules.named_const.statement Cert.FoxAIdeal.κ "mask" .f32 0xF149F2CA#32 ⊥ rfl
  · exact Cert.FoxA.Claims.value⟩

end Cert.Proof

end
